-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v66)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v66) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v117) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v28_0)) (v1 : (c : Dev Cert.Kernel3Ideal.nD) → Buf (Elt Ideal) ((c.tc : Thread Cert.Kernel3Ideal.nD Cert.Kernel3Ideal.τ).loc Cert.Kernel3Ideal.main_v28_1)) (v2 : (c : Dev Cert.Kernel3Ideal.nD) → Buf (Elt Ideal) ((c.tc : Thread Cert.Kernel3Ideal.nD Cert.Kernel3Ideal.τ).loc Cert.Kernel3Ideal.main_v28_2)) (v3 : (c : Dev Cert.Kernel3Ideal.nD) → Buf (Elt Ideal) ((c.tc : Thread Cert.Kernel3Ideal.nD Cert.Kernel3Ideal.τ).loc Cert.Kernel3Ideal.main_v28_3)) (v4 : (c : Dev Cert.Kernel3Ideal.nD) → Buf (Elt Ideal) ((c.tc : Thread Cert.Kernel3Ideal.nD Cert.Kernel3Ideal.τ).loc Cert.Kernel3Ideal.main_v28_4)) (v5 : (c : Dev Cert.Kernel3Ideal.nD) → Buf (Elt Ideal) ((c.tc : Thread Cert.Kernel3Ideal.nD Cert.Kernel3Ideal.τ).loc Cert.Kernel3Ideal.main_v28_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28_0) = v0 c
          ∧ r.2.mem ((c.tc : Thread Cert.Kernel3Ideal.nD Cert.Kernel3Ideal.τ).loc Cert.Kernel3Ideal.main_v28_1) = v1 c
          ∧ r.2.mem ((c.tc : Thread Cert.Kernel3Ideal.nD Cert.Kernel3Ideal.τ).loc Cert.Kernel3Ideal.main_v28_2) = v2 c
          ∧ r.2.mem ((c.tc : Thread Cert.Kernel3Ideal.nD Cert.Kernel3Ideal.τ).loc Cert.Kernel3Ideal.main_v28_3) = v3 c
          ∧ r.2.mem ((c.tc : Thread Cert.Kernel3Ideal.nD Cert.Kernel3Ideal.τ).loc Cert.Kernel3Ideal.main_v28_4) = v4 c
          ∧ r.2.mem ((c.tc : Thread Cert.Kernel3Ideal.nD Cert.Kernel3Ideal.τ).loc Cert.Kernel3Ideal.main_v28_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v88) = v0 c
          ∧ r.2.mem ((c.tc : Thread Cert.Reference3Ideal.nD Cert.Reference3Ideal.τ).loc Cert.Reference3Ideal.main_v90) = v1 c
          ∧ r.2.mem ((c.tc : Thread Cert.Reference3Ideal.nD Cert.Reference3Ideal.τ).loc Cert.Reference3Ideal.main_v92) = v2 c
          ∧ r.2.mem ((c.tc : Thread Cert.Reference3Ideal.nD Cert.Reference3Ideal.τ).loc Cert.Reference3Ideal.main_v86) = v3 c
          ∧ r.2.mem ((c.tc : Thread Cert.Reference3Ideal.nD Cert.Reference3Ideal.τ).loc Cert.Reference3Ideal.main_v94) = v4 c
          ∧ r.2.mem ((c.tc : Thread Cert.Reference3Ideal.nD Cert.Reference3Ideal.τ).loc Cert.Reference3Ideal.main_v96) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hPre_routed : Cert.Pre_routed.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S16x2048x16x64 : Shape := ⟨4, ![16, 2048, 16, 64]⟩
abbrev S16x2048x2x64 : Shape := ⟨4, ![16, 2048, 2, 64]⟩
abbrev S16x2048x1024 : Shape := ⟨3, ![16, 2048, 1024]⟩
abbrev S1x16 : Shape := ⟨2, ![1, 16]⟩
abbrev S1x1024x1024 : Shape := ⟨3, ![1, 1024, 1024]⟩
abbrev S_ : Shape := ⟨0, ![]⟩

class Facts : Prop where
  bcast_S_S16x2048x16x64 : S_.BroadcastsInDim S16x2048x16x64 (![] : Fin 0 → Fin S16x2048x16x64.rank)
  reducesTo_S16x2048x16x64_S_d0_1_2_3 : S16x2048x16x64.ReducesTo [0, 1, 2, 3] S_
  h_S_ : 0 < S_.numel
  bcast_S_S16x2048x2x64 : S_.BroadcastsInDim S16x2048x2x64 (![] : Fin 0 → Fin S16x2048x2x64.rank)
  reducesTo_S16x2048x2x64_S_d0_1_2_3 : S16x2048x2x64.ReducesTo [0, 1, 2, 3] S_
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S16x2048x16x64 .f32) (main_arg1 : FVec F S16x2048x2x64 .f32) (main_arg2 : FVec F S16x2048x2x64 .f32) (main_arg3 : FVec F S16x2048x1024 .f32) (main_arg4 : FVec F S1x16 .f32) (main_arg5 : FVec F S1x1024x1024 .f32) : IVec S_ 1 :=
  let main_v0 : FVec F S16x2048x16x64 .f32 := Host.absf main_arg0
  let main_cst : FVec F S_ .f32 := constant S_ .f32 0x7F800000#32
  let main_v1 : FVec F S16x2048x16x64 .f32 := broadcastInDim S16x2048x16x64 ![] bcast_S_S16x2048x16x64 main_cst
  let main_v2 : IVec S16x2048x16x64 1 := cmpf .olt main_v0 main_v1
  let main_c : IVec S_ 1 := constantI S_ 1 1#1
  let main_v3 : IVec S_ 1 := (fun x v => Host.reduce IntOp.andi x v reducesTo_S16x2048x16x64_S_d0_1_2_3 h_S_) main_v2 main_c
  let main_v4 : FVec F S16x2048x2x64 .f32 := Host.absf main_arg1
  let main_cst_0 : FVec F S_ .f32 := constant S_ .f32 0x7F800000#32
  let main_v5 : FVec F S16x2048x2x64 .f32 := broadcastInDim S16x2048x2x64 ![] bcast_S_S16x2048x2x64 main_cst_0
  let main_v6 : IVec S16x2048x2x64 1 := cmpf .olt main_v4 main_v5
  let main_c_1 : IVec S_ 1 := constantI S_ 1 1#1
  let main_v7 : IVec S_ 1 := (fun x v => Host.reduce IntOp.andi x v reducesTo_S16x2048x2x64_S_d0_1_2_3 h_S_) main_v6 main_c_1
  let main_v8 : IVec S_ 1 := andi main_v3 main_v7
  let main_v9 : FVec F S1x16 .f32 := Host.absf main_arg4
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  main_v13
-- ==== Pre_routed.lean ====
abbrev S32 : Shape := ⟨1, ![32]⟩
abbrev S161792x1024 : Shape := ⟨2, ![161792, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : FVec F S161792x1024 .f32) (main_arg2 : FVec F S1x32x1024x2048 .f32) (main_arg3 : FVec F S1x32x2048 .f32) (main_arg4 : FVec F S1x32x1024x1024 .f32) (main_arg5 : FVec F S1x32x1024 .f32) : IVec S_ 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 1 := constantI S_ 1 1#1
  let main_v2 : IVec S_ 1 := (fun x v => Host.reduce IntOp.andi x v reducesTo_S32_S_d0 h_S_) main_v1 main_c_0
  let main_c_1 : IVec S_ 32 := constantI S_ 32 145408#32
  let main_v3 : IVec S32 32 := broadcastInDim S32 ![] bcast_S_S32 main_c_1
  let main_v4 : IVec S32 1 := cmpi .sle main_arg0 main_v3
  let main_c_2 : IVec S_ 1 := constantI S_ 1 1#1
  let main_v5 : IVec S_ 1 := (fun x v => Host.reduce IntOp.andi x v reducesTo_S32_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S32_S_d0 h_S_) main_arg0 main_c_3
  let main_c_4 : IVec S_ 32 := constantI S_ 32 1#32
  let main_v8 : IVec S_ 1 := cmpi .sge main_v7 main_c_4
  let main_v9 : IVec S_ 1 := andi main_v6 main_v8
  let main_c_5 : IVec S_ 32 := constantI S_ 32 0#32
  let main_v10 : IVec S_ 32 := (fun x v => Host.reduce IntOp.addi x v reducesTo_S32_S_d0 h_S_) main_arg0 main_c_5
  let main_c_6 : IVec S_ 32 := constantI S_ 32 145408#32
  let main_v11 : IVec S_ 1 := cmpi .sle main_v10 main_c_6
  let main_v12 : IVec S_ 1 := andi main_v9 main_v11
  main_v12
-- ==== Kernel.lean ====
abbrev S16x2048x16x64 : Shape := ⟨4, ![16, 2048, 16, 64]⟩
abbrev S16x2048x2x64 : Shape := ⟨4, ![16, 2048, 2, 64]⟩
abbrev S16x2048x1024 : Shape := ⟨3, ![16, 2048, 1024]⟩
abbrev S1x16 : Shape := ⟨2, ![1, 16]⟩
abbrev S1x1024x1024 : Shape := ⟨3, ![1, 1024, 1024]⟩
abbrev S16 : Shape := ⟨1, ![16]⟩
abbrev S1024x1024 : Shape := ⟨2, ![1024, 1024]⟩
abbrev S_ : Shape := ⟨0, ![]⟩
abbrev S256x128x2x8x64 : Shape := ⟨5, ![256, 128, 2, 8, 64]⟩
abbrev S256x8x128x2x64 : Shape := ⟨5, ![256, 8, 128, 2, 64]⟩
abbrev S262144x128 : Shape := ⟨2, ![262144, 128]⟩
abbrev S32768x128 : Shape := ⟨2, ![32768, 128]⟩
abbrev S32768x1024 : Shape := ⟨2, ![32768, 1024]⟩
abbrev S2x8x64x1024 : Shape := ⟨4, ![2, 8, 64, 1024]⟩
abbrev S8x2x64x1024 : Shape := ⟨4, ![8, 2, 64, 1024]⟩
abbrev S2x8 : Shape := ⟨2, ![2, 8]⟩
abbrev S2x8x128 : Shape := ⟨3, ![2, 8, 128]⟩
abbrev S2x1024 : Shape := ⟨2, ![2, 1024]⟩
abbrev S2x1024x256 : Shape := ⟨3, ![2, 1024, 256]⟩
abbrev S1 : Shape := ⟨1, ![1]⟩
abbrev S8192x128 : Shape := ⟨2, ![8192, 128]⟩
abbrev S1024x128 : Shape := ⟨2, ![1024, 128]⟩
abbrev S128x128 : Shape := ⟨2, ![128, 128]⟩
abbrev S1152x128 : Shape := ⟨2, ![1152, 128]⟩
abbrev S256x128 : Shape := ⟨2, ![256, 128]⟩
abbrev S1024x256 : Shape := ⟨2, ![1024, 256]⟩
abbrev S1x1024x256 : Shape := ⟨3, ![1, 1024, 256]⟩
abbrev S1024 : Shape := ⟨1, ![1024]⟩
abbrev S1024x1 : Shape := ⟨2, ![1024, 1]⟩

abbrev nBuf : Space → Nat
  | .hbm => 34
  | .vmem => 17
  | .smem => 0
  | _ => 0

abbrev bufTy : (tb : Table) → Fin (tcTables nBuf tb) → BufTy
  | .hbm, ⟨0, _⟩ => ⟨S16x2048x16x64, .f32⟩
  | .hbm, ⟨1, _⟩ => ⟨S16x2048x2x64, .f32⟩
  | .hbm, ⟨2, _⟩ => ⟨S16x2048x2x64, .f32⟩
  | .hbm, ⟨3, _⟩ => ⟨S16x2048x1024, .f32⟩
  | .hbm, ⟨4, _⟩ => ⟨S1x16, .f32⟩
  | .hbm, ⟨5, _⟩ => ⟨S1x1024x1024, .f32⟩
  | .hbm, ⟨6, _⟩ => ⟨S16, .f32⟩
  | .hbm, ⟨7, _⟩ => ⟨S1024x1024, .f32⟩
  | .hbm, ⟨8, _⟩ => ⟨S_, .f32⟩
  | .hbm, ⟨9, _⟩ => ⟨S16x2048x16x64, .f32⟩
  | .hbm, ⟨10, _⟩ => ⟨S16x2048x16x64, .f32⟩
  | .hbm, ⟨11, _⟩ => ⟨S256x128x2x8x64, .f32⟩
  | .hbm, ⟨12, _⟩ => ⟨S256x8x128x2x64, .f32⟩
  | .hbm, ⟨13, _⟩ => ⟨S262144x128, .f32⟩
  | .hbm, ⟨14, _⟩ => ⟨S262144x128, .bf16⟩
  | .hbm, ⟨15, _⟩ => ⟨S32768x128, .f32⟩
  | .hbm, ⟨16, _⟩ => ⟨S32768x128, .bf16⟩
  | .hbm, ⟨17, _⟩ => ⟨S32768x128, .f32⟩
  | .hbm, ⟨18, _⟩ => ⟨S32768x128, .bf16⟩
  | .hbm, ⟨19, _⟩ => ⟨S32768x1024, .f32⟩
  | .hbm, ⟨20, _⟩ => ⟨S32768x1024, .bf16⟩
  | .hbm, ⟨21, _⟩ => ⟨S2x8x64x1024, .f32⟩
  | .hbm, ⟨22, _⟩ => ⟨S8x2x64x1024, .f32⟩
  | .hbm, ⟨23, _⟩ => ⟨S1024x1024, .f32⟩
  | .hbm, ⟨24, _⟩ => ⟨S1024x1024, .bf16⟩
  | .hbm, ⟨25, _⟩ => ⟨S2x8, .f32⟩
  | .hbm, ⟨26, _⟩ => ⟨S2x8x128, .f32⟩
  | .hbm, ⟨27, _⟩ => ⟨S2x1024, .f32⟩
  | .hbm, ⟨28, _⟩ => ⟨S_, .f32⟩
  | .hbm, ⟨29, _⟩ => ⟨S2x1024x256, .f32⟩
  | .hbm, ⟨30, _⟩ => ⟨S_, .i32⟩
  | .hbm, ⟨31, _⟩ => ⟨S1, .i32⟩
  | .hbm, ⟨32, _⟩ => ⟨S2x1024x256, .f32⟩
  | .hbm, ⟨33, _⟩ => ⟨S32768x1024, .bf16⟩
  | .local _ .vmem, ⟨0, _⟩ => ⟨S8192x128, .bf16⟩
  | .local _ .vmem, ⟨1, _⟩ => ⟨S8192x128, .bf16⟩
  | .local _ .vmem, ⟨2, _⟩ => ⟨S1024x128, .bf16⟩
  | .local _ .vmem, ⟨3, _⟩ => ⟨S1024x128, .bf16⟩
  | .local _ .vmem, ⟨4, _⟩ => ⟨S128x128, .bf16⟩
  | .local _ .vmem, ⟨5, _⟩ => ⟨S128x128, .bf16⟩
  | .local _ .vmem, ⟨6, _⟩ => ⟨S1024x128, .bf16⟩
  | .local _ .vmem, ⟨7, _⟩ => ⟨S1024x128, .bf16⟩
  | .local _ .vmem, ⟨8, _⟩ => ⟨S128x128, .bf16⟩
  | .local _ .vmem, ⟨9, _⟩ => ⟨S128x128, .bf16⟩
  | .local _ .vmem, ⟨10, _⟩ => ⟨S2x1024x256, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | _, _ => ⟨S16x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c8_i32 : BitVec 32 := 8#32
  let v1 : BitVec 32 := Scalar.muli arg1 c8_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c8_i32 : BitVec 32 := 8#32
  let v1 : BitVec 32 := Scalar.muli arg1 c8_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16x2048x16x64 : Shape := ⟨4, ![16, 2048, 16, 64]⟩
abbrev S16x2048x2x64 : Shape := ⟨4, ![16, 2048, 2, 64]⟩
abbrev S16x2048x1024 : Shape := ⟨3, ![16, 2048, 1024]⟩
abbrev S1x16 : Shape := ⟨2, ![1, 16]⟩
abbrev S1x1024x1024 : Shape := ⟨3, ![1, 1024, 1024]⟩
abbrev S16 : Shape := ⟨1, ![16]⟩
abbrev S16x16x128x2x8x64 : Shape := ⟨6, ![16, 16, 128, 2, 8, 64]⟩
abbrev S16x16x128x2x64 : Shape := ⟨5, ![16, 16, 128, 2, 64]⟩
abbrev S_ : Shape := ⟨0, ![]⟩
abbrev S16x17x128x2x64 : Shape := ⟨5, ![16, 17, 128, 2, 64]⟩
abbrev S16x16x256x2x64 : Shape := ⟨5, ![16, 16, 256, 2, 64]⟩
abbrev S16x16x2x256x128x8 : Shape := ⟨6, ![16, 16, 2, 256, 128, 8]⟩
abbrev S16x16x2x8x128x256 : Shape := ⟨6, ![16, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x8 : Shape := ⟨2, ![2, 8]⟩
abbrev S1x1x2x8x1x1 : Shape := ⟨6, ![1, 1, 2, 8, 1, 1]⟩
abbrev S16x16x2x8x128 : Shape := ⟨5, ![16, 16, 2, 8, 128]⟩
abbrev S16x16x2x8x128x1 : Shape := ⟨6, ![16, 16, 2, 8, 128, 1]⟩
abbrev S16x16x2x64x8x128 : Shape := ⟨6, ![16, 16, 2, 64, 8, 128]⟩
abbrev S1024x1024 : Shape := ⟨2, ![1024, 1024]⟩
abbrev S32768x1024 : Shape := ⟨2, ![32768, 1024]⟩

abbrev nBuf : Space → Nat
  | .hbm => 94
  | .vmem => 0
  | .smem => 0
  | _ => 0

abbrev bufTy : (tb : Table) → Fin (tcTables nBuf tb) → BufTy
  | .hbm, ⟨0, _⟩ => ⟨S16x2048x16x64, .f32⟩
  | .hbm, ⟨1, _⟩ => ⟨S16x2048x2x64, .f32⟩
  | .hbm, ⟨2, _⟩ => ⟨S16x2048x2x64, .f32⟩
  | .hbm, ⟨3, _⟩ => ⟨S16x2048x1024, .f32⟩
  | .hbm, ⟨4, _⟩ => ⟨S1x16, .f32⟩
  | .hbm, ⟨5, _⟩ => ⟨S1x1024x1024, .f32⟩
  | .hbm, ⟨6, _⟩ => ⟨S16, .f32⟩
  | .hbm, ⟨7, _⟩ => ⟨S16x16x128x2x8x64, .f32⟩
  | .hbm, ⟨8, _⟩ => ⟨S16x16x128x2x64, .f32⟩
  | .hbm, ⟨9, _⟩ => ⟨S_, .i32⟩
  | .hbm, ⟨10, _⟩ => ⟨S_, .f32⟩
  | .hbm, ⟨11, _⟩ => ⟨S16x17x128x2x64, .f32⟩
  | .hbm, ⟨12, _⟩ => ⟨S16x16x128x2x64, .f32⟩
  | .hbm, ⟨13, _⟩ => ⟨S16x16x256x2x64, .f32⟩
  | .hbm, ⟨14, _⟩ => ⟨S16x16x128x2x64, .f32⟩
  | .hbm, ⟨15, _⟩ => ⟨S_, .i32⟩
  | .hbm, ⟨16, _⟩ => ⟨S_, .f32⟩
  | .hbm, ⟨17, _⟩ => ⟨S16x17x128x2x64, .f32⟩
  | .hbm, ⟨18, _⟩ => ⟨S16x16x128x2x64, .f32⟩
  | .hbm, ⟨19, _⟩ => ⟨S16x16x256x2x64, .f32⟩
  | .hbm, ⟨20, _⟩ => ⟨S16x16x2x256x128x8, .f32⟩
  | .hbm, ⟨21, _⟩ => ⟨S16x16x2x8x128x256, .f32⟩
  | .hbm, ⟨22, _⟩ => ⟨S_, .f32⟩
  | .hbm, ⟨23, _⟩ => ⟨S16x16x2x8x128x256, .f32⟩
  | .hbm, ⟨24, _⟩ => ⟨S16x16x2x8x128x256, .f32⟩
  | .hbm, ⟨25, _⟩ => ⟨S128, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S16, .i32⟩
  | .hbm, ⟨43, _⟩ => ⟨S16x1, .i32⟩
  | .hbm, ⟨44, _⟩ => ⟨S_, .i32⟩
  | .hbm, ⟨45, _⟩ => ⟨S16x1, .i32⟩
  | .hbm, ⟨46, _⟩ => ⟨S16x1, .i32⟩
  | .hbm, ⟨47, _⟩ => ⟨S16x256, .i32⟩
  | .hbm, ⟨48, _⟩ => ⟨S16x256, .i32⟩
  | .hbm, ⟨49, _⟩ => ⟨S16x256, .i32⟩
  | .hbm, ⟨50, _⟩ => ⟨S_, .i32⟩
  | .hbm, ⟨51, _⟩ => ⟨S16x256, .i32⟩
  | .hbm, ⟨52, _⟩ => ⟨S16x256, .i32⟩
  | .hbm, ⟨53, _⟩ => ⟨S1x128x256, .i1⟩
  | .hbm, ⟨54, _⟩ => ⟨S_, .i32⟩
  | .hbm, ⟨55, _⟩ => ⟨S16x256, .i32⟩
  | .hbm, ⟨56, _⟩ => ⟨S16x256, .i1⟩
  | .hbm, ⟨57, _⟩ => ⟨S16x1x256, .i1⟩
  | .hbm, ⟨58, _⟩ => ⟨S16x128x256, .i1⟩
  | .hbm, ⟨59, _⟩ => ⟨S16x128x256, .i1⟩
  | .hbm, ⟨60, _⟩ => ⟨S16x128x256, .i1⟩
  | .hbm, ⟨61, _⟩ => ⟨S1x16x1x1x128x256, .i1⟩
  | .hbm, ⟨62, _⟩ => ⟨S_, .f32⟩
  | .hbm, ⟨63, _⟩ => ⟨S_, .f32⟩
  | .hbm, ⟨64, _⟩ => ⟨S16x16x2x8x128x256, .i1⟩
  | .hbm, ⟨65, _⟩ => ⟨S16x16x2x8x128x256, .f32⟩
  | .hbm, ⟨66, _⟩ => ⟨S16x16x2x8x128x256, .f32⟩
  | .hbm, ⟨67, _⟩ => ⟨S2x8, .f32⟩
  | .hbm, ⟨68, _⟩ => ⟨S1x1x2x8x1x1, .f32⟩
  | .hbm, ⟨69, _⟩ => ⟨S_, .f32⟩
  | .hbm, ⟨70, _⟩ => ⟨S16x16x2x8x128, .f32⟩
  | .hbm, ⟨71, _⟩ => ⟨S16x16x2x8x128x1, .f32⟩
  | .hbm, ⟨72, _⟩ => ⟨S16x16x2x8x128x1, .f32⟩
  | .hbm, ⟨73, _⟩ => ⟨S16x16x2x8x128x1, .f32⟩
  | .hbm, ⟨74, _⟩ => ⟨S16x16x2x8x128x256, .f32⟩
  | .hbm, ⟨75, _⟩ => ⟨S16x16x2x8x128x256, .f32⟩
  | .hbm, ⟨76, _⟩ => ⟨S16x16x2x8x128x256, .f32⟩
  | .hbm, ⟨77, _⟩ => ⟨S_, .f32⟩
  | .hbm, ⟨78, _⟩ => ⟨S16x16x2x8x128, .f32⟩
  | .hbm, ⟨79, _⟩ => ⟨S16x16x2x8x128x1, .f32⟩
  | .hbm, ⟨80, _⟩ => ⟨S16x16x2x8x128x1, .f32⟩
  | .hbm, ⟨81, _⟩ => ⟨S16x16x2x8x128x1, .f32⟩
  | .hbm, ⟨82, _⟩ => ⟨S16x16x2x8x128x1, .f32⟩
  | .hbm, ⟨83, _⟩ => ⟨S16x16x2x8x128x1, .f32⟩
  | .hbm, ⟨84, _⟩ => ⟨S16x16x2x8x128x256, .f32⟩
  | .hbm, ⟨85, _⟩ => ⟨S16x16x2x8x128x256, .f32⟩
  | .hbm, ⟨86, _⟩ => ⟨S16x16x2x64x8x128, .f32⟩
  | .hbm, ⟨87, _⟩ => ⟨S16x16x128x2x8x64, .f32⟩
  | .hbm, ⟨88, _⟩ => ⟨S16x2048x1024, .f32⟩
  | .hbm, ⟨89, _⟩ => ⟨S1024x1024, .f32⟩
  | .hbm, ⟨90, _⟩ => ⟨S16x2048x1024, .f32⟩
  | .hbm, ⟨91, _⟩ => ⟨S16x2048x1024, .f32⟩
  | .hbm, ⟨92, _⟩ => ⟨S32768x1024, .f32⟩
  | .hbm, ⟨93, _⟩ => ⟨S32768x1024, .bf16⟩
  | _, _ => ⟨S16x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== Kernel2.lean ====
abbrev S32 : Shape := ⟨1, ![32]⟩
abbrev S161792x1024 : Shape := ⟨2, ![161792, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S1 : Shape := ⟨1, ![1]⟩
abbrev S316 : Shape := ⟨1, ![316]⟩
abbrev S316x1 : Shape := ⟨2, ![316, 1]⟩
abbrev S1x32 : Shape := ⟨2, ![1, 32]⟩
abbrev S316x32 : Shape := ⟨2, ![316, 32]⟩
abbrev S32x8x128x2 : Shape := ⟨4, ![32, 8, 128, 2]⟩
abbrev S32x8x2x128 : Shape := ⟨4, ![32, 8, 2, 128]⟩
abbrev S32x1x2048 : Shape := ⟨3, ![32, 1, 2048]⟩
abbrev S32x1x1024 : Shape := ⟨3, ![32, 1, 1024]⟩
abbrev S512x1024 : Shape := ⟨2, ![512, 1024]⟩
abbrev S1x1x2048 : Shape := ⟨3, ![1, 1, 2048]⟩
abbrev S1x1x1024 : Shape := ⟨3, ![1, 1, 1024]⟩
abbrev S2x1024x2048 : Shape := ⟨3, ![2, 1024, 2048]⟩
abbrev S2x1024x1024 : Shape := ⟨3, ![2, 1024, 1024]⟩
abbrev S1024x2048 : Shape := ⟨2, ![1024, 2048]⟩
abbrev S1024x1024 : Shape := ⟨2, ![1024, 1024]⟩
abbrev S2 : Shape := ⟨1, ![2]⟩
abbrev S1x1024x2048 : Shape := ⟨3, ![1, 1024, 2048]⟩
abbrev S1x1024x1024 : Shape := ⟨3, ![1, 1024, 1024]⟩
abbrev S256x256 : Shape := ⟨2, ![256, 256]⟩
abbrev S1x1024x256 : Shape := ⟨3, ![1, 1024, 256]⟩
abbrev S1024x256 : Shape := ⟨2, ![1024, 256]⟩
abbrev S512x256 : Shape := ⟨2, ![512, 256]⟩
abbrev S1x1x256 : Shape := ⟨3, ![1, 1, 256]⟩
abbrev S1x256 : Shape := ⟨2, ![1, 256]⟩
abbrev S512x128 : Shape := ⟨2, ![512, 128]⟩
abbrev S1x1024 : Shape := ⟨2, ![1, 1024]⟩

abbrev nBuf : Space → Nat
  | .hbm => 140
  | .vmem => 12
  | .smem => 4
  | _ => 0

abbrev hbmTy0_0 (i : Nat) : BufTy := match i % 128 with
  | 0 => ⟨S32, .i32⟩
  | 1 => ⟨S161792x1024, .f32⟩
  | 2 => ⟨S1x32x1024x2048, .f32⟩
  | 3 => ⟨S1x32x2048, .f32⟩
  | 4 => ⟨S1x32x1024x1024, .f32⟩
  | 5 => ⟨S1x32x1024, .f32⟩
  | 6 => ⟨S32x1024x2048, .f32⟩
  | 7 => ⟨S32x2048, .f32⟩
  | 8 => ⟨S32x1024x1024, .f32⟩
  | 9 => ⟨S32x1024, .f32⟩
  | 10 => ⟨S_, .i32⟩
  | 11 => ⟨S32, .i32⟩
  | 12 => ⟨S32, .i32⟩
  | 13 => ⟨S_, .i32⟩
  | 14 => ⟨S32, .i32⟩
  | 15 => ⟨S32, .i32⟩
  | 16 => ⟨S_, .i32⟩
  | 17 => ⟨S_, .i32⟩
  | 18 => ⟨S32, .i32⟩
  | 19 => ⟨S32, .i32⟩
  | 20 => ⟨S32, .i32⟩
  | 21 => ⟨S_, .i32⟩
  | 22 => ⟨S32, .i32⟩
  | 23 => ⟨S32, .i1⟩
  | 24 => ⟨S32, .i32⟩
  | 25 => ⟨S32, .i32⟩
  | 26 => ⟨S_, .i32⟩
  | 27 => ⟨S32, .i32⟩
  | 28 => ⟨S32, .i1⟩
  | 29 => ⟨S32, .i1⟩
  | 30 => ⟨S_, .i32⟩
  | 31 => ⟨S32, .i32⟩
  | 32 => ⟨S32, .i32⟩
  | 33 => ⟨S32, .i32⟩
  | 34 => ⟨S_, .i32⟩
  | 35 => ⟨S32, .i32⟩
  | 36 => ⟨S32, .i32⟩
  | 37 => ⟨S_, .i32⟩
  | 38 => ⟨S_, .i32⟩
  | 39 => ⟨S32, .i32⟩
  | 40 => ⟨S1, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i1⟩
  | 51 => ⟨S_, .i1⟩
  | 52 => ⟨S_, .i32⟩
  | 53 => ⟨S_, .i32⟩
  | 54 => ⟨S_, .i32⟩
  | 55 => ⟨S316, .i32⟩
  | 56 => ⟨S_, .i32⟩
  | 57 => ⟨S_, .i32⟩
  | 58 => ⟨S_, .i32⟩
  | 59 => ⟨S316, .i32⟩
  | 60 => ⟨S316, .i32⟩
  | 61 => ⟨S_, .i32⟩
  | 62 => ⟨S316, .i32⟩
  | 63 => ⟨S316, .i32⟩
  | 64 => ⟨S316x1, .i32⟩
  | 65 => ⟨S1x32, .i32⟩
  | 66 => ⟨S316x32, .i32⟩
  | 67 => ⟨S316x32, .i32⟩
  | 68 => ⟨S316x32, .i1⟩
  | 69 => ⟨S316x32, .i32⟩
  | 70 => ⟨S_, .i32⟩
  | 71 => ⟨S316, .i32⟩
  | 72 => ⟨S_, .i32⟩
  | 73 => ⟨S316, .i32⟩
  | 74 => ⟨S32x8x128x2, .f32⟩
  | 75 => ⟨S32x8x2x128, .f32⟩
  | 76 => ⟨S32x1x2048, .f32⟩
  | 77 => ⟨S_, .i32⟩
  | 78 => ⟨S32, .i32⟩
  | 79 => ⟨S32, .i1⟩
  | 80 => ⟨S32, .i32⟩
  | 81 => ⟨S1x32, .i1⟩
  | 82 => ⟨S1x32, .i32⟩
  | 83 => ⟨S316x1, .i32⟩
  | 84 => ⟨S316x32, .i32⟩
  | 85 => ⟨S316x32, .i32⟩
  | 86 => ⟨S316x32, .i1⟩
  | 87 => ⟨S316x32, .i1⟩
  | 88 => ⟨S316x32, .i1⟩
  | 89 => ⟨S1x32, .i32⟩
  | 90 => ⟨S_, .i32⟩
  | 91 => ⟨S_, .i32⟩
  | 92 => ⟨S316x32, .i32⟩
  | 93 => ⟨S316x32, .i32⟩
  | 94 => ⟨S316x32, .i32⟩
  | 95 => ⟨S_, .i32⟩
  | 96 => ⟨S316, .i32⟩
  | 97 => ⟨S_, .i32⟩
  | 98 => ⟨S316, .i32⟩
  | 99 => ⟨S316, .i1⟩
  | 100 => ⟨S_, .i32⟩
  | 101 => ⟨S_, .i32⟩
  | 102 => ⟨S316, .i32⟩
  | 103 => ⟨S1x32, .i1⟩
  | 104 => ⟨S1x32, .i32⟩
  | 105 => ⟨S316x1, .i32⟩
  | 106 => ⟨S316x32, .i32⟩
  | 107 => ⟨S316x32, .i32⟩
  | 108 => ⟨S316x32, .i1⟩
  | 109 => ⟨S316x32, .i1⟩
  | 110 => ⟨S316x32, .i1⟩
  | 111 => ⟨S316x32, .i32⟩
  | 112 => ⟨S_, .i32⟩
  | 113 => ⟨S316, .i32⟩
  | 114 => ⟨S_, .i32⟩
  | 115 => ⟨S316, .i32⟩
  | 116 => ⟨S316, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S316, .i32⟩
  | 124 => ⟨S316, .i32⟩
  | 125 => ⟨S_, .i32⟩
  | 126 => ⟨S316, .i32⟩
  | 127 => ⟨S316, .i1⟩
  | _ => ⟨S32, .i32⟩

abbrev hbmTy0_1 (i : Nat) : BufTy := match i % 128 with
  | 0 => ⟨S_, .i32⟩
  | 1 => ⟨S316, .i32⟩
  | 2 => ⟨S316, .i1⟩
  | 3 => ⟨S_, .i32⟩
  | 4 => ⟨S_, .i1⟩
  | 5 => ⟨S316, .i1⟩
  | 6 => ⟨S316, .i1⟩
  | 7 => ⟨S316, .i1⟩
  | 8 => ⟨S316, .i32⟩
  | 9 => ⟨S316, .i32⟩
  | 10 => ⟨S32x1x1024, .f32⟩
  | 11 => ⟨S161792x1024, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S2x1024x2048, .f32⟩
  | .local _ .vmem, ⟨9, _⟩ => ⟨S2x1024x1024, .f32⟩
  | .local _ .vmem, ⟨10, _⟩ => ⟨S1024x2048, .bf16⟩
  | .local _ .vmem, ⟨11, _⟩ => ⟨S1024x1024, .bf16⟩
  | .local _ .smem, ⟨0, _⟩ => ⟨S316, .i32⟩
  | .local _ .smem, ⟨1, _⟩ => ⟨S1, .i32⟩
  | .local _ .smem, ⟨2, _⟩ => ⟨S316, .i32⟩
  | .local _ .smem, ⟨3, _⟩ => ⟨S316, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_call1_call0_c : Ref sig .tc := ⟨.hbm, 37, rfl⟩
abbrev main_call1_call0_v0 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_c_3 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c : Ref sig .tc := ⟨.hbm, 49, rfl⟩
abbrev main_call2_v6 : Ref sig .tc := ⟨.hbm, 50, rfl⟩
abbrev main_call2_v7 : Ref sig .tc := ⟨.hbm, 51, rfl⟩
abbrev main_call2_c_0 : Ref sig .tc := ⟨.hbm, 52, rfl⟩
abbrev main_call2_v8 : Ref sig .tc := ⟨.hbm, 53, rfl⟩
abbrev main_v14 : Ref sig .tc := ⟨.hbm, 54, rfl⟩
abbrev main_v16 : Ref sig .tc := ⟨.hbm, 55, rfl⟩
abbrev main_v17 : Ref sig .tc := ⟨.hbm, 56, rfl⟩
abbrev main_c_4 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_c_5 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_c_6 : Ref sig .tc := ⟨.hbm, 70, rfl⟩
abbrev main_v29 : Ref sig .tc := ⟨.hbm, 71, rfl⟩
abbrev main_c_7 : Ref sig .tc := ⟨.hbm, 72, rfl⟩
abbrev main_v30 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_c_8 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_c_9 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v47 : Ref sig .tc := ⟨.hbm, 94, rfl⟩
abbrev main_c_10 : Ref sig .tc := ⟨.hbm, 95, rfl⟩
abbrev main_v48 : Ref sig .tc := ⟨.hbm, 96, rfl⟩
abbrev main_c_11 : Ref sig .tc := ⟨.hbm, 97, rfl⟩
abbrev main_v49 : Ref sig .tc := ⟨.hbm, 98, rfl⟩
abbrev main_v50 : Ref sig .tc := ⟨.hbm, 99, rfl⟩
abbrev main_c_12 : Ref sig .tc := ⟨.hbm, 100, rfl⟩
abbrev main_call4_v0 : Ref sig .tc := ⟨.hbm, 101, rfl⟩
abbrev main_call4_v1 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_c_13 : Ref sig .tc := ⟨.hbm, 112, rfl⟩
abbrev main_v61 : Ref sig .tc := ⟨.hbm, 113, rfl⟩
abbrev main_c_14 : Ref sig .tc := ⟨.hbm, 114, rfl⟩
abbrev main_v62 : Ref sig .tc := ⟨.hbm, 115, rfl⟩
abbrev main_v63 : Ref sig .tc := ⟨.hbm, 116, rfl⟩
abbrev main_c_15 : Ref sig .tc := ⟨.hbm, 117, rfl⟩
abbrev main_call5_v0 : Ref sig .tc := ⟨.hbm, 118, rfl⟩
abbrev main_call5_c : Ref sig .tc := ⟨.hbm, 119, rfl⟩
abbrev main_call5_v1 : Ref sig .tc := ⟨.hbm, 120, rfl⟩
abbrev main_call5_c_0 : Ref sig .tc := ⟨.hbm, 121, rfl⟩
abbrev main_call5_v2 : Ref sig .tc := ⟨.hbm, 122, rfl⟩
abbrev main_call5_v3 : Ref sig .tc := ⟨.hbm, 123, rfl⟩
abbrev main_call5_v4 : Ref sig .tc := ⟨.hbm, 124, rfl⟩
abbrev main_call5_c_1 : Ref sig .tc := ⟨.hbm, 125, rfl⟩
abbrev main_call5_v5 : Ref sig .tc := ⟨.hbm, 126, rfl⟩
abbrev main_call5_v6 : Ref sig .tc := ⟨.hbm, 127, rfl⟩
abbrev main_call5_c_2 : Ref sig .tc := ⟨.hbm, 128, rfl⟩
abbrev main_call5_v7 : Ref sig .tc := ⟨.hbm, 129, rfl⟩
abbrev main_call5_v8 : Ref sig .tc := ⟨.hbm, 130, rfl⟩
abbrev main_call5_c_3 : Ref sig .tc := ⟨.hbm, 131, rfl⟩
abbrev main_call5_v9 : Ref sig .tc := ⟨.hbm, 132, rfl⟩
abbrev main_call5_v10 : Ref sig .tc := ⟨.hbm, 133, rfl⟩
abbrev main_call5_v11 : Ref sig .tc := ⟨.hbm, 134, rfl⟩
abbrev main_call5_v12 : Ref sig .tc := ⟨.hbm, 135, rfl⟩
abbrev main_call5_v13 : Ref sig .tc := ⟨.hbm, 136, rfl⟩
abbrev main_call5_v14 : Ref sig .tc := ⟨.hbm, 137, rfl⟩
abbrev main_v65 : Ref sig .tc := ⟨.hbm, 138, rfl⟩
abbrev main_v66 : Ref sig .tc := ⟨.hbm, 139, rfl⟩
abbrev main_v31 : Ref sig .tc := ⟨.smem, 0, rfl⟩
abbrev main_v15 : Ref sig .tc := ⟨.smem, 1, rfl⟩
abbrev main_v51 : Ref sig .tc := ⟨.smem, 2, rfl⟩
abbrev main_v64 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![316], ![false]⟩

abbrev pre0 : Pipeline.Prefetch sig := ⟨4, ![main_v31.idx, main_v15.idx, main_v51.idx, main_v64.idx], fun | 0 => main_v31.names | 1 => main_v15.names | 2 => main_v51.names | 3 => main_v64.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v8 : Index := Scalar.indexCast arg0
  ![v8.toNat]
def k0_off3 (i : grid0.Coords) : Fin 1 → Nat :=
  let arg0 : BitVec 32 := BitVec.ofNat 32 (i 0).val
  let c1_i32 : BitVec 32 := 1#32
  let v10 : BitVec 32 := Scalar.subi arg0 c1_i32
  let c0_i32_2 : BitVec 32 := 0#32
  let v11 : BitVec 32 := Scalar.maxsi v10 c0_i32_2
  let v12 : Index := Scalar.indexCast v11
  ![v12.toNat]
def k0_off4 (i : grid0.Coords) : Fin 1 → Nat :=
  let arg0 : BitVec 32 := BitVec.ofNat 32 (i 0).val
  let v204 : Index := Scalar.indexCast arg0
  ![v204.toNat]
def k0_cond4 (i : grid0.Coords) : BitVec 1 :=
  let arg0 : BitVec 32 := BitVec.ofNat 32 (i 0).val
  let c0_i32_94 : BitVec 32 := 0#32
  let v208 : BitVec 1 := Scalar.cmpi .eq arg0 c0_i32_94
  let v209 : BitVec 32 := Scalar.extui v208
  let c0_i32_95 : BitVec 32 := 0#32
  let v210 : BitVec 1 := Scalar.cmpi .ne v209 c0_i32_95
  v210

def k0_off5 (v207 : BitVec 32) : Fin 1 → Nat :=
  ![v207.toNat]
def k0_cond2 (i : grid0.Coords) (v0 : BitVec 32) : BitVec 1 :=
  let arg0 : BitVec 32 := BitVec.ofNat 32 (i 0).val
  let v4 : BitVec 1 := Scalar.cmpi .slt arg0 v0
  let v5 : BitVec 32 := Scalar.extui v4
  let c0_i32_0 : BitVec 32 := 0#32
  let v6 : BitVec 1 := Scalar.cmpi .ne v5 c0_i32_0
  v6

def k0_cond3 (i : grid0.Coords) (v9 : BitVec 32) (v13 : BitVec 32) : BitVec 1 :=
  let arg0 : BitVec 32 := BitVec.ofNat 32 (i 0).val
  let c0_i32_1 : BitVec 32 := 0#32
  let v7 : BitVec 1 := Scalar.cmpi .eq arg0 c0_i32_1
  let v14 : BitVec 1 := Scalar.cmpi .ne v9 v13
  let v15 : BitVec 1 := Scalar.ori v7 v14
  let v16 : BitVec 32 := Scalar.extui v15
  let c0_i32_3 : BitVec 32 := 0#32
  let v17 : BitVec 1 := Scalar.cmpi .ne v16 c0_i32_3
  v17

def k0_off6 (v207 : BitVec 32) : Fin 3 → Nat :=
  let c0_i32_155 : BitVec 32 := 0#32
  let c0_i32_156 : BitVec 32 := 0#32
  ![v207.toNat, 0, 0]
def k0_off7 (v205 : BitVec 32) : Fin 3 → Nat :=
  let c0_i32_157 : BitVec 32 := 0#32
  let c0_i32_158 : BitVec 32 := 0#32
  ![v205.toNat, 0, 0]

def k0_off8 (v207 : BitVec 32) : Fin 1 → Nat :=
  ![v207.toNat]
def k0_off9 (v207 : BitVec 32) : Fin 3 → Nat :=
  let c0_i32_159 : BitVec 32 := 0#32
  let c0_i32_160 : BitVec 32 := 0#32
  ![v207.toNat, 0, 0]
def k0_off10 (v205 : BitVec 32) : Fin 3 → Nat :=
  let c0_i32_161 : BitVec 32 := 0#32
  let c0_i32_162 : BitVec 32 := 0#32
  ![v205.toNat, 0, 0]
def k0_off11 (v207 : BitVec 32) : Fin 1 → Nat :=
  ![v207.toNat]
def k0_off12 (v207 : BitVec 32) : Fin 3 → Nat :=
  let c0_i32_96 : BitVec 32 := 0#32
  let c0_i32_97 : BitVec 32 := 0#32
  ![v207.toNat, 0, 0]
def k0_off13 (v205 : BitVec 32) : Fin 3 → Nat :=
  let c0_i32_98 : BitVec 32 := 0#32
  let c0_i32_99 : BitVec 32 := 0#32
  ![v205.toNat, 0, 0]
def k0_off14 (v207 : BitVec 32) : Fin 3 → Nat :=
  let c0_i32_100 : BitVec 32 := 0#32
  let c0_i32_101 : BitVec 32 := 0#32
  ![v207.toNat, 0, 0]
def k0_off15 (v205 : BitVec 32) : Fin 3 → Nat :=
  let c0_i32_102 : BitVec 32 := 0#32
  let c0_i32_103 : BitVec 32 := 0#32
  ![v205.toNat, 0, 0]

def k0_chk2 (i : grid0.Coords) (v0 : BitVec 32) (v9 : BitVec 32) (v13 : BitVec 32) (v205 : BitVec 32) : Prop :=
  (∀ (k0_h2 : k0_cond2 i v0 = 1#1), ∀ (k0_h3 : k0_cond3 i v9 v13 = 1#1), ∀ (k0_h4 : k0_cond4 i = 1#1), ∀ a, (k0_off7 v205) a + S1x1024x2048.size a ≤ S32x1024x2048.size a) ∧
  (∀ (k0_h2 : k0_cond2 i v0 = 1#1), ∀ (k0_h3 : k0_cond3 i v9 v13 = 1#1), ∀ (k0_h4 : k0_cond4 i = 1#1), ∀ a, (k0_off10 v205) a + S1x1024x1024.size a ≤ S32x1024x1024.size a) ∧
  (∀ (k0_h2 : k0_cond2 i v0 = 1#1), ∀ (k0_h3 : k0_cond3 i v9 v13 = 1#1), ∀ a, (k0_off13 v205) a + S1x1024x2048.size a ≤ S32x1024x2048.size a) ∧
  (∀ (k0_h2 : k0_cond2 i v0 = 1#1), ∀ (k0_h3 : k0_cond3 i v9 v13 = 1#1), ∀ a, (k0_off15 v205) a + S1x1024x1024.size a ≤ S32x1024x1024.size a)
theorem k0_off7_inb : ∀ (i : grid0.Coords) (v0 : BitVec 32) (v9 : BitVec 32) (v13 : BitVec 32) (v205 : BitVec 32) (k0_hw2 : k0_chk2 i v0 v9 v13 v205), ∀ (k0_h2 : k0_cond2 i v0 = 1#1), ∀ (k0_h3 : k0_cond3 i v9 v13 = 1#1), ∀ (k0_h4 : k0_cond4 i = 1#1), ∀ a, (k0_off7 v205) a + S1x1024x2048.size a ≤ S32x1024x2048.size a := fun i v0 v9 v13 v205 k0_hw2 k0_h2 k0_h3 k0_h4 => k0_hw2.1 k0_h2 k0_h3 k0_h4
theorem k0_off10_inb : ∀ (i : grid0.Coords) (v0 : BitVec 32) (v9 : BitVec 32) (v13 : BitVec 32) (v205 : BitVec 32) (k0_hw2 : k0_chk2 i v0 v9 v13 v205), ∀ (k0_h2 : k0_cond2 i v0 = 1#1), ∀ (k0_h3 : k0_cond3 i v9 v13 = 1#1), ∀ (k0_h4 : k0_cond4 i = 1#1), ∀ a, (k0_off10 v205) a + S1x1024x1024.size a ≤ S32x1024x1024.size a := fun i v0 v9 v13 v205 k0_hw2 k0_h2 k0_h3 k0_h4 => k0_hw2.2.1 k0_h2 k0_h3 k0_h4
theorem k0_off13_inb : ∀ (i : grid0.Coords) (v0 : BitVec 32) (v9 : BitVec 32) (v13 : BitVec 32) (v205 : BitVec 32) (k0_hw2 : k0_chk2 i v0 v9 v13 v205), ∀ (k0_h2 : k0_cond2 i v0 = 1#1), ∀ (k0_h3 : k0_cond3 i v9 v13 = 1#1), ∀ a, (k0_off13 v205) a + S1x1024x2048.size a ≤ S32x1024x2048.size a := fun i v0 v9 v13 v205 k0_hw2 k0_h2 k0_h3 => k0_hw2.2.2.1 k0_h2 k0_h3
theorem k0_off15_inb : ∀ (i : grid0.Coords) (v0 : BitVec 32) (v9 : BitVec 32) (v13 : BitVec 32) (v205 : BitVec 32) (k0_hw2 : k0_chk2 i v0 v9 v13 v205), ∀ (k0_h2 : k0_cond2 i v0 = 1#1), ∀ (k0_h3 : k0_cond3 i v9 v13 = 1#1), ∀ a, (k0_off15 v205) a + S1x1024x1024.size a ≤ S32x1024x1024.size a := fun i v0 v9 v13 v205 k0_hw2 k0_h2 k0_h3 => k0_hw2.2.2.2 k0_h2 k0_h3

def k0_off16 (v207 : BitVec 32) : Fin 3 → Nat :=
  let v241 : Index := Scalar.indexCast v207
  let c0_109 : Index := 0#32
  let c0_110 : Index := 0#32
  ![v241.toNat, 0, 0]
def k0_off17 (v207 : BitVec 32) : Fin 3 → Nat :=
  let v250 : Index := Scalar.indexCast v207
  let c0_114 : Index := 0#32
  let c256_115 : Index := 256#32
  ![v250.toNat, 0, 256]
def k0_off18 (v207 : BitVec 32) : Fin 3 → Nat :=
  let v259 : Index := Scalar.indexCast v207
  let c0_119 : Index := 0#32
  let c512_120 : Index := 512#32
  ![v259.toNat, 0, 512]
def k0_off19 (v207 : BitVec 32) : Fin 3 → Nat :=
  let v268 : Index := Scalar.indexCast v207
  let c0_124 : Index := 0#32
  let c768_125 : Index := 768#32
  ![v268.toNat, 0, 768]
def k0_off20 (v207 : BitVec 32) : Fin 3 → Nat :=
  let v277 : Index := Scalar.indexCast v207
  let c0_129 : Index := 0#32
  let c1024_130 : Index := 1024#32
  ![v277.toNat, 0, 1024]
def k0_off21 (v207 : BitVec 32) : Fin 3 → Nat :=
  let v286 : Index := Scalar.indexCast v207
  let c0_134 : Index := 0#32
  let c1280_135 : Index := 1280#32
  ![v286.toNat, 0, 1280]
def k0_off22 (v207 : BitVec 32) : Fin 3 → Nat :=
  let v295 : Index := Scalar.indexCast v207
  let c0_139 : Index := 0#32
  let c1536_140 : Index := 1536#32
  ![v295.toNat, 0, 1536]
def k0_off23 (v207 : BitVec 32) : Fin 3 → Nat :=
  let v304 : Index := Scalar.indexCast v207
  let c0_144 : Index := 0#32
  let c1792_145 : Index := 1792#32
  ![v304.toNat, 0, 1792]
def k0_off24 (v207 : BitVec 32) : Fin 3 → Nat :=
  let v313 : Index := Scalar.indexCast v207
  let c0_149 : Index := 0#32
  let c0_150 : Index := 0#32
  ![v313.toNat, 0, 0]

def k0_chk1 (i : grid0.Coords) (v0 : BitVec 32) (v9 : BitVec 32) (v13 : BitVec 32) (v207 : BitVec 32) : Prop :=
  (∀ (k0_h2 : k0_cond2 i v0 = 1#1), ∀ (k0_h3 : k0_cond3 i v9 v13 = 1#1), ∀ (k0_h4 : k0_cond4 i = 1#1), ∀ a, (k0_off5 v207) a + S1.size a ≤ S2.size a) ∧
  (∀ (k0_h2 : k0_cond2 i v0 = 1#1), ∀ (k0_h3 : k0_cond3 i v9 v13 = 1#1), ∀ (k0_h4 : k0_cond4 i = 1#1), ∀ a, (k0_off6 v207) a + S1x1024x2048.size a ≤ S2x1024x2048.size a) ∧
  (∀ (k0_h2 : k0_cond2 i v0 = 1#1), ∀ (k0_h3 : k0_cond3 i v9 v13 = 1#1), ∀ (k0_h4 : k0_cond4 i = 1#1), ∀ a, (k0_off8 v207) a + S1.size a ≤ S2.size a) ∧
  (∀ (k0_h2 : k0_cond2 i v0 = 1#1), ∀ (k0_h3 : k0_cond3 i v9 v13 = 1#1), ∀ (k0_h4 : k0_cond4 i = 1#1), ∀ a, (k0_off9 v207) a + S1x1024x1024.size a ≤ S2x1024x1024.size a) ∧
  (∀ (k0_h2 : k0_cond2 i v0 = 1#1), ∀ (k0_h3 : k0_cond3 i v9 v13 = 1#1), ∀ a, (k0_off11 v207) a + S1.size a ≤ S2.size a) ∧
  (∀ (k0_h2 : k0_cond2 i v0 = 1#1), ∀ (k0_h3 : k0_cond3 i v9 v13 = 1#1), ∀ a, (k0_off12 v207) a + S1x1024x2048.size a ≤ S2x1024x2048.size a) ∧
  (∀ (k0_h2 : k0_cond2 i v0 = 1#1), ∀ (k0_h3 : k0_cond3 i v9 v13 = 1#1), ∀ a, (k0_off14 v207) a + S1x1024x1024.size a ≤ S2x1024x1024.size a) ∧
  (∀ (k0_h2 : k0_cond2 i v0 = 1#1), ∀ (k0_h3 : k0_cond3 i v9 v13 = 1#1), ∀ a, (k0_off16 v207) a + S1x1024x256.size a ≤ S2x1024x2048.size a) ∧
  (∀ (k0_h2 : k0_cond2 i v0 = 1#1), ∀ (k0_h3 : k0_cond3 i v9 v13 = 1#1), ∀ a, (k0_off17 v207) a + S1x1024x256.size a ≤ S2x1024x2048.size a) ∧
  (∀ (k0_h2 : k0_cond2 i v0 = 1#1), ∀ (k0_h3 : k0_cond3 i v9 v13 = 1#1), ∀ a, (k0_off18 v207) a + S1x1024x256.size a ≤ S2x1024x2048.size a) ∧
  (∀ (k0_h2 : k0_cond2 i v0 = 1#1), ∀ (k0_h3 : k0_cond3 i v9 v13 = 1#1), ∀ a, (k0_off19 v207) a + S1x1024x256.size a ≤ S2x1024x2048.size a) ∧
  (∀ (k0_h2 : k0_cond2 i v0 = 1#1), ∀ (k0_h3 : k0_cond3 i v9 v13 = 1#1), ∀ a, (k0_off20 v207) a + S1x1024x256.size a ≤ S2x1024x2048.size a) ∧
  (∀ (k0_h2 : k0_cond2 i v0 = 1#1), ∀ (k0_h3 : k0_cond3 i v9 v13 = 1#1), ∀ a, (k0_off21 v207) a + S1x1024x256.size a ≤ S2x1024x2048.size a) ∧
  (∀ (k0_h2 : k0_cond2 i v0 = 1#1), ∀ (k0_h3 : k0_cond3 i v9 v13 = 1#1), ∀ a, (k0_off22 v207) a + S1x1024x256.size a ≤ S2x1024x2048.size a) ∧
  (∀ (k0_h2 : k0_cond2 i v0 = 1#1), ∀ (k0_h3 : k0_cond3 i v9 v13 = 1#1), ∀ a, (k0_off23 v207) a + S1x1024x256.size a ≤ S2x1024x2048.size a) ∧
  (∀ (k0_h2 : k0_cond2 i v0 = 1#1), ∀ (k0_h3 : k0_cond3 i v9 v13 = 1#1), ∀ a, (k0_off24 v207) a + S1x1024x1024.size a ≤ S2x1024x1024.size a)
theorem k0_off5_inb : ∀ (i : grid0.Coords) (v0 : BitVec 32) (v9 : BitVec 32) (v13 : BitVec 32) (v207 : BitVec 32) (k0_hw1 : k0_chk1 i v0 v9 v13 v207), ∀ (k0_h2 : k0_cond2 i v0 = 1#1), ∀ (k0_h3 : k0_cond3 i v9 v13 = 1#1), ∀ (k0_h4 : k0_cond4 i = 1#1), ∀ a, (k0_off5 v207) a + S1.size a ≤ S2.size a := fun i v0 v9 v13 v207 k0_hw1 k0_h2 k0_h3 k0_h4 => k0_hw1.1 k0_h2 k0_h3 k0_h4
theorem k0_off6_inb : ∀ (i : grid0.Coords) (v0 : BitVec 32) (v9 : BitVec 32) (v13 : BitVec 32) (v207 : BitVec 32) (k0_hw1 : k0_chk1 i v0 v9 v13 v207), ∀ (k0_h2 : k0_cond2 i v0 = 1#1), ∀ (k0_h3 : k0_cond3 i v9 v13 = 1#1), ∀ (k0_h4 : k0_cond4 i = 1#1), ∀ a, (k0_off6 v207) a + S1x1024x2048.size a ≤ S2x1024x2048.size a := fun i v0 v9 v13 v207 k0_hw1 k0_h2 k0_h3 k0_h4 => k0_hw1.2.1 k0_h2 k0_h3 k0_h4
theorem k0_off8_inb : ∀ (i : grid0.Coords) (v0 : BitVec 32) (v9 : BitVec 32) (v13 : BitVec 32) (v207 : BitVec 32) (k0_hw1 : k0_chk1 i v0 v9 v13 v207), ∀ (k0_h2 : k0_cond2 i v0 = 1#1), ∀ (k0_h3 : k0_cond3 i v9 v13 = 1#1), ∀ (k0_h4 : k0_cond4 i = 1#1), ∀ a, (k0_off8 v207) a + S1.size a ≤ S2.size a := fun i v0 v9 v13 v207 k0_hw1 k0_h2 k0_h3 k0_h4 => k0_hw1.2.2.1 k0_h2 k0_h3 k0_h4
theorem k0_off9_inb : ∀ (i : grid0.Coords) (v0 : BitVec 32) (v9 : BitVec 32) (v13 : BitVec 32) (v207 : BitVec 32) (k0_hw1 : k0_chk1 i v0 v9 v13 v207), ∀ (k0_h2 : k0_cond2 i v0 = 1#1), ∀ (k0_h3 : k0_cond3 i v9 v13 = 1#1), ∀ (k0_h4 : k0_cond4 i = 1#1), ∀ a, (k0_off9 v207) a + S1x1024x1024.size a ≤ S2x1024x1024.size a := fun i v0 v9 v13 v207 k0_hw1 k0_h2 k0_h3 k0_h4 => k0_hw1.2.2.2.1 k0_h2 k0_h3 k0_h4
theorem k0_off11_inb : ∀ (i : grid0.Coords) (v0 : BitVec 32) (v9 : BitVec 32) (v13 : BitVec 32) (v207 : BitVec 32) (k0_hw1 : k0_chk1 i v0 v9 v13 v207), ∀ (k0_h2 : k0_cond2 i v0 = 1#1), ∀ (k0_h3 : k0_cond3 i v9 v13 = 1#1), ∀ a, (k0_off11 v207) a + S1.size a ≤ S2.size a := fun i v0 v9 v13 v207 k0_hw1 k0_h2 k0_h3 => k0_hw1.2.2.2.2.1 k0_h2 k0_h3
theorem k0_off12_inb : ∀ (i : grid0.Coords) (v0 : BitVec 32) (v9 : BitVec 32) (v13 : BitVec 32) (v207 : BitVec 32) (k0_hw1 : k0_chk1 i v0 v9 v13 v207), ∀ (k0_h2 : k0_cond2 i v0 = 1#1), ∀ (k0_h3 : k0_cond3 i v9 v13 = 1#1), ∀ a, (k0_off12 v207) a + S1x1024x2048.size a ≤ S2x1024x2048.size a := fun i v0 v9 v13 v207 k0_hw1 k0_h2 k0_h3 => k0_hw1.2.2.2.2.2.1 k0_h2 k0_h3
theorem k0_off14_inb : ∀ (i : grid0.Coords) (v0 : BitVec 32) (v9 : BitVec 32) (v13 : BitVec 32) (v207 : BitVec 32) (k0_hw1 : k0_chk1 i v0 v9 v13 v207), ∀ (k0_h2 : k0_cond2 i v0 = 1#1), ∀ (k0_h3 : k0_cond3 i v9 v13 = 1#1), ∀ a, (k0_off14 v207) a + S1x1024x1024.size a ≤ S2x1024x1024.size a := fun i v0 v9 v13 v207 k0_hw1 k0_h2 k0_h3 => k0_hw1.2.2.2.2.2.2.1 k0_h2 k0_h3
theorem k0_off16_inb : ∀ (i : grid0.Coords) (v0 : BitVec 32) (v9 : BitVec 32) (v13 : BitVec 32) (v207 : BitVec 32) (k0_hw1 : k0_chk1 i v0 v9 v13 v207), ∀ (k0_h2 : k0_cond2 i v0 = 1#1), ∀ (k0_h3 : k0_cond3 i v9 v13 = 1#1), ∀ a, (k0_off16 v207) a + S1x1024x256.size a ≤ S2x1024x2048.size a := fun i v0 v9 v13 v207 k0_hw1 k0_h2 k0_h3 => k0_hw1.2.2.2.2.2.2.2.1 k0_h2 k0_h3
theorem k0_off17_inb : ∀ (i : grid0.Coords) (v0 : BitVec 32) (v9 : BitVec 32) (v13 : BitVec 32) (v207 : BitVec 32) (k0_hw1 : k0_chk1 i v0 v9 v13 v207), ∀ (k0_h2 : k0_cond2 i v0 = 1#1), ∀ (k0_h3 : k0_cond3 i v9 v13 = 1#1), ∀ a, (k0_off17 v207) a + S1x1024x256.size a ≤ S2x1024x2048.size a := fun i v0 v9 v13 v207 k0_hw1 k0_h2 k0_h3 => k0_hw1.2.2.2.2.2.2.2.2.1 k0_h2 k0_h3
theorem k0_off18_inb : ∀ (i : grid0.Coords) (v0 : BitVec 32) (v9 : BitVec 32) (v13 : BitVec 32) (v207 : BitVec 32) (k0_hw1 : k0_chk1 i v0 v9 v13 v207), ∀ (k0_h2 : k0_cond2 i v0 = 1#1), ∀ (k0_h3 : k0_cond3 i v9 v13 = 1#1), ∀ a, (k0_off18 v207) a + S1x1024x256.size a ≤ S2x1024x2048.size a := fun i v0 v9 v13 v207 k0_hw1 k0_h2 k0_h3 => k0_hw1.2.2.2.2.2.2.2.2.2.1 k0_h2 k0_h3
theorem k0_off19_inb : ∀ (i : grid0.Coords) (v0 : BitVec 32) (v9 : BitVec 32) (v13 : BitVec 32) (v207 : BitVec 32) (k0_hw1 : k0_chk1 i v0 v9 v13 v207), ∀ (k0_h2 : k0_cond2 i v0 = 1#1), ∀ (k0_h3 : k0_cond3 i v9 v13 = 1#1), ∀ a, (k0_off19 v207) a + S1x1024x256.size a ≤ S2x1024x2048.size a := fun i v0 v9 v13 v207 k0_hw1 k0_h2 k0_h3 => k0_hw1.2.2.2.2.2.2.2.2.2.2.1 k0_h2 k0_h3
theorem k0_off20_inb : ∀ (i : grid0.Coords) (v0 : BitVec 32) (v9 : BitVec 32) (v13 : BitVec 32) (v207 : BitVec 32) (k0_hw1 : k0_chk1 i v0 v9 v13 v207), ∀ (k0_h2 : k0_cond2 i v0 = 1#1), ∀ (k0_h3 : k0_cond3 i v9 v13 = 1#1), ∀ a, (k0_off20 v207) a + S1x1024x256.size a ≤ S2x1024x2048.size a := fun i v0 v9 v13 v207 k0_hw1 k0_h2 k0_h3 => k0_hw1.2.2.2.2.2.2.2.2.2.2.2.1 k0_h2 k0_h3
theorem k0_off21_inb : ∀ (i : grid0.Coords) (v0 : BitVec 32) (v9 : BitVec 32) (v13 : BitVec 32) (v207 : BitVec 32) (k0_hw1 : k0_chk1 i v0 v9 v13 v207), ∀ (k0_h2 : k0_cond2 i v0 = 1#1), ∀ (k0_h3 : k0_cond3 i v9 v13 = 1#1), ∀ a, (k0_off21 v207) a + S1x1024x256.size a ≤ S2x1024x2048.size a := fun i v0 v9 v13 v207 k0_hw1 k0_h2 k0_h3 => k0_hw1.2.2.2.2.2.2.2.2.2.2.2.2.1 k0_h2 k0_h3
theorem k0_off22_inb : ∀ (i : grid0.Coords) (v0 : BitVec 32) (v9 : BitVec 32) (v13 : BitVec 32) (v207 : BitVec 32) (k0_hw1 : k0_chk1 i v0 v9 v13 v207), ∀ (k0_h2 : k0_cond2 i v0 = 1#1), ∀ (k0_h3 : k0_cond3 i v9 v13 = 1#1), ∀ a, (k0_off22 v207) a + S1x1024x256.size a ≤ S2x1024x2048.size a := fun i v0 v9 v13 v207 k0_hw1 k0_h2 k0_h3 => k0_hw1.2.2.2.2.2.2.2.2.2.2.2.2.2.1 k0_h2 k0_h3
theorem k0_off23_inb : ∀ (i : grid0.Coords) (v0 : BitVec 32) (v9 : BitVec 32) (v13 : BitVec 32) (v207 : BitVec 32) (k0_hw1 : k0_chk1 i v0 v9 v13 v207), ∀ (k0_h2 : k0_cond2 i v0 = 1#1), ∀ (k0_h3 : k0_cond3 i v9 v13 = 1#1), ∀ a, (k0_off23 v207) a + S1x1024x256.size a ≤ S2x1024x2048.size a := fun i v0 v9 v13 v207 k0_hw1 k0_h2 k0_h3 => k0_hw1.2.2.2.2.2.2.2.2.2.2.2.2.2.2.1 k0_h2 k0_h3
theorem k0_off24_inb : ∀ (i : grid0.Coords) (v0 : BitVec 32) (v9 : BitVec 32) (v13 : BitVec 32) (v207 : BitVec 32) (k0_hw1 : k0_chk1 i v0 v9 v13 v207), ∀ (k0_h2 : k0_cond2 i v0 = 1#1), ∀ (k0_h3 : k0_cond3 i v9 v13 = 1#1), ∀ a, (k0_off24 v207) a + S1x1024x1024.size a ≤ S2x1024x1024.size a := fun i v0 v9 v13 v207 k0_hw1 k0_h2 k0_h3 => k0_hw1.2.2.2.2.2.2.2.2.2.2.2.2.2.2.2 k0_h2 k0_h3

def k0_off25 (i : grid0.Coords) : Fin 1 → Nat :=
  let arg0 : BitVec 32 := BitVec.ofNat 32 (i 0).val
  let v320 : Index := Scalar.indexCast arg0
  ![v320.toNat]
def k0_off26 (v207 : BitVec 32) : Fin 1 → Nat :=
  let c1_i32_155 : BitVec 32 := 1#32
  let v325 : BitVec 32 := Scalar.subi c1_i32_155 v207
  ![v325.toNat]
def k0_cond5 (v321 : BitVec 32) : BitVec 1 :=
  let c0_i32_153 : BitVec 32 := 0#32
  let v322 : BitVec 1 := Scalar.cmpi .sge v321 c0_i32_153
  let v323 : BitVec 32 := Scalar.extui v322
  let c0_i32_154 : BitVec 32 := 0#32
  let v324 : BitVec 1 := Scalar.cmpi .ne v323 c0_i32_154
  v324

def k0_off27 (v207 : BitVec 32) : Fin 3 → Nat :=
  let c1_i32_155 : BitVec 32 := 1#32
  let v325 : BitVec 32 := Scalar.subi c1_i32_155 v207
  let c0_i32_156 : BitVec 32 := 0#32
  let c0_i32_157 : BitVec 32 := 0#32
  ![v325.toNat, 0, 0]
def k0_off28 (v321 : BitVec 32) : Fin 3 → Nat :=
  let c0_i32_158 : BitVec 32 := 0#32
  let c0_i32_159 : BitVec 32 := 0#32
  ![v321.toNat, 0, 0]
def k0_off29 (v207 : BitVec 32) : Fin 3 → Nat :=
  let c1_i32_155 : BitVec 32 := 1#32
  let v325 : BitVec 32 := Scalar.subi c1_i32_155 v207
  let c0_i32_160 : BitVec 32 := 0#32
  let c0_i32_161 : BitVec 32 := 0#32
  ![v325.toNat, 0, 0]
def k0_off30 (v321 : BitVec 32) : Fin 3 → Nat :=
  let c0_i32_162 : BitVec 32 := 0#32
  let c0_i32_163 : BitVec 32 := 0#32
  ![v321.toNat, 0, 0]

def k0_chk3 (i : grid0.Coords) (v0 : BitVec 32) (v9 : BitVec 32) (v13 : BitVec 32) (v207 : BitVec 32) (v321 : BitVec 32) : Prop :=
  (∀ (k0_h2 : k0_cond2 i v0 = 1#1), ∀ (k0_h3 : k0_cond3 i v9 v13 = 1#1), ∀ (k0_h5 : k0_cond5 v321 = 1#1), ∀ a, (k0_off26 v207) a + S1.size a ≤ S2.size a) ∧
  (∀ (k0_h2 : k0_cond2 i v0 = 1#1), ∀ (k0_h3 : k0_cond3 i v9 v13 = 1#1), ∀ (k0_h5 : k0_cond5 v321 = 1#1), ∀ a, (k0_off27 v207) a + S1x1024x2048.size a ≤ S2x1024x2048.size a) ∧
  (∀ (k0_h2 : k0_cond2 i v0 = 1#1), ∀ (k0_h3 : k0_cond3 i v9 v13 = 1#1), ∀ (k0_h5 : k0_cond5 v321 = 1#1), ∀ a, (k0_off28 v321) a + S1x1024x2048.size a ≤ S32x1024x2048.size a) ∧
  (∀ (k0_h2 : k0_cond2 i v0 = 1#1), ∀ (k0_h3 : k0_cond3 i v9 v13 = 1#1), ∀ (k0_h5 : k0_cond5 v321 = 1#1), ∀ a, (k0_off29 v207) a + S1x1024x1024.size a ≤ S2x1024x1024.size a) ∧
  (∀ (k0_h2 : k0_cond2 i v0 = 1#1), ∀ (k0_h3 : k0_cond3 i v9 v13 = 1#1), ∀ (k0_h5 : k0_cond5 v321 = 1#1), ∀ a, (k0_off30 v321) a + S1x1024x1024.size a ≤ S32x1024x1024.size a)
theorem k0_off26_inb : ∀ (i : grid0.Coords) (v0 : BitVec 32) (v9 : BitVec 32) (v13 : BitVec 32) (v207 : BitVec 32) (v321 : BitVec 32) (k0_hw3 : k0_chk3 i v0 v9 v13 v207 v321), ∀ (k0_h2 : k0_cond2 i v0 = 1#1), ∀ (k0_h3 : k0_cond3 i v9 v13 = 1#1), ∀ (k0_h5 : k0_cond5 v321 = 1#1), ∀ a, (k0_off26 v207) a + S1.size a ≤ S2.size a := fun i v0 v9 v13 v207 v321 k0_hw3 k0_h2 k0_h3 k0_h5 => k0_hw3.1 k0_h2 k0_h3 k0_h5
theorem k0_off27_inb : ∀ (i : grid0.Coords) (v0 : BitVec 32) (v9 : BitVec 32) (v13 : BitVec 32) (v207 : BitVec 32) (v321 : BitVec 32) (k0_hw3 : k0_chk3 i v0 v9 v13 v207 v321), ∀ (k0_h2 : k0_cond2 i v0 = 1#1), ∀ (k0_h3 : k0_cond3 i v9 v13 = 1#1), ∀ (k0_h5 : k0_cond5 v321 = 1#1), ∀ a, (k0_off27 v207) a + S1x1024x2048.size a ≤ S2x1024x2048.size a := fun i v0 v9 v13 v207 v321 k0_hw3 k0_h2 k0_h3 k0_h5 => k0_hw3.2.1 k0_h2 k0_h3 k0_h5
theorem k0_off28_inb : ∀ (i : grid0.Coords) (v0 : BitVec 32) (v9 : BitVec 32) (v13 : BitVec 32) (v207 : BitVec 32) (v321 : BitVec 32) (k0_hw3 : k0_chk3 i v0 v9 v13 v207 v321), ∀ (k0_h2 : k0_cond2 i v0 = 1#1), ∀ (k0_h3 : k0_cond3 i v9 v13 = 1#1), ∀ (k0_h5 : k0_cond5 v321 = 1#1), ∀ a, (k0_off28 v321) a + S1x1024x2048.size a ≤ S32x1024x2048.size a := fun i v0 v9 v13 v207 v321 k0_hw3 k0_h2 k0_h3 k0_h5 => k0_hw3.2.2.1 k0_h2 k0_h3 k0_h5
theorem k0_off29_inb : ∀ (i : grid0.Coords) (v0 : BitVec 32) (v9 : BitVec 32) (v13 : BitVec 32) (v207 : BitVec 32) (v321 : BitVec 32) (k0_hw3 : k0_chk3 i v0 v9 v13 v207 v321), ∀ (k0_h2 : k0_cond2 i v0 = 1#1), ∀ (k0_h3 : k0_cond3 i v9 v13 = 1#1), ∀ (k0_h5 : k0_cond5 v321 = 1#1), ∀ a, (k0_off29 v207) a + S1x1024x1024.size a ≤ S2x1024x1024.size a := fun i v0 v9 v13 v207 v321 k0_hw3 k0_h2 k0_h3 k0_h5 => k0_hw3.2.2.2.1 k0_h2 k0_h3 k0_h5
theorem k0_off30_inb : ∀ (i : grid0.Coords) (v0 : BitVec 32) (v9 : BitVec 32) (v13 : BitVec 32) (v207 : BitVec 32) (v321 : BitVec 32) (k0_hw3 : k0_chk3 i v0 v9 v13 v207 v321), ∀ (k0_h2 : k0_cond2 i v0 = 1#1), ∀ (k0_h3 : k0_cond3 i v9 v13 = 1#1), ∀ (k0_h5 : k0_cond5 v321 = 1#1), ∀ a, (k0_off30 v321) a + S1x1024x1024.size a ≤ S32x1024x1024.size a := fun i v0 v9 v13 v207 v321 k0_hw3 k0_h2 k0_h3 k0_h5 => k0_hw3.2.2.2.2 k0_h2 k0_h3 k0_h5

def k0_cond1 (i : grid0.Coords) (v0 : BitVec 32) : BitVec 1 :=
  let arg0 : BitVec 32 := BitVec.ofNat 32 (i 0).val
  let v1 : BitVec 1 := Scalar.cmpi .sge arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S316.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S316) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S316.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S316) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S32 : Shape := ⟨1, ![32]⟩
abbrev S161792x1024 : Shape := ⟨2, ![161792, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S316 : Shape := ⟨1, ![316]⟩
abbrev S1x32 : Shape := ⟨2, ![1, 32]⟩
abbrev S316x1 : Shape := ⟨2, ![316, 1]⟩
abbrev S316x32 : Shape := ⟨2, ![316, 32]⟩
abbrev S316x512x1024 : Shape := ⟨3, ![316, 512, 1024]⟩
abbrev S316x3 : Shape := ⟨2, ![316, 3]⟩
abbrev S316x1x1024x2048 : Shape := ⟨4, ![316, 1, 1024, 2048]⟩
abbrev S316x1024x2048 : Shape := ⟨3, ![316, 1024, 2048]⟩
abbrev S316x512x2048 : Shape := ⟨3, ![316, 512, 2048]⟩
abbrev S316x2 : Shape := ⟨2, ![316, 2]⟩
abbrev S316x1x2048 : Shape := ⟨3, ![316, 1, 2048]⟩
abbrev S316x2048 : Shape := ⟨2, ![316, 2048]⟩
abbrev S316x1x1024x1024 : Shape := ⟨4, ![316, 1, 1024, 1024]⟩
abbrev S316x1024x1024 : Shape := ⟨3, ![316, 1024, 1024]⟩
abbrev S316x1x1024 : Shape := ⟨3, ![316, 1, 1024]⟩
abbrev S316x1024 : Shape := ⟨2, ![316, 1024]⟩
abbrev S161792 : Shape := ⟨1, ![161792]⟩
abbrev S1 : Shape := ⟨1, ![1]⟩
abbrev S161792x1 : Shape := ⟨2, ![161792, 1]⟩

abbrev nBuf : Space → Nat
  | .hbm => 203
  | .vmem => 0
  | .smem => 0
  | _ => 0

abbrev hbmTy0_0 (i : Nat) : BufTy := match i % 128 with
  | 0 => ⟨S32, .i32⟩
  | 1 => ⟨S161792x1024, .f32⟩
  | 2 => ⟨S1x32x1024x2048, .f32⟩
  | 3 => ⟨S1x32x2048, .f32⟩
  | 4 => ⟨S1x32x1024x1024, .f32⟩
  | 5 => ⟨S1x32x1024, .f32⟩
  | 6 => ⟨S32x1024x2048, .f32⟩
  | 7 => ⟨S32x2048, .f32⟩
  | 8 => ⟨S32x1024x1024, .f32⟩
  | 9 => ⟨S32x1024, .f32⟩
  | 10 => ⟨S_, .i32⟩
  | 11 => ⟨S32, .i32⟩
  | 12 => ⟨S32, .i32⟩
  | 13 => ⟨S_, .i32⟩
  | 14 => ⟨S32, .i32⟩
  | 15 => ⟨S32, .i32⟩
  | 16 => ⟨S_, .i32⟩
  | 17 => ⟨S_, .i32⟩
  | 18 => ⟨S32, .i32⟩
  | 19 => ⟨S32, .i32⟩
  | 20 => ⟨S32, .i32⟩
  | 21 => ⟨S_, .i32⟩
  | 22 => ⟨S32, .i32⟩
  | 23 => ⟨S32, .i1⟩
  | 24 => ⟨S32, .i32⟩
  | 25 => ⟨S32, .i32⟩
  | 26 => ⟨S_, .i32⟩
  | 27 => ⟨S32, .i32⟩
  | 28 => ⟨S32, .i1⟩
  | 29 => ⟨S32, .i1⟩
  | 30 => ⟨S_, .i32⟩
  | 31 => ⟨S32, .i32⟩
  | 32 => ⟨S32, .i32⟩
  | 33 => ⟨S32, .i32⟩
  | 34 => ⟨S_, .i32⟩
  | 35 => ⟨S32, .i32⟩
  | 36 => ⟨S32, .i32⟩
  | 37 => ⟨S_, .i32⟩
  | 38 => ⟨S_, .i32⟩
  | 39 => ⟨S32, .i32⟩
  | 40 => ⟨S316, .i32⟩
  | 41 => ⟨S_, .i32⟩
  | 42 => ⟨S316, .i32⟩
  | 43 => ⟨S316, .i32⟩
  | 44 => ⟨S1x32, .i32⟩
  | 45 => ⟨S316x1, .i32⟩
  | 46 => ⟨S316x32, .i32⟩
  | 47 => ⟨S316x32, .i32⟩
  | 48 => ⟨S316x32, .i1⟩
  | 49 => ⟨S316x32, .i32⟩
  | 50 => ⟨S_, .i32⟩
  | 51 => ⟨S316, .i32⟩
  | 52 => ⟨S_, .i32⟩
  | 53 => ⟨S316, .i32⟩
  | 54 => ⟨S316, .i32⟩
  | 55 => ⟨S316x512x1024, .f32⟩
  | 56 => ⟨S_, .i32⟩
  | 57 => ⟨S316, .i32⟩
  | 58 => ⟨S316, .i1⟩
  | 59 => ⟨S_, .i32⟩
  | 60 => ⟨S316, .i32⟩
  | 61 => ⟨S316, .i32⟩
  | 62 => ⟨S316, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S316x1, .i32⟩
  | 80 => ⟨S316x1, .i32⟩
  | 81 => ⟨S316x1, .i32⟩
  | 82 => ⟨S316x3, .i32⟩
  | 83 => ⟨S316x1x1024x2048, .f32⟩
  | 84 => ⟨S316x1024x2048, .f32⟩
  | 85 => ⟨S316x512x2048, .f32⟩
  | 86 => ⟨S_, .i32⟩
  | 87 => ⟨S316, .i32⟩
  | 88 => ⟨S316, .i1⟩
  | 89 => ⟨S_, .i32⟩
  | 90 => ⟨S316, .i32⟩
  | 91 => ⟨S316, .i32⟩
  | 92 => ⟨S316, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S316x1, .i32⟩
  | 102 => ⟨S316x1, .i32⟩
  | 103 => ⟨S316x2, .i32⟩
  | 104 => ⟨S316x1x2048, .f32⟩
  | 105 => ⟨S316x2048, .f32⟩
  | 106 => ⟨S316x1x2048, .f32⟩
  | 107 => ⟨S316x512x2048, .f32⟩
  | 108 => ⟨S316x512x2048, .f32⟩
  | 109 => ⟨S316x512x1024, .f32⟩
  | 110 => ⟨S_, .f32⟩
  | 111 => ⟨S316x512x1024, .f32⟩
  | 112 => ⟨S316x512x1024, .f32⟩
  | 113 => ⟨S316x512x1024, .f32⟩
  | 114 => ⟨S_, .f32⟩
  | 115 => ⟨S_, .f32⟩
  | 116 => ⟨S_, .f32⟩
  | 117 => ⟨S316x512x1024, .f32⟩
  | 118 => ⟨S316x512x1024, .f32⟩
  | 119 => ⟨S_, .f32⟩
  | 120 => ⟨S316x512x1024, .f32⟩
  | 121 => ⟨S316x512x1024, .f32⟩
  | 122 => ⟨S_, .f32⟩
  | 123 => ⟨S316x512x1024, .f32⟩
  | 124 => ⟨S316x512x1024, .f32⟩
  | 125 => ⟨S316x512x1024, .f32⟩
  | 126 => ⟨S316x512x1024, .f32⟩
  | 127 => ⟨S_, .f32⟩
  | _ => ⟨S32, .i32⟩

abbrev hbmTy0_1 (i : Nat) : BufTy := match i % 128 with
  | 0 => ⟨S316x512x1024, .f32⟩
  | 1 => ⟨S316x512x1024, .f32⟩
  | 2 => ⟨S_, .f32⟩
  | 3 => ⟨S316x512x1024, .f32⟩
  | 4 => ⟨S316x512x1024, .f32⟩
  | 5 => ⟨S316x512x1024, .f32⟩
  | 6 => ⟨S_, .f32⟩
  | 7 => ⟨S316x512x1024, .f32⟩
  | 8 => ⟨S316x512x1024, .f32⟩
  | 9 => ⟨S316x512x1024, .f32⟩
  | 10 => ⟨S_, .i32⟩
  | 11 => ⟨S316, .i32⟩
  | 12 => ⟨S316, .i1⟩
  | 13 => ⟨S_, .i32⟩
  | 14 => ⟨S316, .i32⟩
  | 15 => ⟨S316, .i32⟩
  | 16 => ⟨S316, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S316x1, .i32⟩
  | 34 => ⟨S316x1, .i32⟩
  | 35 => ⟨S316x1, .i32⟩
  | 36 => ⟨S316x3, .i32⟩
  | 37 => ⟨S316x1x1024x1024, .f32⟩
  | 38 => ⟨S316x1024x1024, .f32⟩
  | 39 => ⟨S316x512x1024, .f32⟩
  | 40 => ⟨S_, .i32⟩
  | 41 => ⟨S316, .i32⟩
  | 42 => ⟨S316, .i1⟩
  | 43 => ⟨S_, .i32⟩
  | 44 => ⟨S316, .i32⟩
  | 45 => ⟨S316, .i32⟩
  | 46 => ⟨S316, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S316x1, .i32⟩
  | 56 => ⟨S316x1, .i32⟩
  | 57 => ⟨S316x2, .i32⟩
  | 58 => ⟨S316x1x1024, .f32⟩
  | 59 => ⟨S316x1024, .f32⟩
  | 60 => ⟨S316x1x1024, .f32⟩
  | 61 => ⟨S316x512x1024, .f32⟩
  | 62 => ⟨S316x512x1024, .f32⟩
  | 63 => ⟨S161792, .i32⟩
  | 64 => ⟨S1, .i32⟩
  | 65 => ⟨S_, .i32⟩
  | 66 => ⟨S161792, .i32⟩
  | 67 => ⟨S161792, .i1⟩
  | 68 => ⟨S161792x1, .i1⟩
  | 69 => ⟨S161792x1024, .f32⟩
  | 70 => ⟨S_, .f32⟩
  | 71 => ⟨S_, .f32⟩
  | 72 => ⟨S161792x1024, .i1⟩
  | 73 => ⟨S161792x1024, .f32⟩
  | 74 => ⟨S161792x1024, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_call1_call0_c : Ref sig .tc := ⟨.hbm, 37, rfl⟩
abbrev main_call1_call0_v0 : Ref sig .tc := ⟨.hbm, 38, rfl⟩
abbrev main_v11 : Ref sig .tc := ⟨.hbm, 39, rfl⟩
abbrev main_v12 : Ref sig .tc := ⟨.hbm, 40, rfl⟩
abbrev main_c_3 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_4 : Ref sig .tc := ⟨.hbm, 50, rfl⟩
abbrev main_v21 : Ref sig .tc := ⟨.hbm, 51, rfl⟩
abbrev main_c_5 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_6 : Ref sig .tc := ⟨.hbm, 56, rfl⟩
abbrev main_v25 : Ref sig .tc := ⟨.hbm, 57, rfl⟩
abbrev main_v26 : Ref sig .tc := ⟨.hbm, 58, rfl⟩
abbrev main_c_7 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_c_8 : Ref sig .tc := ⟨.hbm, 63, rfl⟩
abbrev main_c_9 : Ref sig .tc := ⟨.hbm, 64, rfl⟩
abbrev main_v30 : Ref sig .tc := ⟨.hbm, 65, rfl⟩
abbrev main_c_10 : Ref sig .tc := ⟨.hbm, 66, rfl⟩
abbrev main_c_11 : Ref sig .tc := ⟨.hbm, 67, rfl⟩
abbrev main_v31 : Ref sig .tc := ⟨.hbm, 68, rfl⟩
abbrev main_c_12 : Ref sig .tc := ⟨.hbm, 69, rfl⟩
abbrev main_v32 : Ref sig .tc := ⟨.hbm, 70, rfl⟩
abbrev main_c_13 : Ref sig .tc := ⟨.hbm, 71, rfl⟩
abbrev main_c_14 : Ref sig .tc := ⟨.hbm, 72, rfl⟩
abbrev main_v33 : Ref sig .tc := ⟨.hbm, 73, rfl⟩
abbrev main_c_15 : Ref sig .tc := ⟨.hbm, 74, rfl⟩
abbrev main_c_16 : Ref sig .tc := ⟨.hbm, 75, rfl⟩
abbrev main_v34 : Ref sig .tc := ⟨.hbm, 76, rfl⟩
abbrev main_c_17 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_c_18 : Ref sig .tc := ⟨.hbm, 86, rfl⟩
abbrev main_v43 : Ref sig .tc := ⟨.hbm, 87, rfl⟩
abbrev main_v44 : Ref sig .tc := ⟨.hbm, 88, rfl⟩
abbrev main_c_19 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_c_20 : Ref sig .tc := ⟨.hbm, 93, rfl⟩
abbrev main_c_21 : Ref sig .tc := ⟨.hbm, 94, rfl⟩
abbrev main_v48 : Ref sig .tc := ⟨.hbm, 95, rfl⟩
abbrev main_c_22 : Ref sig .tc := ⟨.hbm, 96, rfl⟩
abbrev main_c_23 : Ref sig .tc := ⟨.hbm, 97, rfl⟩
abbrev main_v49 : Ref sig .tc := ⟨.hbm, 98, rfl⟩
abbrev main_c_24 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_25 : Ref sig .tc := ⟨.hbm, 114, rfl⟩
abbrev main_cst_26 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_v63 : Ref sig .tc := ⟨.hbm, 121, rfl⟩
abbrev main_cst_27 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_cst_28 : Ref sig .tc := ⟨.hbm, 127, rfl⟩
abbrev main_v68 : Ref sig .tc := ⟨.hbm, 128, rfl⟩
abbrev main_v69 : Ref sig .tc := ⟨.hbm, 129, rfl⟩
abbrev main_cst_29 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_cst_30 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_c_31 : Ref sig .tc := ⟨.hbm, 138, rfl⟩
abbrev main_v76 : Ref sig .tc := ⟨.hbm, 139, rfl⟩
abbrev main_v77 : Ref sig .tc := ⟨.hbm, 140, rfl⟩
abbrev main_c_32 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_c_33 : Ref sig .tc := ⟨.hbm, 145, rfl⟩
abbrev main_c_34 : Ref sig .tc := ⟨.hbm, 146, rfl⟩
abbrev main_v81 : Ref sig .tc := ⟨.hbm, 147, rfl⟩
abbrev main_c_35 : Ref sig .tc := ⟨.hbm, 148, rfl⟩
abbrev main_c_36 : Ref sig .tc := ⟨.hbm, 149, rfl⟩
abbrev main_v82 : Ref sig .tc := ⟨.hbm, 150, rfl⟩
abbrev main_c_37 : Ref sig .tc := ⟨.hbm, 151, rfl⟩
abbrev main_v83 : Ref sig .tc := ⟨.hbm, 152, rfl⟩
abbrev main_c_38 : Ref sig .tc := ⟨.hbm, 153, rfl⟩
abbrev main_c_39 : Ref sig .tc := ⟨.hbm, 154, rfl⟩
abbrev main_v84 : Ref sig .tc := ⟨.hbm, 155, rfl⟩
abbrev main_c_40 : Ref sig .tc := ⟨.hbm, 156, rfl⟩
abbrev main_c_41 : Ref sig .tc := ⟨.hbm, 157, rfl⟩
abbrev main_v85 : Ref sig .tc := ⟨.hbm, 158, rfl⟩
abbrev main_c_42 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_c_43 : Ref sig .tc := ⟨.hbm, 168, rfl⟩
abbrev main_v94 : Ref sig .tc := ⟨.hbm, 169, rfl⟩
abbrev main_v95 : Ref sig .tc := ⟨.hbm, 170, rfl⟩
abbrev main_c_44 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_c_45 : Ref sig .tc := ⟨.hbm, 175, rfl⟩
abbrev main_c_46 : Ref sig .tc := ⟨.hbm, 176, rfl⟩
abbrev main_v99 : Ref sig .tc := ⟨.hbm, 177, rfl⟩
abbrev main_c_47 : Ref sig .tc := ⟨.hbm, 178, rfl⟩
abbrev main_c_48 : Ref sig .tc := ⟨.hbm, 179, rfl⟩
abbrev main_v100 : Ref sig .tc := ⟨.hbm, 180, rfl⟩
abbrev main_c_49 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_cst_50 : Ref sig .tc := ⟨.hbm, 198, rfl⟩
abbrev main_call3_v0 : Ref sig .tc := ⟨.hbm, 199, rfl⟩
abbrev main_call3_v1 : Ref sig .tc := ⟨.hbm, 200, rfl⟩
abbrev main_call3_v2 : Ref sig .tc := ⟨.hbm, 201, rfl⟩
abbrev main_v117 : Ref sig .tc := ⟨.hbm, 202, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048 : Shape := ⟨2, ![16, 2048]⟩
abbrev S1x1024x3840 : Shape := ⟨3, ![1, 1024, 3840]⟩
abbrev S1024x3840 : Shape := ⟨2, ![1024, 3840]⟩
abbrev S32768x1024 : Shape := ⟨2, ![32768, 1024]⟩
abbrev S32768x1 : Shape := ⟨2, ![32768, 1]⟩
abbrev S1024x1024 : Shape := ⟨2, ![1024, 1024]⟩
abbrev S1024x2x8x64 : Shape := ⟨4, ![1024, 2, 8, 64]⟩
abbrev S1024x8x2x64 : Shape := ⟨4, ![1024, 8, 2, 64]⟩
abbrev S1024x128 : Shape := ⟨2, ![1024, 128]⟩
abbrev S1024x512 : Shape := ⟨2, ![1024, 512]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S262144x128 : Shape := ⟨2, ![262144, 128]⟩
abbrev S32768x128 : Shape := ⟨2, ![32768, 128]⟩
abbrev S256x512x128 : Shape := ⟨3, ![256, 512, 128]⟩
abbrev S1024x1 : Shape := ⟨2, ![1024, 1]⟩
abbrev S8192x128 : Shape := ⟨2, ![8192, 128]⟩
abbrev S8x512x128 : Shape := ⟨3, ![8, 512, 128]⟩
abbrev S128x128 : Shape := ⟨2, ![128, 128]⟩
abbrev S128x512 : Shape := ⟨2, ![128, 512]⟩
abbrev S512x128 : Shape := ⟨2, ![512, 128]⟩
abbrev S1x512x128 : Shape := ⟨3, ![1, 512, 128]⟩

abbrev nBuf : Space → Nat
  | .hbm => 39
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i32⟩
  | .hbm, ⟨2, _⟩ => ⟨S1x1024x3840, .f32⟩
  | .hbm, ⟨3, _⟩ => ⟨S1024x3840, .f32⟩
  | .hbm, ⟨4, _⟩ => ⟨S32768x1024, .f32⟩
  | .hbm, ⟨5, _⟩ => ⟨S32768x1, .i32⟩
  | .hbm, ⟨6, _⟩ => ⟨S1024x1024, .f32⟩
  | .hbm, ⟨7, _⟩ => ⟨S1024x2x8x64, .f32⟩
  | .hbm, ⟨8, _⟩ => ⟨S1024x8x2x64, .f32⟩
  | .hbm, ⟨9, _⟩ => ⟨S1024x1024, .f32⟩
  | .hbm, ⟨10, _⟩ => ⟨S1024x1024, .bf16⟩
  | .hbm, ⟨11, _⟩ => ⟨S1024x128, .f32⟩
  | .hbm, ⟨12, _⟩ => ⟨S1024x128, .bf16⟩
  | .hbm, ⟨13, _⟩ => ⟨S1024x128, .f32⟩
  | .hbm, ⟨14, _⟩ => ⟨S1024x128, .bf16⟩
  | .hbm, ⟨15, _⟩ => ⟨S1024x512, .f32⟩
  | .hbm, ⟨16, _⟩ => ⟨S1024x512, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S1x32, .f32⟩
  | .hbm, ⟨30, _⟩ => ⟨S4x32, .f32⟩
  | .hbm, ⟨31, _⟩ => ⟨S128, .f32⟩
  | .hbm, ⟨32, _⟩ => ⟨S1x128, .f32⟩
  | .hbm, ⟨33, _⟩ => ⟨S262144x128, .bf16⟩
  | .hbm, ⟨34, _⟩ => ⟨S32768x128, .bf16⟩
  | .hbm, ⟨35, _⟩ => ⟨S32768x128, .bf16⟩
  | .hbm, ⟨36, _⟩ => ⟨S256x512x128, .f32⟩
  | .hbm, ⟨37, _⟩ => ⟨S32768x1024, .bf16⟩
  | .hbm, ⟨38, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S1x128, .f32⟩
  | .local _ .vmem, ⟨5, _⟩ => ⟨S1024x1024, .bf16⟩
  | .local _ .vmem, ⟨6, _⟩ => ⟨S1024x128, .bf16⟩
  | .local _ .vmem, ⟨7, _⟩ => ⟨S1024x128, .bf16⟩
  | .local _ .vmem, ⟨8, _⟩ => ⟨S1024x512, .bf16⟩
  | .local _ .vmem, ⟨9, _⟩ => ⟨S1024x1024, .bf16⟩
  | .local _ .vmem, ⟨10, _⟩ => ⟨S1024x1024, .bf16⟩
  | .local _ .vmem, ⟨11, _⟩ => ⟨S8192x128, .bf16⟩
  | .local _ .vmem, ⟨12, _⟩ => ⟨S8192x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S8x512x128, .f32⟩
  | .local _ .vmem, ⟨18, _⟩ => ⟨S8x512x128, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28_0 : Ref sig .tc := ⟨.hbm, 33, rfl⟩
abbrev main_v28_1 : Ref sig .tc := ⟨.hbm, 34, rfl⟩
abbrev main_v28_2 : Ref sig .tc := ⟨.hbm, 35, rfl⟩
abbrev main_v28_3 : Ref sig .tc := ⟨.hbm, 36, rfl⟩
abbrev main_v28_4 : Ref sig .tc := ⟨.hbm, 37, rfl⟩
abbrev main_v28_5 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S16x2048x1024 : Shape := ⟨3, ![16, 2048, 1024]⟩
abbrev S16x2048 : Shape := ⟨2, ![16, 2048]⟩
abbrev S1x1024x3840 : Shape := ⟨3, ![1, 1024, 3840]⟩
abbrev S1024x3840 : Shape := ⟨2, ![1024, 3840]⟩
abbrev S16x2048x3840 : Shape := ⟨3, ![16, 2048, 3840]⟩
abbrev S16x2048x16x64 : Shape := ⟨4, ![16, 2048, 16, 64]⟩
abbrev S32 : Shape := ⟨1, ![32]⟩
abbrev S_ : Shape := ⟨0, ![]⟩
abbrev S16x2048x1 : Shape := ⟨3, ![16, 2048, 1]⟩
abbrev S1x1x32 : Shape := ⟨3, ![1, 1, 32]⟩
abbrev S16x2048x32 : Shape := ⟨3, ![16, 2048, 32]⟩
abbrev S16x2048x1x32 : Shape := ⟨4, ![16, 2048, 1, 32]⟩
abbrev S16x2048x16x32 : Shape := ⟨4, ![16, 2048, 16, 32]⟩
abbrev S16x2048x128 : Shape := ⟨3, ![16, 2048, 128]⟩
abbrev S16x2048x2x64 : Shape := ⟨4, ![16, 2048, 2, 64]⟩
abbrev S16x2048x2x32 : Shape := ⟨4, ![16, 2048, 2, 32]⟩
abbrev S16x2048x512 : Shape := ⟨3, ![16, 2048, 512]⟩
abbrev S256x128x2x8x64 : Shape := ⟨5, ![256, 128, 2, 8, 64]⟩
abbrev S256x8x128x2x64 : Shape := ⟨5, ![256, 8, 128, 2, 64]⟩
abbrev S256x128x512 : Shape := ⟨3, ![256, 128, 512]⟩
abbrev S256x512x128 : Shape := ⟨3, ![256, 512, 128]⟩
abbrev S262144x128 : Shape := ⟨2, ![262144, 128]⟩
abbrev S32768x128 : Shape := ⟨2, ![32768, 128]⟩
abbrev S32768x1024 : Shape := ⟨2, ![32768, 1024]⟩

abbrev nBuf : Space → Nat
  | .hbm => 109
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i32⟩
  | .hbm, ⟨2, _⟩ => ⟨S1x1024x3840, .f32⟩
  | .hbm, ⟨3, _⟩ => ⟨S1024x3840, .f32⟩
  | .hbm, ⟨4, _⟩ => ⟨S16x2048x3840, .f32⟩
  | .hbm, ⟨5, _⟩ => ⟨S16x2048x1024, .f32⟩
  | .hbm, ⟨6, _⟩ => ⟨S16x2048x16x64, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S16x2048, .f32⟩
  | .hbm, ⟨16, _⟩ => ⟨S16x2048x1, .f32⟩
  | .hbm, ⟨17, _⟩ => ⟨S1x1x32, .f32⟩
  | .hbm, ⟨18, _⟩ => ⟨S16x2048x32, .f32⟩
  | .hbm, ⟨19, _⟩ => ⟨S16x2048x32, .f32⟩
  | .hbm, ⟨20, _⟩ => ⟨S16x2048x32, .f32⟩
  | .hbm, ⟨21, _⟩ => ⟨S16x2048x32, .f32⟩
  | .hbm, ⟨22, _⟩ => ⟨S16x2048x1x32, .f32⟩
  | .hbm, ⟨23, _⟩ => ⟨S16x2048x32, .f32⟩
  | .hbm, ⟨24, _⟩ => ⟨S16x2048x1x32, .f32⟩
  | .hbm, ⟨25, _⟩ => ⟨S16x2048x16x32, .f32⟩
  | .hbm, ⟨26, _⟩ => ⟨S16x2048x16x32, .f32⟩
  | .hbm, ⟨27, _⟩ => ⟨S16x2048x16x32, .f32⟩
  | .hbm, ⟨28, _⟩ => ⟨S16x2048x16x32, .f32⟩
  | .hbm, ⟨29, _⟩ => ⟨S16x2048x16x32, .f32⟩
  | .hbm, ⟨30, _⟩ => ⟨S16x2048x16x32, .f32⟩
  | .hbm, ⟨31, _⟩ => ⟨S16x2048x16x32, .f32⟩
  | .hbm, ⟨32, _⟩ => ⟨S16x2048x16x32, .f32⟩
  | .hbm, ⟨33, _⟩ => ⟨S16x2048x16x32, .f32⟩
  | .hbm, ⟨34, _⟩ => ⟨S16x2048x16x32, .f32⟩
  | .hbm, ⟨35, _⟩ => ⟨S16x2048x16x32, .f32⟩
  | .hbm, ⟨36, _⟩ => ⟨S16x2048x16x32, .f32⟩
  | .hbm, ⟨37, _⟩ => ⟨S16x2048x16x64, .f32⟩
  | .hbm, ⟨38, _⟩ => ⟨S16x2048x128, .f32⟩
  | .hbm, ⟨39, _⟩ => ⟨S16x2048x2x64, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S16x2048, .f32⟩
  | .hbm, ⟨49, _⟩ => ⟨S16x2048x1, .f32⟩
  | .hbm, ⟨50, _⟩ => ⟨S1x1x32, .f32⟩
  | .hbm, ⟨51, _⟩ => ⟨S16x2048x32, .f32⟩
  | .hbm, ⟨52, _⟩ => ⟨S16x2048x32, .f32⟩
  | .hbm, ⟨53, _⟩ => ⟨S16x2048x32, .f32⟩
  | .hbm, ⟨54, _⟩ => ⟨S16x2048x32, .f32⟩
  | .hbm, ⟨55, _⟩ => ⟨S16x2048x1x32, .f32⟩
  | .hbm, ⟨56, _⟩ => ⟨S16x2048x32, .f32⟩
  | .hbm, ⟨57, _⟩ => ⟨S16x2048x1x32, .f32⟩
  | .hbm, ⟨58, _⟩ => ⟨S16x2048x2x32, .f32⟩
  | .hbm, ⟨59, _⟩ => ⟨S16x2048x2x32, .f32⟩
  | .hbm, ⟨60, _⟩ => ⟨S16x2048x2x32, .f32⟩
  | .hbm, ⟨61, _⟩ => ⟨S16x2048x2x32, .f32⟩
  | .hbm, ⟨62, _⟩ => ⟨S16x2048x2x32, .f32⟩
  | .hbm, ⟨63, _⟩ => ⟨S16x2048x2x32, .f32⟩
  | .hbm, ⟨64, _⟩ => ⟨S16x2048x2x32, .f32⟩
  | .hbm, ⟨65, _⟩ => ⟨S16x2048x2x32, .f32⟩
  | .hbm, ⟨66, _⟩ => ⟨S16x2048x2x32, .f32⟩
  | .hbm, ⟨67, _⟩ => ⟨S16x2048x2x32, .f32⟩
  | .hbm, ⟨68, _⟩ => ⟨S16x2048x2x32, .f32⟩
  | .hbm, ⟨69, _⟩ => ⟨S16x2048x2x32, .f32⟩
  | .hbm, ⟨70, _⟩ => ⟨S16x2048x2x64, .f32⟩
  | .hbm, ⟨71, _⟩ => ⟨S16x2048x128, .f32⟩
  | .hbm, ⟨72, _⟩ => ⟨S16x2048x2x64, .f32⟩
  | .hbm, ⟨73, _⟩ => ⟨S16x2048x512, .f32⟩
  | .hbm, ⟨74, _⟩ => ⟨S16x2048x1024, .f32⟩
  | .hbm, ⟨75, _⟩ => ⟨S16x2048x1024, .f32⟩
  | .hbm, ⟨76, _⟩ => ⟨S16x2048x1024, .f32⟩
  | .hbm, ⟨77, _⟩ => ⟨S_, .f32⟩
  | .hbm, ⟨78, _⟩ => ⟨S16x2048x1024, .f32⟩
  | .hbm, ⟨79, _⟩ => ⟨S16x2048x1024, .f32⟩
  | .hbm, ⟨80, _⟩ => ⟨S_, .f32⟩
  | .hbm, ⟨81, _⟩ => ⟨S16x2048x1024, .f32⟩
  | .hbm, ⟨82, _⟩ => ⟨S16x2048x1024, .f32⟩
  | .hbm, ⟨83, _⟩ => ⟨S16x2048x1024, .f32⟩
  | .hbm, ⟨84, _⟩ => ⟨S16x2048x1024, .f32⟩
  | .hbm, ⟨85, _⟩ => ⟨S16x2048x1024, .f32⟩
  | .hbm, ⟨86, _⟩ => ⟨S_, .f32⟩
  | .hbm, ⟨87, _⟩ => ⟨S16x2048x1024, .f32⟩
  | .hbm, ⟨88, _⟩ => ⟨S16x2048x1024, .f32⟩
  | .hbm, ⟨89, _⟩ => ⟨S_, .f32⟩
  | .hbm, ⟨90, _⟩ => ⟨S16x2048x1024, .f32⟩
  | .hbm, ⟨91, _⟩ => ⟨S16x2048x1024, .f32⟩
  | .hbm, ⟨92, _⟩ => ⟨S_, .f32⟩
  | .hbm, ⟨93, _⟩ => ⟨S16x2048x16x64, .f32⟩
  | .hbm, ⟨94, _⟩ => ⟨S16x2048x16x64, .f32⟩
  | .hbm, ⟨95, _⟩ => ⟨S256x128x2x8x64, .f32⟩
  | .hbm, ⟨96, _⟩ => ⟨S256x8x128x2x64, .f32⟩
  | .hbm, ⟨97, _⟩ => ⟨S256x128x512, .f32⟩
  | .hbm, ⟨98, _⟩ => ⟨S256x512x128, .f32⟩
  | .hbm, ⟨99, _⟩ => ⟨S262144x128, .f32⟩
  | .hbm, ⟨100, _⟩ => ⟨S262144x128, .bf16⟩
  | .hbm, ⟨101, _⟩ => ⟨S32768x128, .f32⟩
  | .hbm, ⟨102, _⟩ => ⟨S32768x128, .bf16⟩
  | .hbm, ⟨103, _⟩ => ⟨S32768x128, .f32⟩
  | .hbm, ⟨104, _⟩ => ⟨S32768x128, .bf16⟩
  | .hbm, ⟨105, _⟩ => ⟨S32768x1024, .f32⟩
  | .hbm, ⟨106, _⟩ => ⟨S32768x1024, .bf16⟩
  | .hbm, ⟨107, _⟩ => ⟨S32768x1024, .f32⟩
  | .hbm, ⟨108, _⟩ => ⟨S32768x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_1 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_cst_3 : Ref sig .tc := ⟨.hbm, 77, rfl⟩
abbrev main_v70 : Ref sig .tc := ⟨.hbm, 78, rfl⟩
abbrev main_v71 : Ref sig .tc := ⟨.hbm, 79, rfl⟩
abbrev main_cst_4 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_5 : Ref sig .tc := ⟨.hbm, 86, rfl⟩
abbrev main_v77 : Ref sig .tc := ⟨.hbm, 87, rfl⟩
abbrev main_v78 : Ref sig .tc := ⟨.hbm, 88, rfl⟩
abbrev main_cst_6 : Ref sig .tc := ⟨.hbm, 89, rfl⟩
abbrev main_v79 : Ref sig .tc := ⟨.hbm, 90, rfl⟩
abbrev main_v80 : Ref sig .tc := ⟨.hbm, 91, rfl⟩
abbrev main_cst_7 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩

abbrev nD : Nat := 1
abbrev τ : Topo := Topo.v7x

variable {F : FTy → Type} [FloatOps F]
-- ==== Kernel4.lean ====
abbrev S512x256x128 : Shape := ⟨3, ![512, 256, 128]⟩
abbrev S32768x1024 : Shape := ⟨2, ![32768, 1024]⟩
abbrev S16x2048x1024 : Shape := ⟨3, ![16, 2048, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S512x1024 : Shape := ⟨2, ![512, 1024]⟩
abbrev S1024x1024 : Shape := ⟨2, ![1024, 1024]⟩
abbrev S1024 : Shape := ⟨1, ![1024]⟩
abbrev S512x8x128 : Shape := ⟨3, ![512, 8, 128]⟩
abbrev S1024x512 : Shape := ⟨2, ![1024, 512]⟩
abbrev S4096x128 : Shape := ⟨2, ![4096, 128]⟩
abbrev S512x128 : Shape := ⟨2, ![512, 128]⟩
abbrev S128x512 : Shape := ⟨2, ![128, 512]⟩
abbrev S1024x1 : Shape := ⟨2, ![1024, 1]⟩

abbrev nBuf : Space → Nat
  | .hbm => 21
  | .vmem => 16
  | .smem => 0
  | _ => 0

abbrev bufTy : (tb : Table) → Fin (tcTables nBuf tb) → BufTy
  | .hbm, ⟨0, _⟩ => ⟨S512x256x128, .f32⟩
  | .hbm, ⟨1, _⟩ => ⟨S32768x1024, .bf16⟩
  | .hbm, ⟨2, _⟩ => ⟨S32768x1024, .bf16⟩
  | .hbm, ⟨3, _⟩ => ⟨S16x2048x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S32768x1024, .f32⟩
  | .hbm, ⟨15, _⟩ => ⟨S512x1024, .bf16⟩
  | .hbm, ⟨16, _⟩ => ⟨S512x1024, .bf16⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S32768x1024, .f32⟩
  | .local _ .vmem, ⟨0, _⟩ => ⟨S512x8x128, .f32⟩
  | .local _ .vmem, ⟨1, _⟩ => ⟨S512x8x128, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x512, .bf16⟩
  | _, _ => ⟨S512x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S512x256x128 : Shape := ⟨3, ![512, 256, 128]⟩
abbrev S32768x1024 : Shape := ⟨2, ![32768, 1024]⟩
abbrev S16x2048x1024 : Shape := ⟨3, ![16, 2048, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S256x128x512 : Shape := ⟨3, ![256, 128, 512]⟩
abbrev S16x2048x512 : Shape := ⟨3, ![16, 2048, 512]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S512x256x128, .f32⟩
  | .hbm, ⟨1, _⟩ => ⟨S32768x1024, .bf16⟩
  | .hbm, ⟨2, _⟩ => ⟨S32768x1024, .bf16⟩
  | .hbm, ⟨3, _⟩ => ⟨S16x2048x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S256x128x512, .f32⟩
  | .hbm, ⟨10, _⟩ => ⟨S16x2048x512, .f32⟩
  | .hbm, ⟨11, _⟩ => ⟨S32768x1024, .f32⟩
  | .hbm, ⟨12, _⟩ => ⟨S16x2048x1024, .f32⟩
  | .hbm, ⟨13, _⟩ => ⟨S32768x1024, .f32⟩
  | .hbm, ⟨14, _⟩ => ⟨S16x2048x1024, .f32⟩
  | .hbm, ⟨15, _⟩ => ⟨S16x2048x512, .f32⟩
  | .hbm, ⟨16, _⟩ => ⟨S16x2048x512, .f32⟩
  | .hbm, ⟨17, _⟩ => ⟨S_, .f32⟩
  | .hbm, ⟨18, _⟩ => ⟨S16x2048x512, .f32⟩
  | .hbm, ⟨19, _⟩ => ⟨S16x2048x512, .f32⟩
  | .hbm, ⟨20, _⟩ => ⟨S16x2048x512, .f32⟩
  | .hbm, ⟨21, _⟩ => ⟨S_, .f32⟩
  | .hbm, ⟨22, _⟩ => ⟨S16x2048x512, .f32⟩
  | .hbm, ⟨23, _⟩ => ⟨S16x2048x512, .f32⟩
  | .hbm, ⟨24, _⟩ => ⟨S16x2048x512, .f32⟩
  | .hbm, ⟨25, _⟩ => ⟨S_, .f32⟩
  | .hbm, ⟨26, _⟩ => ⟨S16x2048x512, .f32⟩
  | .hbm, ⟨27, _⟩ => ⟨S16x2048x512, .f32⟩
  | .hbm, ⟨28, _⟩ => ⟨S_, .f32⟩
  | .hbm, ⟨29, _⟩ => ⟨S16x2048x512, .f32⟩
  | .hbm, ⟨30, _⟩ => ⟨S16x2048x512, .f32⟩
  | .hbm, ⟨31, _⟩ => ⟨S16x2048x512, .f32⟩
  | .hbm, ⟨32, _⟩ => ⟨S512x1024, .f32⟩
  | .hbm, ⟨33, _⟩ => ⟨S16x2048x1024, .f32⟩
  | .hbm, ⟨34, _⟩ => ⟨S512x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S_, .f32⟩
  | .hbm, ⟨39, _⟩ => ⟨S16x2048x1024, .f32⟩
  | .hbm, ⟨40, _⟩ => ⟨S16x2048x1024, .f32⟩
  | .hbm, ⟨41, _⟩ => ⟨S_, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S1024x1024, .f32⟩
  | .hbm, ⟨48, _⟩ => ⟨S16x2048x1024, .f32⟩
  | .hbm, ⟨49, _⟩ => ⟨S_, .f32⟩
  | .hbm, ⟨50, _⟩ => ⟨S16x2048x1024, .f32⟩
  | .hbm, ⟨51, _⟩ => ⟨S16x2048x1024, .f32⟩
  | .hbm, ⟨52, _⟩ => ⟨S16x2048x1024, .f32⟩
  | .hbm, ⟨53, _⟩ => ⟨S1024, .f32⟩
  | .hbm, ⟨54, _⟩ => ⟨S1024, .f32⟩
  | .hbm, ⟨55, _⟩ => ⟨S_, .f32⟩
  | .hbm, ⟨56, _⟩ => ⟨S16x2048, .f32⟩
  | .hbm, ⟨57, _⟩ => ⟨S16x2048x1, .f32⟩
  | .hbm, ⟨58, _⟩ => ⟨S_, .f32⟩
  | .hbm, ⟨59, _⟩ => ⟨S16x2048x1, .f32⟩
  | .hbm, ⟨60, _⟩ => ⟨S16x2048x1, .f32⟩
  | .hbm, ⟨61, _⟩ => ⟨S16x2048x1024, .f32⟩
  | .hbm, ⟨62, _⟩ => ⟨S16x2048x1024, .f32⟩
  | .hbm, ⟨63, _⟩ => ⟨S16x2048x1024, .f32⟩
  | .hbm, ⟨64, _⟩ => ⟨S_, .f32⟩
  | .hbm, ⟨65, _⟩ => ⟨S16x2048, .f32⟩
  | .hbm, ⟨66, _⟩ => ⟨S16x2048x1, .f32⟩
  | .hbm, ⟨67, _⟩ => ⟨S_, .f32⟩
  | .hbm, ⟨68, _⟩ => ⟨S16x2048x1, .f32⟩
  | .hbm, ⟨69, _⟩ => ⟨S16x2048x1, .f32⟩
  | .hbm, ⟨70, _⟩ => ⟨S16x2048x1024, .f32⟩
  | .hbm, ⟨71, _⟩ => ⟨S16x2048x1024, .f32⟩
  | .hbm, ⟨72, _⟩ => ⟨S_, .f32⟩
  | .hbm, ⟨73, _⟩ => ⟨S16x2048x1, .f32⟩
  | .hbm, ⟨74, _⟩ => ⟨S16x2048x1, .f32⟩
  | .hbm, ⟨75, _⟩ => ⟨S16x2048x1, .f32⟩
  | .hbm, ⟨76, _⟩ => ⟨S16x2048x1024, .f32⟩
  | .hbm, ⟨77, _⟩ => ⟨S16x2048x1024, .f32⟩
  | .hbm, ⟨78, _⟩ => ⟨S1x1x1024, .f32⟩
  | .hbm, ⟨79, _⟩ => ⟨S16x2048x1024, .f32⟩
  | .hbm, ⟨80, _⟩ => ⟨S16x2048x1024, .f32⟩
  | .hbm, ⟨81, _⟩ => ⟨S1x1x1024, .f32⟩
  | .hbm, ⟨82, _⟩ => ⟨S16x2048x1024, .f32⟩
  | .hbm, ⟨83, _⟩ => ⟨S16x2048x1024, .f32⟩
  | .hbm, ⟨84, _⟩ => ⟨S32768x1024, .f32⟩
  | _, _ => ⟨S512x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== Proof.Swa.Consts.lean ====
/-
  The constants of the attention, read over the extended reals.
-/
module

public import Idealize.ShloMosaic.PureOps.Ideal
public import Idealize.ShloMosaic.PureOps.Ideal.Laws

@[expose] public section

noncomputable section

namespace Cert.Swa

open Idealize.ShloMosaic

/-- The word of minus infinity. -/
theorem ofBits_bot : Ideal.ofBits FTy.f32 0xFF800000#32 = ⊥ := by simp [Ideal.ofBits, Ideal.ieee]

/-- The word of plus infinity. -/
theorem ofBits_top : Ideal.ofBits FTy.f32 0x7F800000#32 = ⊤ := by simp [Ideal.ofBits, Ideal.ieee]

/-- The scale of the scores, one eighth. -/
def eighth : EReal := Ideal.ofBits FTy.f32 0x3E000000#32

/-- It is a nonnegative real. -/
theorem eighth_real : ∃ r : ℝ, 0 ≤ r ∧ eighth = (r : EReal) :=
  ⟨1 / 8, by norm_num, by
    simp [eighth, Ideal.ofBits, Ideal.ieee]
    rw [← EReal.coe_mul]
    norm_num⟩

end Cert.Swa
-- ==== Proof.Swa.Pre.lean ====
/-
  What the precondition of the attention says: the queries, the keys and the sinks are finite.
-/
module

public import proofs.«01_k».proof.Pre_finite_scores
public import proofs.«01_k».proof.Proof.Swa.Consts
public import Idealize.ShloMosaic.Lib.ReduceAll
public import Idealize.ShloMosaic.Lib.Affine

@[expose] public section

noncomputable section

open Idealize.ShloMosaic

namespace Cert.Pre_finite_scores

/-- The side conditions of the precondition's operations. -/
theorem facts : Facts where
  bcast_S_S16x2048x16x64 := by decide
  reducesTo_S16x2048x16x64_S_d0_1_2_3 := by decide
  h_S_ := by decide
  bcast_S_S16x2048x2x64 := by decide
  reducesTo_S16x2048x2x64_S_d0_1_2_3 := by decide
  bcast_S_S1x16 := by decide
  reducesTo_S1x16_S_d0_1 := by decide

/-- An array of rank zero has one index. -/
theorem one_index : Subsingleton S_.Idx := ⟨fun a b => funext fun k => k.elim0⟩

/-- A number whose absolute value is below infinity is finite. -/
theorem finite_of_lt {a : EReal} (h : FloatOps.cmpf (F := Ideal) (φ := .f32) .olt (FloatOps.absf (F := Ideal) (φ := .f32) a) (FloatOps.ofBits (F := Ideal) .f32 0x7F800000#32) = 1#1) :
    a ≠ ⊤ ∧ a ≠ ⊥ := by
  have h2 : BitVec.ofBool (decide (max a (-a) < Ideal.ofBits FTy.f32 0x7F800000#32)) = 1#1 := h
  rw [Swa.ofBits_top] at h2
  have h3 : max a (-a) < ⊤ := by
    by_contra hn
    rw [decide_eq_false hn] at h2
    exact absurd h2 (by decide)
  constructor
  · rintro rfl
    exact absurd h3 (by simp)
  · rintro rfl
    exact absurd h3 (by simp)

/-- The precondition, read back. -/
theorem finite [Facts] (x0 : FVec Ideal S16x2048x16x64 .f32) (x1 x2 : FVec Ideal S16x2048x2x64 .f32) (x3 : FVec Ideal S16x2048x1024 .f32) (x4 : FVec Ideal S1x16 .f32)
    (x5 : FVec Ideal S1x1024x1024 .f32) (j : S_.Idx) (h : fn (F := Ideal) x0 x1 x2 x3 x4 x5 j = 1#1) :
    (∀ i, (x0 i : EReal) ≠ ⊤ ∧ (x0 i : EReal) ≠ ⊥) ∧ (∀ i, (x1 i : EReal) ≠ ⊤ ∧ (x1 i : EReal) ≠ ⊥) ∧ ∀ i, (x4 i : EReal) ≠ ⊤ ∧ (x4 i : EReal) ≠ ⊥ := by
  haveI := one_index
  obtain ⟨h01, h4⟩ := IntOp.andi_eq_one.1 h
  obtain ⟨h0, h1⟩ := IntOp.andi_eq_one.1 h01
  exact ⟨fun i => finite_of_lt (Host.reduce_andi_all _ _ _ _ j h0 i), fun i => finite_of_lt (Host.reduce_andi_all _ _ _ _ j h1 i),
    fun i => finite_of_lt (Host.reduce_andi_all _ _ _ _ j h4 i)⟩

end Cert.Pre_finite_scores
-- ==== Proof.Swa.Block.lean ====
/-
  What the attention kernel computes for one window of 128 positions, and that its eight unrolled copies are this one
  computation at the eight windows of a grid point. `half` is one group of eight query heads against one key head;
  `block` puts the two groups side by side in the lanes; `cat` lays a window's eight heads-of-a-group next to each other,
  the array the output projection reads.
-/
module

public import proofs.«01_k».proof.Proof.Gen.KernelIdeal.Value
public import Idealize.ShloMosaic.Lib.Pointwise
public import Mathlib.Tactic.IntervalCases

@[expose] public section

set_option maxRecDepth 16384

noncomputable section

open Idealize.ShloMosaic Idealize.ShloMosaic.TcCoe Idealize.SL.Sem
open Idealize.ShloMosaic.Pipeline (Dat)

namespace Cert.KernelIdeal.SwaValue

open Cert.KernelIdeal Cert.KernelIdeal.Gen

variable {F : FTy → Type} [FloatOps F]

/-- One group of eight query heads: the scores of the rows `q` against the lanes `[lo, hi)` of the band `kb`, masked by
    `mask` with the filling `f`, their softmax, and the band `vb` of values weighed by it. -/
def half (lo hi : BitVec 32) (mask : IVec S1024x256 1) (q : FVec F S1024x128 .bf16) (kb vb : FVec F S256x128 .bf16)
    (f : Vec F S1x1024x256 .f32) : FVec F S1024x128 .f32 :=
  have lane : IVec S256x128 32 := iota .tc S256x128 32 [1] iota_S256x128_d1_w32
  have kg : FVec F S256x128 .bf16 := select (andi (cmpi .sge lane (broadcast S256x128 lo)) (cmpi .slt lane (broadcast S256x128 hi))) kb
    (broadcast S256x128 (Scalar.ofBits .bf16 0x0000#16))
  have s : FVec F S1024x256 .f32 := matmul dot_S1024x128_S256x128_S1024x256_1_1_0_0_n_n none q kg (constant S1024x256 .f32 0x00000000#32)
  have x : FVec F S1024x256 .f32 := select mask s (shapeCast S1024x256 f shapeCasts_S1x1024x256_S1024x256)
  have mx : FVec F S1024 .f32 := multiReduction .maximumf [1] S1024 x 0xFF800000#32 reduces_S1024x256_S1024 (.inl rfl) rfl
  have p : FVec F S1024x256 .f32 := exp (subf x (broadcastTo S1024x256 (shapeCast S1024x1 mx shapeCasts_S1024_S1024x1) broadcasts_S1024x1_S1024x256))
  have den : FVec F S1024 .f32 := multiReduction .add [1] S1024 p 0x00000000#32 reduces_S1024x256_S1024 (.inl rfl) rfl
  have o : FVec F S1024x128 .f32 := matmul dot_S1024x256_S256x128_S1024x128_1_0_0_1_n_n none (truncf .bf16 p bitsLt_bf16_f32) vb (constant S1024x128 .f32 0x00000000#32)
  mulf o (broadcastTo S1024x128 (divf (broadcast S1024x1 (Scalar.ofBits .f32 0x3F800000#32)) (shapeCast S1024x1 den shapeCasts_S1024_S1024x1)) broadcasts_S1024x1_S1024x128)

/-- The band of values with its first row, where the sink's column stands, set to zero. -/
def noFirst (vb : FVec F S256x128 .bf16) : FVec F S256x128 .bf16 :=
  select (cmpi .eq (iota .tc S256x128 32 [0] iota_S256x128_d0_w32) (broadcast S256x128 0#32)) (broadcast S256x128 (Scalar.ofBits .bf16 0x0000#16)) vb

/-- One window: the first group in the lanes below 64, the second in the others. -/
def block (mask : IVec S1024x256 1) (q : FVec F S1024x128 .bf16) (kb vb : FVec F S256x128 .bf16) (f0 f1 : Vec F S1x1024x256 .f32) :
    FVec F S1024x128 .bf16 :=
  truncf .bf16 (select (cmpi .slt (iota .tc S1024x128 32 [1] iota_S1024x128_d1_w32) (broadcast S1024x128 64#32))
    (half 0#32 64#32 mask q kb (noFirst vb) f0) (half 64#32 128#32 mask q kb (noFirst vb) f1)) bitsLt_bf16_f32

theorem slices_band (j : ℕ) (hj : j < 8) : S1152x128.Slices ![128 * j, 0] S256x128 := by
  interval_cases j <;> decide

theorem inb_rows (j : ℕ) (hj : j < 8) : ∀ a, ![1024 * j, 0] a + S1024x128.size a ≤ S8192x128.size a := by
  interval_cases j <;> decide

/-- The mask of window `j` of a grid point: the band of 128 positions, and in the grid's first window of a sequence none of
    the positions before it. -/
def winMask (i1 : BitVec 32) (j : ℕ) : IVec S1024x256 1 :=
  if j = 0 then k0_pay10 i1 (iota .tc S1024x256 32 [1] iota_S1024x256_d1_w32) k0_pay5 else k0_pay5

/-- Window `j` of a grid point, from the point's blocks: queries `x0`, keys `x1` after the 128 before them `x2`, values `x3`
    after `x4`, the filling `x5`. -/
def win (i1 : BitVec 32) (x0 : Vec F S8192x128 .bf16) (x1 : Vec F S1024x128 .bf16) (x2 : Vec F S128x128 .bf16)
    (x3 : Vec F S1024x128 .bf16) (x4 : Vec F S128x128 .bf16) (x5 : Vec F S2x1024x256 .f32) (j : ℕ) (hj : j < 8) : FVec F S1024x128 .bf16 :=
  block (winMask i1 j) (shapeCast S1024x128 (View.ld x0 (Rect.unit (s := S8192x128) ![1024 * j, 0] S1024x128.size (inb_rows j hj))) shapeCasts_S1024x128_S1024x128)
    (extractStridedSlice S256x128 ![128 * j, 0] (k0_pay3 x2 x1) (slices_band j hj))
    (extractStridedSlice S256x128 ![128 * j, 0] (k0_pay4 x4 x3) (slices_band j hj))
    (View.ld x5 (Rect.unit (s := S2x1024x256) ![0, 0, 0] S1x1024x256.size inb_S2x1024x256_S1x1024x256_0_0_0))
    (View.ld x5 (Rect.unit (s := S2x1024x256) ![1, 0, 0] S1x1024x256.size inb_S2x1024x256_S1x1024x256_1_0_0))

/-- The array the output projection reads: position `128 j + ρ`, column `128 r + l` is window `j`'s row `128 r + ρ`, lane `l`. -/
def cat (i1 : BitVec 32) (x0 : Vec F S8192x128 .bf16) (x1 : Vec F S1024x128 .bf16) (x2 : Vec F S128x128 .bf16)
    (x3 : Vec F S1024x128 .bf16) (x4 : Vec F S128x128 .bf16) (x5 : Vec F S2x1024x256 .f32) : Vec F S1024x1024 .bf16 :=
  fun y => win i1 x0 x1 x2 x3 x4 x5 ((y 0 : ℕ) / 128) (by have := (y 0).isLt; change (y 0 : ℕ) < 1024 at this; omega)
    (ix2 ⟨128 * ((y 1 : ℕ) / 128) + (y 0 : ℕ) % 128, by have := (y 1).isLt; change (y 1 : ℕ) < 1024 at this; omega⟩
      ⟨(y 1 : ℕ) % 128, Nat.mod_lt _ (by norm_num)⟩)

theorem slices_head (r : ℕ) (hr : r < 8) : S1024x128.Slices ![128 * r, 0] S128x128 := by
  interval_cases r <;> decide

theorem win_congr {i1 : BitVec 32} {x0 : Vec F S8192x128 .bf16} {x1 : Vec F S1024x128 .bf16} {x2 : Vec F S128x128 .bf16}
    {x3 : Vec F S1024x128 .bf16} {x4 : Vec F S128x128 .bf16} {x5 : Vec F S2x1024x256 .f32} {j j' : ℕ} (e : j = j') (hj hj')
    {k k' : S1024x128.Idx} (ek : k = k') : win i1 x0 x1 x2 x3 x4 x5 j hj k = win i1 x0 x1 x2 x3 x4 x5 j' hj' k' := by
  subst e; subst ek; rfl

/-- A store of window `j`'s head `r` puts what `cat` holds there. -/
theorem piece_eq (i1 : BitVec 32) (x0 : Vec F S8192x128 .bf16) (x1 : Vec F S1024x128 .bf16) (x2 : Vec F S128x128 .bf16)
    (x3 : Vec F S1024x128 .bf16) (x4 : Vec F S128x128 .bf16) (x5 : Vec F S2x1024x256 .f32) (j r : ℕ) (hj : j < 8) (hr : r < 8)
    (off : Fin 2 → ℕ) (ho : off = ![128 * j, 128 * r])
    (inb : ∀ a, off a + S128x128.size a ≤ S1024x1024.size a) (pay : FVec F S128x128 .bf16)
    (hp : pay = shapeCast S128x128 (extractStridedSlice S128x128 ![128 * r, 0] (win i1 x0 x1 x2 x3 x4 x5 j hj) (slices_head r hr)) shapeCasts_S128x128_S128x128)
    (x : S128x128.Idx) :
    pay x = cat i1 x0 x1 x2 x3 x4 x5 ((Rect.unit (s := S1024x1024) off S128x128.size inb).emb x) := by
  subst hp; subst ho
  rw [shapeCast_self]
  have h0 : (((Rect.unit (s := S1024x1024) ![128 * j, 128 * r] S128x128.size inb).emb x) 0 : ℕ) = 128 * j + (x 0 : ℕ) := by
    rw [Rect.emb_apply]; show 128 * j + 1 * (x 0 : ℕ) = _; omega
  have h1 : (((Rect.unit (s := S1024x1024) ![128 * j, 128 * r] S128x128.size inb).emb x) 1 : ℕ) = 128 * r + (x 1 : ℕ) := by
    rw [Rect.emb_apply]; show 128 * r + 1 * (x 1 : ℕ) = _; omega
  have b0 : (x 0 : ℕ) < 128 := (x 0).isLt
  have b1 : (x 1 : ℕ) < 128 := (x 1).isLt
  unfold cat
  rw [extractStridedSlice_apply ![128 * r, 0] (win i1 x0 x1 x2 x3 x4 x5 j hj) (slices_head r hr) x
    (ix2 ⟨128 * r + (x 0 : ℕ), by omega⟩ ⟨(x 1 : ℕ), b1⟩) (fun a => by match a with
      | ⟨0, _⟩ => show 128 * r + (x 0 : ℕ) = 128 * r + (x 0 : ℕ); rfl
      | ⟨1, _⟩ => show (x 1 : ℕ) = 0 + (x 1 : ℕ); omega)]
  refine win_congr (by omega) _ _ ?_
  congr 1
  · apply Fin.ext; show 128 * r + (x 0 : ℕ) = 128 * (_ / 128) + _ % 128; rw [h0, h1]; omega
  · apply Fin.ext; show (x 1 : ℕ) = _ % 128; rw [h1]; omega

end Cert.KernelIdeal.SwaValue
-- ==== Proof.Swa.Pieces.lean ====
/-
  The contents the attention kernel's body leaves in its output block: the 64 stores into the scratch array are the pieces
  of `cat`, and what is stored at the end is the output projection of `cat`, times the gate.
-/
module

public import proofs.«01_k».proof.Proof.Swa.Block

@[expose] public section

set_option maxRecDepth 16384

noncomputable section

open Idealize.ShloMosaic Idealize.ShloMosaic.TcCoe Idealize.SL.Sem
open Idealize.ShloMosaic.Pipeline (Dat)

namespace Cert.KernelIdeal.SwaValue

open Cert.KernelIdeal Cert.KernelIdeal.Gen

variable {F : FTy → Type} [FloatOps F]

theorem hz : (![0, 0] : Fin 2 → Nat) = fun _ => 0 := funext fun a => by fin_cases a <;> rfl

set_option maxHeartbeats 2000000 in
/-- What the body leaves in the output's block. -/
theorem out_eq (c : Dev nD) (i : grid0.Coords) (arg2 : Memref sig .tc .vmem S8192x128 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S2x1024x256 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole)
    (x0 : Vec F S8192x128 .bf16) (x1 : Vec F S1024x128 .bf16) (x2 : Vec F S128x128 .bf16) (x3 : Vec F S1024x128 .bf16) (x4 : Vec F S128x128 .bf16) (x5 : Vec F S2x1024x256 .f32) (x6 : Vec F S1024x1024 .bf16) (x7 : Vec F S1024x1024 .bf16) :
    out0_A_8 c i arg2 harg2 arg3 harg3 arg4 harg4 arg5 harg5 arg6 harg6 arg7 harg7 arg8 harg8 arg9 harg9 arg10 harg10 arg11 harg11 x0 x1 x2 x3 x4 x5 x6 x7
      = k0_pay2 (cat (BitVec.ofNat 32 (i 1).val) x0 x1 x2 x3 x4 x5) x6 x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5 x6 x7)]
  unfold kernelRun0_A
  dsimp only
  sl_unfold_words
  simp only [View.readAt_eq_ld, harg2.read_unread, harg3.read_unread, harg4.read_unread, harg5.read_unread, harg6.read_unread,
    harg7.read_unread, harg8.read_unread, harg9.read_unread, View.ld_unit_zero (S := S1024x1024) hz, View.ld_unit_zero (S := S1024x128) hz,
    View.ld_unit_zero (S := S128x128) hz]
  rw [View.canon_unit_zero hz]
  congr 1
  refine (View.readCov_eq_canon_ld (Val := Elt F) (s := S1024x1024) (e := .bf16) arg11.view _
    (Rect.unit (s := S1024x1024) ![0, 0] S1024x1024.size inb_S1024x1024_S1024x1024_0_0) ?_).trans ?_
  · exact fun y => View.cover_of_tiledL (s := S1024x1024) _ ![128, 128] (by sl_kernel_rfl) y
  refine (View.ld_unit_zero (S := S1024x1024) hz _ _).trans ?_
  funext y
  refine View.canon_apply_of_pieces (cat (BitVec.ofNat 32 (i 1).val) x0 x1 x2 x3 x4 x5) _ ?_ y (View.cover_of_tiledL (s := S1024x1024) _ ![128, 128] (by sl_kernel_rfl) y)
  refine List.forall_mem_cons.2 ⟨piece_eq _ x0 x1 x2 x3 x4 x5 7 7 (by decide) (by decide) ![896, 896] rfl inb_S1024x1024_S128x128_896_896 _ rfl, ?_⟩
  refine List.forall_mem_cons.2 ⟨piece_eq _ x0 x1 x2 x3 x4 x5 7 6 (by decide) (by decide) ![896, 768] rfl inb_S1024x1024_S128x128_896_768 _ rfl, ?_⟩
  refine List.forall_mem_cons.2 ⟨piece_eq _ x0 x1 x2 x3 x4 x5 7 5 (by decide) (by decide) ![896, 640] rfl inb_S1024x1024_S128x128_896_640 _ rfl, ?_⟩
  refine List.forall_mem_cons.2 ⟨piece_eq _ x0 x1 x2 x3 x4 x5 7 4 (by decide) (by decide) ![896, 512] rfl inb_S1024x1024_S128x128_896_512 _ rfl, ?_⟩
  refine List.forall_mem_cons.2 ⟨piece_eq _ x0 x1 x2 x3 x4 x5 7 3 (by decide) (by decide) ![896, 384] rfl inb_S1024x1024_S128x128_896_384 _ rfl, ?_⟩
  refine List.forall_mem_cons.2 ⟨piece_eq _ x0 x1 x2 x3 x4 x5 7 2 (by decide) (by decide) ![896, 256] rfl inb_S1024x1024_S128x128_896_256 _ rfl, ?_⟩
  refine List.forall_mem_cons.2 ⟨piece_eq _ x0 x1 x2 x3 x4 x5 7 1 (by decide) (by decide) ![896, 128] rfl inb_S1024x1024_S128x128_896_128 _ rfl, ?_⟩
  refine List.forall_mem_cons.2 ⟨piece_eq _ x0 x1 x2 x3 x4 x5 7 0 (by decide) (by decide) ![896, 0] rfl inb_S1024x1024_S128x128_896_0 _ rfl, ?_⟩
  refine List.forall_mem_cons.2 ⟨piece_eq _ x0 x1 x2 x3 x4 x5 6 7 (by decide) (by decide) ![768, 896] rfl inb_S1024x1024_S128x128_768_896 _ rfl, ?_⟩
  refine List.forall_mem_cons.2 ⟨piece_eq _ x0 x1 x2 x3 x4 x5 6 6 (by decide) (by decide) ![768, 768] rfl inb_S1024x1024_S128x128_768_768 _ rfl, ?_⟩
  refine List.forall_mem_cons.2 ⟨piece_eq _ x0 x1 x2 x3 x4 x5 6 5 (by decide) (by decide) ![768, 640] rfl inb_S1024x1024_S128x128_768_640 _ rfl, ?_⟩
  refine List.forall_mem_cons.2 ⟨piece_eq _ x0 x1 x2 x3 x4 x5 6 4 (by decide) (by decide) ![768, 512] rfl inb_S1024x1024_S128x128_768_512 _ rfl, ?_⟩
  refine List.forall_mem_cons.2 ⟨piece_eq _ x0 x1 x2 x3 x4 x5 6 3 (by decide) (by decide) ![768, 384] rfl inb_S1024x1024_S128x128_768_384 _ rfl, ?_⟩
  refine List.forall_mem_cons.2 ⟨piece_eq _ x0 x1 x2 x3 x4 x5 6 2 (by decide) (by decide) ![768, 256] rfl inb_S1024x1024_S128x128_768_256 _ rfl, ?_⟩
  refine List.forall_mem_cons.2 ⟨piece_eq _ x0 x1 x2 x3 x4 x5 6 1 (by decide) (by decide) ![768, 128] rfl inb_S1024x1024_S128x128_768_128 _ rfl, ?_⟩
  refine List.forall_mem_cons.2 ⟨piece_eq _ x0 x1 x2 x3 x4 x5 6 0 (by decide) (by decide) ![768, 0] rfl inb_S1024x1024_S128x128_768_0 _ rfl, ?_⟩
  refine List.forall_mem_cons.2 ⟨piece_eq _ x0 x1 x2 x3 x4 x5 5 7 (by decide) (by decide) ![640, 896] rfl inb_S1024x1024_S128x128_640_896 _ rfl, ?_⟩
  refine List.forall_mem_cons.2 ⟨piece_eq _ x0 x1 x2 x3 x4 x5 5 6 (by decide) (by decide) ![640, 768] rfl inb_S1024x1024_S128x128_640_768 _ rfl, ?_⟩
  refine List.forall_mem_cons.2 ⟨piece_eq _ x0 x1 x2 x3 x4 x5 5 5 (by decide) (by decide) ![640, 640] rfl inb_S1024x1024_S128x128_640_640 _ rfl, ?_⟩
  refine List.forall_mem_cons.2 ⟨piece_eq _ x0 x1 x2 x3 x4 x5 5 4 (by decide) (by decide) ![640, 512] rfl inb_S1024x1024_S128x128_640_512 _ rfl, ?_⟩
  refine List.forall_mem_cons.2 ⟨piece_eq _ x0 x1 x2 x3 x4 x5 5 3 (by decide) (by decide) ![640, 384] rfl inb_S1024x1024_S128x128_640_384 _ rfl, ?_⟩
  refine List.forall_mem_cons.2 ⟨piece_eq _ x0 x1 x2 x3 x4 x5 5 2 (by decide) (by decide) ![640, 256] rfl inb_S1024x1024_S128x128_640_256 _ rfl, ?_⟩
  refine List.forall_mem_cons.2 ⟨piece_eq _ x0 x1 x2 x3 x4 x5 5 1 (by decide) (by decide) ![640, 128] rfl inb_S1024x1024_S128x128_640_128 _ rfl, ?_⟩
  refine List.forall_mem_cons.2 ⟨piece_eq _ x0 x1 x2 x3 x4 x5 5 0 (by decide) (by decide) ![640, 0] rfl inb_S1024x1024_S128x128_640_0 _ rfl, ?_⟩
  refine List.forall_mem_cons.2 ⟨piece_eq _ x0 x1 x2 x3 x4 x5 4 7 (by decide) (by decide) ![512, 896] rfl inb_S1024x1024_S128x128_512_896 _ rfl, ?_⟩
  refine List.forall_mem_cons.2 ⟨piece_eq _ x0 x1 x2 x3 x4 x5 4 6 (by decide) (by decide) ![512, 768] rfl inb_S1024x1024_S128x128_512_768 _ rfl, ?_⟩
  refine List.forall_mem_cons.2 ⟨piece_eq _ x0 x1 x2 x3 x4 x5 4 5 (by decide) (by decide) ![512, 640] rfl inb_S1024x1024_S128x128_512_640 _ rfl, ?_⟩
  refine List.forall_mem_cons.2 ⟨piece_eq _ x0 x1 x2 x3 x4 x5 4 4 (by decide) (by decide) ![512, 512] rfl inb_S1024x1024_S128x128_512_512 _ rfl, ?_⟩
  refine List.forall_mem_cons.2 ⟨piece_eq _ x0 x1 x2 x3 x4 x5 4 3 (by decide) (by decide) ![512, 384] rfl inb_S1024x1024_S128x128_512_384 _ rfl, ?_⟩
  refine List.forall_mem_cons.2 ⟨piece_eq _ x0 x1 x2 x3 x4 x5 4 2 (by decide) (by decide) ![512, 256] rfl inb_S1024x1024_S128x128_512_256 _ rfl, ?_⟩
  refine List.forall_mem_cons.2 ⟨piece_eq _ x0 x1 x2 x3 x4 x5 4 1 (by decide) (by decide) ![512, 128] rfl inb_S1024x1024_S128x128_512_128 _ rfl, ?_⟩
  refine List.forall_mem_cons.2 ⟨piece_eq _ x0 x1 x2 x3 x4 x5 4 0 (by decide) (by decide) ![512, 0] rfl inb_S1024x1024_S128x128_512_0 _ rfl, ?_⟩
  refine List.forall_mem_cons.2 ⟨piece_eq _ x0 x1 x2 x3 x4 x5 3 7 (by decide) (by decide) ![384, 896] rfl inb_S1024x1024_S128x128_384_896 _ rfl, ?_⟩
  refine List.forall_mem_cons.2 ⟨piece_eq _ x0 x1 x2 x3 x4 x5 3 6 (by decide) (by decide) ![384, 768] rfl inb_S1024x1024_S128x128_384_768 _ rfl, ?_⟩
  refine List.forall_mem_cons.2 ⟨piece_eq _ x0 x1 x2 x3 x4 x5 3 5 (by decide) (by decide) ![384, 640] rfl inb_S1024x1024_S128x128_384_640 _ rfl, ?_⟩
  refine List.forall_mem_cons.2 ⟨piece_eq _ x0 x1 x2 x3 x4 x5 3 4 (by decide) (by decide) ![384, 512] rfl inb_S1024x1024_S128x128_384_512 _ rfl, ?_⟩
  refine List.forall_mem_cons.2 ⟨piece_eq _ x0 x1 x2 x3 x4 x5 3 3 (by decide) (by decide) ![384, 384] rfl inb_S1024x1024_S128x128_384_384 _ rfl, ?_⟩
  refine List.forall_mem_cons.2 ⟨piece_eq _ x0 x1 x2 x3 x4 x5 3 2 (by decide) (by decide) ![384, 256] rfl inb_S1024x1024_S128x128_384_256 _ rfl, ?_⟩
  refine List.forall_mem_cons.2 ⟨piece_eq _ x0 x1 x2 x3 x4 x5 3 1 (by decide) (by decide) ![384, 128] rfl inb_S1024x1024_S128x128_384_128 _ rfl, ?_⟩
  refine List.forall_mem_cons.2 ⟨piece_eq _ x0 x1 x2 x3 x4 x5 3 0 (by decide) (by decide) ![384, 0] rfl inb_S1024x1024_S128x128_384_0 _ rfl, ?_⟩
  refine List.forall_mem_cons.2 ⟨piece_eq _ x0 x1 x2 x3 x4 x5 2 7 (by decide) (by decide) ![256, 896] rfl inb_S1024x1024_S128x128_256_896 _ rfl, ?_⟩
  refine List.forall_mem_cons.2 ⟨piece_eq _ x0 x1 x2 x3 x4 x5 2 6 (by decide) (by decide) ![256, 768] rfl inb_S1024x1024_S128x128_256_768 _ rfl, ?_⟩
  refine List.forall_mem_cons.2 ⟨piece_eq _ x0 x1 x2 x3 x4 x5 2 5 (by decide) (by decide) ![256, 640] rfl inb_S1024x1024_S128x128_256_640 _ rfl, ?_⟩
  refine List.forall_mem_cons.2 ⟨piece_eq _ x0 x1 x2 x3 x4 x5 2 4 (by decide) (by decide) ![256, 512] rfl inb_S1024x1024_S128x128_256_512 _ rfl, ?_⟩
  refine List.forall_mem_cons.2 ⟨piece_eq _ x0 x1 x2 x3 x4 x5 2 3 (by decide) (by decide) ![256, 384] rfl inb_S1024x1024_S128x128_256_384 _ rfl, ?_⟩
  refine List.forall_mem_cons.2 ⟨piece_eq _ x0 x1 x2 x3 x4 x5 2 2 (by decide) (by decide) ![256, 256] rfl inb_S1024x1024_S128x128_256_256 _ rfl, ?_⟩
  refine List.forall_mem_cons.2 ⟨piece_eq _ x0 x1 x2 x3 x4 x5 2 1 (by decide) (by decide) ![256, 128] rfl inb_S1024x1024_S128x128_256_128 _ rfl, ?_⟩
  refine List.forall_mem_cons.2 ⟨piece_eq _ x0 x1 x2 x3 x4 x5 2 0 (by decide) (by decide) ![256, 0] rfl inb_S1024x1024_S128x128_256_0 _ rfl, ?_⟩
  refine List.forall_mem_cons.2 ⟨piece_eq _ x0 x1 x2 x3 x4 x5 1 7 (by decide) (by decide) ![128, 896] rfl inb_S1024x1024_S128x128_128_896 _ rfl, ?_⟩
  refine List.forall_mem_cons.2 ⟨piece_eq _ x0 x1 x2 x3 x4 x5 1 6 (by decide) (by decide) ![128, 768] rfl inb_S1024x1024_S128x128_128_768 _ rfl, ?_⟩
  refine List.forall_mem_cons.2 ⟨piece_eq _ x0 x1 x2 x3 x4 x5 1 5 (by decide) (by decide) ![128, 640] rfl inb_S1024x1024_S128x128_128_640 _ rfl, ?_⟩
  refine List.forall_mem_cons.2 ⟨piece_eq _ x0 x1 x2 x3 x4 x5 1 4 (by decide) (by decide) ![128, 512] rfl inb_S1024x1024_S128x128_128_512 _ rfl, ?_⟩
  refine List.forall_mem_cons.2 ⟨piece_eq _ x0 x1 x2 x3 x4 x5 1 3 (by decide) (by decide) ![128, 384] rfl inb_S1024x1024_S128x128_128_384 _ rfl, ?_⟩
  refine List.forall_mem_cons.2 ⟨piece_eq _ x0 x1 x2 x3 x4 x5 1 2 (by decide) (by decide) ![128, 256] rfl inb_S1024x1024_S128x128_128_256 _ rfl, ?_⟩
  refine List.forall_mem_cons.2 ⟨piece_eq _ x0 x1 x2 x3 x4 x5 1 1 (by decide) (by decide) ![128, 128] rfl inb_S1024x1024_S128x128_128_128 _ rfl, ?_⟩
  refine List.forall_mem_cons.2 ⟨piece_eq _ x0 x1 x2 x3 x4 x5 1 0 (by decide) (by decide) ![128, 0] rfl inb_S1024x1024_S128x128_128_0 _ rfl, ?_⟩
  refine List.forall_mem_cons.2 ⟨piece_eq _ x0 x1 x2 x3 x4 x5 0 7 (by decide) (by decide) ![0, 896] rfl inb_S1024x1024_S128x128_0_896 _ rfl, ?_⟩
  refine List.forall_mem_cons.2 ⟨piece_eq _ x0 x1 x2 x3 x4 x5 0 6 (by decide) (by decide) ![0, 768] rfl inb_S1024x1024_S128x128_0_768 _ rfl, ?_⟩
  refine List.forall_mem_cons.2 ⟨piece_eq _ x0 x1 x2 x3 x4 x5 0 5 (by decide) (by decide) ![0, 640] rfl inb_S1024x1024_S128x128_0_640 _ rfl, ?_⟩
  refine List.forall_mem_cons.2 ⟨piece_eq _ x0 x1 x2 x3 x4 x5 0 4 (by decide) (by decide) ![0, 512] rfl inb_S1024x1024_S128x128_0_512 _ rfl, ?_⟩
  refine List.forall_mem_cons.2 ⟨piece_eq _ x0 x1 x2 x3 x4 x5 0 3 (by decide) (by decide) ![0, 384] rfl inb_S1024x1024_S128x128_0_384 _ rfl, ?_⟩
  refine List.forall_mem_cons.2 ⟨piece_eq _ x0 x1 x2 x3 x4 x5 0 2 (by decide) (by decide) ![0, 256] rfl inb_S1024x1024_S128x128_0_256 _ rfl, ?_⟩
  refine List.forall_mem_cons.2 ⟨piece_eq _ x0 x1 x2 x3 x4 x5 0 1 (by decide) (by decide) ![0, 128] rfl inb_S1024x1024_S128x128_0_128 _ rfl, ?_⟩
  refine List.forall_mem_cons.2 ⟨piece_eq _ x0 x1 x2 x3 x4 x5 0 0 (by decide) (by decide) ![0, 0] rfl inb_S1024x1024_S128x128_0_0 _ rfl, ?_⟩
  exact fun p hp => absurd hp (List.not_mem_nil)

end Cert.KernelIdeal.SwaValue
-- ==== Proof.Swa.Row.lean ====
/-
  One window of the attention kernel over the extended reals, at a row and a lane: the softmax of the row's masked scores
  against the keys of the lane's group, weighing the lane of the values.
-/
module

public import proofs.«01_k».proof.Proof.Swa.Pieces
public import proofs.«01_k».proof.Proof.Swa.Consts
public import Idealize.ShloMosaic.Lib.WordCmp

@[expose] public section

set_option maxRecDepth 16384

noncomputable section

open Idealize.ShloMosaic Idealize.ShloMosaic.TcCoe Idealize.SL.Sem

namespace Cert.Swa

/-- The softmax of `x` weighing `v`, divided once. -/
def soft {n : ℕ} (x v : Fin n → EReal) : EReal :=
  (∑ c, Ideal.exp (x c - Finset.univ.sup x) * v c) * Ideal.div 1 (∑ c, Ideal.exp (x c - Finset.univ.sup x))

/-- It depends on the scores and the values only. -/
theorem soft_congr {n : ℕ} {x x' v v' : Fin n → EReal} (hx : ∀ c, x c = x' c) (hv : ∀ c, v c = v' c) : soft x v = soft x' v' := by
  rw [funext hx, funext hv]

/-- A sum over 128 lanes of which 64, those from `s`, count. -/
theorem sum_group (s : ℕ) (hs : s = 0 ∨ s = 64) (F : Fin 128 → EReal) :
    (∑ l : Fin 128, if s ≤ l.val ∧ l.val < s + 64 then F l else 0) = ∑ d : Fin 64, F ⟨s + d.val, by omega⟩ := by
  rw [show (∑ l : Fin 128, if s ≤ l.val ∧ l.val < s + 64 then F l else 0)
    = ∑ l : Fin (64 + 64), if s ≤ l.val ∧ l.val < s + 64 then F l else 0 from rfl, Fin.sum_univ_add]
  rcases hs with rfl | rfl
  · have z : ∀ i : Fin 64, (if 0 ≤ (Fin.natAdd 64 i).val ∧ (Fin.natAdd 64 i).val < 0 + 64 then F (Fin.natAdd 64 i) else 0) = 0 := fun i => by
      rw [if_neg]; rw [Fin.val_natAdd]; omega
    rw [Finset.sum_eq_zero (fun i _ => z i), add_zero]
    refine Finset.sum_congr rfl fun i _ => ?_
    rw [if_pos (by rw [Fin.val_castAdd]; omega)]
    congr 1
    apply Fin.ext
    rw [Fin.val_castAdd]
    simp
  · have z : ∀ i : Fin 64, (if 64 ≤ (Fin.castAdd 64 i).val ∧ (Fin.castAdd 64 i).val < 64 + 64 then F (Fin.castAdd 64 i) else 0) = 0 := fun i => by
      rw [if_neg]; rw [Fin.val_castAdd]; omega
    rw [Finset.sum_eq_zero (fun i _ => z i), zero_add]
    refine Finset.sum_congr rfl fun i _ => ?_
    rw [if_pos (by rw [Fin.val_natAdd]; omega)]
    congr 1

end Cert.Swa

namespace Cert.KernelIdeal.SwaValue

open Cert.KernelIdeal Cert.KernelIdeal.Gen

/-- The remainder of a row's number by the window's length, as the kernel computes it. -/
theorem rem_eq : ∀ ρ : Fin 1024,
    (Scalar.select
          (IntOp.andi
            (IntOp.xori
              (IntOp.cmpi CmpIPredicate.slt
                (IntOp.remsi ArithUnit.vector (BitVec.ofNat 32 ρ.val)
                  (Scalar.select (Scalar.cmpi CmpIPredicate.eq 128#32 0#32) 1#32 128#32))
                0#32)
              (Scalar.cmpi CmpIPredicate.slt (Scalar.select (Scalar.cmpi CmpIPredicate.eq 128#32 0#32) 1#32 128#32)
                0#32))
            (IntOp.cmpi CmpIPredicate.ne
              (IntOp.remsi ArithUnit.vector (BitVec.ofNat 32 ρ.val)
                (Scalar.select (Scalar.cmpi CmpIPredicate.eq 128#32 0#32) 1#32 128#32))
              0#32))
          (IntOp.addi
            (IntOp.remsi ArithUnit.vector (BitVec.ofNat 32 ρ.val)
              (Scalar.select (Scalar.cmpi CmpIPredicate.eq 128#32 0#32) 1#32 128#32))
            (Scalar.select (Scalar.cmpi CmpIPredicate.eq 128#32 0#32) 1#32 128#32))
          (IntOp.remsi ArithUnit.vector (BitVec.ofNat 32 ρ.val)
            (Scalar.select (Scalar.cmpi CmpIPredicate.eq 128#32 0#32) 1#32 128#32))) = BitVec.ofNat 32 (ρ.val % 128) := by
  decide +kernel

/-- The mask of the band: column `k` is in row `ρ`'s window of 128 positions. -/
theorem band_mask (ρ : Fin 1024) (k : Fin 256) :
    k0_pay5 (ix2 ρ k) = BitVec.ofBool (decide (ρ.val % 128 < k.val ∧ k.val ≤ ρ.val % 128 + 128)) := by
  pointwise [k0_pay5]
  rw [rem_eq]
  have e : IntOp.addi (BitVec.ofNat 32 (ρ.val % 128)) 128#32 = BitVec.ofNat 32 (ρ.val % 128 + 128) := by
    show BitVec.ofNat 32 (ρ.val % 128) + 128#32 = _
    rw [BitVec.ofNat_add]
  rw [e, WordCmp.cmpi_sgt_ofNat (by omega) (by omega), WordCmp.cmpi_sle_ofNat (by omega) (by omega), WordCmp.andi_ofBool]
  simp

/-- The mask of window `j` of a grid point: the band, without the positions before the sequence's first. -/
theorem winMask_apply (i1 : Fin 2) (j : ℕ) (ρ : Fin 1024) (k : Fin 256) :
    winMask (BitVec.ofNat 32 i1.val) j (ix2 ρ k)
      = BitVec.ofBool (decide (ρ.val % 128 < k.val ∧ k.val ≤ ρ.val % 128 + 128 ∧ 128 ≤ (i1.val * 8 + j) * 128 + k.val)) := by
  unfold winMask
  split
  · next h =>
    subst h
    pointwise [k0_pay10]
    rw [band_mask, WordCmp.cmpi_sge_ofNat (by omega) (by omega), WordCmp.scalar_cmpi_eq, WordCmp.cmpi_sgt_ofNat (by omega) (by omega), WordCmp.ori_ofBool, WordCmp.andi_ofBool]
    congr 1
    rw [Bool.eq_iff_iff]
    simp
    omega
  · next h =>
    rw [band_mask]
    congr 1
    rw [Bool.eq_iff_iff]
    simp
    omega

theorem half_apply (lo hi : BitVec 32) (mask : IVec S1024x256 1) (q : FVec Ideal S1024x128 .bf16) (kb vb : FVec Ideal S256x128 .bf16)
    (f : Vec Ideal S1x1024x256 .f32) (ρ : Fin 1024) (l : Fin 128) :
    half lo hi mask q kb vb f (ix2 ρ l)
      = Swa.soft (fun k : Fin 256 => Scalar.select (mask (ix2 ρ k))
          (∑ l' : Fin 128, Scalar.select (IntOp.andi (IntOp.cmpi CmpIPredicate.sge (BitVec.ofNat 32 l'.val) lo)
            (IntOp.cmpi CmpIPredicate.slt (BitVec.ofNat 32 l'.val) hi)) (q (ix2 ρ l') * kb (ix2 k l')) 0) (f (ix3 0 ρ k)))
          (fun k => vb (ix2 k l)) := by
  pointwise [half]
  rw [Swa.ofBits_bot]
  rfl

theorem noFirst_apply (vb : FVec Ideal S256x128 .bf16) (k : Fin 256) (l : Fin 128) :
    noFirst vb (ix2 k l) = if k = 0 then 0 else vb (ix2 k l) := by
  pointwise [noFirst]
  rw [WordCmp.cmpi_eq_ofNat (by omega) (by omega), WordCmp.select_ofBool]
  simp only [decide_eq_true_eq, ← Fin.val_eq_zero_iff]

/-- The sum over a window's lanes that the mask of the group `g` lets through. -/
theorem lanes_eq (s : ℕ) (hs : s = 0 ∨ s = 64) (F : Fin 128 → EReal) :
    (∑ l' : Fin 128, Scalar.select (IntOp.andi (IntOp.cmpi CmpIPredicate.sge (BitVec.ofNat 32 l'.val) (BitVec.ofNat 32 s))
      (IntOp.cmpi CmpIPredicate.slt (BitVec.ofNat 32 l'.val) (BitVec.ofNat 32 (s + 64)))) (F l') 0)
      = ∑ d : Fin 64, F ⟨s + d.val, by omega⟩ := by
  refine Eq.trans (Finset.sum_congr rfl fun l' _ => ?_) (Swa.sum_group s hs F)
  rw [WordCmp.cmpi_slt_ofNat (by omega) (by omega), WordCmp.cmpi_sge_ofNat (by omega) (by omega), WordCmp.andi_ofBool, WordCmp.select_ofBool]
  simp

/-- One window at a row and a lane of the first group. -/
theorem block_fst (mask : IVec S1024x256 1) (q : FVec Ideal S1024x128 .bf16) (kb vb : FVec Ideal S256x128 .bf16)
    (f0 f1 : Vec Ideal S1x1024x256 .f32) (ρ : Fin 1024) (d : Fin 64) :
    block mask q kb vb f0 f1 (ix2 ρ ⟨0 + d.val, by omega⟩)
      = Swa.soft (fun k : Fin 256 => Scalar.select (mask (ix2 ρ k))
          (∑ e : Fin 64, q (ix2 ρ ⟨0 + e.val, by omega⟩) * kb (ix2 k ⟨0 + e.val, by omega⟩)) (f0 (ix3 0 ρ k)))
          (fun k => if k = 0 then 0 else vb (ix2 k ⟨0 + d.val, by omega⟩)) := by
  pointwise [block]
  rw [WordCmp.cmpi_slt_ofNat (by omega) (by omega), WordCmp.select_ofBool, if_pos (decide_eq_true (by omega)), half_apply]
  refine Swa.soft_congr (fun k => ?_) (fun k => noFirst_apply vb k _)
  exact congrArg (fun s => Scalar.select (mask (ix2 ρ k)) s (f0 (ix3 0 ρ k))) (lanes_eq 0 (.inl rfl) fun l' => q (ix2 ρ l') * kb (ix2 k l'))

/-- One window at a row and a lane of the second group. -/
theorem block_snd (mask : IVec S1024x256 1) (q : FVec Ideal S1024x128 .bf16) (kb vb : FVec Ideal S256x128 .bf16)
    (f0 f1 : Vec Ideal S1x1024x256 .f32) (ρ : Fin 1024) (d : Fin 64) :
    block mask q kb vb f0 f1 (ix2 ρ ⟨64 + d.val, by omega⟩)
      = Swa.soft (fun k : Fin 256 => Scalar.select (mask (ix2 ρ k))
          (∑ e : Fin 64, q (ix2 ρ ⟨64 + e.val, by omega⟩) * kb (ix2 k ⟨64 + e.val, by omega⟩)) (f1 (ix3 0 ρ k)))
          (fun k => if k = 0 then 0 else vb (ix2 k ⟨64 + d.val, by omega⟩)) := by
  pointwise [block]
  rw [WordCmp.cmpi_slt_ofNat (by omega) (by omega), WordCmp.select_ofBool, if_neg (fun h => absurd (of_decide_eq_true h) (by omega)), half_apply]
  refine Swa.soft_congr (fun k => ?_) (fun k => noFirst_apply vb k _)
  exact congrArg (fun s => Scalar.select (mask (ix2 ρ k)) s (f1 (ix3 0 ρ k))) (lanes_eq 64 (.inr rfl) fun l' => q (ix2 ρ l') * kb (ix2 k l'))

theorem keys_apply {F : FTy → Type} [FloatOps F] (x2 : Vec F S128x128 .bf16) (x1 : Vec F S1024x128 .bf16) (p : Fin 1152) (l : Fin 128) :
    k0_pay3 x2 x1 (ix2 p l) = if h : p.val < 128 then x2 (ix2 ⟨p.val, h⟩ l) else x1 (ix2 ⟨p.val - 128, by omega⟩ l) := by
  pointwise [k0_pay3]

theorem values_apply {F : FTy → Type} [FloatOps F] (x2 : Vec F S128x128 .bf16) (x1 : Vec F S1024x128 .bf16) (p : Fin 1152) (l : Fin 128) :
    k0_pay4 x2 x1 (ix2 p l) = if h : p.val < 128 then x2 (ix2 ⟨p.val, h⟩ l) else x1 (ix2 ⟨p.val - 128, by omega⟩ l) := by
  pointwise [k0_pay4]

end Cert.KernelIdeal.SwaValue
-- ==== Proof.Swa.Softmax.lean ====
/-
  The softmax with a sink over the extended reals. One row of the sliding-window attention weighs its band of values by
  the exponentials of its scores, normalised by their sum together with the sink's. The kernel puts the sink into the
  band's first column, which the mask always hides, and divides the weighted sum once; the reference keeps the sink apart
  and divides every weight.
-/
module

public import Idealize.ShloMosaic.PureOps.Ideal
public import Idealize.ShloMosaic.PureOps.Ideal.Laws

@[expose] public section

noncomputable section

namespace Cert.Swa

open Idealize.ShloMosaic

/-- A product with a nonnegative real distributes over a sum of extended reals. -/
theorem sum_mul_coe {ι : Type} (S : Finset ι) (f : ι → EReal) (r : ℝ) (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha, ← ih, mul_comm _ (r : EReal), mul_comm _ (r : EReal), mul_comm _ (r : EReal),
      EReal.left_distrib_of_nonneg_of_ne_top (by exact_mod_cast hr) (EReal.coe_ne_top r)]

/-- The exponential of a score below the top, less a real maximum, is a nonnegative real. -/
theorem exp_sub_coe (s : EReal) (hs : s ≠ ⊤) (M : ℝ) : ∃ p : ℝ, 0 ≤ p ∧ Ideal.exp (s - (M : EReal)) = (p : EReal) := by
  induction s using EReal.rec with
  | bot => exact ⟨0, le_rfl, by rw [EReal.bot_sub]; rfl⟩
  | top => exact absurd rfl hs
  | coe x => exact ⟨Real.exp (x - M), (Real.exp_pos _).le, by rw [← EReal.coe_sub]; rfl⟩

/-- The exponential of the hidden score is zero. -/
theorem exp_bot_sub (M : EReal) : Ideal.exp (⊥ - M) = 0 := by
  rw [sub_eq_add_neg, EReal.bot_add]; rfl

/-- A sum of nonnegative reals is one. -/
theorem sum_coe {ι : Type} (S : Finset ι) (f : ι → EReal) (h : ∀ i, ∃ p : ℝ, 0 ≤ p ∧ f i = (p : EReal)) :
    ∃ d : ℝ, 0 ≤ d ∧ ∑ i ∈ S, f i = (d : EReal) := by
  classical
  induction S using Finset.induction_on with
  | empty => exact ⟨0, le_rfl, by simp⟩
  | insert a S ha ih =>
    obtain ⟨d, hd, e⟩ := ih
    obtain ⟨p, hp, e'⟩ := h a
    exact ⟨p + d, by positivity, by rw [Finset.sum_insert ha, e, e', EReal.coe_add]⟩

/-- THE ROW: with the sink's logit in the hidden first column and one division after the weighted sum, the row is the
    reference's, its sink apart and every weight divided. The scores are below the top, the sink is real, and the values agree
    wherever a score is visible. -/
theorem row_eq {n : ℕ} [NeZero n] (s : Fin n → EReal) (σ : EReal) (hσt : σ ≠ ⊤) (hσb : σ ≠ ⊥) (hs : ∀ c, s c ≠ ⊤) (h0 : s 0 = ⊥)
    (x : Fin n → EReal) (hx0 : x 0 = σ) (hx : ∀ c, c ≠ 0 → x c = s c)
    (v v' : Fin n → EReal) (hv : ∀ c, s c ≠ ⊥ → v' c = v c) (hv0 : v' 0 = 0) :
    (∑ c, Ideal.exp (x c - Finset.univ.sup x) * v' c) * Ideal.div 1 (∑ c, Ideal.exp (x c - Finset.univ.sup x))
      = ∑ c, v c * Ideal.div (Ideal.exp (s c - max (Finset.univ.sup s) σ))
          ((∑ c, Ideal.exp (s c - max (Finset.univ.sup s) σ)) + Ideal.exp (σ - max (Finset.univ.sup s) σ)) := by
  classical
  have hM : Finset.univ.sup x = max (Finset.univ.sup s) σ := by
    apply le_antisymm
    · refine Finset.sup_le fun c _ => ?_
      by_cases hc : c = 0
      · subst hc; rw [hx0]; exact le_max_right _ _
      · rw [hx c hc]; exact le_max_of_le_left (Finset.le_sup (f := s) (Finset.mem_univ c))
    · refine max_le (Finset.sup_le fun c _ => ?_) ?_
      · by_cases hc : c = 0
        · subst hc; rw [h0]; exact bot_le
        · rw [← hx c hc]; exact Finset.le_sup (f := x) (Finset.mem_univ c)
      · rw [← hx0]; exact Finset.le_sup (f := x) (Finset.mem_univ 0)
  rw [hM]
  have hMt : max (Finset.univ.sup s) σ ≠ ⊤ := by
    have h1 : Finset.univ.sup s < ⊤ := (Finset.sup_lt_iff bot_lt_top).2 fun c _ => lt_top_iff_ne_top.2 (hs c)
    exact (max_lt h1 (lt_top_iff_ne_top.2 hσt)).ne
  have hMb : max (Finset.univ.sup s) σ ≠ ⊥ := ((bot_lt_iff_ne_bot.2 hσb).trans_le (le_max_right _ _)).ne'
  generalize hMM : max (Finset.univ.sup s) σ = M at *
  lift M to ℝ using ⟨hMt, hMb⟩
  lift σ to ℝ using ⟨hσt, hσb⟩
  -- the two denominators are one sum
  have hD : ∑ c, Ideal.exp (x c - (M : EReal)) = (∑ c, Ideal.exp (s c - (M : EReal))) + Ideal.exp ((σ : EReal) - (M : EReal)) := by
    rw [← Finset.add_sum_erase _ _ (Finset.mem_univ (0 : Fin n)), ← Finset.add_sum_erase Finset.univ (fun c => Ideal.exp (s c - (M : EReal))) (Finset.mem_univ (0 : Fin n)),
      hx0, h0, exp_bot_sub, zero_add, add_comm]
    exact congrArg (· + _) (Finset.sum_congr rfl fun c hc => by rw [hx c (Finset.ne_of_mem_erase hc)])
  rw [hD]
  obtain ⟨d, hd, hde⟩ := sum_coe Finset.univ (fun c => Ideal.exp (s c - (M : EReal))) fun c => exp_sub_coe _ (hs c) M
  have hse : Ideal.exp ((σ : EReal) - (M : EReal)) = ((Real.exp (σ - M) : ℝ) : EReal) := by rw [← EReal.coe_sub]; rfl
  rw [hde, hse, ← EReal.coe_add]
  have hpos : 0 < d + Real.exp (σ - M) := by positivity
  generalize d + Real.exp (σ - M) = D at hpos
  have hdiv : ∀ a : EReal, Ideal.div a (D : EReal) = a * ((1 / D : ℝ) : EReal) := fun a => Ideal.div_coe hpos.ne' a
  simp only [hdiv]
  rw [one_mul, sum_mul_coe _ _ _ (by positivity)]
  refine Finset.sum_congr rfl fun c _ => ?_
  by_cases hc : c = 0
  · subst hc; simp [hv0, h0, exp_bot_sub]
  · rw [hx c hc]
    by_cases hb : s c = ⊥
    · simp [hb, exp_bot_sub]
    · rw [hv c hb, mul_comm _ (v c), mul_assoc]

end Cert.Swa
-- ==== Proof.Swa.Spec.lean ====
/-
  What the attention call computes, in its arguments: sliding-window grouped-query attention with sinks, the output
  projection, and the gate.
-/
module

public import proofs.«01_k».proof.Proof.Swa.Softmax
public import proofs.«01_k».proof.Proof.Swa.Consts

@[expose] public section

noncomputable section

open Idealize.ShloMosaic

namespace Cert.Swa

/-- The position of row `a` of window `n`. -/
def pos (n : Fin 16) (a : Fin 128) : Fin 2048 := ⟨n.val * 128 + a.val, by omega⟩

/-- The position of column `c` of window `n`'s band, which begins 128 positions before the window (position 0 stands for those
    before the sequence, which no row sees). -/
def tok (n : Fin 16) (c : Fin 256) : Fin 2048 := ⟨n.val * 128 + c.val - 128, by omega⟩

/-- The query head `r` of group `g`. -/
def head (g : Fin 2) (r : Fin 8) : Fin 16 := ⟨g.val * 8 + r.val, by omega⟩

/-- Row `a` of window `n` sees column `c` of its band. -/
def Sees (n : Fin 16) (a : Fin 128) (c : Fin 256) : Prop := a.val < c.val ∧ c.val ≤ a.val + 128 ∧ 128 ≤ n.val * 128 + c.val

instance (n : Fin 16) (a : Fin 128) (c : Fin 256) : Decidable (Sees n a c) := by unfold Sees; infer_instance

/-- A sum of reals, as an extended real. -/
theorem coe_sum {ι : Type} (T : Finset ι) (f : ι → ℝ) : ∑ i ∈ T, (f i : EReal) = ((∑ i ∈ T, f i : ℝ) : EReal) := by
  classical
  induction T using Finset.induction_on with
  | empty => simp
  | insert a T ha ih => rw [Finset.sum_insert ha, Finset.sum_insert ha, ih, EReal.coe_add]

variable (Q : Fin 16 → Fin 2048 → Fin 16 → Fin 64 → EReal) (K V : Fin 16 → Fin 2048 → Fin 2 → Fin 64 → EReal) (S : Fin 16 → EReal)

/-- The score of row `a` of window `n` against column `c` of its band. -/
def score (b n : Fin 16) (a : Fin 128) (g : Fin 2) (r : Fin 8) (c : Fin 256) : EReal :=
  if Sees n a c then (∑ e : Fin 64, Q b (pos n a) (head g r) e * K b (tok n c) g e) * eighth else ⊥

/-- The value at column `c` of window `n`'s band: zero before the sequence. -/
def value (b n : Fin 16) (g : Fin 2) (d : Fin 64) (c : Fin 256) : EReal :=
  if 128 ≤ n.val * 128 + c.val then V b (tok n c) g d else 0

/-- The largest score of a row, the sink among them. -/
def top (b n : Fin 16) (a : Fin 128) (g : Fin 2) (r : Fin 8) : EReal :=
  max (Finset.univ.sup (score Q K b n a g r)) (S (head g r))

/-- The weight of column `c` in the softmax of a row with the sink in its denominator. -/
def weight (b n : Fin 16) (a : Fin 128) (g : Fin 2) (r : Fin 8) (c : Fin 256) : EReal :=
  Ideal.div (Ideal.exp (score Q K b n a g r c - top Q K S b n a g r))
    ((∑ c, Ideal.exp (score Q K b n a g r c - top Q K S b n a g r)) + Ideal.exp (S (head g r) - top Q K S b n a g r))

/-- The attention of a row: the band's values in its weights. -/
def att (b n : Fin 16) (a : Fin 128) (g : Fin 2) (r : Fin 8) (d : Fin 64) : EReal :=
  ∑ c, value V b n g d c * weight Q K S b n a g r c

variable (G : Fin 16 → Fin 2048 → Fin 1024 → EReal) (W : Fin 1024 → Fin 1024 → EReal)

/-- The result at sequence `b`, position `t`, column `x`. -/
def out (b : Fin 16) (t : Fin 2048) (x : Fin 1024) : EReal :=
  G b t x * ∑ y : Fin 1024, att Q K V S b ⟨t.val / 128, by omega⟩ ⟨t.val % 128, by omega⟩ ⟨y.val / 512, by omega⟩ ⟨y.val / 64 % 8, by omega⟩
    ⟨y.val % 64, by omega⟩ * W y x

/-- The kernel's order of the 1024 attention columns: head-of-the-group, then group, then coordinate. -/
def swapCols : Fin 1024 ≃ Fin 1024 where
  toFun y := ⟨y.val / 64 % 2 * 512 + y.val / 128 * 64 + y.val % 64, by omega⟩
  invFun y := ⟨y.val / 64 % 8 * 128 + y.val / 512 * 64 + y.val % 64, by omega⟩
  left_inv := by decide +kernel
  right_inv := by decide +kernel

theorem swapCols_digits : ∀ y : Fin 1024, (swapCols y).val / 512 = y.val / 64 % 2 ∧ (swapCols y).val / 64 % 8 = y.val / 128
    ∧ (swapCols y).val % 64 = y.val % 64 := by
  decide +kernel

theorem att_congr {b n : Fin 16} {a : Fin 128} {g g' : Fin 2} {r r' : Fin 8} {d d' : Fin 64} (eg : g = g') (er : r = r') (ed : d = d') :
    att Q K V S b n a g r d = att Q K V S b n a g' r' d' := by
  subst eg; subst er; subst ed; rfl

/-- The result with the attention columns in the kernel's order and the gate on the right. -/
theorem out_eq (b : Fin 16) (t : Fin 2048) (x : Fin 1024) :
    out Q K V S G W b t x = (∑ y : Fin 1024, att Q K V S b ⟨t.val / 128, by omega⟩ ⟨t.val % 128, by omega⟩ ⟨y.val / 64 % 2, by omega⟩
      ⟨y.val / 128, by omega⟩ ⟨y.val % 64, by omega⟩ * W (swapCols y) x) * G b t x := by
  rw [mul_comm, out]
  refine congrArg (G b t x * ·) ?_
  rw [← Equiv.sum_comp swapCols]
  refine Finset.sum_congr rfl fun y _ => ?_
  obtain ⟨e0, e1, e2⟩ := swapCols_digits y
  exact congrArg (· * W (swapCols y) x) (att_congr Q K V S (Fin.ext e0) (Fin.ext e1) (Fin.ext e2))

variable {Q K V S}

/-- A row's attention as the kernel computes it: the sink's column in the place of column 0, one division for the row. -/
theorem att_eq (hQ : ∀ b t h d, Q b t h d ≠ ⊤ ∧ Q b t h d ≠ ⊥) (hK : ∀ b t h d, K b t h d ≠ ⊤ ∧ K b t h d ≠ ⊥)
    (hS : ∀ h, S h ≠ ⊤ ∧ S h ≠ ⊥) (b n : Fin 16) (a : Fin 128) (g : Fin 2) (r : Fin 8) (d : Fin 64)
    (x v : Fin 256 → EReal) (hx0 : x 0 = S (head g r))
    (hx : ∀ c, c ≠ 0 → x c = if Sees n a c then ∑ e : Fin 64, (Q b (pos n a) (head g r) e * eighth) * K b (tok n c) g e else ⊥)
    (hv : ∀ c, Sees n a c → v c = V b (tok n c) g d) (hv0 : v 0 = 0) :
    (∑ c, Ideal.exp (x c - Finset.univ.sup x) * v c) * Ideal.div 1 (∑ c, Ideal.exp (x c - Finset.univ.sup x))
      = att Q K V S b n a g r d := by
  obtain ⟨e, he, hee⟩ := eighth_real
  have key : ∀ c, ∑ i : Fin 64, (Q b (pos n a) (head g r) i * eighth) * K b (tok n c) g i
      = (∑ i : Fin 64, Q b (pos n a) (head g r) i * K b (tok n c) g i) * eighth := fun c => by
    rw [hee, sum_mul_coe _ _ _ he]
    exact Finset.sum_congr rfl fun i _ => mul_right_comm _ _ _
  refine row_eq (score Q K b n a g r) (S (head g r)) (hS _).1 (hS _).2 (fun c => ?_) ?_ x hx0 (fun c hc => ?_) (value V b n g d) v
    (fun c hc => ?_) hv0
  · unfold score
    split
    · have fin : ∀ i : Fin 64, ∃ p : ℝ, Q b (pos n a) (head g r) i * K b (tok n c) g i = (p : EReal) := fun i =>
        ⟨(Q b (pos n a) (head g r) i).toReal * (K b (tok n c) g i).toReal, by
          rw [EReal.coe_mul, EReal.coe_toReal (hQ _ _ _ _).1 (hQ _ _ _ _).2, EReal.coe_toReal (hK _ _ _ _).1 (hK _ _ _ _).2]⟩
      choose p hp using fin
      rw [Finset.sum_congr rfl fun i _ => hp i, hee, coe_sum, ← EReal.coe_mul]
      exact EReal.coe_ne_top _
    · exact bot_ne_top
  · unfold score
    rw [if_neg]
    rintro ⟨h, _⟩
    exact absurd h (Nat.not_lt_zero _)
  · rw [hx c hc, key]
    rfl
  · have hs : Sees n a c := by
      by_contra h
      exact hc (by unfold score; rw [if_neg h])
    rw [hv c hs, value, if_pos hs.2.2]

end Cert.Swa
-- ==== Proof.Swa.Att.lean ====
/-
  A window of a grid point computes the attention of its rows: the windows read from the point's blocks, the blocks being the
  arguments' parts.
-/
module

public import proofs.«01_k».proof.Proof.Swa.Row
public import proofs.«01_k».proof.Proof.Swa.Spec

@[expose] public section

set_option maxRecDepth 16384

noncomputable section

open Idealize.ShloMosaic Idealize.ShloMosaic.TcCoe Idealize.SL.Sem

namespace Cert.KernelIdeal.SwaValue

open Cert.KernelIdeal Cert.KernelIdeal.Gen

/-- Window `j` of the grid's point `i` of a sequence. -/
def wdx (i : Fin 2) (j : Fin 8) : Fin 16 := ⟨i.val * 8 + j.val, by omega⟩

/-- Two heads of width 64 in one array of 128 lanes: lane `l` is head `l / 64`, coordinate `l % 64`. -/
def Keys (K : Fin 16 → Fin 2048 → Fin 2 → Fin 64 → EReal) (b : Fin 16) (t : Fin 2048) (l : Fin 128) : EReal :=
  K b t ⟨l.val / 64, by omega⟩ ⟨l.val % 64, by omega⟩

/-- The band of a window, in the lanes: row `c` is the position that column `c` stands for, unless it is before the sequence. -/
theorem band_apply (K : Fin 16 → Fin 2048 → Fin 2 → Fin 64 → EReal) (b : Fin 16) (i : Fin 2) (j : Fin 8)
    (x1 : Vec Ideal S1024x128 .bf16) (x2 : Vec Ideal S128x128 .bf16)
    (h1 : ∀ (p : Fin 1024) (l : Fin 128), x1 (ix2 p l) = Keys K b ⟨i.val * 1024 + p.val, by omega⟩ l)
    (h2 : ∀ (p : Fin 128) (l : Fin 128), x2 (ix2 p l) = Keys K b ⟨max (i.val * 8 - 1) 0 * 128 + p.val, by omega⟩ l)
    (c : Fin 256) (l : Fin 128) (hc : 128 ≤ (wdx i j).val * 128 + c.val) :
    (if h : 128 * j.val + c.val < 128 then x2 (ix2 ⟨128 * j.val + c.val, h⟩ l) else x1 (ix2 ⟨128 * j.val + c.val - 128, by omega⟩ l))
      = Keys K b (Swa.tok (wdx i j) c) l := by
  dsimp only [wdx] at hc
  split
  · rw [h2]
    exact congrArg (fun t => Keys K b t l) (Fin.ext (by dsimp only [Swa.tok, wdx]; omega))
  · rw [h1]
    exact congrArg (fun t => Keys K b t l) (Fin.ext (by dsimp only [Swa.tok, wdx]; omega))

theorem slice_keys (j : Fin 8) (x1 : Vec Ideal S1024x128 .bf16) (x2 : Vec Ideal S128x128 .bf16) (c : Fin 256) (l : Fin 128) :
    extractStridedSlice S256x128 ![128 * j.val, 0] (k0_pay3 x2 x1) (slices_band j.val j.isLt) (ix2 c l)
      = if h : 128 * j.val + c.val < 128 then x2 (ix2 ⟨128 * j.val + c.val, h⟩ l) else x1 (ix2 ⟨128 * j.val + c.val - 128, by omega⟩ l) := by
  rw [extractStridedSlice_apply _ (k0_pay3 x2 x1) _ _ (ix2 ⟨128 * j.val + c.val, by omega⟩ l) (fun a => by match a with
      | ⟨0, _⟩ => rfl
      | ⟨1, _⟩ => show l.val = 0 + l.val; omega)]
  exact keys_apply x2 x1 _ l

theorem slice_values (j : Fin 8) (x1 : Vec Ideal S1024x128 .bf16) (x2 : Vec Ideal S128x128 .bf16) (c : Fin 256) (l : Fin 128) :
    extractStridedSlice S256x128 ![128 * j.val, 0] (k0_pay4 x2 x1) (slices_band j.val j.isLt) (ix2 c l)
      = if h : 128 * j.val + c.val < 128 then x2 (ix2 ⟨128 * j.val + c.val, h⟩ l) else x1 (ix2 ⟨128 * j.val + c.val - 128, by omega⟩ l) := by
  rw [extractStridedSlice_apply _ (k0_pay4 x2 x1) _ _ (ix2 ⟨128 * j.val + c.val, by omega⟩ l) (fun a => by match a with
      | ⟨0, _⟩ => rfl
      | ⟨1, _⟩ => show l.val = 0 + l.val; omega)]
  exact values_apply x2 x1 _ l

theorem queries_apply (j : Fin 8) (x0 : Vec Ideal S8192x128 .bf16) (ρ : Fin 1024) (l : Fin 128) :
    shapeCast S1024x128 (View.ld x0 (Rect.unit (s := S8192x128) ![1024 * j.val, 0] S1024x128.size (inb_rows j.val j.isLt))) shapeCasts_S1024x128_S1024x128 (ix2 ρ l)
      = x0 (ix2 ⟨1024 * j.val + ρ.val, by omega⟩ l) := by
  refine (congrFun (shapeCast_self (View.ld x0 (Rect.unit (s := S8192x128) ![1024 * j.val, 0] S1024x128.size (inb_rows j.val j.isLt)) : FVec Ideal S1024x128 .bf16)
    shapeCasts_S1024x128_S1024x128) _).trans ?_
  show x0 _ = x0 _
  congr 1
  funext a
  apply Fin.ext
  match a with
  | ⟨0, _⟩ => show 1024 * j.val + 1 * ρ.val = 1024 * j.val + ρ.val; omega
  | ⟨1, _⟩ => show 0 + 1 * l.val = l.val; omega

theorem fill_apply (g : Fin 2) (x5 : Vec Ideal S2x1024x256 .f32) (inb) (ρ : Fin 1024) (k : Fin 256) :
    (View.ld x5 (Rect.unit (s := S2x1024x256) ![g.val, 0, 0] S1x1024x256.size inb) : Vec Ideal S1x1024x256 .f32) (ix3 0 ρ k) = x5 (ix3 g ρ k) := by
  show x5 _ = x5 _
  congr 1
  funext a
  apply Fin.ext
  match a with
  | ⟨0, _⟩ => show g.val + 1 * 0 = g.val; omega
  | ⟨1, _⟩ => show 0 + 1 * ρ.val = ρ.val; omega
  | ⟨2, _⟩ => show 0 + 1 * k.val = k.val; omega

/-- One window at a row and a lane of group `g`. -/
theorem block_group (mask : IVec S1024x256 1) (q : FVec Ideal S1024x128 .bf16) (kb vb : FVec Ideal S256x128 .bf16)
    (x5 : Vec Ideal S2x1024x256 .f32) (ρ : Fin 1024) (g : Fin 2) (d : Fin 64) :
    block mask q kb vb (View.ld x5 (Rect.unit ![0, 0, 0] S1x1024x256.size inb_S2x1024x256_S1x1024x256_0_0_0))
        (View.ld x5 (Rect.unit ![1, 0, 0] S1x1024x256.size inb_S2x1024x256_S1x1024x256_1_0_0)) (ix2 ρ ⟨64 * g.val + d.val, by omega⟩)
      = Swa.soft (fun k : Fin 256 => Scalar.select (mask (ix2 ρ k))
          (∑ e : Fin 64, q (ix2 ρ ⟨64 * g.val + e.val, by omega⟩) * kb (ix2 k ⟨64 * g.val + e.val, by omega⟩)) (x5 (ix3 g ρ k)))
          (fun k => if k = 0 then 0 else vb (ix2 k ⟨64 * g.val + d.val, by omega⟩)) := by
  match g with
  | ⟨0, _⟩ =>
    refine (block_fst mask q kb vb _ _ ρ d).trans (Swa.soft_congr (fun k => ?_) fun k => rfl)
    exact congrArg (Scalar.select (mask (ix2 ρ k)) _) (fill_apply 0 x5 inb_S2x1024x256_S1x1024x256_0_0_0 ρ k)
  | ⟨1, _⟩ =>
    refine (block_snd mask q kb vb _ _ ρ d).trans (Swa.soft_congr (fun k => ?_) fun k => rfl)
    exact congrArg (Scalar.select (mask (ix2 ρ k)) _) (fill_apply 1 x5 inb_S2x1024x256_S1x1024x256_1_0_0 ρ k)

theorem Keys_lane (K : Fin 16 → Fin 2048 → Fin 2 → Fin 64 → EReal) (b : Fin 16) (t : Fin 2048) (g : Fin 2) (d : Fin 64) :
    Keys K b t ⟨64 * g.val + d.val, by omega⟩ = K b t g d := by
  unfold Keys
  congr 1 <;> apply Fin.ext <;> dsimp only <;> omega

/-- Window `j` of a grid point: row `128 r + a`, lane `64 g + d` is the attention of position `a` of the window, head `r` of
    group `g`, coordinate `d`. -/
theorem win_apply {Q : Fin 16 → Fin 2048 → Fin 16 → Fin 64 → EReal} {K V : Fin 16 → Fin 2048 → Fin 2 → Fin 64 → EReal} {S : Fin 16 → EReal}
    (hQ : ∀ b t h d, Q b t h d ≠ ⊤ ∧ Q b t h d ≠ ⊥) (hK : ∀ b t h d, K b t h d ≠ ⊤ ∧ K b t h d ≠ ⊥) (hS : ∀ h, S h ≠ ⊤ ∧ S h ≠ ⊥)
    (b : Fin 16) (i : Fin 2) (x0 : Vec Ideal S8192x128 .bf16) (x1 : Vec Ideal S1024x128 .bf16) (x2 : Vec Ideal S128x128 .bf16)
    (x3 : Vec Ideal S1024x128 .bf16) (x4 : Vec Ideal S128x128 .bf16) (x5 : Vec Ideal S2x1024x256 .f32)
    (h0 : ∀ (p : Fin 8192) (l : Fin 128), x0 (ix2 p l) = Q b ⟨i.val * 1024 + p.val / 1024 * 128 + p.val % 128, by omega⟩
      ⟨l.val / 64 * 8 + p.val / 128 % 8, by omega⟩ ⟨l.val % 64, by omega⟩ * Swa.eighth)
    (h1 : ∀ (p : Fin 1024) (l : Fin 128), x1 (ix2 p l) = Keys K b ⟨i.val * 1024 + p.val, by omega⟩ l)
    (h2 : ∀ (p : Fin 128) (l : Fin 128), x2 (ix2 p l) = Keys K b ⟨max (i.val * 8 - 1) 0 * 128 + p.val, by omega⟩ l)
    (h3 : ∀ (p : Fin 1024) (l : Fin 128), x3 (ix2 p l) = Keys V b ⟨i.val * 1024 + p.val, by omega⟩ l)
    (h4 : ∀ (p : Fin 128) (l : Fin 128), x4 (ix2 p l) = Keys V b ⟨max (i.val * 8 - 1) 0 * 128 + p.val, by omega⟩ l)
    (h5 : ∀ (g : Fin 2) (ρ : Fin 1024) (l : Fin 256), x5 (ix3 g ρ l) = if l = 0 then S ⟨g.val * 8 + ρ.val / 128, by omega⟩ else ⊥)
    (j : Fin 8) (a : Fin 128) (g : Fin 2) (r : Fin 8) (d : Fin 64) :
    win (F := Ideal) (BitVec.ofNat 32 i.val) x0 x1 x2 x3 x4 x5 j.val j.isLt (ix2 ⟨128 * r.val + a.val, by omega⟩ ⟨64 * g.val + d.val, by omega⟩)
      = Swa.att Q K V S b (wdx i j) a g r d := by
  unfold win
  rw [block_group]
  refine Swa.att_eq hQ hK hS b (wdx i j) a g r d _ _ ?_ (fun c hc => ?_) (fun c hc => ?_) (if_pos rfl)
  · rw [winMask_apply, WordCmp.select_ofBool, h5, if_pos rfl, if_neg (fun h => absurd (of_decide_eq_true h).1 (Nat.not_lt_zero _))]
    exact congrArg S (Fin.ext (by dsimp only [Swa.head]; omega))
  · rw [winMask_apply, WordCmp.select_ofBool, h5, if_neg hc]
    by_cases hs : Swa.Sees (wdx i j) a c
    · rw [if_pos hs, if_pos (decide_eq_true (by
        obtain ⟨s0, s1, s2⟩ := hs
        dsimp only [wdx] at s2
        dsimp only
        omega))]
      refine Finset.sum_congr rfl fun e _ => ?_
      rw [queries_apply, slice_keys, band_apply K b i j x1 x2 h1 h2 c _ hs.2.2, Keys_lane, h0]
      congr 2
      congr 1 <;> apply Fin.ext <;> dsimp only [Swa.pos, Swa.head, wdx] <;> omega
    · rw [if_neg hs, if_neg (fun h => hs (by
        have s := of_decide_eq_true h
        dsimp only at s
        refine ⟨?_, ?_, ?_⟩ <;> try dsimp only [wdx]
        all_goals omega))]
  · have hc0 : c ≠ 0 := fun h => absurd (show 0 < c.val from Nat.lt_of_le_of_lt (Nat.zero_le _) hc.1) (by rw [h]; decide)
    rw [if_neg hc0, slice_values, band_apply V b i j x3 x4 h3 h4 c _ hc.2.2, Keys_lane]

end Cert.KernelIdeal.SwaValue
-- ==== Proof.Swa.Entry.lean ====
/-
  What the arrays hold that the attention kernel's grid reads, after the host lines that lay out its arguments: each at an
  index, in the arguments.
-/
module

public import proofs.«01_k».proof.Proof.Swa.Pieces
public import proofs.«01_k».proof.Proof.Swa.Consts
public import Idealize.ShloMosaic.Lib.Pipeline.ValueKit.Geometry
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem

namespace Cert.KernelIdeal.SwaValue

open Cert.KernelIdeal Cert.KernelIdeal.Gen

/-- The scatter that writes the sinks: update `(g, ρ)` lands at `(g, ρ, 0)`, the start being zero. -/
theorem lands_iff (idx : IVec S1 32) (h0 : ∀ x, idx x = 0#32) (j : S2x1024.Idx) (g : Fin 2) (ρ : Fin 1024) (l : Fin 256) :
    scatter_S2x1024x256_S1_S2x1024_01_2_2_0.resultIdx? j idx = some (ix3 g ρ l) ↔ j = ix2 g ρ ∧ l = 0 := by
  have hs : ∀ a, scatter_S2x1024x256_S1_S2x1024_01_2_2_0.start j idx a = 0 := fun a => by
    unfold ScatterDims.start
    split
    · rw [h0]; rfl
    · rfl
  have w0 : scatter_S2x1024x256_S1_S2x1024_01_2_2_0.window j 0 = (j 0).val := rfl
  have w1 : scatter_S2x1024x256_S1_S2x1024_01_2_2_0.window j 1 = (j 1).val := rfl
  have w2 : scatter_S2x1024x256_S1_S2x1024_01_2_2_0.window j 2 = 0 := rfl
  have b0 : (j 0).val < 2 := (j 0).isLt
  have b1 : (j 1).val < 1024 := (j 1).isLt
  rw [Routing.resultIdx?_eq_some]
  constructor
  · intro h
    have e0 := h 0
    have e1 := h 1
    have e2 := h 2
    rw [hs] at e0 e1 e2
    rw [w0] at e0
    rw [w1] at e1
    rw [w2] at e2
    have f0 : ((ix3 g ρ l : S2x1024x256.Idx) 0).val = g.val := rfl
    have f1 : ((ix3 g ρ l : S2x1024x256.Idx) 1).val = ρ.val := rfl
    have f2 : ((ix3 g ρ l : S2x1024x256.Idx) 2).val = l.val := rfl
    refine ⟨?_, Fin.ext (by show l.val = 0; omega)⟩
    rw [← ix2_eta j]
    congr 1 <;> apply Fin.ext <;> omega
  · rintro ⟨rfl, rfl⟩ a
    rw [hs]
    match a with
    | ⟨0, _⟩ => show (0 : ℤ) + (scatter_S2x1024x256_S1_S2x1024_01_2_2_0.window (ix2 g ρ) 0 : ℕ) = _; rw [show scatter_S2x1024x256_S1_S2x1024_01_2_2_0.window (ix2 g ρ) 0 = g.val from rfl]; show (0 : ℤ) + (g.val : ℤ) = (g.val : ℤ); omega
    | ⟨1, _⟩ => show (0 : ℤ) + (scatter_S2x1024x256_S1_S2x1024_01_2_2_0.window (ix2 g ρ) 1 : ℕ) = _; rw [show scatter_S2x1024x256_S1_S2x1024_01_2_2_0.window (ix2 g ρ) 1 = ρ.val from rfl]; show (0 : ℤ) + (ρ.val : ℤ) = (ρ.val : ℤ); omega
    | ⟨2, _⟩ => rfl

/-- A row of sinks written into the first column of an array. -/
theorem scatter_first {α : Type} (x : S2x1024x256.Idx → α) (idx : IVec S1 32) (h0 : ∀ x, idx x = 0#32) (u : S2x1024.Idx → α)
    (g : Fin 2) (ρ : Fin 1024) (l : Fin 256) :
    Host.scatter scatter_S2x1024x256_S1_S2x1024_01_2_2_0 (fun _ b => b) x idx u (ix3 g ρ l) = if l = 0 then u (ix2 g ρ) else x (ix3 g ρ l) := by
  by_cases h : l = 0
  · rw [if_pos h]
    exact Routing.scatter_set_hit _ x idx u _ _ (fun k hk => by rw [((lands_iff idx h0 k g ρ l).1 hk).1]) (ix2 g ρ) ((lands_iff idx h0 _ g ρ l).2 ⟨rfl, h⟩)
  · rw [if_neg h]
    exact Routing.scatter_set_miss _ x idx u _ fun k hk => h ((lands_iff idx h0 k g ρ l).1 hk).2

variable (m : (ℓ : Loc nD τ sig) → Buf (Elt Ideal) ℓ)

/-- The queries, keys, values, gate, sinks and output weights as launched. -/
def aQ (c : Dev nD) : S16x2048x16x64.Idx → EReal := m ((c : Thread nD τ).loc main_arg0)
def aK (c : Dev nD) : S16x2048x2x64.Idx → EReal := m ((c : Thread nD τ).loc main_arg1)
def aV (c : Dev nD) : S16x2048x2x64.Idx → EReal := m ((c : Thread nD τ).loc main_arg2)
def aG (c : Dev nD) : S16x2048x1024.Idx → EReal := m ((c : Thread nD τ).loc main_arg3)
def aS (c : Dev nD) : S1x16.Idx → EReal := m ((c : Thread nD τ).loc main_arg4)
def aW (c : Dev nD) : S1x1024x1024.Idx → EReal := m ((c : Thread nD τ).loc main_arg5)

/-- The scaled queries in the layout of the kernel: row `((window) · 8 + head) · 128 + position`, lane `group · 64 + coordinate`. -/
theorem V_q2 (c : Dev nD) (ρ : Fin 262144) (l : Fin 128) :
    (V m c main_v7 : S262144x128.Idx → EReal) (ix2 ρ l)
      = aQ m c (ix4 ⟨ρ.val / 1024 / 16, by omega⟩ ⟨ρ.val / 1024 % 16 * 128 + ρ.val % 128, by omega⟩
          ⟨l.val / 64 * 8 + ρ.val / 128 % 8, by omega⟩ ⟨l.val % 64, by omega⟩) * Swa.eighth := by
  dsimp only [V, hostOps0]
  after_results
  pointwise
  rfl

/-- The keys, a row of two heads for each position. -/
theorem V_k (c : Dev nD) (ρ : Fin 32768) (l : Fin 128) :
    (V m c main_v9 : S32768x128.Idx → EReal) (ix2 ρ l)
      = aK m c (ix4 ⟨ρ.val / 2048, by omega⟩ ⟨ρ.val % 2048, by omega⟩ ⟨l.val / 64, by omega⟩ ⟨l.val % 64, by omega⟩) := by
  dsimp only [V, hostOps0]
  after_results
  pointwise
  rfl

/-- The values, a row of two heads for each position. -/
theorem V_v (c : Dev nD) (ρ : Fin 32768) (l : Fin 128) :
    (V m c main_v11 : S32768x128.Idx → EReal) (ix2 ρ l)
      = aV m c (ix4 ⟨ρ.val / 2048, by omega⟩ ⟨ρ.val % 2048, by omega⟩ ⟨l.val / 64, by omega⟩ ⟨l.val % 64, by omega⟩) := by
  dsimp only [V, hostOps0]
  after_results
  pointwise
  rfl

/-- The gate, a row for each position. -/
theorem V_ga (c : Dev nD) (ρ : Fin 32768) (l : Fin 1024) :
    (V m c main_v13 : S32768x1024.Idx → EReal) (ix2 ρ l) = aG m c (ix3 ⟨ρ.val / 2048, by omega⟩ ⟨ρ.val % 2048, by omega⟩ l) := by
  dsimp only [V, hostOps0]
  after_results
  pointwise
  rfl

/-- The output weights, their rows in the order head, group, coordinate. -/
theorem V_wo (c : Dev nD) (ρ : Fin 1024) (l : Fin 1024) :
    (V m c main_v17 : S1024x1024.Idx → EReal) (ix2 ρ l)
      = aW m c (ix3 0 ⟨ρ.val / 64 % 2 * 512 + ρ.val / 128 * 64 + ρ.val % 64, by omega⟩ l) := by
  dsimp only [V, hostOps0]
  after_results
  pointwise
  rfl

/-- The filling of the masked scores: the head's sink in the first column, minus infinity in the others. -/
theorem V_fill (c : Dev nD) (g : Fin 2) (ρ : Fin 1024) (l : Fin 256) :
    (V m c main_v23 : S2x1024x256.Idx → EReal) (ix3 g ρ l)
      = if l = 0 then aS m c (ix2 0 ⟨g.val * 8 + ρ.val / 128, by omega⟩) else ⊥ := by
  dsimp only [V, hostOps0]
  after_results
  pointwise
  refine (scatter_first _ (broadcastInDim S1 ![] bcast_S_S1 (constantI S_ 32 0#32)) (fun _ => rfl) _ g ρ l).trans ?_
  split
  · rfl
  · pointwise
    exact Swa.ofBits_bot

end Cert.KernelIdeal.SwaValue
-- ==== Proof.Swa.Array.lean ====
/-
  What the array holds after the attention kernel's grid has run: `Swa.out` of the arguments.
-/
module

public import proofs.«01_k».proof.Proof.Swa.Att
public import proofs.«01_k».proof.Proof.Swa.Entry

@[expose] public section

set_option maxRecDepth 16384

noncomputable section

open Idealize.ShloMosaic Idealize.ShloMosaic.TcCoe Idealize.SL.Sem
open Idealize.ShloMosaic.Pipeline (Dat)

namespace Cert.KernelIdeal.SwaValue

open Cert.KernelIdeal Cert.KernelIdeal.Gen

variable (m : (ℓ : Loc nD τ sig) → Buf (Elt Ideal) ℓ)

/-- The sequence a grid point works on. -/
def seqOf (t : Fin cfg0.N) : Fin 16 := grid0.coords t 0

/-- The half of the sequence it works on. -/
def halfOf (t : Fin cfg0.N) : Fin 2 := grid0.coords t 1

theorem e0 : ∀ t : Fin cfg0.N, win0_0.index t = ![(seqOf t).val * 2 + (halfOf t).val, 0] :=
  (by decide +kernel : ∀ t : Fin grid0.N, win0_0.index t = ![(grid0.coords t 0).val * 2 + (grid0.coords t 1).val, 0])
theorem e1 : ∀ t : Fin cfg0.N, win0_1.index t = ![(seqOf t).val * 2 + (halfOf t).val, 0] :=
  (by decide +kernel : ∀ t : Fin grid0.N, win0_1.index t = ![(grid0.coords t 0).val * 2 + (grid0.coords t 1).val, 0])
theorem e2 : ∀ t : Fin cfg0.N, win0_2.index t = ![(seqOf t).val * 16 + max ((halfOf t).val * 8 - 1) 0, 0] :=
  (by decide +kernel : ∀ t : Fin grid0.N, win0_2.index t = ![(grid0.coords t 0).val * 16 + max ((grid0.coords t 1).val * 8 - 1) 0, 0])
theorem e3 : ∀ t : Fin cfg0.N, win0_3.index t = ![(seqOf t).val * 2 + (halfOf t).val, 0] :=
  (by decide +kernel : ∀ t : Fin grid0.N, win0_3.index t = ![(grid0.coords t 0).val * 2 + (grid0.coords t 1).val, 0])
theorem e4 : ∀ t : Fin cfg0.N, win0_4.index t = ![(seqOf t).val * 16 + max ((halfOf t).val * 8 - 1) 0, 0] :=
  (by decide +kernel : ∀ t : Fin grid0.N, win0_4.index t = ![(grid0.coords t 0).val * 16 + max ((grid0.coords t 1).val * 8 - 1) 0, 0])
theorem e5 : ∀ t : Fin cfg0.N, win0_5.index t = ![0, 0, 0] := (by decide +kernel : ∀ t : Fin grid0.N, win0_5.index t = ![0, 0, 0])
theorem e6 : ∀ t : Fin cfg0.N, win0_6.index t = ![0, 0] := (by decide +kernel : ∀ t : Fin grid0.N, win0_6.index t = ![0, 0])
theorem e7 : ∀ t : Fin cfg0.N, win0_7.index t = ![(seqOf t).val * 2 + (halfOf t).val, 0] :=
  (by decide +kernel : ∀ t : Fin grid0.N, win0_7.index t = ![(grid0.coords t 0).val * 2 + (grid0.coords t 1).val, 0])
theorem e8 : ∀ t : Fin cfg0.N, win0_8.index t = ![(seqOf t).val * 2 + (halfOf t).val, 0] :=
  (by decide +kernel : ∀ t : Fin grid0.N, win0_8.index t = ![(grid0.coords t 0).val * 2 + (grid0.coords t 1).val, 0])

/-- The arguments by their coordinates. -/
def fQ (c : Dev nD) (b : Fin 16) (t : Fin 2048) (h : Fin 16) (d : Fin 64) : EReal := aQ m c (ix4 b t h d)
def fK (c : Dev nD) (b : Fin 16) (t : Fin 2048) (h : Fin 2) (d : Fin 64) : EReal := aK m c (ix4 b t h d)
def fV (c : Dev nD) (b : Fin 16) (t : Fin 2048) (h : Fin 2) (d : Fin 64) : EReal := aV m c (ix4 b t h d)
def fS (c : Dev nD) (h : Fin 16) : EReal := aS m c (ix2 0 h)
def fG (c : Dev nD) (b : Fin 16) (t : Fin 2048) (x : Fin 1024) : EReal := aG m c (ix3 b t x)
def fW (c : Dev nD) (y x : Fin 1024) : EReal := aW m c (ix3 0 y x)

theorem blk0 (c : Dev nD) (t : Fin cfg0.N) (p : Fin 8192) (l : Fin 128) :
    (iblk m c 0 t : Vec Ideal S8192x128 .bf16) (ix2 p l)
      = fQ m c (seqOf t) ⟨(halfOf t).val * 1024 + p.val / 1024 * 128 + p.val % 128, by omega⟩
          ⟨l.val / 64 * 8 + p.val / 128 % 8, by omega⟩ ⟨l.val % 64, by omega⟩ * Swa.eighth := by
  have hx : (win0_0.blk t).view.emb (ix2 p l) = (ix2 ⟨((seqOf t).val * 2 + (halfOf t).val) * 8192 + p.val, by omega⟩ l : S262144x128.Idx) := by
    blk_ext [e0]
  blk_simp [iblk]
  rw [hx, V_q2]
  unfold fQ
  congr 3 <;> apply Fin.ext <;> dsimp only <;> omega

theorem blk1 (c : Dev nD) (t : Fin cfg0.N) (p : Fin 1024) (l : Fin 128) :
    (iblk m c 1 t : Vec Ideal S1024x128 .bf16) (ix2 p l) = Keys (fK m c) (seqOf t) ⟨(halfOf t).val * 1024 + p.val, by omega⟩ l := by
  have hx : (win0_1.blk t).view.emb (ix2 p l) = (ix2 ⟨((seqOf t).val * 2 + (halfOf t).val) * 1024 + p.val, by omega⟩ l : S32768x128.Idx) := by
    blk_ext [e1]
  blk_simp [iblk]
  rw [hx, V_k]
  unfold Keys fK
  congr 2 <;> apply Fin.ext <;> dsimp only <;> omega

theorem blk2 (c : Dev nD) (t : Fin cfg0.N) (p : Fin 128) (l : Fin 128) :
    (iblk m c 2 t : Vec Ideal S128x128 .bf16) (ix2 p l) = Keys (fK m c) (seqOf t) ⟨max ((halfOf t).val * 8 - 1) 0 * 128 + p.val, by omega⟩ l := by
  have hx : (win0_2.blk t).view.emb (ix2 p l) = (ix2 ⟨((seqOf t).val * 16 + max ((halfOf t).val * 8 - 1) 0) * 128 + p.val, by omega⟩ l : S32768x128.Idx) := by
    blk_ext [e2]
  blk_simp [iblk]
  rw [hx, V_k]
  unfold Keys fK
  congr 2 <;> apply Fin.ext <;> dsimp only <;> omega

theorem blk3 (c : Dev nD) (t : Fin cfg0.N) (p : Fin 1024) (l : Fin 128) :
    (iblk m c 3 t : Vec Ideal S1024x128 .bf16) (ix2 p l) = Keys (fV m c) (seqOf t) ⟨(halfOf t).val * 1024 + p.val, by omega⟩ l := by
  have hx : (win0_3.blk t).view.emb (ix2 p l) = (ix2 ⟨((seqOf t).val * 2 + (halfOf t).val) * 1024 + p.val, by omega⟩ l : S32768x128.Idx) := by
    blk_ext [e3]
  blk_simp [iblk]
  rw [hx, V_v]
  unfold Keys fV
  congr 2 <;> apply Fin.ext <;> dsimp only <;> omega

theorem blk4 (c : Dev nD) (t : Fin cfg0.N) (p : Fin 128) (l : Fin 128) :
    (iblk m c 4 t : Vec Ideal S128x128 .bf16) (ix2 p l) = Keys (fV m c) (seqOf t) ⟨max ((halfOf t).val * 8 - 1) 0 * 128 + p.val, by omega⟩ l := by
  have hx : (win0_4.blk t).view.emb (ix2 p l) = (ix2 ⟨((seqOf t).val * 16 + max ((halfOf t).val * 8 - 1) 0) * 128 + p.val, by omega⟩ l : S32768x128.Idx) := by
    blk_ext [e4]
  blk_simp [iblk]
  rw [hx, V_v]
  unfold Keys fV
  congr 2 <;> apply Fin.ext <;> dsimp only <;> omega

theorem blk5 (c : Dev nD) (t : Fin cfg0.N) (g : Fin 2) (ρ : Fin 1024) (l : Fin 256) :
    (iblk m c 5 t : Vec Ideal S2x1024x256 .f32) (ix3 g ρ l) = if l = 0 then fS m c ⟨g.val * 8 + ρ.val / 128, by omega⟩ else ⊥ := by
  have hx : (win0_5.blk t).view.emb (ix3 g ρ l) = (ix3 g ρ l : S2x1024x256.Idx) := by
    blk_ext [e5]
  blk_simp [iblk]
  rw [hx, V_fill]
  rfl

theorem blk6 (c : Dev nD) (t : Fin cfg0.N) (y x : Fin 1024) :
    (iblk m c 6 t : Vec Ideal S1024x1024 .bf16) (ix2 y x) = fW m c (Swa.swapCols y) x := by
  have hx : (win0_6.blk t).view.emb (ix2 y x) = (ix2 y x : S1024x1024.Idx) := by
    blk_ext [e6]
  blk_simp [iblk]
  rw [hx, V_wo]
  rfl

theorem blk7 (c : Dev nD) (t : Fin cfg0.N) (p : Fin 1024) (x : Fin 1024) :
    (iblk m c 7 t : Vec Ideal S1024x1024 .bf16) (ix2 p x) = fG m c (seqOf t) ⟨(halfOf t).val * 1024 + p.val, by omega⟩ x := by
  have hx : (win0_7.blk t).view.emb (ix2 p x) = (ix2 ⟨((seqOf t).val * 2 + (halfOf t).val) * 1024 + p.val, by omega⟩ x : S32768x1024.Idx) := by
    blk_ext [e7]
  blk_simp [iblk]
  rw [hx, V_ga]
  unfold fG
  congr 2 <;> apply Fin.ext <;> dsimp only <;> omega

/-- What the kernel's array ends as: row `2048 b + t`, column `x` is the attention call's result at `(b, t, x)`. -/
def result (c : Dev nD) : S32768x1024.Idx → EReal := fun y =>
  Swa.out (fQ m c) (fK m c) (fV m c) (fS m c) (fG m c) (fW m c) ⟨(y 0).val / 2048, by have : (y 0).val < 32768 := (y 0).isLt; omega⟩
    ⟨(y 0).val % 2048, by omega⟩ (y 1)

/-- The arguments whose finiteness the softmax needs are finite. -/
def Fin0 (c : Dev nD) : Prop := (∀ b t h d, fQ m c b t h d ≠ ⊤ ∧ fQ m c b t h d ≠ ⊥) ∧ (∀ b t h d, fK m c b t h d ≠ ⊤ ∧ fK m c b t h d ≠ ⊥)
  ∧ ∀ h, fS m c h ≠ ⊤ ∧ fS m c h ≠ ⊥

/-- The attention columns at a grid point. -/
theorem cat_apply (c : Dev nD) (hf : Fin0 m c) (t : Fin cfg0.N) (p y : Fin 1024) :
    cat (F := Ideal) (BitVec.ofNat 32 (halfOf t).val) (iblk m c 0 t) (iblk m c 1 t) (iblk m c 2 t) (iblk m c 3 t) (iblk m c 4 t) (iblk m c 5 t) (ix2 p y)
      = Swa.att (fQ m c) (fK m c) (fV m c) (fS m c) (seqOf t) (wdx (halfOf t) ⟨p.val / 128, by omega⟩) ⟨p.val % 128, by omega⟩
          ⟨y.val / 64 % 2, by omega⟩ ⟨y.val / 128, by omega⟩ ⟨y.val % 64, by omega⟩ := by
  refine Eq.trans ?_ (win_apply hf.1 hf.2.1 hf.2.2 (seqOf t) (halfOf t) _ _ _ _ _ _ (blk0 m c t) (blk1 m c t) (blk2 m c t) (blk3 m c t)
    (blk4 m c t) (blk5 m c t) ⟨p.val / 128, by omega⟩ ⟨p.val % 128, by omega⟩ ⟨y.val / 64 % 2, by omega⟩ ⟨y.val / 128, by omega⟩ ⟨y.val % 64, by omega⟩)
  refine win_congr rfl _ _ ?_
  congr 1
  apply Fin.ext
  show y.val % 128 = 64 * (y.val / 64 % 2) + y.val % 64
  omega

theorem pay2_apply (x1 x2 x3 : Vec Ideal S1024x1024 .bf16) (p x : Fin 1024) :
    k0_pay2 (F := Ideal) x1 x2 x3 (ix2 p x) = (∑ y, x1 (ix2 p y) * x2 (ix2 y x)) * x3 (ix2 p x) := by
  pointwise [k0_pay2]

theorem out_at (Q : Fin 16 → Fin 2048 → Fin 16 → Fin 64 → EReal) (K V : Fin 16 → Fin 2048 → Fin 2 → Fin 64 → EReal) (S : Fin 16 → EReal)
    (G : Fin 16 → Fin 2048 → Fin 1024 → EReal) (W : Fin 1024 → Fin 1024 → EReal) (b : Fin 16) (i : Fin 2) (p x : Fin 1024) :
    (∑ y : Fin 1024, Swa.att Q K V S b (wdx i ⟨p.val / 128, by omega⟩) ⟨p.val % 128, by omega⟩ ⟨y.val / 64 % 2, by omega⟩ ⟨y.val / 128, by omega⟩
      ⟨y.val % 64, by omega⟩ * W (Swa.swapCols y) x) * G b ⟨i.val * 1024 + p.val, by omega⟩ x
      = Swa.out Q K V S G W b ⟨i.val * 1024 + p.val, by omega⟩ x := by
  rw [Swa.out_eq]
  refine congrArg (· * G b ⟨i.val * 1024 + p.val, by omega⟩ x) (Finset.sum_congr rfl fun y _ => congrArg (· * W (Swa.swapCols y) x) ?_)
  have en : wdx i ⟨p.val / 128, by omega⟩ = (⟨(i.val * 1024 + p.val) / 128, by omega⟩ : Fin 16) := Fin.ext (by dsimp only [wdx]; omega)
  have ea : (⟨p.val % 128, by omega⟩ : Fin 128) = ⟨(i.val * 1024 + p.val) % 128, by omega⟩ := Fin.ext (by dsimp only; omega)
  rw [en, ea]

theorem result_at (c : Dev nD) (b : Fin 16) (i : Fin 2) (p x : Fin 1024) (h : (b.val * 2 + i.val) * 1024 + p.val < 32768) :
    result m c (ix2 ⟨(b.val * 2 + i.val) * 1024 + p.val, h⟩ x)
      = Swa.out (fQ m c) (fK m c) (fV m c) (fS m c) (fG m c) (fW m c) b ⟨i.val * 1024 + p.val, by omega⟩ x := by
  show Swa.out _ _ _ _ _ _ ⟨((b.val * 2 + i.val) * 1024 + p.val) / 2048, _⟩ ⟨((b.val * 2 + i.val) * 1024 + p.val) % 2048, _⟩ x = _
  have eb : (⟨((b.val * 2 + i.val) * 1024 + p.val) / 2048, by omega⟩ : Fin 16) = b := Fin.ext (by dsimp only; omega)
  have et : (⟨((b.val * 2 + i.val) * 1024 + p.val) % 2048, by omega⟩ : Fin 2048) = ⟨i.val * 1024 + p.val, by omega⟩ := Fin.ext (by dsimp only; omega)
  rw [eb, et]

/-- The array after the run. -/
theorem array_eq (c : Dev nD) (hf : Fin0 m c) : (dats m 0 c).arrAt 8 cfg0.N = result m c := by
  refine Dat.arrAt_eq_of_covers _ 8 _ (by decide +kernel) fun t hfl y => ?_
  obtain ⟨p, x, rfl⟩ : ∃ (p x : Fin 1024), y = ix2 p x := ⟨y 0, y 1, (ix2_eta y).symm⟩
  have hx : (win0_8.blk t).view.emb (ix2 p x) = (ix2 ⟨((seqOf t).val * 2 + (halfOf t).val) * 1024 + p.val, by omega⟩ x : S32768x1024.Idx) := by
    blk_ext [e8]
  blk_simp
  rw [after0_8, outsAt0, out_eq, hx, result_at, ← out_at]
  exact (pay2_apply _ _ _ p x).trans (congrArg₂ (· * ·)
    (Finset.sum_congr rfl fun y _ => congrArg₂ (· * ·) (cat_apply m c hf t p y) (blk6 m c t y x)) (blk7 m c t p x))

end Cert.KernelIdeal.SwaValue
-- ==== Proof.Swa.Ref.lean ====
/-
  What the reference of the attention call computes: `Swa.out` of its arguments.
-/
module

public import proofs.«01_k».proof.Proof.Swa.Spec
public import proofs.«01_k».proof.Proof.Gen.ReferenceIdeal.Read
public import Idealize.ShloMosaic.Lib.WordCmp
public import Idealize.ShloMosaic.Lib.ValueIdxRank6
public import Idealize.ShloMosaic.Lib.KernelVsHost

@[expose] public section

set_option maxRecDepth 16384

noncomputable section

open Idealize.ShloMosaic Idealize.ShloMosaic.TcCoe Idealize.SL.Sem

namespace Cert.ReferenceIdeal.SwaRef

open Cert.ReferenceIdeal Cert.ReferenceIdeal.Gen Cert.ReferenceIdeal.Read Idealize.ShloMosaic.ValueIdx

/-! ## The mask -/

theorem local_word : ∀ (a : Fin 128) (c : Fin 256),
    IntOp.andi (IntOp.cmpi CmpIPredicate.sge (IntOp.subi (IntOp.addi (BitVec.ofNat 32 a.val) 128#32) (BitVec.ofNat 32 c.val)) 0#32)
      (IntOp.cmpi CmpIPredicate.slt (IntOp.subi (IntOp.addi (BitVec.ofNat 32 a.val) 128#32) (BitVec.ofNat 32 c.val)) 128#32)
      = BitVec.ofBool (decide (a.val < c.val ∧ c.val ≤ a.val + 128)) := by
  decide +kernel

theorem kpos_word : ∀ (n : Fin 16) (c : Fin 256),
    IntOp.cmpi CmpIPredicate.sge (IntOp.subi (IntOp.addi (IntOp.muli (BitVec.ofNat 32 n.val) 128#32) (BitVec.ofNat 32 c.val)) 128#32) 0#32
      = BitVec.ofBool (decide (128 ≤ n.val * 128 + c.val)) := by
  decide +kernel

theorem local_at (i : S128x256.Idx) :
    val_main_v27 (F := Ideal) i = BitVec.ofBool (decide ((i 0).val < (i 1).val ∧ (i 1).val ≤ (i 0).val + 128)) := by
  simp only [val_main_v27_apply, val_main_v26_apply, val_main_v25_apply, val_main_v24_apply, val_main_v23_apply, val_main_v22_apply,
    val_main_v21_apply, val_main_v20_apply, val_main_v19_apply, val_main_v18_apply, val_main_v17_apply, val_main_v16_apply, val_main_v15_apply,
    val_main_v14_apply, val_main_c_1_apply, val_main_c_2_apply, val_main_c_3_apply]
  exact local_word (i 0) (i 1)

theorem kpos_at (i : S16x256.Idx) :
    val_main_v39 (F := Ideal) i = BitVec.ofBool (decide (128 ≤ (i 0).val * 128 + (i 1).val)) := by
  simp only [val_main_v39_apply, val_main_v38_apply, val_main_v36_apply, val_main_v35_apply, val_main_v34_apply, val_main_v33_apply,
    val_main_v32_apply, val_main_v31_apply, val_main_v30_apply, val_main_v29_apply, val_main_v28_apply, val_main_v17_apply, val_main_v16_apply,
    val_main_c_4_apply, val_main_c_5_apply, val_main_c_6_apply]
  exact kpos_word (i 0) (i 1)

/-- The mask says which columns a row sees. -/
theorem mask_at (b n : Fin 16) (g : Fin 2) (r : Fin 8) (a : Fin 128) (c : Fin 256) :
    val_main_call2_v1 (F := Ideal) (ix6 b n g r a c) = BitVec.ofBool (decide (Swa.Sees n a c)) := by
  rw [val_main_call2_v1_apply, val_main_v44_apply, val_main_v43_apply, val_main_v41_apply, val_main_v42_apply, val_main_v37_apply,
    val_main_v40_apply, local_at, kpos_at, WordCmp.andi_ofBool]
  refine congrArg BitVec.ofBool ?_
  rw [Bool.eq_iff_iff]
  simp only [Bool.and_eq_true, decide_eq_true_eq]
  exact and_assoc

/-! ## The bands -/

theorem blocks_at (x1 : (⟨S16x2048x2x64, .f32⟩ : BufTy).Contents (Elt Ideal)) (i : S16x16x128x2x64.Idx) :
    val_main_v2 (F := Ideal) x1 i = x1 (ix4 (i 0) (Swa.pos (i 1) (i 2)) (i 3) (i 4)) := by
  rw [val_main_v2_apply]
  refine congrArg x1 ((eq_ix4 _).trans ?_)
  have h0 : (i 0).val < 16 := (i 0).isLt
  have h1 : (i 1).val < 16 := (i 1).isLt
  have h2 : (i 2).val < 128 := (i 2).isLt
  have h3 : (i 3).val < 2 := (i 3).isLt
  have h4 : (i 4).val < 64 := (i 4).isLt
  congr 1 <;> apply Fin.ext
  · show (((((i 0).val * 16 + (i 1).val) * 128 + (i 2).val) * 2 + (i 3).val) * 64 + (i 4).val) / 262144 = (i 0).val
    omega
  · show (((((i 0).val * 16 + (i 1).val) * 128 + (i 2).val) * 2 + (i 3).val) * 64 + (i 4).val) / 128 % 2048 = (i 1).val * 128 + (i 2).val
    omega
  · show (((((i 0).val * 16 + (i 1).val) * 128 + (i 2).val) * 2 + (i 3).val) * 64 + (i 4).val) / 64 % 2 = (i 3).val
    omega
  · show (((((i 0).val * 16 + (i 1).val) * 128 + (i 2).val) * 2 + (i 3).val) * 64 + (i 4).val) % 64 = (i 4).val
    omega

theorem padded_zero (x1 : (⟨S16x2048x2x64, .f32⟩ : BufTy).Contents (Elt Ideal)) (i : S16x17x128x2x64.Idx) (h : (i 1).val = 0) :
    val_main_v3 (F := Ideal) x1 i = (0 : EReal) := by
  unfold val_main_v3
  rw [pad_apply_of_not_inside _ _ _ _ _ _ _ i (1 : Fin 5) (fun hin => by
    have e : 1 ≤ (i 1).val := hin.1
    omega)]
  rw [val_main_call0_v0_apply, val_main_c_apply]
  show (((0#32 : BitVec 32).toInt : ℝ) : EReal) = 0
  simp

theorem padded_succ (x1 : (⟨S16x2048x2x64, .f32⟩ : BufTy).Contents (Elt Ideal)) (i : S16x17x128x2x64.Idx) (n : Fin 16) (h : (i 1).val = n.val + 1) :
    val_main_v3 (F := Ideal) x1 i = val_main_v2 (F := Ideal) x1 (ix5 (i 0) n (i 2) (i 3) (i 4)) := by
  unfold val_main_v3
  refine pad_apply_of_inside _ _ _ _ _ _ _ i _ (fun a => ?_)
  match a with
  | ⟨0, _⟩ => show (i 0).val = 0 + (i 0).val * (0 + 1); omega
  | ⟨1, _⟩ => show (i 1).val = 1 + n.val * (0 + 1); omega
  | ⟨2, _⟩ => show (i 2).val = 0 + (i 2).val * (0 + 1); omega
  | ⟨3, _⟩ => show (i 3).val = 0 + (i 3).val * (0 + 1); omega
  | ⟨4, _⟩ => show (i 4).val = 0 + (i 4).val * (0 + 1); omega

/-- A band at a column: the position it stands for, zero before the sequence. -/
theorem band_at (x1 : (⟨S16x2048x2x64, .f32⟩ : BufTy).Contents (Elt Ideal)) (b n : Fin 16) (c : Fin 256) (g : Fin 2) (e : Fin 64) :
    val_main_v5 (F := Ideal) x1 (ix5 b n c g e) = if 128 ≤ n.val * 128 + c.val then x1 (ix4 b (Swa.tok n c) g e) else (0 : EReal) := by
  unfold val_main_v5
  by_cases hc : c.val < 128
  · rw [concatenate_pair_apply_left (2 : Fin 5) (val_main_v4 (F := Ideal) x1) (val_main_v2 (F := Ideal) x1) _ (ix5 b n c g e) rfl (ix5 b n ⟨c.val, hc⟩ g e)
      (fun a => by match a with | ⟨0, _⟩ => rfl | ⟨1, _⟩ => rfl | ⟨2, _⟩ => rfl | ⟨3, _⟩ => rfl | ⟨4, _⟩ => rfl)]
    rw [val_main_v4_apply]
    by_cases hn : n.val = 0
    · rw [if_neg (by omega)]
      exact padded_zero x1 _ hn
    · rw [if_pos (by omega), padded_succ x1 _ ⟨n.val - 1, by omega⟩ (by show n.val = n.val - 1 + 1; omega), blocks_at]
      refine congrArg x1 (congrArg (fun t => ix4 b t g e) (Fin.ext ?_))
      show (n.val - 1) * 128 + c.val = n.val * 128 + c.val - 128
      omega
  · rw [concatenate_pair_apply_right (2 : Fin 5) (val_main_v4 (F := Ideal) x1) (val_main_v2 (F := Ideal) x1) _ (ix5 b n c g e) rfl rfl
      (ix5 b n ⟨c.val - 128, by omega⟩ g e)
      (fun a ha => by match a with | ⟨0, _⟩ => rfl | ⟨1, _⟩ => rfl | ⟨2, _⟩ => exact absurd rfl ha | ⟨3, _⟩ => rfl | ⟨4, _⟩ => rfl)
      (by show c.val - 128 + 128 = c.val; omega), blocks_at, if_pos (by omega)]
    refine congrArg x1 (congrArg (fun t => ix4 b t g e) (Fin.ext ?_))
    show n.val * 128 + (c.val - 128) = n.val * 128 + c.val - 128
    omega

theorem queries_at (x0 : (⟨S16x2048x16x64, .f32⟩ : BufTy).Contents (Elt Ideal)) (b n : Fin 16) (a : Fin 128) (g : Fin 2) (r : Fin 8) (e : Fin 64) :
    val_main_v1 (F := Ideal) x0 (ix6 b n a g r e) = x0 (ix4 b (Swa.pos n a) (Swa.head g r) e) := by
  unfold val_main_v1
  refine shapeCast_apply x0 _ _ _ ?_
  rw [Shape.rowMajor_val_four, Shape.rowMajor_val_six]
  show ((b.val * 2048 + (n.val * 128 + a.val)) * 16 + (g.val * 8 + r.val)) * 64 + e.val
    = ((((b.val * 16 + n.val) * 128 + a.val) * 2 + g.val) * 8 + r.val) * 64 + e.val
  omega

end Cert.ReferenceIdeal.SwaRef
-- ==== Proof.Swa.RefRow.lean ====
/-
  What the reference of the attention call computes: `Swa.out` of its arguments.
-/
module

public import proofs.«01_k».proof.Proof.Swa.Ref

@[expose] public section

set_option maxRecDepth 16384

noncomputable section

open Idealize.ShloMosaic Idealize.ShloMosaic.TcCoe Idealize.SL.Sem

namespace Cert.ReferenceIdeal.SwaRef

open Cert.ReferenceIdeal Cert.ReferenceIdeal.Gen Cert.ReferenceIdeal.Read Idealize.ShloMosaic.ValueIdx

variable (x0 : (⟨S16x2048x16x64, .f32⟩ : BufTy).Contents (Elt Ideal)) (x1 x2 : (⟨S16x2048x2x64, .f32⟩ : BufTy).Contents (Elt Ideal))
  (x3 : (⟨S16x2048x1024, .f32⟩ : BufTy).Contents (Elt Ideal)) (x4 : (⟨S1x16, .f32⟩ : BufTy).Contents (Elt Ideal))
  (x5 : (⟨S1x1024x1024, .f32⟩ : BufTy).Contents (Elt Ideal))

/-- The arguments by their coordinates. -/
def fQ (b : Fin 16) (t : Fin 2048) (h : Fin 16) (d : Fin 64) : EReal := x0 (ix4 b t h d)
def fK (b : Fin 16) (t : Fin 2048) (h : Fin 2) (d : Fin 64) : EReal := x1 (ix4 b t h d)
def fS (h : Fin 16) : EReal := x4 (ix2 0 h)
def fG (b : Fin 16) (t : Fin 2048) (x : Fin 1024) : EReal := x3 (ix3 b t x)
def fW (y x : Fin 1024) : EReal := x5 (ix3 0 y x)

/-- The scores. -/
theorem score_at (b n : Fin 16) (g : Fin 2) (r : Fin 8) (a : Fin 128) (c : Fin 256) :
    val_main_v45 (F := Ideal) x0 x1 (ix6 b n g r a c) = Swa.score (fQ x0) (fK x1) b n a g r c := by
  rw [val_main_v45_apply, mask_at, WordCmp.select_ofBool, Swa.score]
  by_cases h : Swa.Sees n a c
  · rw [if_pos (decide_eq_true h), if_pos h, val_main_v13_apply, val_main_v11_apply, val_main_v10_apply, val_main_v12_apply, val_main_cst_apply]
    refine congrArg (· * Swa.eighth) (Finset.sum_congr rfl fun e _ => ?_)
    have el : lidx_main_v10 (idx_main_v11 (ix6 b n g r a c)) e = ix5 b n c g e := eq_ix5 _
    have er : ridx_main_v10 (idx_main_v11 (ix6 b n g r a c)) e = ix6 b n a g r e := eq_ix6 _
    rw [el, er, band_at, queries_at, if_pos h.2.2]
    exact mul_comm _ _
  · rw [if_neg (fun e => h (of_decide_eq_true e)), if_neg h, val_main_call2_v2_apply, val_main_call2_v0_apply, val_main_cst_7_apply]
    exact Swa.ofBits_bot

/-- The sinks. -/
theorem sink_at (i : S1x1x2x8x1x1.Idx) (g : Fin 2) (r : Fin 8) (hg : (i 2).val = g.val) (hr : (i 3).val = r.val) :
    val_main_v47 (F := Ideal) x4 i = fS x4 (Swa.head g r) := by
  rw [val_main_v47_apply, val_main_v46_apply, val_main_v0_apply]
  refine congrArg x4 ((eq_ix2 _).trans ?_)
  refine congrArg (ix2 (0 : Fin 1)) (Fin.ext ?_)
  show ((i 2).val * 8 + (i 3).val) % 16 = g.val * 8 + r.val
  omega

/-- The largest score a query sees, as the reference folds it. -/
theorem max_at (b n : Fin 16) (g : Fin 2) (r : Fin 8) (a : Fin 128) :
    val_main_v48 (F := Ideal) x0 x1 (ix5 b n g r a) = Finset.univ.sup (Swa.score (fQ x0) (fK x1) b n a g r) := by
  have hr : Shape.Reduces S16x16x2x8x128x256 [5] S16x16x2x8x128 := by decide
  unfold val_main_v48
  refine (Host.reduce_eq_fold_single _ _ _ _ hr _ _).trans ?_
  have e : val_main_v45 (F := Ideal) x0 x1 ∘ hr.lift (ix5 b n g r a) = Swa.score (fQ x0) (fK x1) b n a g r :=
    funext fun k => (congrArg (val_main_v45 (F := Ideal) x0 x1) (eq_ix6 _)).trans (score_at x0 x1 b n g r a k)
  rw [e, val_main_cst_8_apply]
  refine (congrArg (fun z : EReal => Finset.fold max z _ _) Swa.ofBits_bot).trans rfl

/-- The largest score of a row. -/
theorem top_at (i : S16x16x2x8x128x1.Idx) (b n : Fin 16) (g : Fin 2) (r : Fin 8) (a : Fin 128) (hi : idx_main_v49 i = ix5 b n g r a) :
    val_main_v51 (F := Ideal) x0 x1 x4 i = Swa.top (fQ x0) (fK x1) (fS x4) b n a g r := by
  have h2 : (i 2).val = g.val := congrArg Fin.val (congrFun hi 2)
  have h3 : (i 3).val = r.val := congrArg Fin.val (congrFun hi 3)
  rw [val_main_v51_apply, val_main_v49_apply, hi, max_at, val_main_v50_apply, sink_at x4 _ g r h2 h3]
  rfl

theorem exp_at (b n : Fin 16) (g : Fin 2) (r : Fin 8) (a : Fin 128) (c : Fin 256) :
    val_main_v54 (F := Ideal) x0 x1 x4 (ix6 b n g r a c)
      = Ideal.exp (Swa.score (fQ x0) (fK x1) b n a g r c - Swa.top (fQ x0) (fK x1) (fS x4) b n a g r) := by
  rw [val_main_v54_apply, val_main_v53_apply, score_at, val_main_v52_apply, top_at x0 x1 x4 _ b n g r a (eq_ix5 _)]
  rfl

/-- The weights. -/
theorem weight_at (b n : Fin 16) (g : Fin 2) (r : Fin 8) (a : Fin 128) (c : Fin 256) :
    val_main_v62 (F := Ideal) x0 x1 x4 (ix6 b n g r a c) = Swa.weight (fQ x0) (fK x1) (fS x4) b n a g r c := by
  have e5 : idx_main_v56 (idx_main_v61 (ix6 b n g r a c)) = ix5 b n g r a := eq_ix5 _
  have e6 : ∀ k, idx_main_v55 (ix5 b n g r a) k = ix6 b n g r a k := fun k => eq_ix6 _
  rw [val_main_v62_apply, exp_at, val_main_v61_apply, val_main_v60_apply, val_main_v56_apply, e5, val_main_v55_apply, val_main_v59_apply,
    val_main_v58_apply, val_main_v57_apply, sink_at x4 _ g r rfl rfl, top_at x0 x1 x4 _ b n g r a (eq_ix5 _), val_main_cst_9_apply]
  simp only [e6, exp_at]
  rw [Swa.weight]
  show Ideal.div _ ((Ideal.ofBits FTy.f32 0#32 + _) + _) = _
  rw [Ideal.ofBits_zero_f32, zero_add]
  rfl

/-- The attention. -/
theorem att_at (b n : Fin 16) (a : Fin 128) (g : Fin 2) (r : Fin 8) (d : Fin 64) :
    val_main_v64 (F := Ideal) x0 x1 x2 x4 (ix6 b n a g r d) = Swa.att (fQ x0) (fK x1) (fK x2) (fS x4) b n a g r d := by
  rw [val_main_v64_apply, val_main_v63_apply]
  refine Finset.sum_congr rfl fun c _ => ?_
  have el : lidx_main_v63 (idx_main_v64 (ix6 b n a g r d)) c = ix5 b n c g d := eq_ix5 _
  have er : ridx_main_v63 (idx_main_v64 (ix6 b n a g r d)) c = ix6 b n g r a c := eq_ix6 _
  rw [el, er, weight_at]
  exact congrArg (· * _) (band_at x2 b n c g d)

theorem cols_at (b : Fin 16) (t : Fin 2048) (y : Fin 1024) :
    val_main_v65 (F := Ideal) x0 x1 x2 x4 (ix3 b t y)
      = Swa.att (fQ x0) (fK x1) (fK x2) (fS x4) b ⟨t.val / 128, by omega⟩ ⟨t.val % 128, by omega⟩ ⟨y.val / 512, by omega⟩ ⟨y.val / 64 % 8, by omega⟩
          ⟨y.val % 64, by omega⟩ := by
  rw [← att_at]
  unfold val_main_v65
  refine shapeCast_apply _ _ _ _ ?_
  rw [Shape.rowMajor_val_three, Shape.rowMajor_val_six]
  show ((((b.val * 16 + t.val / 128) * 128 + t.val % 128) * 2 + y.val / 512) * 8 + y.val / 64 % 8) * 64 + y.val % 64
    = (b.val * 2048 + t.val) * 1024 + y.val
  omega

/-- The reference's result. -/
theorem out_at (b : Fin 16) (t : Fin 2048) (x : Fin 1024) :
    val_main_v68 (F := Ideal) x0 x1 x2 x3 x4 x5 (ix3 b t x) = Swa.out (fQ x0) (fK x1) (fK x2) (fS x4) (fG x3) (fW x5) b t x := by
  rw [val_main_v68_apply, val_main_v67_apply, Swa.out]
  refine congrArg (fG x3 b t x * ·) (Finset.sum_congr rfl fun y _ => ?_)
  have el : lidx_main_v67 (ix3 b t x) y = ix3 b t y := eq_ix3 _
  rw [el, cols_at, val_main_v66_apply]
  refine congrArg (_ * ·) (congrArg x5 ((eq_ix3 _).trans ?_))
  refine congrArg₂ (ix3 (0 : Fin 1)) (Fin.ext ?_) (Fin.ext ?_)
  · show (y.val * 1024 + x.val) / 1024 % 1024 = y.val
    omega
  · show (y.val * 1024 + x.val) % 1024 = x.val
    omega

/-- The result, row by row. -/
theorem result_at (p : Fin 32768) (x : Fin 1024) :
    val_main_v70 (F := Ideal) x0 x1 x2 x3 x4 x5 (ix2 p x) = Swa.out (fQ x0) (fK x1) (fK x2) (fS x4) (fG x3) (fW x5)
      ⟨p.val / 2048, by omega⟩ ⟨p.val % 2048, by omega⟩ x := by
  rw [val_main_v70_apply, val_main_v69_apply, ← out_at]
  refine congrArg (val_main_v68 (F := Ideal) x0 x1 x2 x3 x4 x5) ((eq_ix3 _).trans ?_)
  congr 1 <;> apply Fin.ext
  · show (p.val * 1024 + x.val) / 2097152 = p.val / 2048
    omega
  · show (p.val * 1024 + x.val) / 1024 % 2048 = p.val % 2048
    omega
  · show (p.val * 1024 + x.val) % 1024 = x.val
    omega

end Cert.ReferenceIdeal.SwaRef
-- ==== Proof.Swa.Claims.lean ====
/-
  The claims of the attention call.
-/
module

public import proofs.«01_k».proof.Defs
public import proofs.«01_k».proof.Proof.Swa.Pre
public import proofs.«01_k».proof.Proof.Swa.Array
public import proofs.«01_k».proof.Proof.Swa.RefRow
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pointwise
public import Idealize.ShloMosaic.Adequacy
public import Idealize.ShloMosaic.Init

@[expose] public section

noncomputable section

namespace Cert.SwaClaims

open Idealize.ShloMosaic Idealize.SL.Sem

/-- The kernel runs and keeps its arguments. -/
theorem frame_p : Cert.quiescent_Kernel (hKernel := Cert.Kernel.Gen.facts) := fun m ρ _ => Cert.Kernel.Gen.frame m ρ

/-- Its ideal reading runs and keeps its arguments. -/
theorem frame_pi : Cert.quiescent_KernelIdeal (hKernelIdeal := Cert.KernelIdeal.Gen.facts) := fun m ρ _ => Cert.KernelIdeal.Gen.frame m ρ

/-- The reference runs and keeps its arguments. -/
theorem frame_ri : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

/-- Under the precondition the kernel's queries, keys and sinks are finite. -/
theorem fin0 (m : (ℓ : Loc Cert.KernelIdeal.nD Cert.KernelIdeal.τ Cert.KernelIdeal.sig) → Buf (Elt Ideal) ℓ)
    (h : Cert.Pre_KernelIdeal_finite_scores (hPre_finite_scores := Cert.Pre_finite_scores.facts) m) (c : Dev Cert.KernelIdeal.nD) :
    Cert.KernelIdeal.SwaValue.Fin0 m c := by
  haveI := Cert.Pre_finite_scores.facts
  obtain ⟨h0, h1, h4⟩ := Cert.Pre_finite_scores.finite _ _ _ _ _ _ (fun k => k.elim0) (congrFun (h c) _)
  exact ⟨fun b t g d => h0 _, fun b t g d => h1 _, fun g => h4 _⟩

/-- The two sides compute the same array. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v70 m' c = Cert.KernelIdeal.SwaValue.result m c := by
  obtain ⟨e0, e1, e2, e3, e4, e5⟩ := hag
  rw [Cert.ReferenceIdeal.Read.val_main_v70_eq, e0, e1, e2, e3, e4, e5]
  have hQ : Cert.ReferenceIdeal.SwaRef.fQ (m ((c.tc : Thread Cert.KernelIdeal.nD Cert.KernelIdeal.τ).loc Cert.KernelIdeal.main_arg0)) = Cert.KernelIdeal.SwaValue.fQ m c :=
    funext fun b => funext fun t => funext fun h => funext fun d => congrArg (Cert.KernelIdeal.SwaValue.aQ m c) (ix4_eq_valueIdx b t h d).symm
  have hK : Cert.ReferenceIdeal.SwaRef.fK (m ((c.tc : Thread Cert.KernelIdeal.nD Cert.KernelIdeal.τ).loc Cert.KernelIdeal.main_arg1)) = Cert.KernelIdeal.SwaValue.fK m c :=
    funext fun b => funext fun t => funext fun h => funext fun d => congrArg (Cert.KernelIdeal.SwaValue.aK m c) (ix4_eq_valueIdx b t h d).symm
  have hV : Cert.ReferenceIdeal.SwaRef.fK (m ((c.tc : Thread Cert.KernelIdeal.nD Cert.KernelIdeal.τ).loc Cert.KernelIdeal.main_arg2)) = Cert.KernelIdeal.SwaValue.fV m c :=
    funext fun b => funext fun t => funext fun h => funext fun d => congrArg (Cert.KernelIdeal.SwaValue.aV m c) (ix4_eq_valueIdx b t h d).symm
  have hG : Cert.ReferenceIdeal.SwaRef.fG (m ((c.tc : Thread Cert.KernelIdeal.nD Cert.KernelIdeal.τ).loc Cert.KernelIdeal.main_arg3)) = Cert.KernelIdeal.SwaValue.fG m c :=
    funext fun b => funext fun t => funext fun x => congrArg (Cert.KernelIdeal.SwaValue.aG m c) (ix3_eq_valueIdx b t x).symm
  have hS : Cert.ReferenceIdeal.SwaRef.fS (m ((c.tc : Thread Cert.KernelIdeal.nD Cert.KernelIdeal.τ).loc Cert.KernelIdeal.main_arg4)) = Cert.KernelIdeal.SwaValue.fS m c :=
    funext fun h => congrArg (Cert.KernelIdeal.SwaValue.aS m c) (ix2_eq_valueIdx 0 h).symm
  have hW : Cert.ReferenceIdeal.SwaRef.fW (m ((c.tc : Thread Cert.KernelIdeal.nD Cert.KernelIdeal.τ).loc Cert.KernelIdeal.main_arg5)) = Cert.KernelIdeal.SwaValue.fW m c :=
    funext fun y => funext fun x => congrArg (Cert.KernelIdeal.SwaValue.aW m c) (ix3_eq_valueIdx 0 y x).symm
  have key : ∀ (p : Fin 32768) (x : Fin 1024), Cert.ReferenceIdeal.Read.val_main_v70 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (ValueIdx.ix2 p x)
      = Cert.KernelIdeal.SwaValue.result m c (ValueIdx.ix2 p x) := fun p x => by
    refine (Cert.ReferenceIdeal.SwaRef.result_at _ _ _ _ _ _ p x).trans ?_
    rw [hQ, hK, hV, hG, hS, hW]
    rfl
  funext i
  rw [ValueIdx.eq_ix2 i]
  exact key _ _

/-- Over the extended reals, at finite queries, keys and sinks, the kernel and the reference end with the same array. -/
theorem alg : Cert.algebraic_KernelIdeal_ReferenceIdeal_pre_finite_scores (hKernelIdeal := Cert.KernelIdeal.Gen.facts) (hReferenceIdeal := Cert.ReferenceIdeal.Gen.facts)
    (hPre_finite_scores := Cert.Pre_finite_scores.facts) := fun m ρ m' ρ' hpre hag =>
  ⟨fun c => Cert.KernelIdeal.SwaValue.result m c,
    (θ_run _ _ _).mono (fun _ h c => ⟨(h c).1.trans (Cert.KernelIdeal.SwaValue.array_eq m c (fin0 m hpre c)), (h c).2⟩) (Cert.KernelIdeal.Value.run_blocks m ρ),
    (θ_run _ _ _).mono (fun _ h c => ⟨(h c).1.trans (same m m' c (hag c)), (h c).2⟩) (Cert.ReferenceIdeal.Value.run m' ρ')⟩

end Cert.SwaClaims
-- ==== Proof.Moe.Base.lean ====
module
public import proofs.«01_k».proof.Proof.Gen.Kernel2Ideal.Launch
public import proofs.«01_k».proof.Proof.Gen.Kernel2Ideal.Skeleton
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra. -/
local notation "𝕄" => MT nD τ sig Unit (Elt F) ℕ (Pipeline.UD sig nD τ) ℕ

/-! ## The body's operands -/

/-- The four tables: each block's expert, the number of blocks in use, the next expert, the block's slot. -/
abbrev tbE : Memref sig .tc .smem S316 .i32 := Memref.whole main_v31
abbrev tbN : Memref sig .tc .smem S1 .i32 := Memref.whole main_v15
abbrev tbX : Memref sig .tc .smem S316 .i32 := Memref.whole main_v51
abbrev tbS : Memref sig .tc .smem S316 .i32 := Memref.whole main_v64
/-- The weights left in HBM. -/
abbrev hbG : Memref sig .tc .hbm S32x1024x2048 .f32 := Memref.whole main_v0
abbrev hbD : Memref sig .tc .hbm S32x1024x1024 .f32 := Memref.whole main_v2
/-- The two slots the weights land in, and the two scratch arrays they are converted into. -/
abbrev slG : Memref sig .tc .vmem S2x1024x2048 .f32 := Memref.whole cc0_scratch0
abbrev slD : Memref sig .tc .vmem S2x1024x1024 .f32 := Memref.whole cc0_scratch1
abbrev cvG : Memref sig .tc .vmem S1024x2048 .bf16 := Memref.whole cc0_scratch2
abbrev cvD : Memref sig .tc .vmem S1024x1024 .bf16 := Memref.whole cc0_scratch3

/-- Contents of a memref's buffer on core `c`, and the buffer held at them. -/
abbrev Cn (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Cn (F := F) c M) : sProp 𝕄 :=
  M.view.loc (c : Thread nD τ) ↦{fullShare} f

/-- A buffer held at half the full share, as the pipeline holds its tables. -/
abbrev ptH (c : Dev nD) {sp : Space} {S : Shape} {e : EltTy} (M : Memref sig .tc sp S e) (f : Cn (F := F) c M) : sProp 𝕄 :=
  M.view.loc (c : Thread nD τ) ↦{fullShare.right} f

/-- The word a table holds at an offset. -/
abbrev wd (c : Dev nD) {n : Fin 1 → ℕ} (M : Memref sig .tc .smem ⟨1, n⟩ .i32) (off : Fin 1 → ℕ) (inb : ∀ a, off a + S1.size a ≤ n a)
    (T : Cn (F := F) c M) : Elt F .i32 :=
  (M.access (Rect.unit (s := ⟨1, n⟩) off S1.size inb)).read (Elt F) T (Shape.Idx.first (numel1_S1.symm ▸ Nat.one_pos))

/-! ## The transfers' ends and deliveries -/

/-- The slot a word names, of each of the two slot buffers, and the expert a word names, of each of the two weights. -/
abbrev atSlG (s : BitVec 32) (h : ∀ a, (![s.toNat, 0, 0] : Fin 3 → ℕ) a + S1x1024x2048.size a ≤ S2x1024x2048.size a) : Memref sig .tc .vmem S1024x2048 .f32 :=
  (slG.slice (Rect.unit (s := S2x1024x2048) ![s.toNat, 0, 0] S1x1024x2048.size h) (fun _ => rfl)).squeeze S1024x2048 squeezes_S1x1024x2048_S1024x2048
abbrev atSlD (s : BitVec 32) (h : ∀ a, (![s.toNat, 0, 0] : Fin 3 → ℕ) a + S1x1024x1024.size a ≤ S2x1024x1024.size a) : Memref sig .tc .vmem S1024x1024 .f32 :=
  (slD.slice (Rect.unit (s := S2x1024x1024) ![s.toNat, 0, 0] S1x1024x1024.size h) (fun _ => rfl)).squeeze S1024x1024 squeezes_S1x1024x1024_S1024x1024
abbrev atG (e : BitVec 32) (h : ∀ a, (![e.toNat, 0, 0] : Fin 3 → ℕ) a + S1x1024x2048.size a ≤ S32x1024x2048.size a) : Memref sig .tc .hbm S1024x2048 .f32 :=
  (hbG.slice (Rect.unit (s := S32x1024x2048) ![e.toNat, 0, 0] S1x1024x2048.size h) (fun _ => rfl)).squeeze S1024x2048 squeezes_S1x1024x2048_S1024x2048
abbrev atD (e : BitVec 32) (h : ∀ a, (![e.toNat, 0, 0] : Fin 3 → ℕ) a + S1x1024x1024.size a ≤ S32x1024x1024.size a) : Memref sig .tc .hbm S1024x1024 .f32 :=
  (hbD.slice (Rect.unit (s := S32x1024x1024) ![e.toNat, 0, 0] S1x1024x1024.size h) (fun _ => rfl)).squeeze S1024x1024 squeezes_S1x1024x1024_S1024x1024
/-- The cell a word names. -/
abbrev cellAt (s : BitVec 32) (h : ∀ a, (![s.toNat] : Fin 1 → ℕ) a + S1.size a ≤ S2.size a) : SemLoc sig :=
  SemLoc.dma ((cc0_scratch4.slice (Rect.unit (s := S2) ![s.toNat] S1.size h)).squeeze S_ squeezes_S1_S_).sem

theorem inbG2 {s : BitVec 32} (hs : s.toNat < 2) : ∀ a, (![s.toNat, 0, 0] : Fin 3 → ℕ) a + S1x1024x2048.size a ≤ S2x1024x2048.size a := by
  intro a; fin_cases a
  · show s.toNat + 1 ≤ 2; omega
  · show 0 + 1024 ≤ 1024; omega
  · show 0 + 2048 ≤ 2048; omega
theorem inbD2 {s : BitVec 32} (hs : s.toNat < 2) : ∀ a, (![s.toNat, 0, 0] : Fin 3 → ℕ) a + S1x1024x1024.size a ≤ S2x1024x1024.size a := by
  intro a; fin_cases a
  · show s.toNat + 1 ≤ 2; omega
  · show 0 + 1024 ≤ 1024; omega
  · show 0 + 1024 ≤ 1024; omega
theorem inbG32 {e : BitVec 32} (he : e.toNat < 32) : ∀ a, (![e.toNat, 0, 0] : Fin 3 → ℕ) a + S1x1024x2048.size a ≤ S32x1024x2048.size a := by
  intro a; fin_cases a
  · show e.toNat + 1 ≤ 32; omega
  · show 0 + 1024 ≤ 1024; omega
  · show 0 + 2048 ≤ 2048; omega
theorem inbD32 {e : BitVec 32} (he : e.toNat < 32) : ∀ a, (![e.toNat, 0, 0] : Fin 3 → ℕ) a + S1x1024x1024.size a ≤ S32x1024x1024.size a := by
  intro a; fin_cases a
  · show e.toNat + 1 ≤ 32; omega
  · show 0 + 1024 ≤ 1024; omega
  · show 0 + 1024 ≤ 1024; omega
theorem inbC {s : BitVec 32} (hs : s.toNat < 2) : ∀ a, (![s.toNat] : Fin 1 → ℕ) a + S1.size a ≤ S2.size a := by
  intro a; fin_cases a
  show s.toNat + 1 ≤ 2; omega

/-- What the slot buffers hold once an expert's weights landed in a slot. -/
abbrev landG (c : Dev nD) (s e : BitVec 32) (hs : s.toNat < 2) (he : e.toNat < 32) (g : Cn (F := F) c hbG) (f : Cn (F := F) c slG) : Cn (F := F) c slG :=
  View.write (Elt F) (atSlG s (inbG2 hs)).view f (ReadAs.same.apply ((atG e (inbG32 he)).view.read (Elt F) g)) Finset.univ
abbrev landD (c : Dev nD) (s e : BitVec 32) (hs : s.toNat < 2) (he : e.toNat < 32) (g : Cn (F := F) c hbD) (f : Cn (F := F) c slD) : Cn (F := F) c slD :=
  View.write (Elt F) (atSlD s (inbD2 hs)).view f (ReadAs.same.apply ((atD e (inbD32 he)).view.read (Elt F) g)) Finset.univ

/-- The two transfers' amounts in issue order. -/
abbrev amts : Fin 2 → ℕ := ![262144, 131072]
/-- What each of the two transfers delivers: the slot buffer whole at the landed contents, and its source back. -/
def deliv (c : Dev nD) (s e : BitVec 32) (hs : s.toNat < 2) (he : e.toNat < 32) (g : Cn (F := F) c hbG) (d : Cn (F := F) c hbD)
    (f11 : Cn (F := F) c slG) (f12 : Cn (F := F) c slD) : Fin 2 → sProp 𝕄
  | 0 => iprop(pt c slG (landG c s e hs he g f11)
      ∗ ((atG e (inbG32 he)).view.loc (c : Thread nD τ) ↦[(atG e (inbG32 he)).view.set]{fullShare} g))
  | 1 => iprop(pt c slD (landD c s e hs he d f12)
      ∗ ((atD e (inbD32 he)).view.loc (c : Thread nD τ) ↦[(atD e (inbD32 he)).view.set]{fullShare} d))
instance deliv_storable (c : Dev nD) (s e : BitVec 32) (hs : s.toNat < 2) (he : e.toNat < 32) (g : Cn (F := F) c hbG) (d : Cn (F := F) c hbD)
    (f11 : Cn (F := F) c slG) (f12 : Cn (F := F) c slD) (t : Fin 2) : Storable (upEmb : UEmb _ 𝕄) (deliv c s e hs he g d f11 f12 t) := by
  fin_cases t <;> simp only [deliv] <;> infer_instance

/-- The batch on the slot's cell, `k` transfers issued and `u` units waited for. -/
abbrev batch (c : Dev nD) (s e : BitVec 32) (hs : s.toNat < 2) (he : e.toNat < 32) (g : Cn (F := F) c hbG) (d : Cn (F := F) c hbD)
    (f11 : Cn (F := F) c slG) (f12 : Cn (F := F) c slD) (k u : ℕ) : sProp 𝕄 :=
  Transfers.MixedBatch (Lvl := ℕ) (countersEmb (U := Pipeline.UD sig nD τ)) (c : Thread nD τ) (cellAt s (inbC hs)) () amts (deliv c s e hs he g d f11 f12) k u

theorem amount_G (s : BitVec 32) (h) (sm : SemLoc sig) (hsm : sm = cellAt s h) (s' : BitVec 32) (h') : (atSlG s' h').view.amount sm = 262144 := by
  subst hsm; rfl
theorem amount_D (s : BitVec 32) (h) (sm : SemLoc sig) (hsm : sm = cellAt s h) (s' : BitVec 32) (h') : (atSlD s' h').view.amount sm = 131072 := by
  subst hsm; rfl
theorem credit_G (s' : BitVec 32) (h') : (atSlG s' h').view.dmaCredit = 262144 := rfl
theorem credit_D (s' : BitVec 32) (h') : (atSlD s' h').view.dmaCredit = 131072 := rfl
theorem cell_zero : cellAt 0#32 (inbC (by decide)) = SemLoc.dma 8 := by decide +kernel
theorem cell_one : cellAt 1#32 (inbC (by decide)) = SemLoc.dma 9 := by decide +kernel

end Cert.Moe
-- ==== Proof.Moe.Land.lean ====
module
public import proofs.«01_k».proof.Proof.Moe.Base

@[expose] public section

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra. -/
local notation "𝕄" => MT nD τ sig Unit (Elt F) ℕ (Pipeline.UD sig nD τ) ℕ

/-- At a block that changes the expert, past the first: the prefetched weights are waited for. -/
theorem land_next (c : Dev nD) (i : grid0.Coords)
    (m5 : Memref sig .tc .vmem S512x1024 .f32) (h5 : m5.IsWhole) (m7 : Memref sig .tc .vmem S1x1x2048 .f32) (h7 : m7.IsWhole)
    (m9 : Memref sig .tc .vmem S1x1x1024 .f32) (h9 : m9.IsWhole) (m10 : Memref sig .tc .vmem S512x1024 .f32) (h10 : m10.IsWhole)
    (v0 : Elt F .i32) (k0_h2 : k0_cond2 i v0 = 1#1) (v9 : Elt F .i32) (v13 : Elt F .i32) (k0_h3 : k0_cond3 i v9 v13 = 1#1)
    (h4 : ¬ k0_cond4 i = 1#1)
    (TE : Cn (F := F) c tbE) (TS : Cn (F := F) c tbS) (s e : BitVec 32) (hs : s.toNat < 2) (he : e.toNat < 32)
    (hE : e = wd c tbE (k0_off4 i) (k0_off4_inb i) TE) (hS : s = wd c tbS (k0_off4 i) (k0_off4_inb i) TS)
    (hchk2 : k0_chk2 i v0 v9 v13 e) (hchk1 : k0_chk1 i v0 v9 v13 s)
    (g : Cn (F := F) c hbG) (d : Cn (F := F) c hbD) (f11 : Cn (F := F) c slG) (f12 : Cn (F := F) c slD)
    (W : Waits sig Unit) (K : (Σ' (v207 : Elt F .i32) (k0_hw1 : k0_chk1 i v0 v9 v13 v207), FVec F S256x256 .bf16) → sProp 𝕄) :
    iprop(ptH c tbE TE ∗ ptH c tbS TS ∗ batch c s e hs he g d f11 f12 2 0 ∗ owes (c : Thread nD τ) 0 W
        ∗ (iprop(ptH c tbE TE ∗ ptH c tbS TS ∗ semVal ((c : Thread nD τ), cellAt s (inbC hs)) 0
            ∗ pt c slG (landG c s e hs he g f11) ∗ pt c slD (landD c s e hs he d f12)
            ∗ ((atG e (inbG32 he)).view.loc (c : Thread nD τ) ↦[(atG e (inbG32 he)).view.set]{fullShare} g)
            ∗ ((atD e (inbD32 he)).view.loc (c : Thread nD τ) ↦[(atD e (inbD32 he)).view.set]{fullShare} d)
            ∗ (∃ W', owes (c : Thread nD τ) 0 W')) -∗ K ⟨s, hchk1, k0_pay2 (F := F)⟩))
      ⊢ wp frame (wpE (defs₀ (F := F)) Variants.none c none) Set.univ
          (k0_part1 i tbE (Memref.isWhole_whole _) tbN (Memref.isWhole_whole _) tbX (Memref.isWhole_whole _) tbS (Memref.isWhole_whole _)
            m5 h5 hbG (Memref.isWhole_whole _) m7 h7 hbD (Memref.isWhole_whole _) m9 h9 m10 h10 slG (Memref.isWhole_whole _)
            slD (Memref.isWhole_whole _) cvG (Memref.isWhole_whole _) cvD (Memref.isWhole_whole _) cc0_scratch4
            (BitVec.ofNat 32 (i 0).val) v0 k0_h2 v9 v13 k0_h3) K := by
    simp only [k0_part1_eq_skeleton]; unfold k0_part1_skel
    iintro ⟨HE, HS, HB, HW, Hk⟩
    unfold smemLoad
    rw [smemLoadElt_bind]
    named_smem HE e hE
    rw [Prog.bind_ret, Prog.bind_lift]
    iapply (wp_assume _ _ _ _ hchk2)
    rw [smemLoadElt_bind]
    named_smem HS s hS
    rw [Prog.bind_ret, Prog.bind_lift]
    iapply (wp_assume _ _ _ _ hchk1)
    unfold batch deliv
    sl_exec
    sl_step
    iapply Hk
    isplitl [HE]; · iexact HE
    isplitl [HS]; · iexact HS
    isplitl [HB]; · iexact HB
    isplitl [HB_dst0]; · iexact HB_dst0
    isplitl [HB_dst1]; · iexact HB_dst1
    isplitl [HB_src0]; · iexact HB_src0
    isplitl [HB_src1]; · iexact HB_src1
    iexists _; iexact HW

/-- At the first block: the weights are issued and waited for. -/
theorem land_first (c : Dev nD) (i : grid0.Coords)
    (m5 : Memref sig .tc .vmem S512x1024 .f32) (h5 : m5.IsWhole) (m7 : Memref sig .tc .vmem S1x1x2048 .f32) (h7 : m7.IsWhole)
    (m9 : Memref sig .tc .vmem S1x1x1024 .f32) (h9 : m9.IsWhole) (m10 : Memref sig .tc .vmem S512x1024 .f32) (h10 : m10.IsWhole)
    (v0 : Elt F .i32) (k0_h2 : k0_cond2 i v0 = 1#1) (v9 : Elt F .i32) (v13 : Elt F .i32) (k0_h3 : k0_cond3 i v9 v13 = 1#1)
    (h4 : k0_cond4 i = 1#1)
    (TE : Cn (F := F) c tbE) (TS : Cn (F := F) c tbS) (s e : BitVec 32) (hs : s.toNat < 2) (he : e.toNat < 32)
    (hE : e = wd c tbE (k0_off4 i) (k0_off4_inb i) TE) (hS : s = wd c tbS (k0_off4 i) (k0_off4_inb i) TS)
    (hchk2 : k0_chk2 i v0 v9 v13 e) (hchk1 : k0_chk1 i v0 v9 v13 s)
    (g : Cn (F := F) c hbG) (d : Cn (F := F) c hbD) (f11 : Cn (F := F) c slG) (f12 : Cn (F := F) c slD)
    (W : Waits sig Unit) (K : (Σ' (v207 : Elt F .i32) (k0_hw1 : k0_chk1 i v0 v9 v13 v207), FVec F S256x256 .bf16) → sProp 𝕄) :
    iprop(ptH c tbE TE ∗ ptH c tbS TS ∗ pt c slG f11 ∗ pt c slD f12 ∗ pt c hbG g ∗ pt c hbD d ∗ batch c s e hs he g d f11 f12 0 0 ∗ owes (c : Thread nD τ) 0 W
        ∗ (iprop(ptH c tbE TE ∗ ptH c tbS TS ∗ semVal ((c : Thread nD τ), cellAt s (inbC hs)) 0
            ∗ pt c slG (landG c s e hs he g f11) ∗ pt c slD (landD c s e hs he d f12)
            ∗ pt c hbG g ∗ pt c hbD d
            ∗ (∃ W', owes (c : Thread nD τ) 0 W')) -∗ K ⟨s, hchk1, k0_pay2 (F := F)⟩))
      ⊢ wp frame (wpE (defs₀ (F := F)) Variants.none c none) Set.univ
          (k0_part1 i tbE (Memref.isWhole_whole _) tbN (Memref.isWhole_whole _) tbX (Memref.isWhole_whole _) tbS (Memref.isWhole_whole _)
            m5 h5 hbG (Memref.isWhole_whole _) m7 h7 hbD (Memref.isWhole_whole _) m9 h9 m10 h10 slG (Memref.isWhole_whole _)
            slD (Memref.isWhole_whole _) cvG (Memref.isWhole_whole _) cvD (Memref.isWhole_whole _) cc0_scratch4
            (BitVec.ofNat 32 (i 0).val) v0 k0_h2 v9 v13 k0_h3) K := by
    simp only [k0_part1_eq_skeleton]; unfold k0_part1_skel
    iintro ⟨HE, HS, H11, H12, HG, HD, HB, HW, Hk⟩
    unfold smemLoad
    rw [smemLoadElt_bind]
    named_smem HE e hE
    rw [Prog.bind_ret, Prog.bind_lift]
    iapply (wp_assume _ _ _ _ hchk2)
    rw [smemLoadElt_bind]
    named_smem HS s hS
    rw [Prog.bind_ret, Prog.bind_lift]
    iapply (wp_assume _ _ _ _ hchk1)
    unfold batch deliv
    sl_exec
    sl_step
    iapply Hk
    isplitl [HE]; · iexact HE
    isplitl [HS]; · iexact HS
    isplitl [HB]; · iexact HB
    isplitl [HB_dst0]; · iexact HB_dst0
    isplitl [HB_dst1]; · iexact HB_dst1
    isplitl [HG]; · iexact HG
    isplitl [HD]; · iexact HD
    iexists _; iexact HW

end Cert.Moe
-- ==== Proof.Moe.Conv.lean ====
module
public import proofs.«01_k».proof.Proof.Moe.Land
public import Idealize.ShloMosaic.Lib.ValueLayout

@[expose] public section

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- The proof's user algebra. -/
local notation "𝕄" => MT nD τ sig Unit (Elt F) ℕ (Pipeline.UD sig nD τ) ℕ

theorem inbT2 {s : BitVec 32} (hs : s.toNat < 2) {o : ℕ} (ho : o + 256 ≤ 2048) :
    ∀ a, (![s.toNat, 0, o] : Fin 3 → ℕ) a + S1x1024x256.size a ≤ S2x1024x2048.size a := by
  intro a; fin_cases a
  · show s.toNat + 1 ≤ 2; omega
  · show 0 + 1024 ≤ 1024; omega
  · show o + 256 ≤ 2048; omega
theorem inbT32 {e : BitVec 32} (he : e.toNat < 32) {o : ℕ} (ho : o + 256 ≤ 2048) :
    ∀ a, (![e.toNat, 0, o] : Fin 3 → ℕ) a + S1x1024x256.size a ≤ S32x1024x2048.size a := by
  intro a; fin_cases a
  · show e.toNat + 1 ≤ 32; omega
  · show 0 + 1024 ≤ 1024; omega
  · show o + 256 ≤ 2048; omega

/-- The `k`-th column tile of an expert's gate-and-up weights, and its down weights, as loads of the arrays in HBM. -/
abbrev tG (c : Dev nD) (e : BitVec 32) (he : e.toNat < 32) (g : Cn (F := F) c hbG) (o : ℕ) (ho : o + 256 ≤ 2048) : Vec F S1x1024x256 .f32 :=
  View.readAt (Elt F) hbG.view (Rect.unit (s := S32x1024x2048) ![e.toNat, 0, o] S1x1024x256.size (inbT32 he ho)).toLoadRect g
abbrev tD (c : Dev nD) (e : BitVec 32) (he : e.toNat < 32) (d : Cn (F := F) c hbD) : Vec F S1x1024x1024 .f32 :=
  View.readAt (Elt F) hbD.view (Rect.unit (s := S32x1024x1024) ![e.toNat, 0, 0] S1x1024x1024.size (inbD32 he)).toLoadRect d

/-- The eight column tiles written into the converted gate-and-up weights, the last first, from the tiles `t`. -/
abbrev pcsG (v : FVec F S256x256 .bf16) (t : (o : ℕ) → o + 256 ≤ 2048 → Vec F S1x1024x256 .f32) : List (View.Piece (Elt F) S1024x2048 .bf16) :=
  [⟨Rect.unit ![0, 1792] S1024x256.size inb_S1024x2048_S1024x256_0_1792, k0_pay10 v (t 1792 (by decide))⟩,
   ⟨Rect.unit ![0, 1536] S1024x256.size inb_S1024x2048_S1024x256_0_1536, k0_pay9 v (t 1536 (by decide))⟩,
   ⟨Rect.unit ![0, 1280] S1024x256.size inb_S1024x2048_S1024x256_0_1280, k0_pay8 v (t 1280 (by decide))⟩,
   ⟨Rect.unit ![0, 1024] S1024x256.size inb_S1024x2048_S1024x256_0_1024, k0_pay7 v (t 1024 (by decide))⟩,
   ⟨Rect.unit ![0, 768] S1024x256.size inb_S1024x2048_S1024x256_0_768, k0_pay6 v (t 768 (by decide))⟩,
   ⟨Rect.unit ![0, 512] S1024x256.size inb_S1024x2048_S1024x256_0_512, k0_pay5 v (t 512 (by decide))⟩,
   ⟨Rect.unit ![0, 256] S1024x256.size inb_S1024x2048_S1024x256_0_256, k0_pay4 v (t 256 (by decide))⟩,
   ⟨Rect.unit ![0, 0] S1024x256.size inb_S1024x2048_S1024x256_0_0, k0_pay3 v (t 0 (by decide))⟩]
abbrev pcsD (t : Vec F S1x1024x1024 .f32) : List (View.Piece (Elt F) S1024x1024 .bf16) :=
  [⟨Rect.unit ![0, 0] S1024x1024.size inb_S1024x1024_S1024x1024_0_0, k0_pay11 t⟩]

/-- A column tile, and the down weights, as loads of a slot. -/
abbrev sG (c : Dev nD) (s : BitVec 32) (hs : s.toNat < 2) (f : Cn (F := F) c slG) (o : ℕ) (ho : o + 256 ≤ 2048) : Vec F S1x1024x256 .f32 :=
  View.readAt (Elt F) slG.view (Rect.unit (s := S2x1024x2048) ![s.toNat, 0, o] S1x1024x256.size (inbT2 hs ho)).toLoadRect f
abbrev sD (c : Dev nD) (s : BitVec 32) (hs : s.toNat < 2) (f : Cn (F := F) c slD) : Vec F S1x1024x1024 .f32 :=
  View.readAt (Elt F) slD.view (Rect.unit (s := S2x1024x1024) ![s.toNat, 0, 0] S1x1024x1024.size (inbD2 hs)).toLoadRect f

/-- A tile's element is an element of the plane the slot, or the expert's weights, are seen as. -/
theorem sG_plane (c : Dev nD) (s : BitVec 32) (hs : s.toNat < 2) (f : Cn (F := F) c slG) (o : ℕ) (ho : o + 256 ≤ 2048) (z : Fin 1) (r : Fin 1024) (q : Fin 256) :
    sG c s hs f o ho (ix3 z r q) = (atSlG s (inbG2 hs)).view.read (Elt F) f (ix2 r ⟨o + q.val, by omega⟩) := by
  show f _ = f _
  refine congrArg f ?_
  show (slG.view.emb _) = slG.view.emb ((Rect.unit (s := S2x1024x2048) ![s.toNat, 0, 0] S1x1024x2048.size (inbG2 hs)).emb (Shape.reshapeEquiv _ (ix2 r ⟨o + q.val, by omega⟩)))
  refine congrArg slG.view.emb ?_
  rw [reshapeEquiv_ix2_1ab]
  funext a; apply Fin.ext
  have := z.isLt
  fin_cases a
  · show s.toNat + 1 * z.val = s.toNat + 1 * 0; omega
  · show 0 + 1 * r.val = 0 + 1 * r.val; rfl
  · show o + 1 * q.val = 0 + 1 * (o + q.val); omega
theorem tG_plane (c : Dev nD) (e : BitVec 32) (he : e.toNat < 32) (g : Cn (F := F) c hbG) (o : ℕ) (ho : o + 256 ≤ 2048) (z : Fin 1) (r : Fin 1024) (q : Fin 256) :
    tG c e he g o ho (ix3 z r q) = (atG e (inbG32 he)).view.read (Elt F) g (ix2 r ⟨o + q.val, by omega⟩) := by
  show g _ = g _
  refine congrArg g ?_
  show (hbG.view.emb _) = hbG.view.emb ((Rect.unit (s := S32x1024x2048) ![e.toNat, 0, 0] S1x1024x2048.size (inbG32 he)).emb (Shape.reshapeEquiv _ (ix2 r ⟨o + q.val, by omega⟩)))
  refine congrArg hbG.view.emb ?_
  rw [reshapeEquiv_ix2_1ab]
  funext a; apply Fin.ext
  have := z.isLt
  fin_cases a
  · show e.toNat + 1 * z.val = e.toNat + 1 * 0; omega
  · show 0 + 1 * r.val = 0 + 1 * r.val; rfl
  · show o + 1 * q.val = 0 + 1 * (o + q.val); omega
theorem sD_plane (c : Dev nD) (s : BitVec 32) (hs : s.toNat < 2) (f : Cn (F := F) c slD) (z : Fin 1) (r : Fin 1024) (q : Fin 1024) :
    sD c s hs f (ix3 z r q) = (atSlD s (inbD2 hs)).view.read (Elt F) f (ix2 r q) := by
  show f _ = f _
  refine congrArg f ?_
  show (slD.view.emb _) = slD.view.emb ((Rect.unit (s := S2x1024x1024) ![s.toNat, 0, 0] S1x1024x1024.size (inbD2 hs)).emb (Shape.reshapeEquiv _ (ix2 r q)))
  refine congrArg slD.view.emb ?_
  rw [reshapeEquiv_ix2_1ab]
  funext a; apply Fin.ext
  have := z.isLt
  fin_cases a
  · show s.toNat + 1 * z.val = s.toNat + 1 * 0; omega
  · show 0 + 1 * r.val = 0 + 1 * r.val; rfl
  · show 0 + 1 * q.val = 0 + 1 * q.val; rfl
theorem tD_plane (c : Dev nD) (e : BitVec 32) (he : e.toNat < 32) (d : Cn (F := F) c hbD) (z : Fin 1) (r : Fin 1024) (q : Fin 1024) :
    tD c e he d (ix3 z r q) = (atD e (inbD32 he)).view.read (Elt F) d (ix2 r q) := by
  show d _ = d _
  refine congrArg d ?_
  show (hbD.view.emb _) = hbD.view.emb ((Rect.unit (s := S32x1024x1024) ![e.toNat, 0, 0] S1x1024x1024.size (inbD32 he)).emb (Shape.reshapeEquiv _ (ix2 r q)))
  refine congrArg hbD.view.emb ?_
  rw [reshapeEquiv_ix2_1ab]
  funext a; apply Fin.ext
  have := z.isLt
  fin_cases a
  · show e.toNat + 1 * z.val = e.toNat + 1 * 0; omega
  · show 0 + 1 * r.val = 0 + 1 * r.val; rfl
  · show 0 + 1 * q.val = 0 + 1 * q.val; rfl

/-- A slot's tile once an expert's weights landed in it: the expert's. -/
theorem sG_land (c : Dev nD) (s e : BitVec 32) (hs : s.toNat < 2) (he : e.toNat < 32) (g : Cn (F := F) c hbG) (f : Cn (F := F) c slG) (o : ℕ) (ho : o + 256 ≤ 2048) :
    sG c s hs (landG c s e hs he g f) o ho = tG c e he g o ho := by
  funext y
  obtain ⟨z, r, q, rfl⟩ : ∃ z r q, y = ix3 z r q := ⟨y 0, y 1, y 2, by funext a; fin_cases a <;> rfl⟩
  rw [sG_plane, tG_plane, landG, View.read_write_univ]
theorem sD_land (c : Dev nD) (s e : BitVec 32) (hs : s.toNat < 2) (he : e.toNat < 32) (d : Cn (F := F) c hbD) (f : Cn (F := F) c slD) :
    sD c s hs (landD c s e hs he d f) = tD c e he d := by
  funext y
  obtain ⟨z, r, q, rfl⟩ : ∃ z r q, y = ix3 z r q := ⟨y 0, y 1, y 2, by funext a; fin_cases a <;> rfl⟩
  rw [sD_plane, tD_plane, landD, View.read_write_univ]

/-- The first four tiles of a slot are converted. -/
theorem conv_low (c : Dev nD) (i : grid0.Coords)
    (m5 : Memref sig .tc .vmem S512x1024 .f32) (h5 : m5.IsWhole) (m7 : Memref sig .tc .vmem S1x1x2048 .f32) (h7 : m7.IsWhole)
    (m9 : Memref sig .tc .vmem S1x1x1024 .f32) (h9 : m9.IsWhole) (m10 : Memref sig .tc .vmem S512x1024 .f32) (h10 : m10.IsWhole)
    (v0 : Elt F .i32) (k0_h2 : k0_cond2 i v0 = 1#1) (v9 : Elt F .i32) (v13 : Elt F .i32) (k0_h3 : k0_cond3 i v9 v13 = 1#1)
    (v207 : BitVec 32) (hs : v207.toNat < 2) (k0_hw1 : k0_chk1 i v0 v9 v13 v207) (v240 : FVec F S256x256 .bf16)
    (f11 : Cn (F := F) c slG) (f13 : Cn (F := F) c cvG) (L : List (View.Piece (Elt F) S1024x2048 .bf16)) (K : PUnit → sProp 𝕄) :
    iprop(pt c slG f11 ∗ pt c cvG (cvG.view.writes (Elt F) f13 L)
        ∗ (iprop(pt c slG f11 ∗ pt c cvG (cvG.view.writes (Elt F) f13 ([⟨Rect.unit ![0, 768] S1024x256.size inb_S1024x2048_S1024x256_0_768, k0_pay6 v240 (sG c v207 hs f11 768 (by decide))⟩, ⟨Rect.unit ![0, 512] S1024x256.size inb_S1024x2048_S1024x256_0_512, k0_pay5 v240 (sG c v207 hs f11 512 (by decide))⟩, ⟨Rect.unit ![0, 256] S1024x256.size inb_S1024x2048_S1024x256_0_256, k0_pay4 v240 (sG c v207 hs f11 256 (by decide))⟩, ⟨Rect.unit ![0, 0] S1024x256.size inb_S1024x2048_S1024x256_0_0, k0_pay3 v240 (sG c v207 hs f11 0 (by decide))⟩] ++ L))) -∗ K ⟨⟩))
      ⊢ wp frame (wpE (defs₀ (F := F)) Variants.none c none) Set.univ
          (k0_part2 i tbE (Memref.isWhole_whole _) tbN (Memref.isWhole_whole _) tbX (Memref.isWhole_whole _) tbS (Memref.isWhole_whole _)
            m5 h5 hbG (Memref.isWhole_whole _) m7 h7 hbD (Memref.isWhole_whole _) m9 h9 m10 h10 slG (Memref.isWhole_whole _)
            slD (Memref.isWhole_whole _) cvG (Memref.isWhole_whole _) cvD (Memref.isWhole_whole _) cc0_scratch4
            v0 k0_h2 v9 v13 k0_h3 v207 k0_hw1 v240) K := by
  simp only [k0_part2_eq_skeleton]; unfold k0_part2_skel
  iintro ⟨H11, H13, Hk⟩
  sl_exec
  sl_step
  iapply Hk
  isplitl [H11]; · iexact H11
  iexact H13

/-- The last four tiles of a slot are converted. -/
theorem conv_high (c : Dev nD) (i : grid0.Coords)
    (m5 : Memref sig .tc .vmem S512x1024 .f32) (h5 : m5.IsWhole) (m7 : Memref sig .tc .vmem S1x1x2048 .f32) (h7 : m7.IsWhole)
    (m9 : Memref sig .tc .vmem S1x1x1024 .f32) (h9 : m9.IsWhole) (m10 : Memref sig .tc .vmem S512x1024 .f32) (h10 : m10.IsWhole)
    (v0 : Elt F .i32) (k0_h2 : k0_cond2 i v0 = 1#1) (v9 : Elt F .i32) (v13 : Elt F .i32) (k0_h3 : k0_cond3 i v9 v13 = 1#1)
    (v207 : BitVec 32) (hs : v207.toNat < 2) (k0_hw1 : k0_chk1 i v0 v9 v13 v207) (v240 : FVec F S256x256 .bf16)
    (f11 : Cn (F := F) c slG) (f13 : Cn (F := F) c cvG) (L : List (View.Piece (Elt F) S1024x2048 .bf16)) (K : PUnit → sProp 𝕄) :
    iprop(pt c slG f11 ∗ pt c cvG (cvG.view.writes (Elt F) f13 L)
        ∗ (iprop(pt c slG f11 ∗ pt c cvG (cvG.view.writes (Elt F) f13 ([⟨Rect.unit ![0, 1792] S1024x256.size inb_S1024x2048_S1024x256_0_1792, k0_pay10 v240 (sG c v207 hs f11 1792 (by decide))⟩, ⟨Rect.unit ![0, 1536] S1024x256.size inb_S1024x2048_S1024x256_0_1536, k0_pay9 v240 (sG c v207 hs f11 1536 (by decide))⟩, ⟨Rect.unit ![0, 1280] S1024x256.size inb_S1024x2048_S1024x256_0_1280, k0_pay8 v240 (sG c v207 hs f11 1280 (by decide))⟩, ⟨Rect.unit ![0, 1024] S1024x256.size inb_S1024x2048_S1024x256_0_1024, k0_pay7 v240 (sG c v207 hs f11 1024 (by decide))⟩] ++ L))) -∗ K ⟨⟩))
      ⊢ wp frame (wpE (defs₀ (F := F)) Variants.none c none) Set.univ
          (k0_part3 i tbE (Memref.isWhole_whole _) tbN (Memref.isWhole_whole _) tbX (Memref.isWhole_whole _) tbS (Memref.isWhole_whole _)
            m5 h5 hbG (Memref.isWhole_whole _) m7 h7 hbD (Memref.isWhole_whole _) m9 h9 m10 h10 slG (Memref.isWhole_whole _)
            slD (Memref.isWhole_whole _) cvG (Memref.isWhole_whole _) cvD (Memref.isWhole_whole _) cc0_scratch4
            v0 k0_h2 v9 v13 k0_h3 v207 k0_hw1 v240) K := by
  simp only [k0_part3_eq_skeleton]; unfold k0_part3_skel
  iintro ⟨H11, H13, Hk⟩
  sl_exec
  sl_step
  iapply Hk
  isplitl [H11]; · iexact H11
  iexact H13

end Cert.Moe
-- ==== Proof.Moe.Part.lean ====
module
public import proofs.«01_k».proof.Proof.Moe.Conv

@[expose] public section

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra. -/
local notation "𝕄" => MT nD τ sig Unit (Elt F) ℕ (Pipeline.UD sig nD τ) ℕ

/-- The weights landed in slot `s`: the slot buffers, the slot's cell at zero, the weights in HBM. -/
abbrev Landed (c : Dev nD) (s e : BitVec 32) (hs : s.toNat < 2) (he : e.toNat < 32) (g : Cn (F := F) c hbG) (d : Cn (F := F) c hbD) : sProp 𝕄 :=
  iprop(semVal ((c : Thread nD τ), cellAt s (inbC hs)) 0
    ∗ (∃ f11, pt c slG (landG c s e hs he g f11)) ∗ (∃ f12, pt c slD (landD c s e hs he d f12)) ∗ pt c hbG g ∗ pt c hbD d)

/-- Nothing in flight: the slot buffers at anything, the slot's cell at zero, the weights in HBM. -/
abbrev Still (c : Dev nD) (s : BitVec 32) (hs : s.toNat < 2) (g : Cn (F := F) c hbG) (d : Cn (F := F) c hbD) : sProp 𝕄 :=
  iprop(semVal ((c : Thread nD τ), cellAt s (inbC hs)) 0 ∗ (∃ f11, pt c slG f11) ∗ (∃ f12, pt c slD f12) ∗ pt c hbG g ∗ pt c hbD d)

/-- Expert `e`'s weights in flight to slot `s`: the batch, and the rest of the weights in HBM. -/
abbrev Flying (c : Dev nD) (s e : BitVec 32) (hs : s.toNat < 2) (he : e.toNat < 32) (g : Cn (F := F) c hbG) (d : Cn (F := F) c hbD) : sProp 𝕄 :=
  iprop(∃ f11 f12, batch c s e hs he g d f11 f12 2 0
    ∗ (hbG.view.loc (c : Thread nD τ) ↦[Finset.univ \ (atG e (inbG32 he)).view.set]{fullShare} g)
    ∗ (hbD.view.loc (c : Thread nD τ) ↦[Finset.univ \ (atD e (inbD32 he)).view.set]{fullShare} d))

/-- What a change of expert leaves of the slots: the next expert's weights in flight to slot `s`, if there is a next. -/
def Ahead (c : Dev nD) (s nx : BitVec 32) (hs : s.toNat < 2) (hnx : k0_cond5 nx = 1#1 → nx.toNat < 32) (g : Cn (F := F) c hbG) (d : Cn (F := F) c hbD) : sProp 𝕄 :=
  if h : k0_cond5 nx = 1#1 then Flying c s nx hs (hnx h) g d else Still c s hs g d

/-- The converted weights of expert `e`. -/
abbrev Conv (c : Dev nD) (e : BitVec 32) (he : e.toNat < 32) (g : Cn (F := F) c hbG) (d : Cn (F := F) c hbD) : sProp 𝕄 :=
  iprop((∃ f13, pt c cvG (cvG.view.writes (Elt F) f13 (pcsG (k0_pay2 (F := F)) (tG c e he g)))) ∗ (∃ f14, pt c cvD (cvD.view.writes (Elt F) f14 (pcsD (tD c e he d)))))

theorem inbTc {o : ℕ} (ho : o + 256 ≤ 2048) : ∀ a, (![0, o] : Fin 2 → ℕ) a + S1024x256.size a ≤ S1024x2048.size a := by
  intro a; fin_cases a
  · show 0 + 1024 ≤ 1024; omega
  · show o + 256 ≤ 2048; omega
/-- A column tile of the converted gate-and-up weights of expert `e`, and its converted down weights, as loads. -/
abbrev rG (c : Dev nD) (e : BitVec 32) (he : e.toNat < 32) (g : Cn (F := F) c hbG) (o : ℕ) (ho : o + 256 ≤ 2048) : Vec F S1024x256 .bf16 :=
  cvG.view.readCov (Val := Elt F) (pcsG (k0_pay2 (F := F)) (tG c e he g)) (Rect.unit (s := S1024x2048) ![0, o] S1024x256.size (inbTc ho)).toLoadRect
abbrev rD (c : Dev nD) (e : BitVec 32) (he : e.toNat < 32) (d : Cn (F := F) c hbD) : Vec F S1024x1024 .bf16 :=
  cvD.view.readCov (Val := Elt F) (pcsD (tD c e he d)) (Rect.unit (s := S1024x1024) ![0, 0] S1024x1024.size inb_S1024x1024_S1024x1024_0_0).toLoadRect

/-- A block that changes the expert, up to the first loads of the product: `Pre` are the slots' resources the weights land from. -/
theorem part4_change (c : Dev nD) (i : grid0.Coords)
    (m5 : Memref sig .tc .vmem S512x1024 .f32) (h5 : m5.IsWhole) (m7 : Memref sig .tc .vmem S1x1x2048 .f32) (h7 : m7.IsWhole)
    (m9 : Memref sig .tc .vmem S1x1x1024 .f32) (h9 : m9.IsWhole) (m10 : Memref sig .tc .vmem S512x1024 .f32) (h10 : m10.IsWhole)
    (v0 : Elt F .i32) (k0_h2 : k0_cond2 i v0 = 1#1) (v9 : Elt F .i32) (v13 : Elt F .i32) (k0_h3 : k0_cond3 i v9 v13 = 1#1)
    (TE : Cn (F := F) c tbE) (TS : Cn (F := F) c tbS) (TX : Cn (F := F) c tbX) (s e nx : BitVec 32) (hs : s.toNat < 2) (hs' : (1#32 - s).toNat < 2) (he : e.toNat < 32)
    (h9' : v9 = wd c tbE (k0_off2 i) (k0_off2_inb i) TE) (h13' : v13 = wd c tbE (k0_off3 i) (k0_off3_inb i) TE)
    (hX : nx = wd c tbX (k0_off25 i) (k0_off25_inb i) TX) (hnx : k0_cond5 nx = 1#1 → nx.toNat < 32)
    (hchk1 : k0_chk1 i v0 v9 v13 s) (hchk3 : k0_chk3 i v0 v9 v13 s nx)
    (g : Cn (F := F) c hbG) (d : Cn (F := F) c hbD) (Pre : sProp 𝕄) (W : Waits sig Unit)
    (Hland : ∀ K : (Σ' (v207 : Elt F .i32) (k0_hw1 : k0_chk1 i v0 v9 v13 v207), FVec F S256x256 .bf16) → sProp 𝕄,
      iprop(Pre ∗ ptH c tbE TE ∗ ptH c tbS TS ∗ owes (c : Thread nD τ) 0 W
        ∗ (iprop(Landed c s e hs he g d ∗ ptH c tbE TE ∗ ptH c tbS TS ∗ (∃ W', owes (c : Thread nD τ) 0 W')) -∗ K ⟨s, hchk1, k0_pay2 (F := F)⟩))
      ⊢ wp frame (wpE (defs₀ (F := F)) Variants.none c none) Set.univ
          (k0_part1 i tbE (Memref.isWhole_whole _) tbN (Memref.isWhole_whole _) tbX (Memref.isWhole_whole _) tbS (Memref.isWhole_whole _)
            m5 h5 hbG (Memref.isWhole_whole _) m7 h7 hbD (Memref.isWhole_whole _) m9 h9 m10 h10 slG (Memref.isWhole_whole _)
            slD (Memref.isWhole_whole _) cvG (Memref.isWhole_whole _) cvD (Memref.isWhole_whole _) cc0_scratch4
            (BitVec.ofNat 32 (i 0).val) v0 k0_h2 v9 v13 k0_h3) K)
    (f5 : Cn (F := F) c m5) (f7 : Cn (F := F) c m7)
    (K : (Σ' (v19 : FVec F S512x1024 .bf16) (v41 : FVec F S512x128 .bf16), FVec F S512x256 .f32) → sProp 𝕄) :
    iprop(Pre ∗ semVal ((c : Thread nD τ), cellAt (1#32 - s) (inbC hs')) 0
        ∗ ptH c tbE TE ∗ ptH c tbS TS ∗ ptH c tbX TX ∗ owes (c : Thread nD τ) 0 W
        ∗ (∃ f13, pt c cvG f13) ∗ (∃ f14, pt c cvD f14)
        ∗ (m5.view.loc (c : Thread nD τ) ↦[m5.view.set]{fullShare} f5) ∗ (m7.view.loc (c : Thread nD τ) ↦[m7.view.set]{fullShare} f7)
        ∗ (iprop(Ahead c (1#32 - s) nx hs' hnx g d ∗ semVal ((c : Thread nD τ), cellAt s (inbC hs)) 0 ∗ Conv c e he g d
            ∗ ptH c tbE TE ∗ ptH c tbS TS ∗ ptH c tbX TX ∗ (∃ W', owes (c : Thread nD τ) 0 W')
            ∗ (m5.view.loc (c : Thread nD τ) ↦[m5.view.set]{fullShare} f5) ∗ (m7.view.loc (c : Thread nD τ) ↦[m7.view.set]{fullShare} f7))
            -∗ K ⟨k0_pay12 (View.readAt (Elt F) m5.view (Rect.unit (s := S512x1024) ![0, 0] S512x1024.size inb_S512x1024_S512x1024_0_0).toLoadRect f5),
              k0_pay13 (View.readAt (Elt F) m5.view (Rect.unit (s := S512x1024) ![0, 0] S512x1024.size inb_S512x1024_S512x1024_0_0).toLoadRect f5)
                (rG c e he g 0 (by decide))
                (View.readAt (Elt F) m7.view (Rect.unit (s := S1x1x2048) ![0, 0, 0] S1x1x256.size inb_S1x1x2048_S1x1x256_0_0_0).toLoadRect f7),
              k0_pay14 (View.readAt (Elt F) m5.view (Rect.unit (s := S512x1024) ![0, 0] S512x1024.size inb_S512x1024_S512x1024_0_0).toLoadRect f5)
                (rG c e he g 256 (by decide))⟩))
      ⊢ wp frame (wpE (defs₀ (F := F)) Variants.none c none) Set.univ
          (k0_part4 i tbE (Memref.isWhole_whole _) tbN (Memref.isWhole_whole _) tbX (Memref.isWhole_whole _) tbS (Memref.isWhole_whole _)
            m5 h5 hbG (Memref.isWhole_whole _) m7 h7 hbD (Memref.isWhole_whole _) m9 h9 m10 h10 slG (Memref.isWhole_whole _)
            slD (Memref.isWhole_whole _) cvG (Memref.isWhole_whole _) cvD (Memref.isWhole_whole _) cc0_scratch4
            (BitVec.ofNat 32 (i 0).val) v0 k0_h2) K := by
  simp only [k0_part4_eq_skeleton]; unfold k0_part4_skel
  iintro ⟨HP, HC', HE, HS, HX, HW, ⟨%f13, H13⟩, ⟨%f14, H14⟩, H5, H7, Hk⟩
  unfold smemLoad
  rw [smemLoadElt_bind]
  named_smem HE v9 h9'
  rw [Prog.bind_ret]
  rw [smemLoadElt_bind]
  named_smem HE v13 h13'
  rw [Prog.bind_ret]
  rw [dif_pos k0_h3]
  rw [wp_bind]
  iapply (Hland _) $$ [HP HE HS HW Hk HC' HX H13 H14 H5 H7]
  isplitl [HP]; · iexact HP
  isplitl [HE]; · iexact HE
  isplitl [HS]; · iexact HS
  isplitl [HW]; · iexact HW
  iintro ⟨⟨HC, ⟨%f11, H11⟩, ⟨%f12, H12⟩, HG, HD⟩, HE, HS, ⟨%W', HW⟩⟩
  dsimp only
  have hG11 := sG_land c s e hs he g f11
  have hD12 := sD_land c s e hs he d f12
  generalize landG c s e hs he g f11 = F11 at hG11 ⊢
  generalize landD c s e hs he d f12 = F12 at hD12 ⊢
  rw [wp_bind]
  iapply (conv_low c i m5 h5 m7 h7 m9 h9 m10 h10 v0 k0_h2 v9 v13 k0_h3 s hs hchk1 (k0_pay2 (F := F)) F11 f13 [])
  isplitl [H11]; · iexact H11
  isplitl [H13]; · iexact H13
  iintro ⟨H11, H13⟩
  rw [wp_bind]
  iapply (conv_high c i m5 h5 m7 h7 m9 h9 m10 h10 v0 k0_h2 v9 v13 k0_h3 s hs hchk1 (k0_pay2 (F := F)) F11 f13 _)
  isplitl [H11]; · iexact H11
  isplitl [H13]; · iexact H13
  iintro ⟨H11, H13⟩
  simp only [hG11, List.cons_append, List.nil_append]
  rw [Prog.bind_lift]
  sl_step
  rw [Prog.bind_lift]
  sl_step
  rw [Prog.bind_lift]
  sl_step
  ihave H12 := (show pt c slD F12 ⊢ pt c slD F12 from .rfl) $$ H12
  rw [smemLoadElt_bind]
  named_smem HX nx hX
  rw [Prog.bind_ret, Prog.bind_lift]
  iapply (wp_assume _ _ _ _ hchk3)
  dsimp only
  unfold Ahead
  by_cases h5' : k0_cond5 nx = 1#1
  · rw [dif_pos h5', dif_pos h5']
    imod (Transfers.mixedBatch_alloc' (Lvl := ℕ) (countersEmb (U := Pipeline.UD sig nD τ)) (c : Thread nD τ) () amts
      (deliv c (1#32 - s) nx hs' (hnx h5') g d F11 F12) (sm := cellAt (1#32 - s) (inbC hs')) (E := Set.univ)) $$ HC' with HB
    unfold deliv
    sl_exec
    sl_step
    unfold part4_change.sl.v20 part4_change.sl.v42
    iapply Hk
    isplitl [HB HG HD]
    · iexists F11, F12
      isplitl [HB]; · unfold batch deliv; iexact HB
      isplitl [HG]; · iexact HG
      iexact HD
    isplitl [HC]; · iexact HC
    isplitl [H13 H14]
    · isplitl [H13]; · iexists _; iexact H13
      iexists f14
      rw [← hD12]
      iexact H14
    isplitl [HE]; · iexact HE
    isplitl [HS]; · iexact HS
    isplitl [HX]; · iexact HX
    isplitl [HW]; · iexists _; iexact HW
    isplitl [H5]; · iexact H5
    iexact H7
  · rw [dif_neg h5', dif_neg h5']
    sl_exec
    sl_step
    unfold part4_change.sl.v20_1 part4_change.sl.v42_1
    iapply Hk
    isplitl [HC' H11 H12 HG HD]
    · isplitl [HC']; · iexact HC'
      isplitl [H11]; · iexists _; iexact H11
      isplitl [H12]; · iexists _; iexact H12
      isplitl [HG]; · iexact HG
      iexact HD
    isplitl [HC]; · iexact HC
    isplitl [H13 H14]
    · isplitl [H13]; · iexists _; iexact H13
      iexists f14
      rw [← hD12]
      iexact H14
    isplitl [HE]; · iexact HE
    isplitl [HS]; · iexact HS
    isplitl [HX]; · iexact HX
    isplitl [HW]; · iexists _; iexact HW
    isplitl [H5]; · iexact H5
    iexact H7

/-- A block that keeps the expert, up to the first loads of the product. -/
theorem part4_same (c : Dev nD) (i : grid0.Coords)
    (m5 : Memref sig .tc .vmem S512x1024 .f32) (h5 : m5.IsWhole) (m7 : Memref sig .tc .vmem S1x1x2048 .f32) (h7 : m7.IsWhole)
    (m9 : Memref sig .tc .vmem S1x1x1024 .f32) (h9 : m9.IsWhole) (m10 : Memref sig .tc .vmem S512x1024 .f32) (h10 : m10.IsWhole)
    (v0 : Elt F .i32) (k0_h2 : k0_cond2 i v0 = 1#1) (v9 : Elt F .i32) (v13 : Elt F .i32) (k0_h3 : ¬ k0_cond3 i v9 v13 = 1#1)
    (TE : Cn (F := F) c tbE) (e : BitVec 32) (he : e.toNat < 32)
    (h9' : v9 = wd c tbE (k0_off2 i) (k0_off2_inb i) TE) (h13' : v13 = wd c tbE (k0_off3 i) (k0_off3_inb i) TE)
    (g : Cn (F := F) c hbG) (d : Cn (F := F) c hbD)
    (f5 : Cn (F := F) c m5) (f7 : Cn (F := F) c m7)
    (K : (Σ' (v19 : FVec F S512x1024 .bf16) (v41 : FVec F S512x128 .bf16), FVec F S512x256 .f32) → sProp 𝕄) :
    iprop(Conv c e he g d ∗ ptH c tbE TE
        ∗ (m5.view.loc (c : Thread nD τ) ↦[m5.view.set]{fullShare} f5) ∗ (m7.view.loc (c : Thread nD τ) ↦[m7.view.set]{fullShare} f7)
        ∗ (iprop(Conv c e he g d ∗ ptH c tbE TE
            ∗ (m5.view.loc (c : Thread nD τ) ↦[m5.view.set]{fullShare} f5) ∗ (m7.view.loc (c : Thread nD τ) ↦[m7.view.set]{fullShare} f7))
            -∗ K ⟨k0_pay12 (View.readAt (Elt F) m5.view (Rect.unit (s := S512x1024) ![0, 0] S512x1024.size inb_S512x1024_S512x1024_0_0).toLoadRect f5),
              k0_pay13 (View.readAt (Elt F) m5.view (Rect.unit (s := S512x1024) ![0, 0] S512x1024.size inb_S512x1024_S512x1024_0_0).toLoadRect f5)
                (rG c e he g 0 (by decide))
                (View.readAt (Elt F) m7.view (Rect.unit (s := S1x1x2048) ![0, 0, 0] S1x1x256.size inb_S1x1x2048_S1x1x256_0_0_0).toLoadRect f7),
              k0_pay14 (View.readAt (Elt F) m5.view (Rect.unit (s := S512x1024) ![0, 0] S512x1024.size inb_S512x1024_S512x1024_0_0).toLoadRect f5)
                (rG c e he g 256 (by decide))⟩))
      ⊢ wp frame (wpE (defs₀ (F := F)) Variants.none c none) Set.univ
          (k0_part4 i tbE (Memref.isWhole_whole _) tbN (Memref.isWhole_whole _) tbX (Memref.isWhole_whole _) tbS (Memref.isWhole_whole _)
            m5 h5 hbG (Memref.isWhole_whole _) m7 h7 hbD (Memref.isWhole_whole _) m9 h9 m10 h10 slG (Memref.isWhole_whole _)
            slD (Memref.isWhole_whole _) cvG (Memref.isWhole_whole _) cvD (Memref.isWhole_whole _) cc0_scratch4
            (BitVec.ofNat 32 (i 0).val) v0 k0_h2) K := by
  simp only [k0_part4_eq_skeleton]; unfold k0_part4_skel
  iintro ⟨⟨⟨%f13, H13⟩, H14⟩, HE, H5, H7, Hk⟩
  unfold smemLoad
  rw [smemLoadElt_bind]
  named_smem HE v9 h9'
  rw [Prog.bind_ret]
  rw [smemLoadElt_bind]
  named_smem HE v13 h13'
  rw [Prog.bind_ret]
  rw [dif_neg k0_h3]
  sl_exec
  sl_step
  unfold part4_same.sl.v20 part4_same.sl.v42
  iapply Hk
  isplitl [H13 H14]
  · isplitl [H13]; · iexists _; iexact H13
    iexact H14
  isplitl [HE]; · iexact HE
  isplitl [H5]; · iexact H5
  iexact H7

end Cert.Moe
-- ==== Proof.Moe.Body.lean ====
module
public import proofs.«01_k».proof.Proof.Moe.Part
public import Idealize.ShloMosaic.Lib.VecWindow

@[expose] public section

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra. -/
local notation "𝕄" => MT nD τ sig Unit (Elt F) ℕ (Pipeline.UD sig nD τ) ℕ

/-- A column tile of the first bias as the product's epilogue loads it. -/
theorem inbTb {o : ℕ} (ho : o + 256 ≤ 2048) : ∀ a, (![0, 0, o] : Fin 3 → ℕ) a + S1x1x256.size a ≤ S1x1x2048.size a := by
  intro a; fin_cases a
  · show 0 + 1 ≤ 1; omega
  · show 0 + 1 ≤ 1; omega
  · show o + 256 ≤ 2048; omega
abbrev bT (b : Vec F S1x1x2048 .f32) (o : ℕ) (ho : o + 256 ≤ 2048) : Vec F S1x1x256 .f32 :=
  View.ld b (Rect.unit (s := S1x1x2048) ![0, 0, o] S1x1x256.size (inbTb ho))

/-- What a block in use computes from its rows, the converted weights' tiles and the biases. -/
def yBlk (x : Vec F S512x1024 .f32) (w : (o : ℕ) → o + 256 ≤ 2048 → Vec F S1024x256 .bf16) (w2 : Vec F S1024x1024 .bf16)
    (b : Vec F S1x1x2048 .f32) (b2 : Vec F S1x1x1024 .f32) : FVec F S512x1024 .f32 :=
  have x' : Vec F S512x1024 .f32 := View.ld x (Rect.unit (s := S512x1024) ![0, 0] S512x1024.size inb_S512x1024_S512x1024_0_0)
  k0_pay27 (k0_pay12 x') (k0_pay13 x' (w 0 (by decide)) (bT b 0 (by decide)))
    (k0_pay15 (k0_pay14 x' (w 256 (by decide))) (bT b 256 (by decide)))
    (k0_pay16 (k0_pay12 x') (w 512 (by decide)) (bT b 512 (by decide)))
    (k0_pay17 (k0_pay12 x') (w 768 (by decide)) (bT b 768 (by decide)))
    (k0_pay21 (k0_pay19 (k0_pay12 x') (w 1024 (by decide)) (bT b 1024 (by decide))) (k0_pay20 (k0_pay12 x') (w 1024 (by decide)) (bT b 1024 (by decide))))
    (k0_pay22 (k0_pay12 x') (w 1280 (by decide)) (bT b 1280 (by decide)))
    (k0_pay24 (k0_pay12 x') (w 1536 (by decide)) (bT b 1536 (by decide)))
    (k0_pay25 (k0_pay12 x') (w 1536 (by decide)) (bT b 1536 (by decide)))
    (k0_pay26 (F := F)) (w 1792 (by decide)) (bT b 1792 (by decide)) w2
    (View.ld b2 (Rect.unit (s := S1x1x1024) ![0, 0, 0] S1x1x1024.size inb_S1x1x1024_S1x1x1024_0_0_0))

/-- The body on a staged block, its tables, weights and scratch. -/
abbrev theBody (i : grid0.Coords)
    (m5 : Memref sig .tc .vmem S512x1024 .f32) (h5 : m5.IsWhole) (m7 : Memref sig .tc .vmem S1x1x2048 .f32) (h7 : m7.IsWhole)
    (m9 : Memref sig .tc .vmem S1x1x1024 .f32) (h9 : m9.IsWhole) (m10 : Memref sig .tc .vmem S512x1024 .f32) (h10 : m10.IsWhole) :
    Prog (TpuEff nD τ sig (Elt F) Λ₀ .tc) PUnit :=
  cc0_moe i tbE (Memref.isWhole_whole _) tbN (Memref.isWhole_whole _) tbX (Memref.isWhole_whole _) tbS (Memref.isWhole_whole _)
    m5 h5 hbG (Memref.isWhole_whole _) m7 h7 hbD (Memref.isWhole_whole _) m9 h9 m10 h10 slG (Memref.isWhole_whole _)
    slD (Memref.isWhole_whole _) cvG (Memref.isWhole_whole _) cvD (Memref.isWhole_whole _) cc0_scratch4

/-- A block past the used ones: the result's block is zeros. -/
theorem body_idle (c : Dev nD) (i : grid0.Coords)
    (m5 : Memref sig .tc .vmem S512x1024 .f32) (h5 : m5.IsWhole) (m7 : Memref sig .tc .vmem S1x1x2048 .f32) (h7 : m7.IsWhole)
    (m9 : Memref sig .tc .vmem S1x1x1024 .f32) (h9 : m9.IsWhole) (m10 : Memref sig .tc .vmem S512x1024 .f32) (h10 : m10.IsWhole)
    (TN : Cn (F := F) c tbN) (v0 : BitVec 32) (hN : v0 = wd c tbN ![0] inb_S1_S1_0 TN)
    (k0_h1 : k0_cond1 i v0 = 1#1) (k0_h2 : ¬ k0_cond2 i v0 = 1#1) (K : PUnit → sProp 𝕄) :
    iprop(ptH c tbN TN ∗ (∃ d, owns (c : Thread nD τ) m10 fullShare d)
        ∗ (iprop(ptH c tbN TN ∗ owns (c : Thread nD τ) m10 fullShare (k0_pay1 (F := F))) -∗ K ⟨⟩))
      ⊢ wp frame (wpE (defs₀ (F := F)) Variants.none c none) Set.univ (theBody i m5 h5 m7 h7 m9 h9 m10 h10) K := by
  unfold theBody; rw [cc0_moe_eq_skeleton]; unfold cc0_moe_skel
  unfold owns
  iintro ⟨HN, ⟨%d, %f10, -, H10⟩, Hk⟩
  unfold smemLoad
  rw [smemLoadElt_bind]
  named_smem HN v0 hN
  rw [Prog.bind_ret]
  rw [dif_pos k0_h1, dif_neg k0_h2]
  sl_exec
  sl_step
  iapply Hk
  isplitl [HN]; · iexact HN
  iexists _; isplitr
  swap; · iexact H10
  ipureintro
  exact View.read_writes_full _ _ _ _ _

/-- A block in use: the result's block is `yBlk`. -/
theorem body_used (c : Dev nD) (i : grid0.Coords)
    (m5 : Memref sig .tc .vmem S512x1024 .f32) (h5 : m5.IsWhole) (m7 : Memref sig .tc .vmem S1x1x2048 .f32) (h7 : m7.IsWhole)
    (m9 : Memref sig .tc .vmem S1x1x1024 .f32) (h9 : m9.IsWhole) (m10 : Memref sig .tc .vmem S512x1024 .f32) (h10 : m10.IsWhole)
    (TN : Cn (F := F) c tbN) (v0 : BitVec 32) (hN : v0 = wd c tbN ![0] inb_S1_S1_0 TN)
    (k0_h1 : ¬ k0_cond1 i v0 = 1#1) (k0_h2 : k0_cond2 i v0 = 1#1)
    (e : BitVec 32) (he : e.toNat < 32) (g : Cn (F := F) c hbG) (d : Cn (F := F) c hbD) (P Q : sProp 𝕄)
    (H4 : ∀ (f5 : Cn (F := F) c m5) (f7 : Cn (F := F) c m7) (K : (Σ' (v19 : FVec F S512x1024 .bf16) (v41 : FVec F S512x128 .bf16), FVec F S512x256 .f32) → sProp 𝕄),
      iprop(P ∗ (m5.view.loc (c : Thread nD τ) ↦[m5.view.set]{fullShare} f5) ∗ (m7.view.loc (c : Thread nD τ) ↦[m7.view.set]{fullShare} f7)
        ∗ (iprop(Q ∗ Conv c e he g d
            ∗ (m5.view.loc (c : Thread nD τ) ↦[m5.view.set]{fullShare} f5) ∗ (m7.view.loc (c : Thread nD τ) ↦[m7.view.set]{fullShare} f7))
            -∗ K ⟨k0_pay12 (View.readAt (Elt F) m5.view (Rect.unit (s := S512x1024) ![0, 0] S512x1024.size inb_S512x1024_S512x1024_0_0).toLoadRect f5),
              k0_pay13 (View.readAt (Elt F) m5.view (Rect.unit (s := S512x1024) ![0, 0] S512x1024.size inb_S512x1024_S512x1024_0_0).toLoadRect f5)
                (rG c e he g 0 (by decide))
                (View.readAt (Elt F) m7.view (Rect.unit (s := S1x1x2048) ![0, 0, 0] S1x1x256.size inb_S1x1x2048_S1x1x256_0_0_0).toLoadRect f7),
              k0_pay14 (View.readAt (Elt F) m5.view (Rect.unit (s := S512x1024) ![0, 0] S512x1024.size inb_S512x1024_S512x1024_0_0).toLoadRect f5)
                (rG c e he g 256 (by decide))⟩))
      ⊢ wp frame (wpE (defs₀ (F := F)) Variants.none c none) Set.univ
          (k0_part4 i tbE (Memref.isWhole_whole _) tbN (Memref.isWhole_whole _) tbX (Memref.isWhole_whole _) tbS (Memref.isWhole_whole _)
            m5 h5 hbG (Memref.isWhole_whole _) m7 h7 hbD (Memref.isWhole_whole _) m9 h9 m10 h10 slG (Memref.isWhole_whole _)
            slD (Memref.isWhole_whole _) cvG (Memref.isWhole_whole _) cvD (Memref.isWhole_whole _) cc0_scratch4
            (BitVec.ofNat 32 (i 0).val) v0 k0_h2) K)
    (x : Vec F S512x1024 .f32) (b : Vec F S1x1x2048 .f32) (b2 : Vec F S1x1x1024 .f32) (K : PUnit → sProp 𝕄) :
    iprop(P ∗ ptH c tbN TN ∗ owns (c : Thread nD τ) m5 fullShare x ∗ owns (c : Thread nD τ) m7 fullShare b
        ∗ owns (c : Thread nD τ) m9 fullShare b2 ∗ (∃ d, owns (c : Thread nD τ) m10 fullShare d)
        ∗ (iprop(Q ∗ Conv c e he g d ∗ ptH c tbN TN ∗ owns (c : Thread nD τ) m5 fullShare x ∗ owns (c : Thread nD τ) m7 fullShare b
            ∗ owns (c : Thread nD τ) m9 fullShare b2
            ∗ owns (c : Thread nD τ) m10 fullShare (yBlk x (rG c e he g) (rD c e he d) b b2)) -∗ K ⟨⟩))
      ⊢ wp frame (wpE (defs₀ (F := F)) Variants.none c none) Set.univ (theBody i m5 h5 m7 h7 m9 h9 m10 h10) K := by
  unfold theBody; rw [cc0_moe_eq_skeleton]; unfold cc0_moe_skel
  simp only [k0_part5_eq_skeleton, k0_part6_eq_skeleton, k0_part7_eq_skeleton, k0_part8_eq_skeleton]
  unfold k0_part5_skel k0_part6_skel k0_part7_skel k0_part8_skel
  unfold owns
  iintro ⟨HP, HN, ⟨%f5, %r5, H5⟩, ⟨%f7, %r7, H7⟩, ⟨%f9, %r9, H9⟩, ⟨%d0, %f10, -, H10⟩, Hk⟩
  subst r5; subst r7; subst r9
  unfold smemLoad
  rw [smemLoadElt_bind]
  named_smem HN v0 hN
  rw [Prog.bind_ret]
  rw [dif_neg k0_h1, dif_pos k0_h2]
  rw [wp_bind]
  iapply (H4 f5 f7 _) $$ [HP HN H5 H7 H9 H10 Hk]
  isplitl [HP]; · iexact HP
  isplitl [H5]; · iexact H5
  isplitl [H7]; · iexact H7
  iintro ⟨HQ, ⟨⟨%f13, H13⟩, ⟨%f14, H14⟩⟩, H5, H7⟩
  dsimp only
  sl_exec
  sl_step
  iapply Hk
  isplitl [HQ]; · iexact HQ
  isplitl [H13 H14]
  · isplitl [H13]; · iexists _; iexact H13
    iexists _; iexact H14
  isplitl [HN]; · iexact HN
  isplitl [H5]
  · iexists _; isplitr; swap; · iexact H5
    ipureintro; rfl
  isplitl [H7]
  · iexists _; isplitr; swap; · iexact H7
    ipureintro; rfl
  isplitl [H9]
  · iexists _; isplitr; swap; · iexact H9
    ipureintro; rfl
  iexists _; isplitr
  swap; · iexact H10
  ipureintro
  refine (View.read_writes_full _ _ _ _ _).trans ?_
  unfold body_used.sl.v64 body_used.sl.v86 body_used.sl.v108 body_used.sl.v130 body_used.sl.v152 body_used.sl.v174 body_used.sl.v197
  rfl

end Cert.Moe
-- ==== Proof.Moe.Step.lean ====
module
public import proofs.«01_k».proof.Proof.Moe.Body

@[expose] public section

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra. -/
local notation "𝕄" => MT nD τ sig Unit (Elt F) ℕ (Pipeline.UD sig nD τ) ℕ

/-! ## The tables, as functions of the block -/

/-- What the body needs of its four tables: `n` blocks in use, block `j`'s expert `be j`, the next expert `nx j` (negative when there
is none) and its slot `ws j`. -/
structure Good (n : ℕ) (be nx ws : ℕ → BitVec 32) : Prop where
  pos : 1 ≤ n
  le : n ≤ 316
  be32 : ∀ j, j < n → (be j).toNat < 32
  ws2 : ∀ j, j < n → (ws j).toNat < 2
  nx32 : ∀ j, j < n → k0_cond5 (nx j) = 1#1 → (nx j).toNat < 32
  same : ∀ j, j + 1 < n → be (j + 1) = be j → nx (j + 1) = nx j ∧ ws (j + 1) = ws j
  change : ∀ j, j + 1 < n → be (j + 1) ≠ be j → k0_cond5 (nx j) = 1#1 ∧ nx j = be (j + 1) ∧ ws (j + 1) = 1#32 - ws j
  last : ¬ k0_cond5 (nx (n - 1)) = 1#1

theorem inb316 {j : ℕ} (h : j < 316) : ∀ a, (![j] : Fin 1 → ℕ) a + S1.size a ≤ S316.size a := by
  intro a; fin_cases a
  show j + 1 ≤ 316; omega

theorem wd_congr (c : Dev nD) {n : Fin 1 → ℕ} (M : Memref sig .tc .smem ⟨1, n⟩ .i32) {off off' : Fin 1 → ℕ} (h : off = off')
    (inb : ∀ a, off a + S1.size a ≤ n a) (inb' : ∀ a, off' a + S1.size a ≤ n a) (T : Cn (F := F) c M) :
    wd c M off inb T = wd c M off' inb' T := by
  subst h; rfl

theorem sub2 {s : BitVec 32} (h : s.toNat < 2) : (1#32 - s).toNat < 2 := by
  rw [BitVec.toNat_sub]
  have : (1#32).toNat = 1 := rfl
  omega
theorem sub_sub_word (s : BitVec 32) : 1#32 - (1#32 - s) = s := by
  apply BitVec.eq_of_toNat_eq
  rw [BitVec.toNat_sub, BitVec.toNat_sub]
  have : (1#32).toNat = 1 := rfl
  omega

theorem word_val {t : ℕ} (h : t < 316) : (BitVec.ofNat 32 t).toNat = t := by
  rw [BitVec.toNat_ofNat]; omega

/-- A condition widened to a word and compared with zero is the condition. -/
theorem bit_eq (c : BitVec 1) : Scalar.cmpi .ne (Scalar.extui c : BitVec 32) 0#32 = c := by revert c; decide

section Scalars
variable (i : grid0.Coords) {t : ℕ} (hi : (i 0).val = t) (ht : t < 316)
include hi ht
theorem off2_eq : k0_off2 i = ![t] := by
  unfold k0_off2; simp only [hi, Scalar.indexCast]; rw [word_val ht]
theorem off4_eq : k0_off4 i = ![t] := by
  unfold k0_off4; simp only [hi, Scalar.indexCast]; rw [word_val ht]
theorem off25_eq : k0_off25 i = ![t] := by
  unfold k0_off25; simp only [hi, Scalar.indexCast]; rw [word_val ht]
theorem off3_eq : k0_off3 i = ![t - 1] := by
  have h : ∀ u : Fin 316, (Scalar.maxsi (Scalar.subi (BitVec.ofNat 32 u.val) 1#32) 0#32).toNat = u.val - 1 := by decide +kernel
  unfold k0_off3; simp only [hi, Scalar.indexCast]
  exact congrArg (fun v => (![v] : Fin 1 → ℕ)) (h ⟨t, ht⟩)
theorem cond1_iff {n : ℕ} (hn : n ≤ 316) : k0_cond1 i (BitVec.ofNat 32 n) = 1#1 ↔ n ≤ t := by
  unfold k0_cond1; simp only [hi]
  rw [bit_eq, show Scalar.cmpi .sge (BitVec.ofNat 32 t) (BitVec.ofNat 32 n) = _ from WordCmp.cmpi_sge_ofNat (by omega) (by omega),
    WordCmp.ofBool_decide_eq_one_iff]
theorem cond2_iff {n : ℕ} (hn : n ≤ 316) : k0_cond2 i (BitVec.ofNat 32 n) = 1#1 ↔ t < n := by
  unfold k0_cond2; simp only [hi]
  rw [bit_eq, show Scalar.cmpi .slt (BitVec.ofNat 32 t) (BitVec.ofNat 32 n) = _ from WordCmp.cmpi_slt_ofNat (by omega) (by omega),
    WordCmp.ofBool_decide_eq_one_iff]
theorem first_iff : Scalar.cmpi .eq (BitVec.ofNat 32 t) 0#32 = BitVec.ofBool (decide (t = 0)) :=
  WordCmp.cmpi_eq_ofNat (by omega) (by omega)
theorem cond4_iff : k0_cond4 i = 1#1 ↔ t = 0 := by
  unfold k0_cond4; simp only [hi]
  rw [bit_eq, first_iff i hi ht, WordCmp.ofBool_decide_eq_one_iff]
theorem cond3_iff (v w : BitVec 32) : k0_cond3 i v w = 1#1 ↔ t = 0 ∨ v ≠ w := by
  unfold k0_cond3; simp only [hi]
  rw [bit_eq, first_iff i hi ht, show Scalar.cmpi .ne v w = _ from WordCmp.cmpi_ne_eq v w]
  show IntOp.ori _ _ = 1#1 ↔ _
  rw [WordCmp.ori_ofBool, WordCmp.ofBool_eq_one_iff, Bool.or_eq_true, decide_eq_true_iff, decide_eq_true_iff]
end Scalars

theorem chk1_of (i : grid0.Coords) (v0 v9 v13 s : BitVec 32) (hs : s.toNat < 2) : k0_chk1 i v0 v9 v13 s :=
  ⟨fun _ _ _ => inbC hs, fun _ _ _ => inbG2 hs, fun _ _ _ => inbC hs, fun _ _ _ => inbD2 hs, fun _ _ => inbC hs, fun _ _ => inbG2 hs, fun _ _ => inbD2 hs,
    fun _ _ => inbT2 hs (o := 0) (by decide), fun _ _ => inbT2 hs (o := 256) (by decide), fun _ _ => inbT2 hs (o := 512) (by decide), fun _ _ => inbT2 hs (o := 768) (by decide),
    fun _ _ => inbT2 hs (o := 1024) (by decide), fun _ _ => inbT2 hs (o := 1280) (by decide), fun _ _ => inbT2 hs (o := 1536) (by decide), fun _ _ => inbT2 hs (o := 1792) (by decide),
    fun _ _ => inbD2 hs⟩
theorem chk2_of (i : grid0.Coords) (v0 v9 v13 e : BitVec 32) (he : e.toNat < 32) : k0_chk2 i v0 v9 v13 e :=
  ⟨fun _ _ _ => inbG32 he, fun _ _ _ => inbD32 he, fun _ _ => inbG32 he, fun _ _ => inbD32 he⟩
theorem chk3_of (i : grid0.Coords) (v0 v9 v13 s nx : BitVec 32) (hs : s.toNat < 2) (hnx : k0_cond5 nx = 1#1 → nx.toNat < 32) :
    k0_chk3 i v0 v9 v13 s nx :=
  ⟨fun _ _ _ => inbC (sub2 hs), fun _ _ _ => inbG2 (sub2 hs), fun _ _ h => inbG32 (hnx h), fun _ _ _ => inbD2 (sub2 hs), fun _ _ h => inbD32 (hnx h)⟩

/-! ## A block that changes the expert, whichever way the weights land -/

/-- The four tables as the pipeline holds them. -/
abbrev Tabs (c : Dev nD) (TE : Cn (F := F) c tbE) (TX : Cn (F := F) c tbX) (TS : Cn (F := F) c tbS) : sProp 𝕄 :=
  iprop(ptH c tbE TE ∗ ptH c tbS TS ∗ ptH c tbX TX)

theorem flying_of (c : Dev nD) {s s' e e' : BitVec 32} (h1 : s = s') (h2 : e = e') (hs : s.toNat < 2) (he : e.toNat < 32) (hs' : s'.toNat < 2) (he' : e'.toNat < 32)
    (g : Cn (F := F) c hbG) (d : Cn (F := F) c hbD) : Flying c s e hs he g d ⊢ Flying c s' e' hs' he' g d := by
  subst h1; subst h2; exact .rfl
theorem cell_of (c : Dev nD) {s s' : BitVec 32} (h1 : s = s') (hs : s.toNat < 2) (hs' : s'.toNat < 2) :
    (semVal ((c : Thread nD τ), cellAt s (inbC hs)) 0 : sProp 𝕄) ⊢ semVal ((c : Thread nD τ), cellAt s' (inbC hs')) 0 := by
  subst h1; exact .rfl

/-- One block of the grid that changes the expert. -/
theorem used_change (c : Dev nD) (i : grid0.Coords) {t : ℕ} (hi : (i 0).val = t) (ht : t < 316)
    (m5 : Memref sig .tc .vmem S512x1024 .f32) (h5 : m5.IsWhole) (m7 : Memref sig .tc .vmem S1x1x2048 .f32) (h7 : m7.IsWhole)
    (m9 : Memref sig .tc .vmem S1x1x1024 .f32) (h9 : m9.IsWhole) (m10 : Memref sig .tc .vmem S512x1024 .f32) (h10 : m10.IsWhole)
    (TE : Cn (F := F) c tbE) (TN : Cn (F := F) c tbN) (TX : Cn (F := F) c tbX) (TS : Cn (F := F) c tbS) {n : ℕ} (hn : n ≤ 316) (htn : t < n)
    (hN : BitVec.ofNat 32 n = wd c tbN ![0] inb_S1_S1_0 TN) (e e' s nx : BitVec 32) (he : e.toNat < 32) (hs : s.toNat < 2)
    (hnx : k0_cond5 nx = 1#1 → nx.toNat < 32)
    (hE : wd c tbE ![t] (inb316 ht) TE = e) (hE' : wd c tbE ![t - 1] (inb316 (by omega)) TE = e')
    (hX : wd c tbX ![t] (inb316 ht) TX = nx) (hS : wd c tbS ![t] (inb316 ht) TS = s)
    (h3 : t = 0 ∨ e ≠ e') (g : Cn (F := F) c hbG) (d : Cn (F := F) c hbD) (Pre : sProp 𝕄) (W : Waits sig Unit)
    (hPre : (t = 0 ∧ Pre = Still c s hs g d) ∨ (t ≠ 0 ∧ Pre = Flying c s e hs he g d))
    (x : Vec F S512x1024 .f32) (b : Vec F S1x1x2048 .f32) (b2 : Vec F S1x1x1024 .f32) (K : PUnit → sProp 𝕄) :
    iprop((Pre ∗ semVal ((c : Thread nD τ), cellAt (1#32 - s) (inbC (sub2 hs))) 0 ∗ Tabs c TE TX TS ∗ owes (c : Thread nD τ) 0 W
          ∗ (∃ f13, pt c cvG f13) ∗ (∃ f14, pt c cvD f14))
        ∗ ptH c tbN TN ∗ owns (c : Thread nD τ) m5 fullShare x ∗ owns (c : Thread nD τ) m7 fullShare b
        ∗ owns (c : Thread nD τ) m9 fullShare b2 ∗ (∃ d, owns (c : Thread nD τ) m10 fullShare d)
        ∗ (iprop((Ahead c (1#32 - s) nx (sub2 hs) hnx g d ∗ semVal ((c : Thread nD τ), cellAt s (inbC hs)) 0 ∗ Tabs c TE TX TS ∗ (∃ W', owes (c : Thread nD τ) 0 W'))
            ∗ Conv c e he g d ∗ ptH c tbN TN ∗ owns (c : Thread nD τ) m5 fullShare x ∗ owns (c : Thread nD τ) m7 fullShare b
            ∗ owns (c : Thread nD τ) m9 fullShare b2
            ∗ owns (c : Thread nD τ) m10 fullShare (yBlk x (rG c e he g) (rD c e he d) b b2)) -∗ K ⟨⟩))
      ⊢ wp frame (wpE (defs₀ (F := F)) Variants.none c none) Set.univ (theBody i m5 h5 m7 h7 m9 h9 m10 h10) K := by
  have k0_h1 : ¬ k0_cond1 i (BitVec.ofNat 32 n) = 1#1 := by rw [cond1_iff i hi ht hn]; omega
  have k0_h2 : k0_cond2 i (BitVec.ofNat 32 n) = 1#1 := by rw [cond2_iff i hi ht hn]; omega
  have k0_h3 : k0_cond3 i e e' = 1#1 := by rw [cond3_iff i hi ht]; exact h3
  have h9' : e = wd c tbE (k0_off2 i) (k0_off2_inb i) TE := hE.symm.trans (wd_congr c tbE (off2_eq i hi ht).symm _ _ TE)
  have h13' : e' = wd c tbE (k0_off3 i) (k0_off3_inb i) TE := hE'.symm.trans (wd_congr c tbE (off3_eq i hi ht).symm _ _ TE)
  have hE4 : e = wd c tbE (k0_off4 i) (k0_off4_inb i) TE := hE.symm.trans (wd_congr c tbE (off4_eq i hi ht).symm _ _ TE)
  have hS4 : s = wd c tbS (k0_off4 i) (k0_off4_inb i) TS := hS.symm.trans (wd_congr c tbS (off4_eq i hi ht).symm _ _ TS)
  have hX25 : nx = wd c tbX (k0_off25 i) (k0_off25_inb i) TX := hX.symm.trans (wd_congr c tbX (off25_eq i hi ht).symm _ _ TX)
  have hchk1 := chk1_of i (BitVec.ofNat 32 n) e e' s hs
  have hchk2 := chk2_of i (BitVec.ofNat 32 n) e e' e he
  have hchk3 := chk3_of i (BitVec.ofNat 32 n) e e' s nx hs hnx
  refine body_used c i m5 h5 m7 h7 m9 h9 m10 h10 TN (BitVec.ofNat 32 n) hN k0_h1 k0_h2 e he g d _ _ ?_ x b b2 K
  intro f5 f7 K'
  iintro ⟨⟨HP, HC', ⟨HE, HS, HX⟩, HW, H13, H14⟩, H5, H7, Hk⟩
  iapply (part4_change c i m5 h5 m7 h7 m9 h9 m10 h10 (BitVec.ofNat 32 n) k0_h2 e e' k0_h3 TE TS TX s e nx hs (sub2 hs) he h9' h13' hX25 hnx
    hchk1 hchk3 g d Pre W ?_ f5 f7 K') $$ [HP HC' HE HS HX HW H13 H14 H5 H7 Hk]
  · intro K''
    rcases hPre with ⟨h0, rfl⟩ | ⟨h0, rfl⟩
    · iintro ⟨⟨HC, ⟨%f11, H11⟩, ⟨%f12, H12⟩, HG, HD⟩, HE, HS, HW, Hk⟩
      imod (Transfers.mixedBatch_alloc' (Lvl := ℕ) (countersEmb (U := Pipeline.UD sig nD τ)) (c : Thread nD τ) () amts
        (deliv c s e hs he g d f11 f12) (sm := cellAt s (inbC hs)) (E := Set.univ)) $$ HC with HB
      iapply (land_first c i m5 h5 m7 h7 m9 h9 m10 h10 (BitVec.ofNat 32 n) k0_h2 e e' k0_h3 ((cond4_iff i hi ht).2 h0) TE TS s e hs he hE4 hS4 hchk2 hchk1 g d f11 f12 W K'')
      isplitl [HE]; · iexact HE
      isplitl [HS]; · iexact HS
      isplitl [H11]; · iexact H11
      isplitl [H12]; · iexact H12
      isplitl [HG]; · iexact HG
      isplitl [HD]; · iexact HD
      isplitl [HB]; · iexact HB
      isplitl [HW]; · iexact HW
      iintro ⟨HE, HS, HC, H11, H12, HG, HD, HW⟩
      iapply Hk
      isplitl [HC H11 H12 HG HD]
      · isplitl [HC]; · iexact HC
        isplitl [H11]; · iexists f11; iexact H11
        isplitl [H12]; · iexists f12; iexact H12
        isplitl [HG]; · iexact HG
        iexact HD
      isplitl [HE]; · iexact HE
      isplitl [HS]; · iexact HS
      iexact HW
    · iintro ⟨⟨%f11, %f12, HB, HG, HD⟩, HE, HS, HW, Hk⟩
      iapply (land_next c i m5 h5 m7 h7 m9 h9 m10 h10 (BitVec.ofNat 32 n) k0_h2 e e' k0_h3 (fun h => h0 ((cond4_iff i hi ht).1 h)) TE TS s e hs he hE4 hS4 hchk2 hchk1 g d f11 f12 W K'')
      isplitl [HE]; · iexact HE
      isplitl [HS]; · iexact HS
      isplitl [HB]; · iexact HB
      isplitl [HW]; · iexact HW
      iintro ⟨HE, HS, HC, H11, H12, HGs, HDs, HW⟩
      ihave HG := (pointsTo_split_subset (ℓ := hbG.view.loc (c : Thread nD τ)) (q := fullShare) (f := g) (Finset.subset_univ (atG e (inbG32 he)).view.set)).2 $$ [HGs HG]
      · isplitl [HGs]; · iexact HGs
        iexact HG
      ihave HD := (pointsTo_split_subset (ℓ := hbD.view.loc (c : Thread nD τ)) (q := fullShare) (f := d) (Finset.subset_univ (atD e (inbD32 he)).view.set)).2 $$ [HDs HD]
      · isplitl [HDs]; · iexact HDs
        iexact HD
      iapply Hk
      isplitl [HC H11 H12 HG HD]
      · isplitl [HC]; · iexact HC
        isplitl [H11]; · iexists f11; iexact H11
        isplitl [H12]; · iexists f12; iexact H12
        isplitl [HG]; · iexact HG
        iexact HD
      isplitl [HE]; · iexact HE
      isplitl [HS]; · iexact HS
      iexact HW
  isplitl [HP]; · iexact HP
  isplitl [HC']; · iexact HC'
  isplitl [HE]; · iexact HE
  isplitl [HS]; · iexact HS
  isplitl [HX]; · iexact HX
  isplitl [HW]; · iexact HW
  isplitl [H13]; · iexact H13
  isplitl [H14]; · iexact H14
  isplitl [H5]; · iexact H5
  isplitl [H7]; · iexact H7
  iintro ⟨HA, HC, HV, HE, HS, HX, HW, H5, H7⟩
  iapply Hk
  isplitl [HA HC HE HS HX HW]
  · isplitl [HA]; · iexact HA
    isplitl [HC]; · iexact HC
    isplitl [HE HS HX]
    · isplitl [HE]; · iexact HE
      isplitl [HS]; · iexact HS
      iexact HX
    iexact HW
  isplitl [HV]; · iexact HV
  isplitl [H5]; · iexact H5
  iexact H7

end Cert.Moe
-- ==== Proof.Moe.Nums.lean ====
module
public import proofs.«01_k».proof.Proof.Moe.Step
public import Idealize.ShloMosaic.Lib.Routing.Count
public import Idealize.ShloMosaic.Lib.Routing.FromKeys

@[expose] public section

noncomputable section

namespace Cert.Moe

open Cert.Kernel2Ideal Idealize.ShloMosaic

/-! ## The routing in numbers -/

variable (c : ℕ → ℕ)

/-- An expert's rows rounded up to whole blocks. -/
def pd (e : ℕ) : ℕ := (c e + 511) / 512 * 512
/-- Where an expert's rows end. -/
def en (e : ℕ) : ℕ := ((List.range (e + 1)).map (pd c)).sum
/-- The number of blocks used. -/
def us : ℕ := en c 31 / 512
/-- A block's expert: how many experts end by the block's start. -/
def ex (t : ℕ) : ℕ := Nat.count (fun e => en c e ≤ 512 * min t (us c - 1)) 32
/-- The first expert with rows after a given one, or 32. -/
def nxN (b : ℕ) : ℕ := (Finset.univ : Finset (Fin 32)).fold min 2147483647 (fun e => if 0 < pd c e.val ∧ b < e.val then e.val else 32)
/-- How many experts with rows there are up to a given one. -/
def slN (b : ℕ) : ℕ := Nat.count (fun e => 0 < pd c e ∧ e ≤ b) 32

/-- Counts that fit the rows there are, at least one of them. -/
structure Cnt : Prop where
  le : ∀ e, e < 32 → c e ≤ 145408
  sum : ((List.range 32).map c).sum ≤ 145408
  pos : 1 ≤ ((List.range 32).map c).sum

theorem en_succ (e : ℕ) : en c (e + 1) = en c e + pd c (e + 1) := by
  unfold en; rw [List.range_succ, List.map_append, List.sum_append]; simp

theorem dvd_en (e : ℕ) : 512 ∣ en c e := by
  induction e with
  | zero => exact ⟨(c 0 + 511) / 512, by simp [en, pd, Nat.mul_comm]⟩
  | succ e ih => rw [en_succ]; exact Nat.dvd_add ih ⟨_, Nat.mul_comm _ _⟩

theorem en_mono {a b : ℕ} (h : a ≤ b) : en c a ≤ en c b := by
  induction h with
  | refl => exact le_rfl
  | step h ih => rw [en_succ]; omega

theorem us_mul : 512 * us c = en c 31 := Nat.mul_div_cancel' (dvd_en c 31)

theorem sum_pd (k : ℕ) : ((List.range k).map c).sum ≤ ((List.range k).map (pd c)).sum
    ∧ ((List.range k).map (pd c)).sum ≤ ((List.range k).map c).sum + k * 511 := by
  induction k with
  | zero => simp
  | succ k ih =>
    simp only [List.range_succ, List.map_append, List.sum_append, List.map_cons, List.map_nil, List.sum_cons, List.sum_nil]
    have : c k ≤ pd c k ∧ pd c k ≤ c k + 511 := by unfold pd; omega
    omega

variable {c} (C : Cnt c)
include C

theorem en_le : en c 31 ≤ 161760 := by
  have := (sum_pd c 32).2; have := C.sum
  show ((List.range 32).map (pd c)).sum ≤ _
  omega
theorem en_pos : 0 < en c 31 := by
  have := (sum_pd c 32).1; have := C.pos
  show 0 < ((List.range 32).map (pd c)).sum
  omega
theorem us_pos : 1 ≤ us c := by have := us_mul c; have := en_pos C; omega
theorem us_le : us c ≤ 315 := by have := us_mul c; have := en_le C; omega

omit C in
theorem ex_iff (t : ℕ) {e : ℕ} (he : e < 32) : en c e ≤ 512 * min t (us c - 1) ↔ e < ex c t :=
  Routing.lt_count_iff (Q := fun e => en c e ≤ 512 * min t (us c - 1)) (fun a b hab hb h => (en_mono c hab).trans h) he

theorem ex_lt (t : ℕ) : ex c t < 32 := by
  have h := ex_iff (c := c) t (e := 31) (by decide)
  have := us_mul c; have := us_pos C
  omega

theorem lt_en (t : ℕ) : 512 * min t (us c - 1) < en c (ex c t) := by
  have h := ex_iff (c := c) t (ex_lt C t)
  omega

theorem pd_ex (t : ℕ) : 0 < pd c (ex c t) := by
  have h := lt_en C t
  have h32 := ex_lt C t
  rcases hk : ex c t with _ | k
  · rw [hk] at h; simp only [en, List.range_succ, List.range_zero, List.nil_append, List.map_cons, List.map_nil, List.sum_cons, List.sum_nil] at h; omega
  · rw [hk, en_succ] at h
    have := (ex_iff (c := c) t (e := k) (by omega)).2 (by omega)
    omega

/-- From one used block to the next: the experts between have no rows. -/
theorem between (t : ℕ) (ht : t + 1 < us c) {e : ℕ} (h1 : ex c t < e) (h2 : e < ex c (t + 1)) : pd c e = 0 := by
  have h32 := ex_lt C (t + 1)
  obtain ⟨k, rfl⟩ : ∃ k, e = k + 1 := ⟨e - 1, by omega⟩
  have a := (ex_iff (c := c) t (e := k) (by omega)).not.2 (by omega)
  have b := (ex_iff (c := c) (t + 1) (e := k + 1) (by omega)).2 h2
  have m1 : min t (us c - 1) = t := by omega
  have m2 : min (t + 1) (us c - 1) = t + 1 := by omega
  rw [m1] at a; rw [m2] at b
  obtain ⟨u, hu⟩ := dvd_en c k
  obtain ⟨v, hv⟩ := dvd_en c (k + 1)
  have := en_succ c k
  omega

theorem ex_le (t : ℕ) : ex c t ≤ ex c (t + 1) := by
  by_contra hc
  have h32 := ex_lt C t
  have a := (ex_iff (c := c) t (e := ex c (t + 1)) (by omega)).2 (by omega)
  have b := lt_en C (t + 1)
  omega

theorem nxN_next (t : ℕ) (ht : t + 1 < us c) (hne : ex c (t + 1) ≠ ex c t) : nxN c (ex c t) = ex c (t + 1) := by
  have hle := ex_le C t
  have h32 := ex_lt C (t + 1)
  refine le_antisymm ((Finset.fold_min_le _).2 (Or.inr ⟨⟨ex c (t + 1), h32⟩, Finset.mem_univ _, ?_⟩)) ((Finset.le_fold_min _).2 ⟨by omega, fun e _ => ?_⟩)
  · rw [if_pos ⟨pd_ex C _, show ex c t < ex c (t + 1) by omega⟩]
  · split
    · next h =>
      by_contra hlt
      have := between C t ht (e := e.val) h.2 (by omega)
      omega
    · omega

omit C in
theorem nxN_le (b : ℕ) : nxN c b ≤ 32 := by
  refine (Finset.fold_min_le _).2 (Or.inr ⟨0, Finset.mem_univ _, ?_⟩)
  split <;> simp

theorem nxN_last : nxN c (ex c (us c - 1)) = 32 := by
  refine le_antisymm (nxN_le _) ((Finset.le_fold_min _).2 ⟨by omega, fun e _ => ?_⟩)
  split
  · next h =>
    exfalso
    obtain ⟨k, hk⟩ : ∃ k, e.val = k + 1 := ⟨e.val - 1, by omega⟩
    have a := lt_en C (us c - 1)
    rw [Nat.min_self] at a
    obtain ⟨u, hu⟩ := dvd_en c (ex c (us c - 1))
    have b := en_mono c (show ex c (us c - 1) ≤ k by omega)
    have d := en_mono c (show k + 1 ≤ 31 by omega)
    have := en_succ c k; have := us_mul c; have := us_pos C
    rw [hk] at h
    omega
  · exact le_rfl

omit C in
theorem slN_eq {b : ℕ} (hb : b < 32) : slN c b = Nat.count (fun e => 0 < pd c e) (b + 1) := by
  rw [← Routing.count_and_lt (fun e => 0 < pd c e) (b + 1) 32 (by omega)]
  exact Routing.count_congr_of_lt 32 fun e _ => by constructor <;> rintro ⟨h1, h2⟩ <;> constructor <;> omega

theorem slN_pos (t : ℕ) : 1 ≤ slN c (ex c t) := by
  rw [slN_eq (ex_lt C t), Nat.count_succ, if_pos (pd_ex C t)]; omega

theorem slN_le (t : ℕ) : slN c (ex c t) ≤ 32 := Nat.count_le (p := fun e => 0 < pd c e ∧ e ≤ ex c t)

theorem slN_next (t : ℕ) (ht : t + 1 < us c) (hne : ex c (t + 1) ≠ ex c t) : slN c (ex c (t + 1)) = slN c (ex c t) + 1 := by
  have hle := ex_le C t
  rw [slN_eq (ex_lt C _), slN_eq (ex_lt C _), Nat.count_succ, if_pos (pd_ex C _)]
  congr 1
  obtain ⟨d, hd⟩ : ∃ d, ex c (t + 1) = ex c t + 1 + d := ⟨ex c (t + 1) - ex c t - 1, by omega⟩
  rw [hd, Nat.count_add]
  have : Nat.count (fun k => 0 < pd c (ex c t + 1 + k)) d = 0 := Nat.count_iff_forall_not.2 fun k hk h => by
    have := between C t ht (e := ex c t + 1 + k) (by omega) (by omega)
    omega
  omega

omit C

/-! ## The tables' words -/

variable (c)
/-- A block's expert, the next expert with rows, and the weight slot, as words. -/
def beW (t : ℕ) : BitVec 32 := BitVec.ofNat 32 (ex c t)
def nxW (t : ℕ) : BitVec 32 := if nxN c (ex c t) < 32 then BitVec.ofNat 32 (nxN c (ex c t)) else 4294967295#32
def wsW (t : ℕ) : BitVec 32 := BitVec.ofNat 32 ((slN c (ex c t) - 1) % 2)
variable {c}

theorem cond5_small : ∀ k : Fin 32, k0_cond5 (BitVec.ofNat 32 k.val) = 1#1 := by decide

include C

/-- The tables are good ones. -/
theorem good : Good (us c) (beW c) (nxW c) (wsW c) where
  pos := us_pos C
  le := (us_le C).trans (by decide)
  be32 j _ := by unfold beW; have := ex_lt C j; rw [BitVec.toNat_ofNat]; omega
  ws2 j _ := by unfold wsW; rw [BitVec.toNat_ofNat]; omega
  nx32 j _ h := by
    unfold nxW at h ⊢
    split
    · rw [BitVec.toNat_ofNat]; omega
    · next hn => rw [if_neg hn] at h; exact absurd h (by decide)
  same j hj h := by
    have h1 := ex_lt C j; have h2 := ex_lt C (j + 1)
    have e : ex c (j + 1) = ex c j := by
      have := congrArg BitVec.toNat h
      unfold beW at this
      rw [BitVec.toNat_ofNat, BitVec.toNat_ofNat] at this
      omega
    unfold nxW wsW; rw [e]; exact ⟨rfl, rfl⟩
  change j hj h := by
    have h1 := ex_lt C j; have h2 := ex_lt C (j + 1)
    have e : ex c (j + 1) ≠ ex c j := fun e => h (by unfold beW; rw [e])
    have hn : nxW c j = beW c (j + 1) := by unfold nxW beW; rw [nxN_next C j hj e, if_pos h2]
    refine ⟨?_, hn, ?_⟩
    · rw [hn]; exact cond5_small ⟨_, h2⟩
    · unfold wsW
      rw [slN_next C j hj e]
      have := slN_pos C j
      obtain ⟨k, hk⟩ : ∃ k, slN c (ex c j) = k + 1 := ⟨_, (Nat.sub_add_cancel this).symm⟩
      rw [hk, Nat.add_sub_cancel, Nat.add_sub_cancel]
      rcases Nat.mod_two_eq_zero_or_one k with h0 | h0
      · rw [h0, show (k + 1) % 2 = 1 by omega]; decide
      · rw [h0, show (k + 1) % 2 = 0 by omega]; decide
  last := by unfold nxW; rw [nxN_last C, if_neg (by decide)]; decide

end Cert.Moe
-- ==== Proof.Moe.Inv.lean ====
module
public import proofs.«01_k».proof.Proof.Moe.Step

@[expose] public section

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra. -/
local notation "𝕄" => MT nD τ sig Unit (Elt F) ℕ (Pipeline.UD sig nD τ) ℕ

/-- One block of the grid that keeps the expert. -/
theorem used_same (c : Dev nD) (i : grid0.Coords) {t : ℕ} (hi : (i 0).val = t) (ht : t < 316)
    (m5 : Memref sig .tc .vmem S512x1024 .f32) (h5 : m5.IsWhole) (m7 : Memref sig .tc .vmem S1x1x2048 .f32) (h7 : m7.IsWhole)
    (m9 : Memref sig .tc .vmem S1x1x1024 .f32) (h9 : m9.IsWhole) (m10 : Memref sig .tc .vmem S512x1024 .f32) (h10 : m10.IsWhole)
    (TE : Cn (F := F) c tbE) (TN : Cn (F := F) c tbN) {n : ℕ} (hn : n ≤ 316) (htn : t < n)
    (hN : BitVec.ofNat 32 n = wd c tbN ![0] inb_S1_S1_0 TN) (e : BitVec 32) (he : e.toNat < 32)
    (hE : wd c tbE ![t] (inb316 ht) TE = e) (hE' : wd c tbE ![t - 1] (inb316 (by omega)) TE = e)
    (h0 : t ≠ 0) (g : Cn (F := F) c hbG) (d : Cn (F := F) c hbD)
    (x : Vec F S512x1024 .f32) (b : Vec F S1x1x2048 .f32) (b2 : Vec F S1x1x1024 .f32) (K : PUnit → sProp 𝕄) :
    iprop((Conv c e he g d ∗ ptH c tbE TE)
        ∗ ptH c tbN TN ∗ owns (c : Thread nD τ) m5 fullShare x ∗ owns (c : Thread nD τ) m7 fullShare b
        ∗ owns (c : Thread nD τ) m9 fullShare b2 ∗ (∃ d, owns (c : Thread nD τ) m10 fullShare d)
        ∗ (iprop(ptH c tbE TE ∗ Conv c e he g d ∗ ptH c tbN TN ∗ owns (c : Thread nD τ) m5 fullShare x ∗ owns (c : Thread nD τ) m7 fullShare b
            ∗ owns (c : Thread nD τ) m9 fullShare b2
            ∗ owns (c : Thread nD τ) m10 fullShare (yBlk x (rG c e he g) (rD c e he d) b b2)) -∗ K ⟨⟩))
      ⊢ wp frame (wpE (defs₀ (F := F)) Variants.none c none) Set.univ (theBody i m5 h5 m7 h7 m9 h9 m10 h10) K := by
  have k0_h1 : ¬ k0_cond1 i (BitVec.ofNat 32 n) = 1#1 := by rw [cond1_iff i hi ht hn]; omega
  have k0_h2 : k0_cond2 i (BitVec.ofNat 32 n) = 1#1 := by rw [cond2_iff i hi ht hn]; omega
  have k0_h3 : ¬ k0_cond3 i e e = 1#1 := by rw [cond3_iff i hi ht]; rintro (h | h); exacts [h0 h, h rfl]
  have h9' : e = wd c tbE (k0_off2 i) (k0_off2_inb i) TE := hE.symm.trans (wd_congr c tbE (off2_eq i hi ht).symm _ _ TE)
  have h13' : e = wd c tbE (k0_off3 i) (k0_off3_inb i) TE := hE'.symm.trans (wd_congr c tbE (off3_eq i hi ht).symm _ _ TE)
  refine body_used c i m5 h5 m7 h7 m9 h9 m10 h10 TN (BitVec.ofNat 32 n) hN k0_h1 k0_h2 e he g d _ _ ?_ x b b2 K
  intro f5 f7 K'
  iintro ⟨⟨HV, HE⟩, H5, H7, Hk⟩
  iapply (part4_same c i m5 h5 m7 h7 m9 h9 m10 h10 (BitVec.ofNat 32 n) k0_h2 e e k0_h3 TE e he h9' h13' g d f5 f7 K') $$ [HV HE H5 H7 Hk]
  isplitl [HV]; · iexact HV
  isplitl [HE]; · iexact HE
  isplitl [H5]; · iexact H5
  isplitl [H7]; · iexact H7
  iintro ⟨HV, HE, H5, H7⟩
  iapply Hk
  isplitl [HE]; · iexact HE
  isplitl [HV]; · iexact HV
  isplitl [H5]; · iexact H5
  iexact H7

/-! ## The invariant between blocks -/

/-- Before the first block: the slots and the converted weights at anything, both cells at zero, the weights in HBM. -/
abbrev Start (c : Dev nD) (g : Cn (F := F) c hbG) (d : Cn (F := F) c hbD) : sProp 𝕄 :=
  iprop(semVal ((c : Thread nD τ), SemLoc.dma 8) 0 ∗ semVal ((c : Thread nD τ), SemLoc.dma 9) 0
    ∗ (∃ f11, pt c slG f11) ∗ (∃ f12, pt c slD f12) ∗ (∃ f13, pt c cvG f13) ∗ (∃ f14, pt c cvD f14) ∗ pt c hbG g ∗ pt c hbD d)

/-- After a block of expert `e` in slot `s` with `nx` next. -/
abbrev Mid (c : Dev nD) (s nx e : BitVec 32) (hs : s.toNat < 2) (hnx : k0_cond5 nx = 1#1 → nx.toNat < 32) (he : e.toNat < 32)
    (g : Cn (F := F) c hbG) (d : Cn (F := F) c hbD) : sProp 𝕄 :=
  iprop(Ahead c (1#32 - s) nx (sub2 hs) hnx g d ∗ semVal ((c : Thread nD τ), cellAt s (inbC hs)) 0 ∗ Conv c e he g d)

theorem mid_of (c : Dev nD) {s s' nx nx' e e' : BitVec 32} (h1 : s = s') (h2 : nx = nx') (h3 : e = e') (hs : s.toNat < 2) (hnx : k0_cond5 nx = 1#1 → nx.toNat < 32) (he : e.toNat < 32)
    (hs' : s'.toNat < 2) (hnx' : k0_cond5 nx' = 1#1 → nx'.toNat < 32) (he' : e'.toNat < 32) (g : Cn (F := F) c hbG) (d : Cn (F := F) c hbD) :
    Mid c s nx e hs hnx he g d ⊢ Mid c s' nx' e' hs' hnx' he' g d := by
  subst h1; subst h2; subst h3; exact .rfl

theorem last_lt {n : ℕ} {be nx ws : ℕ → BitVec 32} (G : Good n be nx ws) (p : ℕ) : min p n - 1 < n := by
  have := G.pos; omega

/-- What the scratch and the weights are at after `p` blocks. -/
def Inv {n : ℕ} {be nx ws : ℕ → BitVec 32} (G : Good n be nx ws) (c : Dev nD) (g : Cn (F := F) c hbG) (d : Cn (F := F) c hbD) (p : ℕ) : sProp 𝕄 :=
  if p = 0 then Start c g d
  else Mid c (ws (min p n - 1)) (nx (min p n - 1)) (be (min p n - 1)) (G.ws2 _ (last_lt G p)) (G.nx32 _ (last_lt G p)) (G.be32 _ (last_lt G p)) g d

theorem Inv_zero {n : ℕ} {be nx ws : ℕ → BitVec 32} (G : Good n be nx ws) (c : Dev nD) (g : Cn (F := F) c hbG) (d : Cn (F := F) c hbD) :
    Inv G c g d 0 = Start c g d := if_pos rfl
theorem Inv_of {n : ℕ} {be nx ws : ℕ → BitVec 32} (G : Good n be nx ws) (c : Dev nD) (g : Cn (F := F) c hbG) (d : Cn (F := F) c hbD)
    {p q : ℕ} (hp : p ≠ 0) (hq : min p n - 1 = q) (hqn : q < n) :
    Inv G c g d p = Mid c (ws q) (nx q) (be q) (G.ws2 _ hqn) (G.nx32 _ hqn) (G.be32 _ hqn) g d := by
  subst hq; exact if_neg hp

/-- A word below two is zero or one. -/
theorem slot_cases {s : BitVec 32} (h : s.toNat < 2) : s = 0#32 ∨ s = 1#32 := by
  rcases Nat.lt_succ_iff_lt_or_eq.1 h with h | h
  · left; apply BitVec.eq_of_toNat_eq; show s.toNat = 0; omega
  · right; apply BitVec.eq_of_toNat_eq; exact h

/-- The two cells, by slot. -/
theorem cells_of (c : Dev nD) {s : BitVec 32} (hs : s.toNat < 2) :
    (iprop(semVal ((c : Thread nD τ), SemLoc.dma 8) 0 ∗ semVal ((c : Thread nD τ), SemLoc.dma 9) 0) : sProp 𝕄)
      ⊢ iprop(semVal ((c : Thread nD τ), cellAt s (inbC hs)) 0 ∗ semVal ((c : Thread nD τ), cellAt (1#32 - s) (inbC (sub2 hs))) 0) := by
  rcases slot_cases hs with rfl | rfl
  · rw [show cellAt (1#32 - 0#32) (inbC (sub2 hs)) = SemLoc.dma 9 from cell_one, show cellAt 0#32 (inbC hs) = SemLoc.dma 8 from cell_zero]
    try exact .rfl
  · rw [show cellAt (1#32 - 1#32) (inbC (sub2 hs)) = SemLoc.dma 8 from cell_zero, show cellAt 1#32 (inbC hs) = SemLoc.dma 9 from cell_one]
    iintro ⟨H, H'⟩
    isplitl [H']; · iexact H'
    iexact H
theorem cells_back (c : Dev nD) {s : BitVec 32} (hs : s.toNat < 2) :
    (iprop(semVal ((c : Thread nD τ), cellAt s (inbC hs)) 0 ∗ semVal ((c : Thread nD τ), cellAt (1#32 - s) (inbC (sub2 hs))) 0) : sProp 𝕄)
      ⊢ iprop(semVal ((c : Thread nD τ), SemLoc.dma 8) 0 ∗ semVal ((c : Thread nD τ), SemLoc.dma 9) 0) := by
  rcases slot_cases hs with rfl | rfl
  · rw [show cellAt (1#32 - 0#32) (inbC (sub2 hs)) = SemLoc.dma 9 from cell_one, show cellAt 0#32 (inbC hs) = SemLoc.dma 8 from cell_zero]
    try exact .rfl
  · rw [show cellAt (1#32 - 1#32) (inbC (sub2 hs)) = SemLoc.dma 8 from cell_zero, show cellAt 1#32 (inbC hs) = SemLoc.dma 9 from cell_one]
    iintro ⟨H, H'⟩
    isplitl [H']; · iexact H'
    iexact H

/-- After the last block nothing is in flight. -/
theorem Inv_end {n : ℕ} {be nx ws : ℕ → BitVec 32} (G : Good n be nx ws) (c : Dev nD) (g : Cn (F := F) c hbG) (d : Cn (F := F) c hbD) :
    Inv G c g d 316 ⊢ Start c g d := by
  have hn := G.le
  have hp := G.pos
  rw [Inv_of G c g d (p := 316) (q := n - 1) (by decide) (by omega) (by omega)]
  unfold Mid Ahead
  rw [dif_neg G.last]
  iintro ⟨⟨HC', H11, H12, HG, HD⟩, HC, ⟨⟨%f13, H13⟩, ⟨%f14, H14⟩⟩⟩
  ihave ⟨H8, H9⟩ := (cells_back c (G.ws2 (n - 1) (by omega))) $$ [HC HC']
  · isplitl [HC]; · iexact HC
    iexact HC'
  isplitl [H8]; · iexact H8
  isplitl [H9]; · iexact H9
  isplitl [H11]; · iexact H11
  isplitl [H12]; · iexact H12
  isplitl [H13]; · iexists _; iexact H13
  isplitl [H14]; · iexists _; iexact H14
  isplitl [HG]; · iexact HG
  iexact HD

/-- The result's block at a point of the grid. -/
def yAt {n : ℕ} {be nx ws : ℕ → BitVec 32} (G : Good n be nx ws) (c : Dev nD) (g : Cn (F := F) c hbG) (d : Cn (F := F) c hbD) (t : ℕ)
    (x : Vec F S512x1024 .f32) (b : Vec F S1x1x2048 .f32) (b2 : Vec F S1x1x1024 .f32) : FVec F S512x1024 .f32 :=
  if h : t < n then yBlk x (rG c (be t) (G.be32 t h) g) (rD c (be t) (G.be32 t h) d) b b2 else k0_pay1 (F := F)

/-- The words the four tables hold. -/
structure Words (c : Dev nD) (n : ℕ) (be nx ws : ℕ → BitVec 32)
    (TE : Cn (F := F) c tbE) (TN : Cn (F := F) c tbN) (TX : Cn (F := F) c tbX) (TS : Cn (F := F) c tbS) : Prop where
  N : BitVec.ofNat 32 n = wd c tbN ![0] inb_S1_S1_0 TN
  E : ∀ t (ht : t < 316), wd c tbE ![t] (inb316 ht) TE = be t
  X : ∀ t (ht : t < 316), wd c tbX ![t] (inb316 ht) TX = nx t
  S : ∀ t (ht : t < 316), wd c tbS ![t] (inb316 ht) TS = ws t

/-- One block of the grid. -/
theorem step {n : ℕ} {be nx ws : ℕ → BitVec 32} (G : Good n be nx ws) (c : Dev nD) (i : grid0.Coords) {t : ℕ} (hi : (i 0).val = t) (ht : t < 316)
    (m5 : Memref sig .tc .vmem S512x1024 .f32) (h5 : m5.IsWhole) (m7 : Memref sig .tc .vmem S1x1x2048 .f32) (h7 : m7.IsWhole)
    (m9 : Memref sig .tc .vmem S1x1x1024 .f32) (h9 : m9.IsWhole) (m10 : Memref sig .tc .vmem S512x1024 .f32) (h10 : m10.IsWhole)
    (TE : Cn (F := F) c tbE) (TN : Cn (F := F) c tbN) (TX : Cn (F := F) c tbX) (TS : Cn (F := F) c tbS) (hW : Words c n be nx ws TE TN TX TS)
    (g : Cn (F := F) c hbG) (d : Cn (F := F) c hbD) (W : Waits sig Unit)
    (x : Vec F S512x1024 .f32) (b : Vec F S1x1x2048 .f32) (b2 : Vec F S1x1x1024 .f32) (K : PUnit → sProp 𝕄) :
    iprop(Inv G c g d t ∗ (Tabs c TE TX TS ∗ ptH c tbN TN) ∗ owes (c : Thread nD τ) 0 W
        ∗ owns (c : Thread nD τ) m5 fullShare x ∗ owns (c : Thread nD τ) m7 fullShare b
        ∗ owns (c : Thread nD τ) m9 fullShare b2 ∗ (∃ d, owns (c : Thread nD τ) m10 fullShare d)
        ∗ (iprop(Inv G c g d (t + 1) ∗ (Tabs c TE TX TS ∗ ptH c tbN TN) ∗ (∃ W', owes (c : Thread nD τ) 0 W')
            ∗ owns (c : Thread nD τ) m5 fullShare x ∗ owns (c : Thread nD τ) m7 fullShare b
            ∗ owns (c : Thread nD τ) m9 fullShare b2
            ∗ owns (c : Thread nD τ) m10 fullShare (yAt G c g d t x b b2)) -∗ K ⟨⟩))
      ⊢ wp frame (wpE (defs₀ (F := F)) Variants.none c none) Set.univ (theBody i m5 h5 m7 h7 m9 h9 m10 h10) K := by
  have hn := G.le
  have hp := G.pos
  by_cases htn : t < n
  swap
  · have k0_h1 : k0_cond1 i (BitVec.ofNat 32 n) = 1#1 := by rw [cond1_iff i hi ht hn]; omega
    have k0_h2 : ¬ k0_cond2 i (BitVec.ofNat 32 n) = 1#1 := by rw [cond2_iff i hi ht hn]; omega
    rw [Inv_of G c g d (p := t) (q := n - 1) (by omega) (by omega) (by omega), Inv_of G c g d (p := t + 1) (q := n - 1) (by omega) (by omega) (by omega)]
    unfold yAt; rw [dif_neg htn]
    iintro ⟨HI, ⟨HT, HN⟩, HW, H5, H7, H9, H10, Hk⟩
    iapply (body_idle c i m5 h5 m7 h7 m9 h9 m10 h10 TN (BitVec.ofNat 32 n) hW.N k0_h1 k0_h2 K)
    isplitl [HN]; · iexact HN
    isplitl [H10]; · iexact H10
    iintro ⟨HN, H10⟩
    iapply Hk
    isplitl [HI]; · iexact HI
    isplitl [HT HN]
    · isplitl [HT]; · iexact HT
      iexact HN
    isplitl [HW]; · iexists W; iexact HW
    isplitl [H5]; · iexact H5
    isplitl [H7]; · iexact H7
    isplitl [H9]; · iexact H9
    iexact H10
  rw [Inv_of G c g d (p := t + 1) (q := t) (by omega) (by omega) htn]
  unfold yAt; rw [dif_pos htn]
  by_cases h0 : t = 0
  · subst h0
    rw [Inv_zero]
    iintro ⟨⟨H8, H9c, H11, H12, H13, H14, HG, HD⟩, ⟨HT, HN⟩, HW, H5, H7, H9, H10, Hk⟩
    ihave ⟨HC, HC'⟩ := (cells_of c (G.ws2 0 htn)) $$ [H8 H9c]
    · isplitl [H8]; · iexact H8
      iexact H9c
    iapply (used_change c i hi ht m5 h5 m7 h7 m9 h9 m10 h10 TE TN TX TS hn htn hW.N (be 0) (be 0) (ws 0) (nx 0) (G.be32 0 htn) (G.ws2 0 htn) (G.nx32 0 htn)
      (hW.E 0 ht) (hW.E 0 ht) (hW.X 0 ht) (hW.S 0 ht) (Or.inl rfl) g d (Still c (ws 0) (G.ws2 0 htn) g d) W (Or.inl ⟨rfl, rfl⟩) x b b2 K)
    isplitl [HC HC' H11 H12 H13 H14 HG HD HT HW]
    · isplitl [HC H11 H12 HG HD]
      · isplitl [HC]; · iexact HC
        isplitl [H11]; · iexact H11
        isplitl [H12]; · iexact H12
        isplitl [HG]; · iexact HG
        iexact HD
      isplitl [HC']; · iexact HC'
      isplitl [HT]; · iexact HT
      isplitl [HW]; · iexact HW
      isplitl [H13]; · iexact H13
      iexact H14
    isplitl [HN]; · iexact HN
    isplitl [H5]; · iexact H5
    isplitl [H7]; · iexact H7
    isplitl [H9]; · iexact H9
    isplitl [H10]; · iexact H10
    iintro ⟨⟨HA, HC, HT, HW⟩, HV, HN, H5, H7, H9, H10⟩
    iapply Hk
    isplitl [HA HC HV]
    · isplitl [HA]; · iexact HA
      isplitl [HC]; · iexact HC
      iexact HV
    isplitl [HT HN]
    · isplitl [HT]; · iexact HT
      iexact HN
    isplitl [HW]; · iexact HW
    isplitl [H5]; · iexact H5
    isplitl [H7]; · iexact H7
    isplitl [H9]; · iexact H9
    iexact H10
  obtain ⟨q, rfl⟩ : ∃ q, t = q + 1 := ⟨t - 1, by omega⟩
  have hqn : q < n := by omega
  rw [Inv_of G c g d (p := q + 1) (q := q) h0 (by omega) hqn]
  have hE' := hW.E q (by omega)
  by_cases hs : be (q + 1) = be q
  · obtain ⟨e1, e2⟩ := G.same q htn hs
    iintro ⟨HI, ⟨⟨HE, HS, HX⟩, HN⟩, HW, H5, H7, H9, H10, Hk⟩
    ihave ⟨HA, HC, HV⟩ := (mid_of c e2.symm e1.symm hs.symm _ _ _ (G.ws2 _ htn) (G.nx32 _ htn) (G.be32 _ htn) g d) $$ HI
    iapply (used_same c i hi ht m5 h5 m7 h7 m9 h9 m10 h10 TE TN hn htn hW.N (be (q + 1)) (G.be32 _ htn) (hW.E _ ht) (hE'.trans hs.symm) h0 g d x b b2 K)
    isplitl [HV HE]
    · isplitl [HV]; · iexact HV
      iexact HE
    isplitl [HN]; · iexact HN
    isplitl [H5]; · iexact H5
    isplitl [H7]; · iexact H7
    isplitl [H9]; · iexact H9
    isplitl [H10]; · iexact H10
    iintro ⟨HE, HV, HN, H5, H7, H9, H10⟩
    iapply Hk
    isplitl [HA HC HV]
    · isplitl [HA]; · iexact HA
      isplitl [HC]; · iexact HC
      iexact HV
    isplitl [HE HS HX HN]
    · isplitl [HE HS HX]
      · isplitl [HE]; · iexact HE
        isplitl [HS]; · iexact HS
        iexact HX
      iexact HN
    isplitl [HW]; · iexists W; iexact HW
    isplitl [H5]; · iexact H5
    isplitl [H7]; · iexact H7
    isplitl [H9]; · iexact H9
    iexact H10
  · obtain ⟨c5, e1, e2⟩ := G.change q htn hs
    unfold Mid Ahead
    rw [dif_pos c5]
    iintro ⟨⟨HF, HC, ⟨⟨%f13, H13⟩, ⟨%f14, H14⟩⟩⟩, ⟨HT, HN⟩, HW, H5, H7, H9, H10, Hk⟩
    ihave HF := (flying_of c e2.symm e1 (sub2 (G.ws2 q hqn)) (G.nx32 q hqn c5) (G.ws2 _ htn) (G.be32 _ htn) g d) $$ HF
    ihave HC := (cell_of c (show ws q = 1#32 - ws (q + 1) by rw [e2, sub_sub_word]) (G.ws2 q hqn) (sub2 (G.ws2 _ htn))) $$ HC
    iapply (used_change c i hi ht m5 h5 m7 h7 m9 h9 m10 h10 TE TN TX TS hn htn hW.N (be (q + 1)) (be q) (ws (q + 1)) (nx (q + 1)) (G.be32 _ htn) (G.ws2 _ htn) (G.nx32 _ htn)
      (hW.E _ ht) hE' (hW.X _ ht) (hW.S _ ht) (Or.inr hs) g d (Flying c (ws (q + 1)) (be (q + 1)) (G.ws2 _ htn) (G.be32 _ htn) g d) W (Or.inr ⟨h0, rfl⟩) x b b2 K)
    isplitl [HF HC H13 H14 HT HW]
    · isplitl [HF]; · iexact HF
      isplitl [HC]; · iexact HC
      isplitl [HT]; · iexact HT
      isplitl [HW]; · iexact HW
      isplitl [H13]; · iexists _; iexact H13
      iexists _; iexact H14
    isplitl [HN]; · iexact HN
    isplitl [H5]; · iexact H5
    isplitl [H7]; · iexact H7
    isplitl [H9]; · iexact H9
    isplitl [H10]; · iexact H10
    iintro ⟨⟨HA, HC, HT, HW⟩, HV, HN, H5, H7, H9, H10⟩
    iapply Hk
    isplitl [HA HC HV]
    · isplitl [HA]; · unfold Ahead; iexact HA
      isplitl [HC]; · iexact HC
      iexact HV
    isplitl [HT HN]
    · isplitl [HT]; · iexact HT
      iexact HN
    isplitl [HW]; · iexact HW
    isplitl [H5]; · iexact H5
    isplitl [H7]; · iexact H7
    isplitl [H9]; · iexact H9
    iexact H10

end Cert.Moe
-- ==== Proof.Moe.Run.lean ====
module
public import proofs.«01_k».proof.Proof.Moe.Inv
public import Idealize.ShloMosaic.Lib.Pipeline.FrameBody

@[expose] public section

set_option maxRecDepth 4000

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra. -/
local notation "𝕄" => MT nD τ sig Unit (Elt F) ℕ (Pipeline.UD sig nD τ) ℕ

variable (m : (ℓ : Loc nD τ sig) → Buf (Elt F) ℓ) (ρ : Dev nD → PrngReg)

/-! ## The region's entry -/

/-- The host operations before the region. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12]

/-- What every buffer holds at the region's entry. -/
def V (c : Dev nD) (b : Ref sig .tc) : Buf (Elt F) ((c : Thread nD τ).loc b) :=
  StableHlo.after (opss (F := F)).flatten (fun b => m (c, b)) b

/-- The tables' contents at the region's entry. -/
def tbl : pre0.Contents (Elt F) := fun k => V m 0 (pre0.ref k)

theorem tbl_eq (c : Dev nD) (k) : V m c (pre0.ref k) = tbl m k := by
  rw [show c = 0 from Subsingleton.elim _ _]; rfl

/-- @main runs the host operations, then the region. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main opss
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩
    (by repeat' first | exact rfl | constructor)
    fun c => (main_chain c).trans rfl

/-- The tables' contents as the pipeline's. -/
def adm (hok : ok0 (tbl m)) (p : Fin 1) : (pcfgs (F := F) p).Adm := ⟨tbl m, hok⟩

/-! ## The body's own resources -/

/-- The body's two DMA cells. -/
abbrev osem0 : Fin 2 → SemLoc sig := fun j => (![SemLoc.dma 8, SemLoc.dma 9] : Fin 2 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl
/-- The weights the body's transfers read. -/
def H0 : Finset (Ref sig .tc) := {main_v0, main_v2}
theorem H0_sub : H0 ⊆ Pipeline.restRefsP sig pre0 spec0 := by decide
theorem hbPts_eq (c : Dev nD) :
    (bigSep H0 (fun b => ((c : Thread nD τ).loc b) ↦{fullShare} V m c b) : sProp 𝕄)
      = iprop(pt c hbG (V m c main_v0) ∗ pt c hbD (V m c main_v2)) := by
  rw [BI.bigSep_eq_bigSepL_of_eq [main_v0, main_v2] (by decide) (by decide)]; rfl

theorem tbls_eq (c : Dev nD) (v : pre0.Contents (Elt F)) :
    (Pipeline.ΦT pre0 v c : sProp 𝕄)
      = iprop(ptH c tbE (v 0) ∗ ptH c tbN (v 1) ∗ ptH c tbX (v 2) ∗ ptH c tbS (v 3)) := by
  unfold Pipeline.ΦT Pipeline.prefHeld
  rw [BI.bigSep_univ_eq_bigSepL [(0 : Fin 4), (1 : Fin 4), (2 : Fin 4), (3 : Fin 4)] (by decide) (by decide)]; rfl

variable {n : ℕ} {be nx ws : ℕ → BitVec 32} (G : Good n be nx ws) (hok : ok0 (tbl m))

/-- Window `w`'s block of the arrays at the region's entry, at point `t`. -/
def blkAt (c : Dev nD) (w : Fin 4) (t : Fin (cfg0 (adm m hok 0)).N) :
    ((win0 (adm m hok 0) w).xblock ((cfg0 (adm m hok 0)).grid.coords t)).Idx → Elt F (win0 (adm m hok 0) w).elt :=
  ((win0 (adm m hok 0) w).blk t).view.read (Elt F) (V m c (Pipeline.arrRef spec0 w))

/-- The output block the body writes at point `t`. -/
def outAt (c : Dev nD) (t : Fin (cfg0 (adm m hok 0)).N) : Vec F S512x1024 .f32 :=
  yAt G c (V m c main_v0) (V m c main_v2) t.val (blkAt m hok c 0 t) (blkAt m hok c 1 t) (blkAt m hok c 2 t)

/-- The proof data of the pipeline. -/
def dats (p : Fin 1) (c : Dev nD) : Dat τ (Elt F) Unit ℕ (Pipeline.UD sig nD τ) ℕ (Pipeline.pin pcfgs (adm m hok) p) c where
  A w := V m c (Pipeline.arrRef spec0 w)
  after w t := match w with
    | ⟨0, _⟩ => blkAt m hok c 0 t
    | ⟨1, _⟩ => blkAt m hok c 1 t
    | ⟨2, _⟩ => blkAt m hok c 2 t
    | ⟨3, _⟩ => outAt m G hok c t
  Φ t := iprop(Inv G c (V m c main_v0) (V m c main_v2) t.val
    ∗ (Tabs c (tbl m 0) (tbl m 2) (tbl m 3) ∗ ptH c tbN (tbl m 1)) ∗ (∃ r, prngReg c r))
  q _ := fullShare
  owed _ := 0

theorem A_eq (c : Dev nD) (w : Fin 4) : (dats m G hok 0 c).A w = V m c (Pipeline.arrRef spec0 w) := by
  dsimp only [dats]
theorem after_0 (c : Dev nD) (t) : (dats m G hok 0 c).after 0 t = blkAt m hok c 0 t := by unfold dats; rfl
theorem after_1 (c : Dev nD) (t) : (dats m G hok 0 c).after 1 t = blkAt m hok c 1 t := by unfold dats; rfl
theorem after_2 (c : Dev nD) (t) : (dats m G hok 0 c).after 2 t = blkAt m hok c 2 t := by unfold dats; rfl
theorem after_3 (c : Dev nD) (t) : (dats m G hok 0 c).after 3 t = outAt m G hok c t := by unfold dats; rfl

/-- The input windows' staging buffers hold their blocks at every point. -/
theorem before_0 (c : Dev nD) (t) (d) : (dats m G hok 0 c).before 0 t d = blkAt m hok c 0 t :=
  ((dats m G hok 0 c).before_in_eq_fetched 0 rfl (fun _ => rfl) (fun _ _ _ => rfl) (fun t => by rw [after_0]; unfold Dat.blockOf blkAt; rw [A_eq]; try rfl) t d).trans
    (by unfold Dat.fetched Dat.blockOf blkAt; rw [A_eq]; try rfl)
theorem before_1 (c : Dev nD) (t) (d) : (dats m G hok 0 c).before 1 t d = blkAt m hok c 1 t :=
  ((dats m G hok 0 c).before_in_eq_fetched 1 rfl (fun _ => rfl) (fun _ _ _ => rfl) (fun t => by rw [after_1]; unfold Dat.blockOf blkAt; rw [A_eq]; try rfl) t d).trans
    (by unfold Dat.fetched Dat.blockOf blkAt; rw [A_eq]; try rfl)
theorem before_2 (c : Dev nD) (t) (d) : (dats m G hok 0 c).before 2 t d = blkAt m hok c 2 t :=
  ((dats m G hok 0 c).before_in_eq_fetched 2 rfl (fun _ => rfl) (fun _ _ _ => rfl) (fun t => by rw [after_2]; unfold Dat.blockOf blkAt; rw [A_eq]; try rfl) t d).trans
    (by unfold Dat.fetched Dat.blockOf blkAt; rw [A_eq]; try rfl)

/-! ## The body obligation -/

/-- The body at point `t`. -/
abbrev bodyAt (t : Fin (cfg0 (adm m hok 0)).N) : Prog (TpuEff nD τ sig (Elt F) Λ₀ .tc) PUnit :=
  theBody (grid0.coords t) (spec0_0.stage ((cfg0 (adm m hok 0)).slots t 0)) (hstage0_0 (((cfg0 (adm m hok 0)).slots t 0).cast nbuf0_0))
    (spec0_1.stage ((cfg0 (adm m hok 0)).slots t 1)) (hstage0_1 (((cfg0 (adm m hok 0)).slots t 1).cast nbuf0_1))
    (spec0_2.stage ((cfg0 (adm m hok 0)).slots t 2)) (hstage0_2 (((cfg0 (adm m hok 0)).slots t 2).cast nbuf0_2))
    (spec0_3.stage ((cfg0 (adm m hok 0)).slots t 3)) (hstage0_3 (((cfg0 (adm m hok 0)).slots t 3).cast nbuf0_3))

theorem defs₀_row (t : Fin (cfg0 (adm m hok 0)).N) :
    defs₀ (F := F) .tc (cfg0 (adm m hok 0)).body ((cfg0 (adm m hok 0)).bodyArgs t ((cfg0 (adm m hok 0)).slots t)) = bodyAt m hok t := by
  unfold defs₀; rw [Defs.onTc_tc]

/-- What the body is called with at point `t`, -/
def bodyPre (c : Dev nD) (t : Fin (cfg0 (adm m hok 0)).N) : sProp 𝕄 :=
  iprop((dats m G hok 0 c).Φ t.castSucc ∗ (dats m G hok 0 c).owesAt () t.castSucc
    ∗ (∃ d, owns (c : Thread nD τ) (spec0_0.stage ((cfg0 (adm m hok 0)).slots t 0)) fullShare ((dats m G hok 0 c).before 0 t d))
    ∗ (∃ d, owns (c : Thread nD τ) (spec0_1.stage ((cfg0 (adm m hok 0)).slots t 1)) fullShare ((dats m G hok 0 c).before 1 t d))
    ∗ (∃ d, owns (c : Thread nD τ) (spec0_2.stage ((cfg0 (adm m hok 0)).slots t 2)) fullShare ((dats m G hok 0 c).before 2 t d))
    ∗ (∃ d, owns (c : Thread nD τ) (spec0_3.stage ((cfg0 (adm m hok 0)).slots t 3)) fullShare ((dats m G hok 0 c).before 3 t d)))
/-- and what it returns. -/
def bodyPost (c : Dev nD) (t : Fin (cfg0 (adm m hok 0)).N) : sProp 𝕄 :=
  iprop((dats m G hok 0 c).Φ t.succ ∗ (dats m G hok 0 c).owesAt () t.succ
    ∗ owns (c : Thread nD τ) (spec0_0.stage ((cfg0 (adm m hok 0)).slots t 0)) fullShare ((dats m G hok 0 c).after 0 t)
    ∗ owns (c : Thread nD τ) (spec0_1.stage ((cfg0 (adm m hok 0)).slots t 1)) fullShare ((dats m G hok 0 c).after 1 t)
    ∗ owns (c : Thread nD τ) (spec0_2.stage ((cfg0 (adm m hok 0)).slots t 2)) fullShare ((dats m G hok 0 c).after 2 t)
    ∗ owns (c : Thread nD τ) (spec0_3.stage ((cfg0 (adm m hok 0)).slots t 3)) fullShare ((dats m G hok 0 c).after 3 t))

theorem coords_val (t : Fin grid0.N) : (grid0.coords t 0).val = t.val := by
  revert t; decide +kernel

variable (hW : Words (F := F) 0 n be nx ws (tbl m 0) (tbl m 1) (tbl m 2) (tbl m 3))

include hW in
/-- The body at any point. -/
theorem sound_body (c : Dev nD) (t : Fin (cfg0 (adm m hok 0)).N) :
    bodyPre m G hok c t ⊢ wp frame (wpE (defs₀ (F := F)) Variants.none c none) Set.univ (bodyAt m hok t) (fun _ => bodyPost m G hok c t) := by
  obtain rfl : c = 0 := Subsingleton.elim _ _
  unfold bodyPre bodyPost
  simp only [before_0, before_1, before_2]
  rw [after_0, after_1, after_2, after_3]
  unfold Dat.owesAt Pipeline.owesWithin
  rw [show (dats m G hok 0 0).owed t.castSucc = 0 from rfl, show (dats m G hok 0 0).owed t.succ = 0 from rfl]
  unfold outAt
  dsimp only [dats]
  iintro ⟨⟨HI, HT, Hg⟩, ⟨%W, -, HW⟩, ⟨%d0, H0⟩, ⟨%d1, H1⟩, ⟨%d2, H2⟩, ⟨%d3, H3⟩⟩
  iapply (step G 0 (grid0.coords t) (coords_val t) (t := t.val) (lt_of_lt_of_eq t.isLt N_0) _ _ _ _ _ _ _ _
    (tbl m 0) (tbl m 1) (tbl m 2) (tbl m 3) hW (V m 0 main_v0) (V m 0 main_v2) W (blkAt m hok 0 0 t) (blkAt m hok 0 1 t) (blkAt m hok 0 2 t) _)
  isplitl [HI]; · iexact HI
  isplitl [HT]; · iexact HT
  isplitl [HW]; · iexact HW
  isplitl [H0]; · iexact H0
  isplitl [H1]; · iexact H1
  isplitl [H2]; · iexact H2
  isplitl [H3]; · iexists _; iexact H3
  iintro ⟨HI, HT, ⟨%W', HW'⟩, H0, H1, H2, H3⟩
  isplitl [HI HT Hg]
  · isplitl [HI]; · iexact HI
    isplitl [HT]; · iexact HT
    iexact Hg
  isplitl [HW']
  · iexists W'; isplitr; · ipureintro; exact fun _ _ => Or.inl trivial
    iexact HW'
  isplitl [H0]; · iexact H0
  isplitl [H1]; · iexact H1
  isplitl [H2]; · iexact H2
  iexact H3

include G hW in
/-- No point is idle for the output: every block is either written with rows or with zeros. -/
theorem not_idle (t : Fin (cfg0 (adm m hok 0)).N) : idle0 (tbl m) 3 (grid0.coords t) = false := by
  have ht : t.val < 316 := lt_of_lt_of_eq t.isLt N_0
  have e : (tbl m).atD 1 ![0] = BitVec.ofNat 32 n := by
    rw [hW.N]; rfl
  show (!(k0_cond1 (grid0.coords t) ((tbl m).atD 1 ![0]) == 1#1) && !(k0_cond2 (grid0.coords t) ((tbl m).atD 1 ![0]) == 1#1)) = false
  rw [e]
  by_cases h : t.val < n
  · rw [(cond2_iff (grid0.coords t) (coords_val t) ht G.le).2 h]; simp
  · rw [(cond1_iff (grid0.coords t) (coords_val t) ht G.le).2 (by omega)]; simp

include hW in
theorem body_obligation (c : Dev nD) : BodyObligation (dats (F := F) m G hok 0 c) (defs₀ (F := F)) Variants.none () Set.univ := fun t => by
  have hi := not_idle m G hok hW t
  rw [bigSep_W0, bigSep_W0, defs₀_row]
  refine triple_restated (sound_body m G hok hW c t) rfl .rfl fun _ => ?_
  have hi' : (Pipeline.pin pcfgs (adm m hok) 0).idle 3 ((Pipeline.pin pcfgs (adm m hok) 0).grid.coords t) = false := hi
  simp only [hi']
  split
  · next h => exact absurd (h.symm.trans hi) (by decide)
  · next h => exact (.rfl : bodyPost m G hok c t ⊢ bodyPost m G hok c t)

theorem phi_in (c : Dev nD) :
    iprop(Pipeline.ΦD osem0 spec0 H0 (V m) c ∗ Pipeline.ΦT pre0 (tbl m) c) ⊢ (dats m G hok 0 c).Φ 0 := by
  rw [show (Pipeline.ΦD osem0 spec0 H0 (V m) c : sProp 𝕄) = iprop(Pipeline.scopedRest spec0 c ∗ (∃ r, prngReg c r) ∗ Pipeline.ownSems0 osem0 c
    ∗ bigSep H0 (fun b => ((c : Thread nD τ).loc b) ↦{fullShare} V m c b)) from rfl, scopedRest0_eq, ownSems0_eq, hbPts_eq, tbls_eq]
  dsimp only [dats]
  rw [show ((0 : Fin ((Pipeline.pin pcfgs (adm m hok) 0).N + 1)).val) = 0 from rfl, Inv_zero]
  unfold Start Tabs
  iintro ⟨⟨⟨H0, H1, H2, H3⟩, Hg, ⟨H8, H9⟩, ⟨HG, HD⟩⟩, ⟨HE, HN, HX, HS⟩⟩
  isplitl [H0 H1 H2 H3 H8 H9 HG HD]
  · isplitl [H8]; · iexact H8
    isplitl [H9]; · iexact H9
    isplitl [H0]; · iexact H0
    isplitl [H1]; · iexact H1
    isplitl [H2]; · iexact H2
    isplitl [H3]; · iexact H3
    isplitl [HG]; · iexact HG
    iexact HD
  isplitl [HE HN HX HS]
  · isplitl [HE HX HS]
    · isplitl [HE]; · iexact HE
      isplitl [HS]; · iexact HS
      iexact HX
    iexact HN
  iexact Hg

theorem phi_out (c : Dev nD) :
    (dats m G hok 0 c).Φ (Fin.last (cfg0 (adm m hok 0)).N) ⊢ (Pipeline.ΦD osem0 spec0 H0 (V m) c : sProp 𝕄) := by
  rw [show (Pipeline.ΦD osem0 spec0 H0 (V m) c : sProp 𝕄) = iprop(Pipeline.scopedRest spec0 c ∗ (∃ r, prngReg c r) ∗ Pipeline.ownSems0 osem0 c
    ∗ bigSep H0 (fun b => ((c : Thread nD τ).loc b) ↦{fullShare} V m c b)) from rfl, scopedRest0_eq, ownSems0_eq, hbPts_eq]
  dsimp only [dats]
  rw [show ((Fin.last (cfg0 (adm m hok 0)).N).val) = 316 from N_0]
  iintro ⟨HI, HT, Hg⟩
  ihave HI := (Inv_end G c (V m c main_v0) (V m c main_v2)) $$ HI
  unfold Start
  icases HI with ⟨H8, H9, H0, H1, H2, H3, HG, HD⟩
  isplitl [H0 H1 H2 H3]
  · isplitl [H0]; · iexact H0
    isplitl [H1]; · iexact H1
    isplitl [H2]; · iexact H2
    iexact H3
  isplitl [Hg]; · iexact Hg
  isplitl [H8 H9]
  · isplitl [H8]; · iexact H8
    iexact H9
  isplitl [HG]; · iexact HG
  iexact HD

include hW in
set_option backward.isDefEq.respectTransparency.types false in
/-- THE RUN: @main terminates with the output array at what the blocks wrote, every other array as the region found
    it, and every semaphore at zero. -/
theorem run_main : θ_run defs (onTc (τ := τ) (main (F := F))) (s₀ m ρ)
    (fun r => Pipeline.FramePost (Pipeline.pin pcfgs (adm m hok)) (dats m G hok) 0 (V m) r ∧ r.2.sem = fun _ => 0) :=
  Pipeline.θ_run_frameP_dma (Q' := _) pcfgs (adm m hok) (dats m G hok) 0 launch0 osem0 defs₀ Variants.none ownSemFacts0 H0 H0_sub m ρ main
    (fun c => (body_obligation m G hok hW c).loose) (fun c => (dats m G hok 0 c).share_full fun _ => rfl) (fun _ _ => rfl) (V m)
    (hmain m Variants.none) (A_eq m G hok) (tbl_eq m) (phi_in m G hok) (phi_out m G hok)

end Cert.Moe
-- ==== Proof.Moe.Tab.lean ====
module
public import proofs.«01_k».proof.Proof.Moe.Run
public import Idealize.ShloMosaic.Lib.StableHlo.RunRead

@[expose] public section

set_option maxRecDepth 4000
set_option maxHeartbeats 1000000

noncomputable section

namespace Cert.Moe

open Cert.Kernel2Ideal Cert.Kernel2Ideal.Gen
open Idealize.ShloMosaic Idealize.ShloMosaic.TcCoe Idealize.ShloMosaic.Tactic

variable {F : FTy → Type} [FloatOps F]

/-! ## The host's integer arrays, as functions of the counts -/

/-- Arrays of words, and of bits. -/
abbrev W32 (S : Shape) : Type := IVec S 32
abbrev W1 (S : Shape) : Type := IVec S 1

/-- A word along the experts, along the blocks, and on both. -/
abbrev k32 (w : BitVec 32) : W32 S32 := broadcastInDim S32 ![] bcast_S_S32 (constantI S_ 32 w)
abbrev k316 (w : BitVec 32) : W32 S316 := broadcastInDim S316 ![] bcast_S_S316 (constantI S_ 32 w)

/-- The counts rounded up to whole blocks. -/
def padA (x : W32 S32) : W32 S32 :=
  let y : W32 S32 := subi (addi x (k32 512#32)) (k32 1#32)
  muli (select (andi (cmpi .ne (signi y) (broadcastInDim S32 ![] bcast_S_S32 (signi (constantI S_ 32 512#32)))) (cmpi .ne (Host.remsi y (k32 512#32)) (k32 0#32)))
    (subi (Host.divsi y (k32 512#32)) (k32 1#32)) (Host.divsi y (k32 512#32))) (k32 512#32)

/-- Their running sums. -/
def endsA (p : W32 S32) : W32 S32 :=
  Host.reduceWindow IntOp.addi ![32] ![1] ![31] ![0] p (broadcastInDim S_ ![] bcast_S_S_ (constantI S_ 32 0#32) : W32 S_) reduceWindows_S32_S32_w32s1p31_0 h_S_

/-- A word divided by the block's rows. -/
def quotA (y : W32 S_) : W32 S_ :=
  select (andi (cmpi .ne (signi y) (signi (constantI S_ 32 512#32))) (cmpi .ne (Host.remsi y (constantI S_ 32 512#32)) (constantI S_ 32 0#32)))
    (subi (Host.divsi y (constantI S_ 32 512#32)) (constantI S_ 32 1#32)) (Host.divsi y (constantI S_ 32 512#32))

/-- The number of blocks used. -/
def usedA (e : W32 S32) : W32 S1 :=
  let y : W32 S_ := shapeCast S_ (extractStridedSlice S1 ![31] e slices_S32_S1_31 : W32 S1) shapeCasts_S1_S_
  broadcastInDim S1 ![] bcast_S_S1 (quotA y)

/-- Where each block starts, the blocks past the used ones at the last used one's start. -/
def startA (u : W32 S1) : W32 S316 :=
  muli (minsi (iotaInDim S316 32 0) (broadcastInDim S316 ![] bcast_S_S316 (subi (shapeCast S_ u shapeCasts_S1_S_ : W32 S_) (constantI S_ 32 1#32)))) (k316 512#32)

/-- A row of experts, and a column of blocks, on both. -/
abbrev rowA {w : ℕ} (x : IVec S32 w) : IVec S316x32 w :=
  broadcastInDim S316x32 ![0, 1] bcast_S1x32_S316x32_0_1 (broadcastInDim S1x32 ![1] bcast_S32_S1x32_1 x)
abbrev colA {w : ℕ} (x : IVec S316 w) : IVec S316x32 w :=
  broadcastInDim S316x32 ![0, 1] bcast_S316x1_S316x32_0_1 (broadcastInDim S316x1 ![0] bcast_S316_S316x1_0 x)

/-- How many experts a mask over the blocks and the experts holds of. -/
def countA (b : W1 S316x32) : W32 S316 :=
  Host.reduce IntOp.addi (extui 32 b natLt_1_32 : W32 S316x32) (constantI S_ 32 0#32) reducesTo_S316x32_S316_d1 h_S_

/-- Each block's expert. -/
def expertA (e : W32 S32) (s : W32 S316) : W32 S316 :=
  minsi (countA (cmpi .sge (colA s) (rowA e))) (k316 31#32)

/-- Which experts have rows, and the experts' numbers. -/
def rowsA (p : W32 S32) : W1 S32 := cmpi .sgt p (k32 0#32)
abbrev numA : W32 S32 := iotaInDim S32 32 0

/-- Which experts with rows come after each block's. -/
def laterA (h : W1 S32) (b : W32 S316) : W1 S316x32 := andi (rowA h) (cmpi .sgt (rowA numA) (colA b))

/-- The next expert with rows, or minus one. -/
def nextA (k : W1 S316x32) : W32 S316 :=
  let l : W32 S316 := Host.reduce IntOp.minsi
    (select k (rowA numA) (broadcastInDim S316x32 ![] bcast_S_S316x32 (constantI S_ 32 32#32)) : W32 S316x32)
    (constantI S_ 32 2147483647#32) reducesTo_S316x32_S316_d1 h_S_
  select (cmpi .slt l (k316 32#32)) l (k316 4294967295#32)

/-- The weight slot each block uses. -/
def slotA (h : W1 S32) (b : W32 S316) : W32 S316 :=
  let y : W32 S316 := subi (countA (andi (rowA h) (cmpi .sle (rowA numA) (colA b)))) (k316 1#32)
  let k : W32 S_ := select (cmpi .eq (constantI S_ 32 2#32) (constantI S_ 32 0#32)) (constantI S_ 32 1#32) (constantI S_ 32 2#32)
  let r : W32 S316 := Host.remsi y (broadcastInDim S316 ![] bcast_S_S316 k)
  select (andi (cmpi .ne (cmpi .slt r (k316 0#32)) (broadcastInDim S316 ![] bcast_S_S316 (cmpi .slt k (constantI S_ 32 0#32)))) (cmpi .ne r (k316 0#32)))
    (addi r (broadcastInDim S316 ![] bcast_S_S316 k)) r

/-! ## What the region finds in the buffers -/

theorem rd1_v10 (U : Valuation τ sig (Elt F)) : StableHlo.after (hostOps0 ++ hostOps0_1 ++ hostOps0_2) U (Proc.devRef .tc main_v10) = padA (U (Proc.devRef .tc main_arg0)) := by
  dsimp only [List.cons_append, List.nil_append, hostOps0, hostOps0_1, hostOps0_2]
  after_reads_simp
  try simp only [StableHlo.TRef.ofBuf, StableHlo.TRef.toBuf, cast_eq, id_eq]
  try rfl

theorem rd1_v0 (U : Valuation τ sig (Elt F)) : StableHlo.after (hostOps0 ++ hostOps0_1 ++ hostOps0_2) U (Proc.devRef .tc main_v0) = shapeCast S32x1024x2048 (U (Proc.devRef .tc main_arg2)) shapeCasts_S1x32x1024x2048_S32x1024x2048 := by
  dsimp only [List.cons_append, List.nil_append, hostOps0, hostOps0_1, hostOps0_2]
  after_reads_simp
  try simp only [StableHlo.TRef.ofBuf, StableHlo.TRef.toBuf, cast_eq, id_eq]
  try rfl

theorem rd1_v1 (U : Valuation τ sig (Elt F)) : StableHlo.after (hostOps0 ++ hostOps0_1 ++ hostOps0_2) U (Proc.devRef .tc main_v1) = shapeCast S32x2048 (U (Proc.devRef .tc main_arg3)) shapeCasts_S1x32x2048_S32x2048 := by
  dsimp only [List.cons_append, List.nil_append, hostOps0, hostOps0_1, hostOps0_2]
  after_reads_simp
  try simp only [StableHlo.TRef.ofBuf, StableHlo.TRef.toBuf, cast_eq, id_eq]
  try rfl

theorem rd1_v2 (U : Valuation τ sig (Elt F)) : StableHlo.after (hostOps0 ++ hostOps0_1 ++ hostOps0_2) U (Proc.devRef .tc main_v2) = shapeCast S32x1024x1024 (U (Proc.devRef .tc main_arg4)) shapeCasts_S1x32x1024x1024_S32x1024x1024 := by
  dsimp only [List.cons_append, List.nil_append, hostOps0, hostOps0_1, hostOps0_2]
  after_reads_simp
  try simp only [StableHlo.TRef.ofBuf, StableHlo.TRef.toBuf, cast_eq, id_eq]
  try rfl

theorem rd1_v3 (U : Valuation τ sig (Elt F)) : StableHlo.after (hostOps0 ++ hostOps0_1 ++ hostOps0_2) U (Proc.devRef .tc main_v3) = shapeCast S32x1024 (U (Proc.devRef .tc main_arg5)) shapeCasts_S1x32x1024_S32x1024 := by
  dsimp only [List.cons_append, List.nil_append, hostOps0, hostOps0_1, hostOps0_2]
  after_reads_simp
  try simp only [StableHlo.TRef.ofBuf, StableHlo.TRef.toBuf, cast_eq, id_eq]
  try rfl

theorem rd2_v11 (U : Valuation τ sig (Elt F)) : StableHlo.after (hostOps0_3) U (Proc.devRef .tc main_v11) = endsA (U (Proc.devRef .tc main_v10)) := by
  dsimp only [List.cons_append, List.nil_append, hostOps0_3]
  after_reads_simp
  try simp only [StableHlo.TRef.ofBuf, StableHlo.TRef.toBuf, cast_eq, id_eq]
  try rfl

theorem rd3_v14 (U : Valuation τ sig (Elt F)) : StableHlo.after (hostOps0_4 ++ hostOps0_5) U (Proc.devRef .tc main_v14) = quotA (shapeCast S_ (extractStridedSlice S1 ![31] (U (Proc.devRef .tc main_v11)) slices_S32_S1_31) shapeCasts_S1_S_) := by
  dsimp only [List.cons_append, List.nil_append, hostOps0_4, hostOps0_5]
  after_reads_simp
  try simp only [StableHlo.TRef.ofBuf, StableHlo.TRef.toBuf, cast_eq, id_eq]
  try rfl

theorem rd4_v15 (U : Valuation τ sig (Elt F)) : StableHlo.after (hostOps0_6) U (Proc.devRef .tc main_v15) = broadcastInDim S1 ![] bcast_S_S1 (U (Proc.devRef .tc main_v14)) := by
  dsimp only [List.cons_append, List.nil_append, hostOps0_6]
  after_reads_simp
  try simp only [StableHlo.TRef.ofBuf, StableHlo.TRef.toBuf, cast_eq, id_eq]
  try rfl

theorem rd4_v31 (U : Valuation τ sig (Elt F)) : StableHlo.after (hostOps0_6) U (Proc.devRef .tc main_v31) = expertA (U (Proc.devRef .tc main_v11)) (startA (broadcastInDim S1 ![] bcast_S_S1 (U (Proc.devRef .tc main_v14)))) := by
  dsimp only [List.cons_append, List.nil_append, hostOps0_6]
  after_reads_simp
  try simp only [StableHlo.TRef.ofBuf, StableHlo.TRef.toBuf, cast_eq, id_eq]
  try rfl

theorem rd4_v34 (U : Valuation τ sig (Elt F)) : StableHlo.after (hostOps0_6) U (Proc.devRef .tc main_v34) = shapeCast S32x1x2048 (transpose S32x8x2x128 [0, 1, 3, 2] (shapeCast S32x8x128x2 (U (Proc.devRef .tc main_v1)) shapeCasts_S32x2048_S32x8x128x2) transposes_S32x8x128x2_S32x8x2x128_0_1_3_2) shapeCasts_S32x8x2x128_S32x1x2048 := by
  dsimp only [List.cons_append, List.nil_append, hostOps0_6]
  after_reads_simp
  try simp only [StableHlo.TRef.ofBuf, StableHlo.TRef.toBuf, cast_eq, id_eq]
  try rfl

theorem rd4_v36 (U : Valuation τ sig (Elt F)) : StableHlo.after (hostOps0_6) U (Proc.devRef .tc main_v36) = rowsA (U (Proc.devRef .tc main_v10)) := by
  dsimp only [List.cons_append, List.nil_append, hostOps0_6]
  after_reads_simp
  try simp only [StableHlo.TRef.ofBuf, StableHlo.TRef.toBuf, cast_eq, id_eq]
  try rfl

theorem rd4_v37 (U : Valuation τ sig (Elt F)) : StableHlo.after (hostOps0_6) U (Proc.devRef .tc main_v37) = numA := by
  dsimp only [List.cons_append, List.nil_append, hostOps0_6]
  after_reads_simp
  try simp only [StableHlo.TRef.ofBuf, StableHlo.TRef.toBuf, cast_eq, id_eq]

theorem rd4_v46 (U : Valuation τ sig (Elt F)) : StableHlo.after (hostOps0_6) U (Proc.devRef .tc main_v46) = broadcastInDim S1x32 ![1] bcast_S32_S1x32_1 numA := by
  dsimp only [List.cons_append, List.nil_append, hostOps0_6]
  after_reads_simp
  try simp only [StableHlo.TRef.ofBuf, StableHlo.TRef.toBuf, cast_eq, id_eq]
  try rfl

theorem rd4_c9 (U : Valuation τ sig (Elt F)) : StableHlo.after (hostOps0_6) U (Proc.devRef .tc main_c_9) = constantI S_ 32 32#32 := by
  dsimp only [List.cons_append, List.nil_append, hostOps0_6]
  after_reads_simp
  try simp only [StableHlo.TRef.ofBuf, StableHlo.TRef.toBuf, cast_eq, id_eq]
  try rfl

theorem rd4_v45 (U : Valuation τ sig (Elt F)) : StableHlo.after (hostOps0_6) U (Proc.devRef .tc main_v45) = laterA (rowsA (U (Proc.devRef .tc main_v10))) (expertA (U (Proc.devRef .tc main_v11)) (startA (broadcastInDim S1 ![] bcast_S_S1 (U (Proc.devRef .tc main_v14))))) := by
  dsimp only [List.cons_append, List.nil_append, hostOps0_6]
  after_reads_simp
  try simp only [StableHlo.TRef.ofBuf, StableHlo.TRef.toBuf, cast_eq, id_eq]
  try rfl

theorem rd5_v51 (U : Valuation τ sig (Elt F)) (h : U (Proc.devRef .tc main_v46) = broadcastInDim S1x32 ![1] bcast_S32_S1x32_1 numA) (h' : U (Proc.devRef .tc main_c_9) = constantI S_ 32 32#32) : StableHlo.after (hostOps0_7 ++ hostOps0_8 ++ hostOps0_9) U (Proc.devRef .tc main_v51) = nextA (U (Proc.devRef .tc main_v45)) := by
  dsimp only [List.cons_append, List.nil_append, hostOps0_7, hostOps0_8, hostOps0_9]
  after_reads_simp
  try simp only [StableHlo.TRef.ofBuf, StableHlo.TRef.toBuf, cast_eq, id_eq]
  rw [h, h']; rfl

theorem rd6_v64 (U : Valuation τ sig (Elt F)) (h : U (Proc.devRef .tc main_v37) = numA) : StableHlo.after (hostOps0_10 ++ hostOps0_11 ++ hostOps0_12) U (Proc.devRef .tc main_v64) = slotA (U (Proc.devRef .tc main_v36)) (U (Proc.devRef .tc main_v31)) := by
  dsimp only [List.cons_append, List.nil_append, hostOps0_10, hostOps0_11, hostOps0_12]
  after_reads_simp
  try simp only [StableHlo.TRef.ofBuf, StableHlo.TRef.toBuf, cast_eq, id_eq]
  rw [h]
  unfold slotA countA
  try rfl

theorem rd6_v65 (U : Valuation τ sig (Elt F)) : StableHlo.after (hostOps0_10 ++ hostOps0_11 ++ hostOps0_12) U (Proc.devRef .tc main_v65) = broadcastInDim S32x1x1024 ![0, 2] bcast_S32x1024_S32x1x1024_0_2 (U (Proc.devRef .tc main_v3)) := by
  dsimp only [List.cons_append, List.nil_append, hostOps0_10, hostOps0_11, hostOps0_12]
  after_reads_simp

theorem kp2_v10 (U : Valuation τ sig (Elt F)) : StableHlo.after (hostOps0_3) U (Proc.devRef .tc main_v10) = U (Proc.devRef .tc main_v10) := by
  dsimp only [List.cons_append, List.nil_append, hostOps0_3]
  after_reads_simp

theorem kp2_v0 (U : Valuation τ sig (Elt F)) : StableHlo.after (hostOps0_3) U (Proc.devRef .tc main_v0) = U (Proc.devRef .tc main_v0) := by
  dsimp only [List.cons_append, List.nil_append, hostOps0_3]
  after_reads_simp

theorem kp2_v1 (U : Valuation τ sig (Elt F)) : StableHlo.after (hostOps0_3) U (Proc.devRef .tc main_v1) = U (Proc.devRef .tc main_v1) := by
  dsimp only [List.cons_append, List.nil_append, hostOps0_3]
  after_reads_simp

theorem kp2_v2 (U : Valuation τ sig (Elt F)) : StableHlo.after (hostOps0_3) U (Proc.devRef .tc main_v2) = U (Proc.devRef .tc main_v2) := by
  dsimp only [List.cons_append, List.nil_append, hostOps0_3]
  after_reads_simp

theorem kp2_v3 (U : Valuation τ sig (Elt F)) : StableHlo.after (hostOps0_3) U (Proc.devRef .tc main_v3) = U (Proc.devRef .tc main_v3) := by
  dsimp only [List.cons_append, List.nil_append, hostOps0_3]
  after_reads_simp

theorem kp3_v10 (U : Valuation τ sig (Elt F)) : StableHlo.after (hostOps0_4 ++ hostOps0_5) U (Proc.devRef .tc main_v10) = U (Proc.devRef .tc main_v10) := by
  dsimp only [List.cons_append, List.nil_append, hostOps0_4, hostOps0_5]
  after_reads_simp

theorem kp3_v11 (U : Valuation τ sig (Elt F)) : StableHlo.after (hostOps0_4 ++ hostOps0_5) U (Proc.devRef .tc main_v11) = U (Proc.devRef .tc main_v11) := by
  dsimp only [List.cons_append, List.nil_append, hostOps0_4, hostOps0_5]
  after_reads_simp

theorem kp3_v0 (U : Valuation τ sig (Elt F)) : StableHlo.after (hostOps0_4 ++ hostOps0_5) U (Proc.devRef .tc main_v0) = U (Proc.devRef .tc main_v0) := by
  dsimp only [List.cons_append, List.nil_append, hostOps0_4, hostOps0_5]
  after_reads_simp

theorem kp3_v1 (U : Valuation τ sig (Elt F)) : StableHlo.after (hostOps0_4 ++ hostOps0_5) U (Proc.devRef .tc main_v1) = U (Proc.devRef .tc main_v1) := by
  dsimp only [List.cons_append, List.nil_append, hostOps0_4, hostOps0_5]
  after_reads_simp

theorem kp3_v2 (U : Valuation τ sig (Elt F)) : StableHlo.after (hostOps0_4 ++ hostOps0_5) U (Proc.devRef .tc main_v2) = U (Proc.devRef .tc main_v2) := by
  dsimp only [List.cons_append, List.nil_append, hostOps0_4, hostOps0_5]
  after_reads_simp

theorem kp3_v3 (U : Valuation τ sig (Elt F)) : StableHlo.after (hostOps0_4 ++ hostOps0_5) U (Proc.devRef .tc main_v3) = U (Proc.devRef .tc main_v3) := by
  dsimp only [List.cons_append, List.nil_append, hostOps0_4, hostOps0_5]
  after_reads_simp

theorem kp4_v0 (U : Valuation τ sig (Elt F)) : StableHlo.after (hostOps0_6) U (Proc.devRef .tc main_v0) = U (Proc.devRef .tc main_v0) := by
  dsimp only [List.cons_append, List.nil_append, hostOps0_6]
  after_reads_simp

theorem kp4_v2 (U : Valuation τ sig (Elt F)) : StableHlo.after (hostOps0_6) U (Proc.devRef .tc main_v2) = U (Proc.devRef .tc main_v2) := by
  dsimp only [List.cons_append, List.nil_append, hostOps0_6]
  after_reads_simp

theorem kp4_v3 (U : Valuation τ sig (Elt F)) : StableHlo.after (hostOps0_6) U (Proc.devRef .tc main_v3) = U (Proc.devRef .tc main_v3) := by
  dsimp only [List.cons_append, List.nil_append, hostOps0_6]
  after_reads_simp

theorem kp5_v15 (U : Valuation τ sig (Elt F)) : StableHlo.after (hostOps0_7 ++ hostOps0_8 ++ hostOps0_9) U (Proc.devRef .tc main_v15) = U (Proc.devRef .tc main_v15) := by
  dsimp only [List.cons_append, List.nil_append, hostOps0_7, hostOps0_8, hostOps0_9]
  after_reads_simp

theorem kp5_v31 (U : Valuation τ sig (Elt F)) : StableHlo.after (hostOps0_7 ++ hostOps0_8 ++ hostOps0_9) U (Proc.devRef .tc main_v31) = U (Proc.devRef .tc main_v31) := by
  dsimp only [List.cons_append, List.nil_append, hostOps0_7, hostOps0_8, hostOps0_9]
  after_reads_simp

theorem kp5_v34 (U : Valuation τ sig (Elt F)) : StableHlo.after (hostOps0_7 ++ hostOps0_8 ++ hostOps0_9) U (Proc.devRef .tc main_v34) = U (Proc.devRef .tc main_v34) := by
  dsimp only [List.cons_append, List.nil_append, hostOps0_7, hostOps0_8, hostOps0_9]
  after_reads_simp

theorem kp5_v36 (U : Valuation τ sig (Elt F)) : StableHlo.after (hostOps0_7 ++ hostOps0_8 ++ hostOps0_9) U (Proc.devRef .tc main_v36) = U (Proc.devRef .tc main_v36) := by
  dsimp only [List.cons_append, List.nil_append, hostOps0_7, hostOps0_8, hostOps0_9]
  after_reads_simp

theorem kp5_v37 (U : Valuation τ sig (Elt F)) : StableHlo.after (hostOps0_7 ++ hostOps0_8 ++ hostOps0_9) U (Proc.devRef .tc main_v37) = U (Proc.devRef .tc main_v37) := by
  dsimp only [List.cons_append, List.nil_append, hostOps0_7, hostOps0_8, hostOps0_9]
  after_reads_simp

theorem kp5_v0 (U : Valuation τ sig (Elt F)) : StableHlo.after (hostOps0_7 ++ hostOps0_8 ++ hostOps0_9) U (Proc.devRef .tc main_v0) = U (Proc.devRef .tc main_v0) := by
  dsimp only [List.cons_append, List.nil_append, hostOps0_7, hostOps0_8, hostOps0_9]
  after_reads_simp

theorem kp5_v2 (U : Valuation τ sig (Elt F)) : StableHlo.after (hostOps0_7 ++ hostOps0_8 ++ hostOps0_9) U (Proc.devRef .tc main_v2) = U (Proc.devRef .tc main_v2) := by
  dsimp only [List.cons_append, List.nil_append, hostOps0_7, hostOps0_8, hostOps0_9]
  after_reads_simp

theorem kp5_v3 (U : Valuation τ sig (Elt F)) : StableHlo.after (hostOps0_7 ++ hostOps0_8 ++ hostOps0_9) U (Proc.devRef .tc main_v3) = U (Proc.devRef .tc main_v3) := by
  dsimp only [List.cons_append, List.nil_append, hostOps0_7, hostOps0_8, hostOps0_9]
  after_reads_simp

theorem kp6_v15 (U : Valuation τ sig (Elt F)) : StableHlo.after (hostOps0_10 ++ hostOps0_11 ++ hostOps0_12) U (Proc.devRef .tc main_v15) = U (Proc.devRef .tc main_v15) := by
  dsimp only [List.cons_append, List.nil_append, hostOps0_10, hostOps0_11, hostOps0_12]
  after_reads_simp

theorem kp6_v31 (U : Valuation τ sig (Elt F)) : StableHlo.after (hostOps0_10 ++ hostOps0_11 ++ hostOps0_12) U (Proc.devRef .tc main_v31) = U (Proc.devRef .tc main_v31) := by
  dsimp only [List.cons_append, List.nil_append, hostOps0_10, hostOps0_11, hostOps0_12]
  after_reads_simp

theorem kp6_v34 (U : Valuation τ sig (Elt F)) : StableHlo.after (hostOps0_10 ++ hostOps0_11 ++ hostOps0_12) U (Proc.devRef .tc main_v34) = U (Proc.devRef .tc main_v34) := by
  dsimp only [List.cons_append, List.nil_append, hostOps0_10, hostOps0_11, hostOps0_12]
  after_reads_simp

theorem kp6_v51 (U : Valuation τ sig (Elt F)) : StableHlo.after (hostOps0_10 ++ hostOps0_11 ++ hostOps0_12) U (Proc.devRef .tc main_v51) = U (Proc.devRef .tc main_v51) := by
  dsimp only [List.cons_append, List.nil_append, hostOps0_10, hostOps0_11, hostOps0_12]
  after_reads_simp

theorem kp6_v0 (U : Valuation τ sig (Elt F)) : StableHlo.after (hostOps0_10 ++ hostOps0_11 ++ hostOps0_12) U (Proc.devRef .tc main_v0) = U (Proc.devRef .tc main_v0) := by
  dsimp only [List.cons_append, List.nil_append, hostOps0_10, hostOps0_11, hostOps0_12]
  after_reads_simp

theorem kp6_v2 (U : Valuation τ sig (Elt F)) : StableHlo.after (hostOps0_10 ++ hostOps0_11 ++ hostOps0_12) U (Proc.devRef .tc main_v2) = U (Proc.devRef .tc main_v2) := by
  dsimp only [List.cons_append, List.nil_append, hostOps0_10, hostOps0_11, hostOps0_12]
  after_reads_simp

/-! ## What the region finds in the buffers -/

variable (m : (ℓ : Loc nD τ sig) → Buf (Elt F) ℓ)

/-- Two lines of operations, one after the other. -/
theorem after_two (l₁ l₂ : List (HloOp τ sig (Elt F))) (U : Valuation τ sig (Elt F)) :
    StableHlo.after (l₁ ++ l₂) U = StableHlo.after l₂ (StableHlo.after l₁ U) := by
  induction l₁ generalizing U with
  | nil => rfl
  | cons op l ih => exact ih _

/-- The host operations, stage by stage. -/
theorem V_eq (c : Dev nD) (b : Ref sig .tc) : V m c b =
    StableHlo.after (hostOps0_10 ++ hostOps0_11 ++ hostOps0_12) (StableHlo.after (hostOps0_7 ++ hostOps0_8 ++ hostOps0_9) (StableHlo.after (hostOps0_6) (StableHlo.after (hostOps0_4 ++ hostOps0_5)
      (StableHlo.after (hostOps0_3) (StableHlo.after (hostOps0 ++ hostOps0_1 ++ hostOps0_2) (fun b => m (c, b))))))) (Proc.devRef .tc b) := by
  unfold V
  simp only [opss, List.flatten_cons, List.flatten_nil, List.append_nil, after_two]

/-- The counts rounded up, their running sums, each block's expert. -/
abbrev pad (c : Dev nD) : W32 S32 := padA (m ((c : Thread nD τ).loc main_arg0))
abbrev ends (c : Dev nD) : W32 S32 := endsA (pad m c)
abbrev expert (c : Dev nD) : W32 S316 := expertA (ends m c) (startA (usedA (ends m c)))

theorem V_v15 (c : Dev nD) : V m c main_v15 = usedA (ends m c) := by
  rw [V_eq, kp6_v15, kp5_v15, rd4_v15, rd3_v14, rd2_v11, rd1_v10]
  try rfl

theorem V_v31 (c : Dev nD) : V m c main_v31 = expert m c := by
  rw [V_eq, kp6_v31, kp5_v31, rd4_v31, kp3_v11, rd3_v14, rd2_v11, rd1_v10]
  try rfl

theorem V_v51 (c : Dev nD) : V m c main_v51 = nextA (laterA (rowsA (pad m c)) (expert m c)) := by
  rw [V_eq, kp6_v51, rd5_v51 _ (rd4_v46 _) (rd4_c9 _), rd4_v45, kp3_v10, kp3_v11, rd3_v14, kp2_v10, rd2_v11, rd1_v10]
  try rfl

theorem V_v64 (c : Dev nD) : V m c main_v64 = slotA (rowsA (pad m c)) (expert m c) := by
  rw [V_eq, rd6_v64 _ ((kp5_v37 _).trans (rd4_v37 _)), kp5_v36, kp5_v31, rd4_v36, rd4_v31, kp3_v10, kp3_v11, rd3_v14, kp2_v10, rd2_v11, rd1_v10]
  try rfl

theorem V_v0 (c : Dev nD) : V m c main_v0 = shapeCast S32x1024x2048 (m ((c : Thread nD τ).loc main_arg2)) shapeCasts_S1x32x1024x2048_S32x1024x2048 := by
  rw [V_eq, kp6_v0, kp5_v0, kp4_v0, kp3_v0, kp2_v0, rd1_v0]
  try rfl

theorem V_v2 (c : Dev nD) : V m c main_v2 = shapeCast S32x1024x1024 (m ((c : Thread nD τ).loc main_arg4)) shapeCasts_S1x32x1024x1024_S32x1024x1024 := by
  rw [V_eq, kp6_v2, kp5_v2, kp4_v2, kp3_v2, kp2_v2, rd1_v2]
  try rfl

theorem V_v34 (c : Dev nD) : V m c main_v34 = shapeCast S32x1x2048 (transpose S32x8x2x128 [0, 1, 3, 2] (shapeCast S32x8x128x2 (shapeCast S32x2048 (m ((c : Thread nD τ).loc main_arg3)) shapeCasts_S1x32x2048_S32x2048) shapeCasts_S32x2048_S32x8x128x2) transposes_S32x8x128x2_S32x8x2x128_0_1_3_2) shapeCasts_S32x8x2x128_S32x1x2048 := by
  rw [V_eq]
  simp only [rd1_v10, rd1_v0, rd1_v1, rd1_v2, rd1_v3, rd2_v11, rd3_v14, rd4_v15, rd4_v31, rd4_v34, rd4_v36, rd4_v37, rd4_v46, rd4_c9, rd4_v45, rd5_v51, rd6_v64, rd6_v65, kp2_v10, kp2_v0, kp2_v1, kp2_v2, kp2_v3, kp3_v10, kp3_v11, kp3_v0, kp3_v1, kp3_v2, kp3_v3, kp4_v0, kp4_v2, kp4_v3, kp5_v15, kp5_v31, kp5_v34, kp5_v36, kp5_v37, kp5_v0, kp5_v2, kp5_v3, kp6_v15, kp6_v31, kp6_v34, kp6_v51, kp6_v0, kp6_v2]
  rfl

theorem V_v65 (c : Dev nD) : V m c main_v65 = broadcastInDim S32x1x1024 ![0, 2] bcast_S32x1024_S32x1x1024_0_2 (shapeCast S32x1024 (m ((c : Thread nD τ).loc main_arg5)) shapeCasts_S1x32x1024_S32x1024) := by
  rw [V_eq]
  simp only [rd1_v10, rd1_v0, rd1_v1, rd1_v2, rd1_v3, rd2_v11, rd3_v14, rd4_v15, rd4_v31, rd4_v34, rd4_v36, rd4_v37, rd4_v46, rd4_c9, rd4_v45, rd5_v51, rd6_v64, rd6_v65, kp2_v10, kp2_v0, kp2_v1, kp2_v2, kp2_v3, kp3_v10, kp3_v11, kp3_v0, kp3_v1, kp3_v2, kp3_v3, kp4_v0, kp4_v2, kp4_v3, kp5_v15, kp5_v31, kp5_v34, kp5_v36, kp5_v37, kp5_v0, kp5_v2, kp5_v3, kp6_v15, kp6_v31, kp6_v34, kp6_v51, kp6_v0, kp6_v2]
  rfl

theorem V_main_arg0 (c : Dev nD) : V m c main_arg0 = m ((c : Thread nD τ).loc main_arg0) :=
  StableHlo.after_of_forall_not_mem (b := Proc.devRef .tc main_arg0) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))

end Cert.Moe
-- ==== Proof.Moe.Count.lean ====
module
public import proofs.«01_k».proof.Proof.Moe.Nums
public import proofs.«01_k».proof.Proof.Moe.Tab
public import Idealize.ShloMosaic.Lib.Routing.Ops
public import Idealize.ShloMosaic.Lib.Routing.Shapes
public import Idealize.ShloMosaic.Lib.Routing.BitFacts

@[expose] public section

noncomputable section

namespace Cert.Moe

open Cert.Kernel2Ideal Cert.Kernel2Ideal.Gen
open Idealize.ShloMosaic Idealize.ShloMosaic.TcCoe Idealize.ShloMosaic.Routing Idealize.ShloMosaic.ValueIdx

/-! ## The host's words hold the routing's numbers -/

theorem rem512 {a : ℕ} (ha : a < 2 ^ 31) : IntOp.remsi .host (BitVec.ofNat 32 a) 512#32 = BitVec.ofNat 32 (a % 512) := by
  unfold IntOp.remsi
  rw [if_neg (fun h => by rcases h with h | ⟨_, h⟩ <;> exact absurd h (by decide))]
  exact srem_ofNat32 ha (b := 512) (by decide)

theorem div512 {a : ℕ} (ha : a < 2 ^ 31) : IntOp.divsi .host (BitVec.ofNat 32 a) 512#32 = BitVec.ofNat 32 (a / 512) := by
  unfold IntOp.divsi
  rw [if_neg (fun h => by rcases h with h | ⟨_, h⟩ <;> exact absurd h (by decide))]
  exact sdiv_ofNat32 ha (b := 512) (by decide)

/-- A word's sign. -/
abbrev sg (x : BitVec 32) : BitVec 32 := if x = 0 then 0 else if x.msb then -1 else 1

/-- Rounded-down division by 512. -/
abbrev quotW (y : BitVec 32) : BitVec 32 :=
  Scalar.select (IntOp.andi (IntOp.cmpi .ne (sg y) (sg 512#32)) (IntOp.cmpi .ne (IntOp.remsi .host y 512#32) 0#32))
    (IntOp.subi (IntOp.divsi .host y 512#32) 1#32) (IntOp.divsi .host y 512#32)

theorem quotW_ofNat {a : ℕ} (ha : a < 2 ^ 31) : quotW (BitVec.ofNat 32 a) = BitVec.ofNat 32 (a / 512) := by
  unfold quotW
  rw [div512 ha, rem512 ha]
  rcases Nat.eq_zero_or_pos a with rfl | h0
  · decide
  · have hs : sg (BitVec.ofNat 32 a) = 1 := by
      unfold sg; rw [if_neg (ofNat32_ne_zero h0 (by omega)), msb_ofNat32 ha]; rfl
    rw [hs, show IntOp.cmpi .ne (1 : BitVec 32) (sg 512#32) = 0#1 by decide]
    have : ∀ b : BitVec 1, IntOp.andi 0#1 b = 0#1 := by decide
    rw [this]; rfl

theorem minsi_ofNat {a b : ℕ} (ha : a < 2 ^ 31) (hb : b < 2 ^ 31) : IntOp.minsi (BitVec.ofNat 32 a) (BitVec.ofNat 32 b) = BitVec.ofNat 32 (min a b) := by
  unfold IntOp.minsi
  rw [slt_ofNat32 ha hb]
  by_cases h : a < b
  · rw [decide_eq_true h, if_pos rfl, Nat.min_eq_left h.le]
  · rw [decide_eq_false h, if_neg (by decide), Nat.min_eq_right (by omega)]

theorem row_at {w : ℕ} (x : IVec S32 w) (t : Fin 316) (q : Fin 32) : rowA x (ix2 t q) = x (ix1 q) :=
  bcCols bcast_S32_S1x32_1 bcast_S1x32_S316x32_0_1 x t q
theorem col_at {w : ℕ} (x : IVec S316 w) (t : Fin 316) (q : Fin 32) : colA x (ix2 t q) = x (ix1 t) :=
  bcRows bcast_S316_S316x1_0 bcast_S316x1_S316x32_0_1 x t q

theorem pad_at (x : W32 S32) (e : Fin 32) {a : ℕ} (hx : x (ix1 e) = BitVec.ofNat 32 a) (ha : a ≤ 145408) :
    padA x (ix1 e) = BitVec.ofNat 32 ((a + 511) / 512 * 512) := by
  show IntOp.muli (quotW (IntOp.subi (IntOp.addi (x (ix1 e)) 512#32) 1#32)) 512#32 = _
  have hy : IntOp.subi (IntOp.addi (x (ix1 e)) 512#32) 1#32 = BitVec.ofNat 32 (a + 511) := by
    rw [hx]
    show BitVec.ofNat 32 a + BitVec.ofNat 32 512 - BitVec.ofNat 32 1 = _
    rw [← BitVec.ofNat_add, ofNat32_sub (by omega)]
    rfl
  rw [hy, quotW_ofNat (by omega)]
  show BitVec.ofNat 32 ((a + 511) / 512) * BitVec.ofNat 32 512 = _
  rw [← BitVec.ofNat_mul]

theorem ends_at (p : W32 S32) (f : ℕ → ℕ) (hp : ∀ e : Fin 32, p (ix1 e) = BitVec.ofNat 32 (f e.val)) (e : Fin 32) :
    endsA p (ix1 e) = BitVec.ofNat 32 (((List.range (e.val + 1)).map f).sum) :=
  cumsum1 (N := 32) (Nm1 := 31) rfl p f hp _ ((bc0 bcast_S_S_ _ _).trans rfl) reduceWindows_S32_S32_w32s1p31_0 h_S_ e

theorem used_at (e : W32 S32) {a : ℕ} (he : e (ix1 31) = BitVec.ofNat 32 a) (ha : a < 2 ^ 31) (j : S1.Idx) :
    usedA e j = BitVec.ofNat 32 (a / 512) := by
  unfold usedA
  refine (bc0 bcast_S_S1 _ j).trans ?_
  have hy : (shapeCast S_ (extractStridedSlice S1 ![31] e slices_S32_S1_31 : W32 S1) shapeCasts_S1_S_ : W32 S_) ix0 = BitVec.ofNat 32 a := by
    have hj : ∀ j : S1.Idx, (extractStridedSlice S1 ![31] e slices_S32_S1_31 : W32 S1) j = e (ix1 31) := fun j => by
      refine congrArg e (funext fun k => ?_)
      match k with
      | ⟨0, _⟩ =>
        refine Fin.ext ?_
        show 31 + (j 0).val = 31
        have : (j 0).val < 1 := (j 0).isLt
        omega
    exact (hj _).trans he
  show quotW _ = _
  rw [hy]
  exact quotW_ofNat ha

theorem start_at (u : W32 S1) {n : ℕ} (hu : ∀ j, u j = BitVec.ofNat 32 n) (h1 : 1 ≤ n) (hn : n ≤ 316) (t : Fin 316) :
    startA u (ix1 t) = BitVec.ofNat 32 (512 * min t.val (n - 1)) := by
  show IntOp.muli (IntOp.minsi (BitVec.ofNat 32 t.val) (broadcastInDim S316 ![] bcast_S_S316 (subi (shapeCast S_ u shapeCasts_S1_S_ : W32 S_) (constantI S_ 32 1#32)) (ix1 t))) 512#32 = _
  rw [bc0 bcast_S_S316]
  have hs : (subi (shapeCast S_ u shapeCasts_S1_S_ : W32 S_) (constantI S_ 32 1#32)) ix0 = BitVec.ofNat 32 (n - 1) := by
    show u _ - BitVec.ofNat 32 1 = _
    rw [hu, ofNat32_sub h1]
  have ht := t.isLt
  rw [hs, minsi_ofNat (by omega) (by omega), Nat.mul_comm]
  show BitVec.ofNat 32 _ * BitVec.ofNat 32 512 = _
  rw [← BitVec.ofNat_mul]

/-- A count over the experts. -/
theorem count_at (b : W1 S316x32) (t : Fin 316) (Q : ℕ → Prop) [DecidablePred Q] (hQ : ∀ q : Fin 32, b (ix2 t q) = 1#1 ↔ Q q.val) :
    countA b (ix1 t) = BitVec.ofNat 32 (Nat.count Q 32) :=
  reduce_count (n := 316) (m := 32) (by decide) b natLt_1_32 reducesTo_S316x32_S316_d1 h_S_ t Q hQ

theorem sle_one {a b : ℕ} (ha : a < 2 ^ 31) (hb : b < 2 ^ 31) : IntOp.cmpi .sle (BitVec.ofNat 32 a) (BitVec.ofNat 32 b) = 1#1 ↔ a ≤ b :=
  StableHlo.Predicate.sle_ofNat_iff a b ha hb
theorem sge_one {a b : ℕ} (ha : a < 2 ^ 31) (hb : b < 2 ^ 31) : IntOp.cmpi .sge (BitVec.ofNat 32 a) (BitVec.ofNat 32 b) = 1#1 ↔ b ≤ a :=
  StableHlo.Predicate.sle_ofNat_iff b a hb ha
theorem sgt_one {a b : ℕ} (ha : a < 2 ^ 31) (hb : b < 2 ^ 31) : IntOp.cmpi .sgt (BitVec.ofNat 32 a) (BitVec.ofNat 32 b) = 1#1 ↔ b < a :=
  StableHlo.Predicate.slt_ofNat_iff b a hb ha

theorem expert_at (e : W32 S32) (s : W32 S316) (f : ℕ → ℕ) (hf : ∀ q, q < 32 → f q < 2 ^ 31) (he : ∀ q : Fin 32, e (ix1 q) = BitVec.ofNat 32 (f q.val))
    (t : Fin 316) {v : ℕ} (hv : v < 2 ^ 31) (hs : s (ix1 t) = BitVec.ofNat 32 v) :
    expertA e s (ix1 t) = BitVec.ofNat 32 (min (Nat.count (fun q => f q ≤ v) 32) 31) := by
  show IntOp.minsi (countA (cmpi .sge (colA s) (rowA e)) (ix1 t)) (BitVec.ofNat 32 31) = _
  rw [count_at (cmpi .sge (colA s) (rowA e)) t (fun q => f q ≤ v) fun q => ?_]
  · exact minsi_ofNat (lt_of_le_of_lt (Nat.count_le _) (by decide)) (by decide)
  · show IntOp.cmpi .sge (colA s (ix2 t q)) (rowA e (ix2 t q)) = 1#1 ↔ _
    rw [row_at, col_at, hs, he]
    exact sge_one hv (hf _ q.isLt)

theorem rows_at (p : W32 S32) (f : ℕ → ℕ) (hf : ∀ q, q < 32 → f q < 2 ^ 31) (hp : ∀ q : Fin 32, p (ix1 q) = BitVec.ofNat 32 (f q.val)) (q : Fin 32) :
    rowsA p (ix1 q) = 1#1 ↔ 0 < f q.val := by
  show IntOp.cmpi .sgt (p (ix1 q)) (BitVec.ofNat 32 0) = 1#1 ↔ _
  rw [hp]; exact sgt_one (hf _ q.isLt) (by decide)

theorem later_at (h : W1 S32) (b : W32 S316) (t : Fin 316) {v : ℕ} (hv : v < 32) (hb : b (ix1 t) = BitVec.ofNat 32 v) (q : Fin 32) :
    laterA h b (ix2 t q) = 1#1 ↔ h (ix1 q) = 1#1 ∧ v < q.val := by
  show IntOp.andi (rowA h (ix2 t q)) (IntOp.cmpi .sgt (rowA numA (ix2 t q)) (colA b (ix2 t q))) = 1#1 ↔ _
  rw [IntOp.andi_eq_one, row_at, row_at, col_at, hb]
  refine and_congr_right fun _ => ?_
  have := q.isLt
  exact sgt_one (a := q.val) (by omega) (by omega)

/-- A smallest word along a row, of words holding small numbers. -/
theorem fold_minsi {ι : Type} [DecidableEq ι] (S : Finset ι) (f : ι → BitVec 32) (g : ι → ℕ) {i0 : ℕ} (h0 : i0 < 2 ^ 31) (hg : ∀ i ∈ S, g i < 2 ^ 31 ∧ f i = BitVec.ofNat 32 (g i)) :
    S.fold IntOp.minsi (BitVec.ofNat 32 i0) f = BitVec.ofNat 32 (S.fold min i0 g) ∧ S.fold min i0 g < 2 ^ 31 := by
  induction S using Finset.cons_induction with
  | empty => exact ⟨rfl, h0⟩
  | cons a S ha ih =>
    obtain ⟨h1, h2⟩ := hg a (Finset.mem_cons_self a S)
    obtain ⟨i1, i2⟩ := ih fun i hi => hg i (Finset.mem_cons_of_mem hi)
    rw [Finset.fold_cons, Finset.fold_cons]
    refine ⟨?_, lt_of_le_of_lt (Nat.min_le_left _ _) h1⟩
    rw [i1, h2]
    exact minsi_ofNat h1 i2

theorem min_at (x : W32 S316x32) (t : Fin 316) (g : Fin 32 → ℕ) (hg : ∀ q, g q < 2 ^ 31) (hx : ∀ q : Fin 32, x (ix2 t q) = BitVec.ofNat 32 (g q)) :
    (Host.reduce IntOp.minsi x (constantI S_ 32 2147483647#32) reducesTo_S316x32_S316_d1 h_S_ : W32 S316) (ix1 t)
      = BitVec.ofNat 32 ((Finset.univ : Finset (Fin 32)).fold min 2147483647 g) := by
  classical
  refine (Host.reduce_eq_fold IntOp.minsi x (constantI S_ 32 2147483647#32) reducesTo_S316x32_S316_d1 h_S_ (ix1 t)).trans ?_
  have hset : (Finset.univ.filter fun i : S316x32.Idx => reducesTo_S316x32_S316_d1.drop i = ix1 t) = (Finset.univ : Finset (Fin 32)).map ⟨fun q => (ix2 t q : S316x32.Idx), fun a b h => congrFun h 1⟩ := by
    ext i
    rw [Finset.mem_filter, Finset.mem_map]
    constructor
    · rintro ⟨_, hi⟩
      refine ⟨i 1, Finset.mem_univ _, ?_⟩
      have hv : (reducesTo_S316x32_S316_d1.drop i 0 : ℕ) = i 0 := Shape.ReducesTo.drop_apply_val reducesTo_S316x32_S316_d1 i 0
      rw [hi] at hv
      funext k
      match k with
      | ⟨0, _⟩ => exact Fin.ext hv
      | ⟨1, _⟩ => rfl
    · rintro ⟨q, _, rfl⟩
      refine ⟨Finset.mem_univ _, funext fun k => ?_⟩
      match k with
      | ⟨0, _⟩ => exact Fin.ext (Shape.ReducesTo.drop_apply_val reducesTo_S316x32_S316_d1 _ 0)
  rw [hset, Finset.fold_map]
  exact (fold_minsi _ _ g (i0 := 2147483647) (by decide) fun q _ => ⟨hg q, hx q⟩).1

theorem next_at (k : W1 S316x32) (t : Fin 316) (Q : ℕ → Prop) [DecidablePred Q] (hQ : ∀ q : Fin 32, k (ix2 t q) = 1#1 ↔ Q q.val) :
    nextA k (ix1 t) = if (Finset.univ : Finset (Fin 32)).fold min 2147483647 (fun e => if Q e.val then e.val else 32) < 32
      then BitVec.ofNat 32 ((Finset.univ : Finset (Fin 32)).fold min 2147483647 (fun e => if Q e.val then e.val else 32)) else 4294967295#32 := by
  have hm := min_at (select k (rowA numA) (broadcastInDim S316x32 ![] bcast_S_S316x32 (constantI S_ 32 32#32))) t
    (fun e => if Q e.val then e.val else 32) (fun q => by have := q.isLt; split <;> omega) fun q => by
      show Scalar.select (k (ix2 t q)) (rowA numA (ix2 t q)) 32#32 = _
      rw [row_at]
      by_cases h : Q q.val
      · rw [(hQ q).2 h, if_pos h]; rfl
      · have : k (ix2 t q) = 0#1 := (BitVec.eq_zero_or_eq_one _).resolve_right fun h1 => h ((hQ q).1 h1)
        rw [this, if_neg h]; rfl
  set M := (Finset.univ : Finset (Fin 32)).fold min 2147483647 (fun e => if Q e.val then e.val else 32) with hM
  have hlt : M < 2 ^ 31 := lt_of_le_of_lt ((Finset.fold_min_le _).2 (Or.inl le_rfl)) (by decide)
  show Scalar.select (IntOp.cmpi .slt ((Host.reduce IntOp.minsi (select k (rowA numA) (broadcastInDim S316x32 ![] bcast_S_S316x32 (constantI S_ 32 32#32)))
    (constantI S_ 32 2147483647#32) reducesTo_S316x32_S316_d1 h_S_ : W32 S316) (ix1 t)) (BitVec.ofNat 32 32))
    ((Host.reduce IntOp.minsi (select k (rowA numA) (broadcastInDim S316x32 ![] bcast_S_S316x32 (constantI S_ 32 32#32)))
    (constantI S_ 32 2147483647#32) reducesTo_S316x32_S316_d1 h_S_ : W32 S316) (ix1 t)) 4294967295#32 = _
  rw [hm]
  have hc : IntOp.cmpi .slt (BitVec.ofNat 32 M) (BitVec.ofNat 32 32) = BitVec.ofBool (decide (M < 32)) := by
    unfold IntOp.cmpi; rw [slt_ofNat32 hlt (by decide)]
  rw [hc]
  by_cases h : M < 32
  · rw [decide_eq_true h, if_pos h]; rfl
  · rw [decide_eq_false h, if_neg h]; rfl

theorem slot_at (h : W1 S32) (b : W32 S316) (t : Fin 316) {v : ℕ} (hv : v < 32) (hb : b (ix1 t) = BitVec.ofNat 32 v) (Q : ℕ → Prop) [DecidablePred Q]
    (hQ : ∀ q : Fin 32, h (ix1 q) = 1#1 ↔ Q q.val) (h1 : 1 ≤ Nat.count (fun e => Q e ∧ e ≤ v) 32) :
    slotA h b (ix1 t) = BitVec.ofNat 32 ((Nat.count (fun e => Q e ∧ e ≤ v) 32 - 1) % 2) := by
  have hcount := count_at (andi (rowA h) (cmpi .sle (rowA numA) (colA b))) t (fun e => Q e ∧ e ≤ v) fun q => by
    show IntOp.andi (rowA h (ix2 t q)) (IntOp.cmpi .sle (rowA numA (ix2 t q)) (colA b (ix2 t q))) = 1#1 ↔ _
    rw [IntOp.andi_eq_one, row_at, row_at, col_at, hb, hQ]
    refine and_congr_right fun _ => ?_
    have := q.isLt
    exact sle_one (a := q.val) (by omega) (by omega)
  have hle := Nat.count_le (p := fun e => Q e ∧ e ≤ v) (n := 32)
  generalize hN : Nat.count (fun e => Q e ∧ e ≤ v) 32 = N at *
  have hy : IntOp.subi (countA (andi (rowA h) (cmpi .sle (rowA numA) (colA b))) (ix1 t)) 1#32 = BitVec.ofNat 32 (N - 1) := by
    rw [hcount]; exact ofNat32_sub h1
  have hr : IntOp.remsi .host (IntOp.subi (countA (andi (rowA h) (cmpi .sle (rowA numA) (colA b))) (ix1 t)) 1#32) 2#32 = BitVec.ofNat 32 ((N - 1) % 2) := by
    rw [hy]
    unfold IntOp.remsi
    rw [if_neg (fun h => by rcases h with h | ⟨_, h⟩ <;> exact absurd h (by decide))]
    exact srem_ofNat32 (by omega) (b := 2) (by decide)
  show Scalar.select (IntOp.andi (IntOp.cmpi .ne (IntOp.cmpi .slt (IntOp.remsi .host (IntOp.subi (countA (andi (rowA h) (cmpi .sle (rowA numA) (colA b))) (ix1 t)) 1#32) 2#32) 0#32) 0#1)
      (IntOp.cmpi .ne (IntOp.remsi .host (IntOp.subi (countA (andi (rowA h) (cmpi .sle (rowA numA) (colA b))) (ix1 t)) 1#32) 2#32) 0#32))
    (IntOp.addi (IntOp.remsi .host (IntOp.subi (countA (andi (rowA h) (cmpi .sle (rowA numA) (colA b))) (ix1 t)) 1#32) 2#32) 2#32)
    (IntOp.remsi .host (IntOp.subi (countA (andi (rowA h) (cmpi .sle (rowA numA) (colA b))) (ix1 t)) 1#32) 2#32) = _
  rw [hr]
  rcases Nat.mod_two_eq_zero_or_one (N - 1) with h0 | h0 <;> rw [h0] <;> decide

end Cert.Moe
-- ==== Proof.Moe.Tables.lean ====
/-
  What the precondition of the expert call says of the counts, and the tables the kernel is given under it.
-/
module
public import proofs.«01_k».proof.Pre_routed
public import proofs.«01_k».proof.Proof.Gen.Pre_routed
public import proofs.«01_k».proof.Proof.Moe.Count
public import Idealize.ShloMosaic.Lib.ReduceAll
public import Idealize.ShloMosaic.Lib.Affine

@[expose] public section

noncomputable section

namespace Cert.Moe

open Cert.Kernel2Ideal Cert.Kernel2Ideal.Gen
open Idealize.ShloMosaic Idealize.ShloMosaic.TcCoe Idealize.ShloMosaic.Routing Idealize.ShloMosaic.ValueIdx

/-- The counts as numbers. -/
def cN (x : W32 S32) (e : ℕ) : ℕ := if h : e < 32 then (x (ix1 ⟨e, h⟩)).toNat else 0

theorem cN_at (x : W32 S32) (e : Fin 32) : x (ix1 e) = BitVec.ofNat 32 (cN x e.val) := by
  unfold cN
  rw [dif_pos e.isLt, BitVec.ofNat_toNat, BitVec.setWidth_eq]

/-- A word that is not below zero and not above a bound, as a number. -/
theorem bound_of {w : BitVec 32} (h0 : IntOp.cmpi .sge w 0#32 = 1#1) (h1 : IntOp.cmpi .sle w 145408#32 = 1#1) : w.toNat ≤ 145408 := by
  have h2 : BitVec.ofBool ((0#32 : BitVec 32).sle w) = 1#1 := h0
  rw [StableHlo.Predicate.ofBool_eq_one_iff] at h2
  have h3 : w.toNat < 2 ^ 31 := toNat_lt_of_toInt_nonneg w (by simpa [BitVec.sle] using h2)
  exact (StableHlo.Predicate.sle_iff_toNat h3 (by decide)).1 h1

/-- The precondition, read back. -/
theorem routed_cnt [Cert.Pre_routed.Facts] {F : FTy → Type} [FloatOps F] (x : W32 S32) (x1 : FVec F S161792x1024 .f32) (x2 : FVec F S1x32x1024x2048 .f32) (x3 : FVec F S1x32x2048 .f32)
    (x4 : FVec F S1x32x1024x1024 .f32) (x5 : FVec F S1x32x1024 .f32) (h : Cert.Pre_routed.fn (F := F) x x1 x2 x3 x4 x5 ix0 = 1#1) : Cnt (cN x) := by
  haveI : Subsingleton Cert.Pre_routed.S_.Idx := ⟨fun a b => funext fun k => k.elim0⟩
  obtain ⟨h9, h11⟩ := IntOp.andi_eq_one.1 h
  obtain ⟨h6, h8⟩ := IntOp.andi_eq_one.1 h9
  obtain ⟨h2, h5⟩ := IntOp.andi_eq_one.1 h6
  have hle : ∀ e, e < 32 → cN x e ≤ 145408 := fun e he => by
    unfold cN
    rw [dif_pos he]
    exact bound_of (Host.reduce_andi_all _ _ _ _ ix0 h2 (ix1 ⟨e, he⟩)) (Host.reduce_andi_all _ _ _ _ ix0 h5 (ix1 ⟨e, he⟩))
  have hs := reduce_sum (N := 32) x (cN x) (cN_at x) Cert.Pre_routed.Facts.reducesTo_S32_S_d0 Cert.Pre_routed.Facts.h_S_
  have hb : ((List.range 32).map (cN x)).sum ≤ 32 * 145408 := sum_range_le (cN x) 145408 32 hle
  have h8' : IntOp.cmpi .sge (BitVec.ofNat 32 ((List.range 32).map (cN x)).sum) (BitVec.ofNat 32 1) = 1#1 := (congrArg (fun w => IntOp.cmpi .sge w 1#32) hs).symm.trans h8
  have h11' : IntOp.cmpi .sle (BitVec.ofNat 32 ((List.range 32).map (cN x)).sum) (BitVec.ofNat 32 145408) = 1#1 := (congrArg (fun w => IntOp.cmpi .sle w 145408#32) hs).symm.trans h11
  exact ⟨hle, (sle_one (by omega) (by decide)).1 h11', (sge_one (by omega) (by decide)).1 h8'⟩

/-! ## The host's arrays in numbers -/

variable {x : W32 S32} (C : Cnt (cN x))
include C

theorem pd_lt (q : ℕ) (hq : q < 32) : pd (cN x) q < 2 ^ 31 := by have := C.le q hq; unfold pd; omega
theorem en_lt (q : ℕ) (hq : q < 32) : en (cN x) q < 2 ^ 31 := by have := en_mono (cN x) (show q ≤ 31 by omega); have := en_le C; omega

theorem padA_at (e : Fin 32) : padA x (ix1 e) = BitVec.ofNat 32 (pd (cN x) e.val) := pad_at x e (cN_at x e) (C.le _ e.isLt)
theorem endsA_at (e : Fin 32) : endsA (padA x) (ix1 e) = BitVec.ofNat 32 (en (cN x) e.val) := ends_at _ _ (padA_at C) e
theorem usedA_at (j : S1.Idx) : usedA (endsA (padA x)) j = BitVec.ofNat 32 (us (cN x)) := used_at _ (endsA_at C 31) (en_lt C 31 (by decide)) j
theorem startA_at (t : Fin 316) : startA (usedA (endsA (padA x))) (ix1 t) = BitVec.ofNat 32 (512 * min t.val (us (cN x) - 1)) :=
  start_at _ (usedA_at C) (us_pos C) ((us_le C).trans (by decide)) t

theorem expertA_at (t : Fin 316) : expertA (endsA (padA x)) (startA (usedA (endsA (padA x)))) (ix1 t) = beW (cN x) t.val := by
  have := t.isLt
  refine (expert_at _ _ (en (cN x)) (en_lt C) (endsA_at C) t (by omega) (startA_at C t)).trans ?_
  unfold beW
  have h := ex_lt C t.val
  rw [show min (Nat.count (fun q => en (cN x) q ≤ 512 * min t.val (us (cN x) - 1)) 32) 31 = ex (cN x) t.val from Nat.min_eq_left (Nat.le_of_lt_succ h)]

theorem nextA_at (t : Fin 316) : nextA (laterA (rowsA (padA x)) (expertA (endsA (padA x)) (startA (usedA (endsA (padA x)))))) (ix1 t) = nxW (cN x) t.val := by
  refine (next_at _ t (fun e => 0 < pd (cN x) e ∧ ex (cN x) t.val < e) fun q => ?_).trans rfl
  rw [later_at _ _ t (ex_lt C t.val) (expertA_at C t) q, rows_at _ _ (pd_lt C) (padA_at C)]

theorem slotA_at (t : Fin 316) : slotA (rowsA (padA x)) (expertA (endsA (padA x)) (startA (usedA (endsA (padA x))))) (ix1 t) = wsW (cN x) t.val :=
  (slot_at _ _ t (ex_lt C t.val) (expertA_at C t) (fun e => 0 < pd (cN x) e) (rows_at _ _ (pd_lt C) (padA_at C)) (slN_pos C t.val)).trans rfl

omit C

/-! ## The tables -/

variable {F : FTy → Type} [FloatOps F]
variable (m : (ℓ : Loc nD τ sig) → Buf (Elt F) ℓ)

/-- The counts the program is given. -/
abbrev cM : ℕ → ℕ := cN (m (((0 : Dev nD) : Thread nD τ).loc main_arg0))

theorem words (C : Cnt (cM m)) : Words (F := F) 0 (us (cM m)) (beW (cM m)) (nxW (cM m)) (wsW (cM m)) (tbl m 0) (tbl m 1) (tbl m 2) (tbl m 3) where
  N := by
    have h : ∀ j : S1.Idx, (V m 0 main_v15 : S1.Idx → BitVec 32) j = BitVec.ofNat 32 (us (cM m)) := fun j => (congrFun (V_v15 m 0) j).trans (usedA_at C j)
    exact (h _).symm
  E t ht := by
    have h : (V m 0 main_v31 : S316.Idx → BitVec 32) (ix1 ⟨t, ht⟩) = beW (cM m) t := (congrFun (V_v31 m 0) _).trans (expertA_at C ⟨t, ht⟩)
    refine Eq.trans (congrArg (V m 0 main_v31 : S316.Idx → BitVec 32) (funext fun k => ?_)) h
    match k with | ⟨0, _⟩ => rfl
  X t ht := by
    have h : (V m 0 main_v51 : S316.Idx → BitVec 32) (ix1 ⟨t, ht⟩) = nxW (cM m) t := (congrFun (V_v51 m 0) _).trans (nextA_at C ⟨t, ht⟩)
    refine Eq.trans (congrArg (V m 0 main_v51 : S316.Idx → BitVec 32) (funext fun k => ?_)) h
    match k with | ⟨0, _⟩ => rfl
  S t ht := by
    have h : (V m 0 main_v64 : S316.Idx → BitVec 32) (ix1 ⟨t, ht⟩) = wsW (cM m) t := (congrFun (V_v64 m 0) _).trans (slotA_at C ⟨t, ht⟩)
    refine Eq.trans (congrArg (V m 0 main_v64 : S316.Idx → BitVec 32) (funext fun k => ?_)) h
    match k with | ⟨0, _⟩ => rfl

/-- The input's block, of a table that holds the number of blocks. -/
theorem rows_of (pf : pre0.Contents (Elt F)) {n : ℕ} (h : ∀ j : S1.Idx, (pf 1 : S1.Idx → BitVec 32) j = BitVec.ofNat 32 n) (h1 : 1 ≤ n) (h2 : n ≤ 316) (i : grid0.Coords) :
    cc0_transform_0 inb_S1_S1_0 numel1_S1 pf i = ![min (i 0).val (n - 1), 0] := by
  have hi : (i 0).val < 316 := (i 0).isLt
  have hw : Scalar.minsi (BitVec.ofNat 32 (i 0).val) (Scalar.subi (BitVec.ofNat 32 n) 1#32) = BitVec.ofNat 32 (min (i 0).val (n - 1)) := by
    show IntOp.minsi _ (BitVec.ofNat 32 n - BitVec.ofNat 32 1) = _
    rw [ofNat32_sub h1, minsi_ofNat (by omega) (by omega)]
  have e : cc0_transform_0 inb_S1_S1_0 numel1_S1 pf i
      = ![(Scalar.minsi (BitVec.ofNat 32 (i 0).val) (Scalar.subi ((pf 1 : S1.Idx → BitVec 32) ((Rect.unit (s := S1) ![0] S1.size inb_S1_S1_0).emb (Shape.Idx.first (numel1_S1.symm ▸ Nat.one_pos)))) 1#32)).toNat, 0] := rfl
  rw [e, h, hw, BitVec.toNat_ofNat, Nat.mod_eq_of_lt (by omega)]

/-- The biases' block, of a table that holds the blocks' experts. -/
theorem bias_of (pf : pre0.Contents (Elt F)) (i : grid0.Coords) {b : ℕ} (hb : b < 32)
    (h : (pf 0 : S316.Idx → BitVec 32) (ix1 ⟨(i 0).val, (i 0).isLt⟩) = BitVec.ofNat 32 b) : cc0_transform_2 k0_off1_inb numel1_S1 pf i = ![b, 0, 0] := by
  have hi : (i 0).val < 316 := (i 0).isLt
  have e : cc0_transform_2 k0_off1_inb numel1_S1 pf i
      = ![((pf 0 : S316.Idx → BitVec 32) ((Rect.unit (s := S316) ![(BitVec.ofNat 32 (i 0).val).toNat] S1.size (k0_off1_inb i)).emb (Shape.Idx.first (numel1_S1.symm ▸ Nat.one_pos)))).toNat, 0, 0] := rfl
  have hx : (Rect.unit (s := S316) ![(BitVec.ofNat 32 (i 0).val).toNat] S1.size (k0_off1_inb i)).emb (Shape.Idx.first (numel1_S1.symm ▸ Nat.one_pos)) = (ix1 ⟨(i 0).val, (i 0).isLt⟩ : S316.Idx) := by
    funext k
    match k with
    | ⟨0, _⟩ =>
      refine Fin.ext ?_
      show (BitVec.ofNat 32 (i 0).val).toNat + 0 * 1 = (i 0).val
      rw [BitVec.toNat_ofNat]; omega
  rw [e, hx, h, BitVec.toNat_ofNat, Nat.mod_eq_of_lt (by omega)]

/-- The input's block: the block itself, those past the used ones at the last used one. -/
theorem ix_rows (C : Cnt (cM m)) (i : grid0.Coords) : cc0_transform_0 inb_S1_S1_0 numel1_S1 (tbl m) i = ![min (i 0).val (us (cM m) - 1), 0] :=
  rows_of (tbl m) (fun j => (congrFun (V_v15 m 0) j).trans (usedA_at C j)) (us_pos C) ((us_le C).trans (by decide)) i

/-- The biases' block: the block's expert. -/
theorem ix_bias (C : Cnt (cM m)) (i : grid0.Coords) : cc0_transform_2 k0_off1_inb numel1_S1 (tbl m) i = ![ex (cM m) (i 0).val, 0, 0] :=
  bias_of (tbl m) i (ex_lt C _) ((congrFun (V_v31 m 0) _).trans (expertA_at C ⟨(i 0).val, (i 0).isLt⟩))

theorem ix_bias2 (C : Cnt (cM m)) (i : grid0.Coords) : cc0_transform_4 k0_off1_inb numel1_S1 (tbl m) i = ![ex (cM m) (i 0).val, 0, 0] := ix_bias m C i

/-- Every block the tables name is inside its array. -/
theorem ok (C : Cnt (cM m)) : ok0 (tbl m) := by
  have h1 := us_pos C; have h2 := us_le C
  refine ⟨fun i => ⟨?_, Or.inl rfl⟩, fun i => ⟨?_, Or.inl rfl⟩, fun i => ⟨?_, Or.inl rfl⟩⟩
  · rw [ix_rows m C i]
    intro a
    match a with
    | ⟨0, _⟩ => show (min (i 0).val (us (cM m) - 1) + 1) * 512 ≤ 161792; omega
    | ⟨1, _⟩ => show (0 + 1) * 1024 ≤ 1024; omega
  · rw [ix_bias m C i]
    have h32 := ex_lt C (i 0).val
    intro a
    match a with
    | ⟨0, _⟩ => show (ex (cM m) (i 0).val + 1) * 1 ≤ 32; omega
    | ⟨1, _⟩ => show (0 + 1) * 1 ≤ 1; omega
    | ⟨2, _⟩ => show (0 + 1) * 2048 ≤ 2048; omega
  · rw [ix_bias2 m C i]
    have h32 := ex_lt C (i 0).val
    intro a
    match a with
    | ⟨0, _⟩ => show (ex (cM m) (i 0).val + 1) * 1 ≤ 32; omega
    | ⟨1, _⟩ => show (0 + 1) * 1 ≤ 1; omega
    | ⟨2, _⟩ => show (0 + 1) * 1024 ≤ 1024; omega

end Cert.Moe
-- ==== Proof.Moe.Frames.lean ====
/-
  The frames of the expert call.
-/
module
public import proofs.«01_k».proof.Defs
public import proofs.«01_k».proof.Proof.Moe.Tables
public import proofs.«01_k».proof.Proof.Gen.Kernel2
public import proofs.«01_k».proof.Proof.Gen.Reference2Ideal
public import proofs.«01_k».proof.Proof.Gen.Reference2Ideal.Run
public import Idealize.ShloMosaic.Adequacy
public import Idealize.ShloMosaic.Init

@[expose] public section

noncomputable section

namespace Cert.Moe

open Cert.Kernel2Ideal Cert.Kernel2Ideal.Gen
open Idealize.ShloMosaic Idealize.ShloMosaic.TcCoe Idealize.SL.Sem

variable {F : FTy → Type} [FloatOps F]
variable (m : (ℓ : Loc nD τ sig) → Buf (Elt F) ℓ) (ρ : Dev nD → PrngReg) (C : Cnt (cM m))

/-- The run's data under the precondition. -/
abbrev dat (c : Dev nD) := dats m (good C) (ok m C) 0 c

/-- The output array at the end of the run. -/
abbrev outArr (c : Dev nD) : Buf (Elt F) ((c : Thread nD τ).loc main_v66) := (dat m C c).arrAt 3 (cfg0 (adm m (ok m C) 0)).N

/-- Argument 0 is no window's array. -/
theorem off0 (a : (p : Fin 1) → (pcfgs (F := F) p).Adm) : ∀ w : Fin 4, ((Pipeline.pin pcfgs a 0).spec w).arr.view.ref ≠ main_arg0
  | 0 => show main_arg1 ≠ main_arg0 by decide
  | 1 => show main_v34 ≠ main_arg0 by decide
  | 2 => show main_v65 ≠ main_arg0 by decide
  | 3 => show main_v66 ≠ main_arg0 by decide

/-- Argument 2 is no window's array. -/
theorem off2 (a : (p : Fin 1) → (pcfgs (F := F) p).Adm) : ∀ w : Fin 4, ((Pipeline.pin pcfgs a 0).spec w).arr.view.ref ≠ main_arg2
  | 0 => show main_arg1 ≠ main_arg2 by decide
  | 1 => show main_v34 ≠ main_arg2 by decide
  | 2 => show main_v65 ≠ main_arg2 by decide
  | 3 => show main_v66 ≠ main_arg2 by decide

/-- Argument 3 is no window's array. -/
theorem off3 (a : (p : Fin 1) → (pcfgs (F := F) p).Adm) : ∀ w : Fin 4, ((Pipeline.pin pcfgs a 0).spec w).arr.view.ref ≠ main_arg3
  | 0 => show main_arg1 ≠ main_arg3 by decide
  | 1 => show main_v34 ≠ main_arg3 by decide
  | 2 => show main_v65 ≠ main_arg3 by decide
  | 3 => show main_v66 ≠ main_arg3 by decide

/-- Argument 4 is no window's array. -/
theorem off4 (a : (p : Fin 1) → (pcfgs (F := F) p).Adm) : ∀ w : Fin 4, ((Pipeline.pin pcfgs a 0).spec w).arr.view.ref ≠ main_arg4
  | 0 => show main_arg1 ≠ main_arg4 by decide
  | 1 => show main_v34 ≠ main_arg4 by decide
  | 2 => show main_v65 ≠ main_arg4 by decide
  | 3 => show main_v66 ≠ main_arg4 by decide

/-- Argument 5 is no window's array. -/
theorem off5 (a : (p : Fin 1) → (pcfgs (F := F) p).Adm) : ∀ w : Fin 4, ((Pipeline.pin pcfgs a 0).spec w).arr.view.ref ≠ main_arg5
  | 0 => show main_arg1 ≠ main_arg5 by decide
  | 1 => show main_v34 ≠ main_arg5 by decide
  | 2 => show main_v65 ≠ main_arg5 by decide
  | 3 => show main_v66 ≠ main_arg5 by decide

/-- The run under the precondition: the output array, the arguments as they were, every semaphore at zero. -/
theorem run_routed : θ_run (defs (F := F)) (onTc (τ := τ) (main (F := F))) ⟨m, fun _ => 0, ρ⟩ (fun r => (∀ c : Dev nD,
      r.2.mem ((c.tc : Thread nD τ).loc main_v66) = outArr m C c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c =>
    ⟨(h.1 c).1 3,
      ((h.1 c).2 main_arg0 (Pipeline.mem_restRefs_of main_arg0 (by decide) (off0 _))).trans (V_main_arg0 m c),
      ((h.1 c).1 0).trans (((dat m C c).arrAt_in 0 rfl _).trans ((A_eq m (good C) (ok m C) c 0).trans (V_main_arg1 m c))),
      ((h.1 c).2 main_arg2 (Pipeline.mem_restRefs_of main_arg2 (by decide) (off2 _))).trans (V_main_arg2 m c),
      ((h.1 c).2 main_arg3 (Pipeline.mem_restRefs_of main_arg3 (by decide) (off3 _))).trans (V_main_arg3 m c),
      ((h.1 c).2 main_arg4 (Pipeline.mem_restRefs_of main_arg4 (by decide) (off4 _))).trans (V_main_arg4 m c),
      ((h.1 c).2 main_arg5 (Pipeline.mem_restRefs_of main_arg5 (by decide) (off5 _))).trans (V_main_arg5 m c)⟩, h.2⟩)
    (run_main m ρ (good C) (ok m C) (words m C))

/-- The idealized kernel's precondition, as counts of rows. -/
theorem cnt_ideal (m : (ℓ : Loc nD τ sig) → Buf (Elt Ideal) ℓ)
    (h : Cert.Pre_Kernel2Ideal (hPre_routed := Cert.Pre_routed.Gen.facts) m) : Cnt (cM m) :=
  letI := Cert.Pre_routed.Gen.facts
  routed_cnt (F := Ideal) (m (((0 : Dev nD).tc : Thread nD τ).loc main_arg0)) (m (((0 : Dev nD).tc : Thread nD τ).loc main_arg1))
    (m (((0 : Dev nD).tc : Thread nD τ).loc main_arg2)) (m (((0 : Dev nD).tc : Thread nD τ).loc main_arg3))
    (m (((0 : Dev nD).tc : Thread nD τ).loc main_arg4)) (m (((0 : Dev nD).tc : Thread nD τ).loc main_arg5)) (congrFun (h 0) ValueIdx.ix0)

/-- The kernel's precondition, as counts of rows. -/
theorem cnt_bits (m : (ℓ : Loc nD τ sig) → Buf (Elt Bits) ℓ)
    (h : ∀ c : Dev nD, Cert.Pre_routed.fn (F := Bits) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5)) = fun _ => 1#1) : Cnt (cM m) :=
  letI := Cert.Pre_routed.Gen.facts
  routed_cnt (F := Bits) (m (((0 : Dev nD).tc : Thread nD τ).loc main_arg0)) (m (((0 : Dev nD).tc : Thread nD τ).loc main_arg1))
    (m (((0 : Dev nD).tc : Thread nD τ).loc main_arg2)) (m (((0 : Dev nD).tc : Thread nD τ).loc main_arg3))
    (m (((0 : Dev nD).tc : Thread nD τ).loc main_arg4)) (m (((0 : Dev nD).tc : Thread nD τ).loc main_arg5)) (congrFun (h 0) ValueIdx.ix0)

/-- The run under the precondition keeps the arguments. -/
theorem run_keeps (C : Cnt (cM m)) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => (h.1 c).2, h.2⟩) (run_routed m ρ C)

/-- The idealized kernel runs and keeps its arguments. -/
theorem frame_pi : Cert.quiescent_Kernel2Ideal (hKernel2Ideal := Cert.Kernel2Ideal.Gen.facts) (hPre_routed := Cert.Pre_routed.Gen.facts) := by
  intro m ρ h
  exact run_keeps (F := Ideal) m ρ (cnt_ideal m h)

/-- The reference runs and keeps its arguments. -/
theorem frame_ri : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run m ρ)

end Cert.Moe
-- ==== Proof.Moe.FrameBits.lean ====
/-
  The frame of the expert call at bits, whose text is that of its idealized reading.
-/
module
public import proofs.«01_k».proof.Proof.Moe.Frames

@[expose] public section

noncomputable section

namespace Cert.Moe

open Idealize.ShloMosaic Idealize.ShloMosaic.TcCoe Idealize.SL.Sem

/-- The two texts' kernel bodies agree. -/
theorem same_bodies : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc ?_
  funext l x
  match l, x with
  | 0, (t, s) => rfl

set_option maxHeartbeats 4000000 in
/-- The two texts' definitions agree. -/
theorem same_defs : @Cert.Kernel2.defs Bits _ Cert.Kernel2.Gen.facts = @Cert.Kernel2Ideal.defs Bits _ Cert.Kernel2Ideal.Gen.facts := by
  unfold Cert.Kernel2.defs Cert.Kernel2Ideal.defs
  exact congrArg (Pipeline.defs (@Cert.Kernel2Ideal.pcfgs Bits _ Cert.Kernel2Ideal.Gen.facts)) same_bodies

set_option maxHeartbeats 40000000 in
/-- The second window of the two host texts agrees. -/
theorem same_part1 : @Cert.Kernel2.main_part1 Bits _ Cert.Kernel2.Gen.facts = @Cert.Kernel2Ideal.main_part1 Bits _ Cert.Kernel2Ideal.Gen.facts := by
  unfold Cert.Kernel2.main_part1 Cert.Kernel2Ideal.main_part1
  rfl

set_option maxHeartbeats 40000000 in
/-- The first window of the two host texts agrees. -/
theorem same_part0 : @Cert.Kernel2.main_part0 Bits _ Cert.Kernel2.Gen.facts = @Cert.Kernel2Ideal.main_part0 Bits _ Cert.Kernel2Ideal.Gen.facts := by
  unfold Cert.Kernel2.main_part0 Cert.Kernel2Ideal.main_part0
  rfl

set_option maxHeartbeats 4000000 in
/-- The two host texts agree. -/
theorem same_main : @Cert.Kernel2.main Bits _ Cert.Kernel2.Gen.facts = @Cert.Kernel2Ideal.main Bits _ Cert.Kernel2Ideal.Gen.facts := by
  unfold Cert.Kernel2.main Cert.Kernel2Ideal.main
  rw [same_part0, same_part1]
  rfl

set_option maxHeartbeats 4000000 in
/-- The kernel, whose text is the same, runs and keeps its arguments. -/
theorem frame_p : Cert.quiescent_Kernel2 (hKernel2 := Cert.Kernel2.Gen.facts) (hPre_routed := Cert.Pre_routed.Gen.facts) := by
  intro m ρ h
  have hr := run_keeps (F := Bits) m ρ (cnt_bits m h)
  rw [← same_defs, ← same_main] at hr
  exact hr

end Cert.Moe
-- ==== Proof.Moe.Spec.lean ====
/-
  What the expert call computes over the extended reals: one row through one expert.
-/
module
public import Idealize.ShloMosaic.PureOps.Ideal
public import Idealize.ShloMosaic.PureOps.Ideal.Laws

@[expose] public section

noncomputable section

namespace Cert.Moe

open Idealize.ShloMosaic

/-- The words of the clamps, of the slope and of one. -/
def lim : EReal := Ideal.ofBits FTy.f32 0x40E00000#32
def mlim : EReal := Ideal.ofBits FTy.f32 0xC0E00000#32
def slope : EReal := Ideal.ofBits FTy.f32 0x3FD9DB23#32
def unit : EReal := Ideal.ofBits FTy.f32 0x3F800000#32

/-- The word of one is one, that of zero zero. -/
theorem unit_eq : unit = 1 := by
  simp [unit, Ideal.ofBits, Ideal.ieee]
  rw [← EReal.coe_mul]
  norm_num
theorem zero_eq : Ideal.ofBits FTy.f32 0x00000000#32 = 0 := by simp [Ideal.ofBits, Ideal.ieee]

/-- The gated unit at a gate `u` and a linear part `v`, both clamped. -/
def act (u v : EReal) : EReal :=
  min u lim * Ideal.logistic (slope * min u lim) * (min lim (max mlim v) + unit)

/-- A hidden entry of a row: the gate is the even column, the linear part the odd one. -/
def hid (x : Fin 1024 → EReal) (W : Fin 1024 → Fin 2048 → EReal) (B : Fin 2048 → EReal) (j : Fin 1024) : EReal :=
  act ((∑ k, x k * W k ⟨2 * j.val, by omega⟩) + B ⟨2 * j.val, by omega⟩)
    ((∑ k, x k * W k ⟨2 * j.val + 1, by omega⟩) + B ⟨2 * j.val + 1, by omega⟩)

/-- A row through an expert. -/
def ffn (x : Fin 1024 → EReal) (W : Fin 1024 → Fin 2048 → EReal) (B : Fin 2048 → EReal) (W2 : Fin 1024 → Fin 1024 → EReal) (B2 : Fin 1024 → EReal)
    (d : Fin 1024) : EReal :=
  (∑ j, hid x W B j * W2 j d) + B2 d

/-- The column a tile's column comes from: the first half the even ones, the second the odd ones. -/
def ilv (q : ℕ) : ℕ := if q < 128 then 2 * q else 2 * (q - 128) + 1

theorem ilv_lt {q : ℕ} (h : q < 256) : ilv q < 256 := by
  unfold ilv; split <;> omega

end Cert.Moe
-- ==== Proof.Moe.Tile.lean ====
/-
  One column tile of the product over the extended reals: its gated units at a row.
-/
module
public import proofs.«01_k».proof.Proof.Moe.Body
public import proofs.«01_k».proof.Proof.Moe.Spec
public import Idealize.ShloMosaic.Lib.Pointwise
public import Idealize.ShloMosaic.Lib.Pipeline.Value

@[expose] public section

set_option maxRecDepth 16384

noncomputable section

namespace Cert.Moe

open Cert.Kernel2Ideal Cert.Kernel2Ideal.Gen
open Idealize.ShloMosaic Idealize.ShloMosaic.TcCoe

/-- A tile's product with its bias, at a row and a column. -/
def pre (x : Vec Ideal S512x1024 .f32) (w : Vec Ideal S1024x256 .bf16) (b : Vec Ideal S1x1x256 .f32) (r : Fin 512) (q : Fin 256) : EReal :=
  (∑ k : Fin 1024, x (ix2 r k) * w (ix2 k q)) + b (ix3 (0 : Fin 1) (0 : Fin 1) q)

/-- The product with the bias, as the tiles compute it. -/
theorem pay18_at (x : Vec Ideal S512x1024 .f32) (w : Vec Ideal S1024x256 .bf16) (b : Vec Ideal S1x1x256 .f32) (r : Fin 512) (q : Fin 256) :
    k0_pay18 (F := Ideal) (k0_pay12 x) w b (ix2 r q) = pre x w b r q := by
  pointwise [k0_pay18, k0_pay12, pre]

/-- A tile's units at a row and a column. -/
theorem pay13_at (x : Vec Ideal S512x1024 .f32) (w : Vec Ideal S1024x256 .bf16) (b : Vec Ideal S1x1x256 .f32) (r : Fin 512) (q : Fin 128) :
    k0_pay13 (F := Ideal) x w b (ix2 r q) = act (pre x w b r ⟨q.val, by omega⟩) (pre x w b r ⟨128 + q.val, by omega⟩) := by
  pointwise [k0_pay13, k0_pay12, pre, act, lim, mlim, slope, unit]

variable (x : Vec Ideal S512x1024 .f32) (w : Vec Ideal S1024x256 .bf16) (b : Vec Ideal S1x1x256 .f32)

/-- The other tiles are the same function of theirs. -/
theorem pay15_eq : k0_pay15 (F := Ideal) (k0_pay14 x w) b = k0_pay13 x w b := rfl
theorem pay16_eq : k0_pay16 (F := Ideal) (k0_pay12 x) w b = k0_pay13 x w b := rfl
theorem pay17_eq : k0_pay17 (F := Ideal) (k0_pay12 x) w b = k0_pay13 x w b := rfl
theorem pay21_eq : k0_pay21 (F := Ideal) (k0_pay19 (k0_pay12 x) w b) (k0_pay20 (k0_pay12 x) w b) = k0_pay13 x w b := rfl
theorem pay22_eq : k0_pay22 (F := Ideal) (k0_pay12 x) w b = k0_pay13 x w b := rfl

/-- The tiles side by side. -/
def cat8 (p : Fin 8 → FVec Ideal S512x128 .bf16) : FVec Ideal S512x1024 .bf16 :=
  concatenate S512x1024 1 [⟨S512x128, p 0⟩, ⟨S512x128, p 1⟩, ⟨S512x128, p 2⟩, ⟨S512x128, p 3⟩, ⟨S512x128, p 4⟩, ⟨S512x128, p 5⟩, ⟨S512x128, p 6⟩, ⟨S512x128, p 7⟩]
    concatenates_S512x128_S512x128_S512x128_S512x128_S512x128_S512x128_S512x128_S512x128_S512x1024_d1

/-- The down product with its bias. -/
def down (h : FVec Ideal S512x1024 .bf16) (w2 : FVec Ideal S1024x1024 .bf16) (b2 : Vec Ideal S1x1x1024 .f32) : FVec Ideal S512x1024 .f32 :=
  addf (matmul dot_S512x1024_S1024x1024_S512x1024_1_0_0_1_n_n none h w2 (constant S512x1024 .f32 0x00000000#32))
    (broadcastTo S512x1024 (shapeCast S1x1024 b2 shapeCasts_S1x1x1024_S1x1024) broadcasts_S1x1024_S512x1024)

theorem down_at (h : FVec Ideal S512x1024 .bf16) (w2 : FVec Ideal S1024x1024 .bf16) (b2 : Vec Ideal S1x1x1024 .f32) (r : Fin 512) (d : Fin 1024) :
    down h w2 b2 (ix2 r d) = (∑ j : Fin 1024, h (ix2 r j) * w2 (ix2 j d)) + b2 (ix3 (0 : Fin 1) (0 : Fin 1) d) := by
  pointwise [down]

/-- The tiles side by side, at a row and a column. -/
theorem cat8_at (p : Fin 8 → FVec Ideal S512x128 .bf16) (r : Fin 512) (j : Fin 1024) (k : Fin 8) (q : Fin 128) (hj : 128 * k.val + q.val = j.val) :
    cat8 p (ix2 r j) = p k (ix2 r q) := by
  unfold cat8
  refine concatenate_apply_piece (t := S512x1024) (1 : Fin 2) [⟨S512x128, p 0⟩, ⟨S512x128, p 1⟩, ⟨S512x128, p 2⟩, ⟨S512x128, p 3⟩, ⟨S512x128, p 4⟩, ⟨S512x128, p 5⟩, ⟨S512x128, p 6⟩, ⟨S512x128, p 7⟩]
    concatenates_S512x128_S512x128_S512x128_S512x128_S512x128_S512x128_S512x128_S512x128_S512x1024_d1 (ix2 r j) k.val k.isLt S512x128 (p k) ?_ rfl (128 * k.val) ?_ (ix2 r q) (fun b hb => ?_) hj
  · fin_cases k <;> rfl
  · fin_cases k <;> rfl
  · fin_cases b
    · rfl
    · exact absurd rfl hb

/-- The last step of the body: the eight tiles, side by side, through the down product. -/
theorem pay27_eq (p : Fin 8 → FVec Ideal S512x128 .bf16) (w6 w7 : Vec Ideal S1024x256 .bf16) (b6 b7 : Vec Ideal S1x1x256 .f32)
    (w2 : Vec Ideal S1024x1024 .bf16) (b2 : Vec Ideal S1x1x1024 .f32) (h6 : p 6 = k0_pay13 x w6 b6) (h7 : p 7 = k0_pay13 x w7 b7) :
    k0_pay27 (F := Ideal) (k0_pay12 x) (p 0) (p 1) (p 2) (p 3) (p 4) (p 5) (k0_pay24 (k0_pay12 x) w6 b6) (k0_pay25 (k0_pay12 x) w6 b6)
      k0_pay26 w7 b7 w2 b2 = down (cat8 p) w2 b2 := by
  unfold cat8
  rw [h6, h7]
  rfl

end Cert.Moe
-- ==== Proof.Moe.Row.lean ====
/-
  A block in use over the extended reals, at a row and a column: the row through its expert.
-/
module
public import proofs.«01_k».proof.Proof.Moe.Tile

@[expose] public section

set_option maxRecDepth 16384

noncomputable section

namespace Cert.Moe

open Cert.Kernel2Ideal Cert.Kernel2Ideal.Gen
open Idealize.ShloMosaic Idealize.ShloMosaic.TcCoe

theorem hz2 : (![0, 0] : Fin 2 → ℕ) = fun _ => 0 := funext fun a => by fin_cases a <;> rfl
theorem hz3 : (![0, 0, 0] : Fin 3 → ℕ) = fun _ => 0 := funext fun a => by fin_cases a <;> rfl

variable (x : Vec Ideal S512x1024 .f32) (w : (o : ℕ) → o + 256 ≤ 2048 → Vec Ideal S1024x256 .bf16) (w2 : Vec Ideal S1024x1024 .bf16)
  (b : Vec Ideal S1x1x2048 .f32) (b2 : Vec Ideal S1x1x1024 .f32)

theorem tile_ok (k : Fin 8) : 256 * k.val + 256 ≤ 2048 := by omega

/-- The eight tiles. -/
def tiles (k : Fin 8) : FVec Ideal S512x128 .bf16 := k0_pay13 x (w (256 * k.val) (tile_ok k)) (bT b (256 * k.val) (tile_ok k))

/-- A block in use is the tiles, side by side, through the down product. -/
theorem yBlk_eq : yBlk x w w2 b b2 = down (cat8 (tiles x w b)) w2 b2 := by
  unfold yBlk
  dsimp only
  rw [View.ld_unit_zero (S := S512x1024) hz2, View.ld_unit_zero (S := S1x1x1024) hz3, pay15_eq, pay16_eq, pay17_eq, pay21_eq, pay22_eq]
  exact pay27_eq x (tiles x w b) (w 1536 (by decide)) (w 1792 (by decide)) (bT b 1536 (by decide)) (bT b 1792 (by decide)) w2 b2 rfl rfl

/-- A tile's product with its bias, given what the weights and the bias hold at a column. -/
theorem pre_at (W : Fin 1024 → Fin 2048 → EReal) (B : Fin 2048 → EReal)
    (hw : ∀ (k o : ℕ) (ho : o = 256 * k) (ho' : o + 256 ≤ 2048) (r : Fin 1024) (q : Fin 256), w o ho' (ix2 r q) = W r ⟨o + ilv q.val, by have := ilv_lt q.isLt; omega⟩)
    (hb : ∀ (k o : ℕ) (ho : o = 256 * k) (ho' : o + 256 ≤ 2048) (q : Fin 256), b (ix3 (0 : Fin 1) (0 : Fin 1) ⟨o + q.val, by omega⟩) = B ⟨o + ilv q.val, by have := ilv_lt q.isLt; omega⟩)
    (k : Fin 8) (r : Fin 512) (q : Fin 256) (j : Fin 2048) (hj : j.val = 256 * k.val + ilv q.val) :
    pre x (w (256 * k.val) (tile_ok k)) (bT b (256 * k.val) (tile_ok k)) r q = (∑ i, x (ix2 r i) * W i j) + B j := by
  have hlt : 256 * k.val + ilv q.val < 2048 := hj ▸ j.isLt
  rw [show j = ⟨256 * k.val + ilv q.val, hlt⟩ from Fin.ext hj]
  unfold pre
  refine congrArg₂ (· + ·) (Finset.sum_congr rfl fun i _ => ?_) ?_
  · rw [hw k.val _ rfl]
  · rw [← hb k.val _ rfl (tile_ok k)]
    show b _ = b _
    refine congrArg b (funext fun a => Fin.ext ?_)
    fin_cases a
    · rfl
    · rfl
    · show 256 * k.val + 1 * q.val = 256 * k.val + q.val; omega

/-- A block in use at a row and a column. -/
theorem yBlk_at (W : Fin 1024 → Fin 2048 → EReal) (B : Fin 2048 → EReal) (W2 : Fin 1024 → Fin 1024 → EReal) (B2 : Fin 1024 → EReal)
    (hw : ∀ (k o : ℕ) (ho : o = 256 * k) (ho' : o + 256 ≤ 2048) (r : Fin 1024) (q : Fin 256), w o ho' (ix2 r q) = W r ⟨o + ilv q.val, by have := ilv_lt q.isLt; omega⟩)
    (hb : ∀ (k o : ℕ) (ho : o = 256 * k) (ho' : o + 256 ≤ 2048) (q : Fin 256), b (ix3 (0 : Fin 1) (0 : Fin 1) ⟨o + q.val, by omega⟩) = B ⟨o + ilv q.val, by have := ilv_lt q.isLt; omega⟩)
    (hw2 : ∀ j d, w2 (ix2 j d) = W2 j d) (hb2 : ∀ d, b2 (ix3 (0 : Fin 1) (0 : Fin 1) d) = B2 d) (r : Fin 512) (d : Fin 1024) :
    yBlk x w w2 b b2 (ix2 r d) = ffn (fun k => x (ix2 r k)) W B W2 B2 d := by
  rw [yBlk_eq, down_at, hb2]
  unfold ffn
  refine congrArg (· + B2 d) (Finset.sum_congr rfl fun j _ => ?_)
  rw [hw2]
  refine congrArg (· * W2 j d) ?_
  have hj := j.isLt
  rw [cat8_at _ r j ⟨j.val / 128, by omega⟩ ⟨j.val % 128, Nat.mod_lt _ (by norm_num)⟩ (by show 128 * (j.val / 128) + j.val % 128 = j.val; omega)]
  unfold tiles hid
  rw [pay13_at,
    pre_at x w b W B hw hb _ r _ ⟨2 * j.val, by omega⟩ (by
      show 2 * j.val = 256 * (j.val / 128) + ilv (j.val % 128); unfold ilv; rw [if_pos (by omega)]; omega),
    pre_at x w b W B hw hb _ r _ ⟨2 * j.val + 1, by omega⟩ (by
      show 2 * j.val + 1 = 256 * (j.val / 128) + ilv (128 + j.val % 128); unfold ilv; rw [if_neg (by omega)]; omega)]

end Cert.Moe
-- ==== Proof.Moe.Cols.lean ====
/-
  The converted weights over the extended reals: a tile's columns, the even ones first.
-/
module
public import proofs.«01_k».proof.Proof.Moe.Part
public import proofs.«01_k».proof.Proof.Moe.Spec
public import Idealize.ShloMosaic.Lib.Pointwise

@[expose] public section

set_option maxRecDepth 16384

noncomputable section

namespace Cert.Moe

open Cert.Kernel2Ideal Cert.Kernel2Ideal.Gen
open Idealize.ShloMosaic Idealize.ShloMosaic.TcCoe

/-- The words the tile's permutation compares. -/
theorem perm_word : ∀ b : Fin 256,
    Scalar.select (IntOp.cmpi .slt (BitVec.ofNat 32 b.val) 128#32) (IntOp.muli 2#32 (BitVec.ofNat 32 b.val))
      (IntOp.addi (IntOp.muli 2#32 (IntOp.subi (BitVec.ofNat 32 b.val) 128#32)) 1#32) = BitVec.ofNat 32 (ilv b.val) := by
  decide +kernel

/-- The permutation matrix at an entry. -/
theorem pay2_at (a b : Fin 256) : k0_pay2 (F := Ideal) (ix2 a b) = if a.val = ilv b.val then (1 : EReal) else 0 := by
  have h : k0_pay2 (F := Ideal) (ix2 a b) = Scalar.select (IntOp.cmpi .eq (BitVec.ofNat 32 a.val)
      (Scalar.select (IntOp.cmpi .slt (BitVec.ofNat 32 b.val) 128#32) (IntOp.muli 2#32 (BitVec.ofNat 32 b.val))
        (IntOp.addi (IntOp.muli 2#32 (IntOp.subi (BitVec.ofNat 32 b.val) 128#32)) 1#32))) (1 : EReal) 0 := by
    unfold k0_pay2
    simp only [pointwise, List.foldl_cons, List.foldl_nil, zero_mul, zero_add]
  rw [h]
  rw [perm_word]
  have hb := ilv_lt b.isLt
  have ha := a.isLt
  by_cases h : a.val = ilv b.val
  · rw [if_pos h, h]
    simp [Scalar.select, IntOp.cmpi]
  · rw [if_neg h]
    have : ¬ BitVec.ofNat 32 a.val = BitVec.ofNat 32 (ilv b.val) := fun e => h (by
      have := congrArg BitVec.toNat e
      simp only [BitVec.toNat_ofNat] at this
      omega)
    rw [show IntOp.cmpi .eq (BitVec.ofNat 32 a.val) (BitVec.ofNat 32 (ilv b.val)) = BitVec.ofBool (BitVec.ofNat 32 a.val == BitVec.ofNat 32 (ilv b.val)) from rfl,
      beq_eq_false_iff_ne.mpr this]
    rfl

/-- A converted tile at an entry. -/
theorem pay3_at (v : Vec Ideal S1x1024x256 .f32) (r : Fin 1024) (q : Fin 256) :
    k0_pay3 (F := Ideal) (k0_pay2 (F := Ideal)) v (ix2 r q) = v (ix3 (0 : Fin 1) r ⟨ilv q.val, ilv_lt q.isLt⟩) := by
  have h : k0_pay3 (F := Ideal) (k0_pay2 (F := Ideal)) v (ix2 r q) = ∑ a : Fin 256, v (ix3 (0 : Fin 1) r a) * k0_pay2 (F := Ideal) (ix2 a q) := by
    pointwise [k0_pay3]
  rw [h]
  refine (Finset.sum_eq_single (⟨ilv q.val, ilv_lt q.isLt⟩ : Fin 256) (fun a _ ha => ?_) (fun h => absurd (Finset.mem_univ _) h)).trans ?_
  · rw [pay2_at, if_neg (fun e => ha (Fin.ext e)), mul_zero]
  · rw [pay2_at, if_pos rfl, mul_one]

/-- The converted down weights at an entry. -/
theorem pay11_at (v : Vec Ideal S1x1024x1024 .f32) (r q : Fin 1024) :
    k0_pay11 (F := Ideal) v (ix2 r q) = v (ix3 (0 : Fin 1) r q) := by
  pointwise [k0_pay11]

section
variable (c : Dev nD) (e : BitVec 32) (he : e.toNat < 32)

/-- Expert `e`'s gate-and-up weights and its down weights at an entry. -/
abbrev plG (g : Cn (F := Ideal) c hbG) (r : Fin 1024) (q : Fin 2048) : EReal := hbG.view.read (Elt Ideal) g (ix3 ⟨e.toNat, he⟩ r q)
abbrev plD (d : Cn (F := Ideal) c hbD) (r q : Fin 1024) : EReal := hbD.view.read (Elt Ideal) d (ix3 ⟨e.toNat, he⟩ r q)

theorem tG_at (g : Cn (F := Ideal) c hbG) (o : ℕ) (ho : o + 256 ≤ 2048) (z : Fin 1) (r : Fin 1024) (q : Fin 256) :
    tG c e he g o ho (ix3 z r q) = plG c e he g r ⟨o + q.val, by omega⟩ := by
  show g _ = g _
  refine congrArg g (congrArg hbG.view.emb ?_)
  funext a; apply Fin.ext
  have := z.isLt
  fin_cases a
  · show e.toNat + 1 * z.val = e.toNat; omega
  · show 0 + 1 * r.val = r.val; omega
  · show o + 1 * q.val = o + q.val; omega

theorem tD_at (d : Cn (F := Ideal) c hbD) (z : Fin 1) (r q : Fin 1024) : tD c e he d (ix3 z r q) = plD c e he d r q := by
  show d _ = d _
  refine congrArg d (congrArg hbD.view.emb ?_)
  funext a; apply Fin.ext
  have := z.isLt
  fin_cases a
  · show e.toNat + 1 * z.val = e.toNat; omega
  · show 0 + 1 * r.val = r.val; omega
  · show 0 + 1 * q.val = q.val; omega

/-- The whole converted weights: a tile's even columns first. -/
def allG (g : Cn (F := Ideal) c hbG) : Vec Ideal S1024x2048 .bf16 := fun y =>
  plG c e he g ⟨(y 0).val, show (y 0).val < 1024 from (y 0).isLt⟩ ⟨256 * ((y 1).val / 256) + ilv ((y 1).val % 256), by
    have h : (y 1).val < 2048 := (y 1).isLt
    have := ilv_lt (Nat.mod_lt (y 1).val (show 0 < 256 by norm_num)); omega⟩

theorem pieceG (g : Cn (F := Ideal) c hbG) (k : ℕ) (hk : 256 * k + 256 ≤ 2048) (o : ℕ) (ho : o = 256 * k)
    (inb : ∀ a, (![0, o] : Fin 2 → ℕ) a + S1024x256.size a ≤ S1024x2048.size a) (ho' : o + 256 ≤ 2048) (x : S1024x256.Idx) :
    k0_pay3 (F := Ideal) (k0_pay2 (F := Ideal)) (tG c e he g o ho') x = allG c e he g ((Rect.unit (s := S1024x2048) ![0, o] S1024x256.size inb).emb x) := by
  subst ho
  obtain ⟨r, q, rfl⟩ : ∃ r q, x = ix2 r q := ⟨x 0, x 1, (ix2_eta x).symm⟩
  rw [pay3_at, tG_at]
  have h1 : (((Rect.unit (s := S1024x2048) ![0, 256 * k] S1024x256.size inb).emb (ix2 r q)) 1 : ℕ) = 256 * k + q.val := by
    rw [Rect.emb_apply]; show 256 * k + 1 * q.val = _; omega
  have h0 : (((Rect.unit (s := S1024x2048) ![0, 256 * k] S1024x256.size inb).emb (ix2 r q)) 0 : ℕ) = r.val := by
    rw [Rect.emb_apply]; show 0 + 1 * r.val = _; omega
  unfold allG
  refine congrArg₂ (fun a b => plG c e he g a b) (Fin.ext h0.symm) (Fin.ext ?_)
  show 256 * k + ilv q.val = 256 * (_ / 256) + ilv (_ % 256)
  have hq := q.isLt
  rw [h1, show (256 * k + q.val) / 256 = k by omega, show (256 * k + q.val) % 256 = q.val by omega]

/-- A converted tile as loaded, at an entry. -/
theorem rG_at (g : Cn (F := Ideal) c hbG) (k : ℕ) (o : ℕ) (ho : o = 256 * k) (ho' : o + 256 ≤ 2048) (r : Fin 1024) (q : Fin 256) :
    rG c e he g o ho' (ix2 r q) = plG c e he g r ⟨o + ilv q.val, by have := ilv_lt q.isLt; omega⟩ := by
  subst ho
  show cvG.view.readCov (Val := Elt Ideal) (pcsG (k0_pay2 (F := Ideal)) (tG c e he g)) (Rect.unit (s := S1024x2048) ![0, 256 * k] S1024x256.size (inbTc ho')).toLoadRect (ix2 r q) = _
  rw [View.readCov_eq_canon']
  have cov : ∀ y : S1024x2048.Idx, ∃ p ∈ pcsG (k0_pay2 (F := Ideal)) (tG c e he g), y ∈ p.1.set :=
    View.cover_of_tiledL (s := S1024x2048) _ ![1024, 256] (by sl_kernel_rfl)
  refine (View.canon_apply_of_pieces (allG c e he g) _ ?_ _ (cov _)).trans ?_
  · refine List.forall_mem_cons.2 ⟨pieceG c e he g 7 (by norm_num) 1792 rfl inb_S1024x2048_S1024x256_0_1792 (by decide), List.forall_mem_cons.2 ⟨pieceG c e he g 6 (by norm_num) 1536 rfl inb_S1024x2048_S1024x256_0_1536 (by decide),
      List.forall_mem_cons.2 ⟨pieceG c e he g 5 (by norm_num) 1280 rfl inb_S1024x2048_S1024x256_0_1280 (by decide), List.forall_mem_cons.2 ⟨pieceG c e he g 4 (by norm_num) 1024 rfl inb_S1024x2048_S1024x256_0_1024 (by decide),
      List.forall_mem_cons.2 ⟨pieceG c e he g 3 (by norm_num) 768 rfl inb_S1024x2048_S1024x256_0_768 (by decide), List.forall_mem_cons.2 ⟨pieceG c e he g 2 (by norm_num) 512 rfl inb_S1024x2048_S1024x256_0_512 (by decide),
      List.forall_mem_cons.2 ⟨pieceG c e he g 1 (by norm_num) 256 rfl inb_S1024x2048_S1024x256_0_256 (by decide), List.forall_mem_cons.2 ⟨pieceG c e he g 0 (by norm_num) 0 rfl inb_S1024x2048_S1024x256_0_0 (by decide), fun _ h => absurd h List.not_mem_nil⟩⟩⟩⟩⟩⟩⟩⟩
  · have hq := q.isLt
    unfold allG
    refine congrArg₂ (fun a b => plG c e he g a b) (Fin.ext ?_) (Fin.ext ?_)
    · show 0 + 1 * r.val = r.val; omega
    · show 256 * ((256 * k + 1 * q.val) / 256) + ilv ((256 * k + 1 * q.val) % 256) = 256 * k + ilv q.val
      rw [show (256 * k + 1 * q.val) / 256 = k by omega, show (256 * k + 1 * q.val) % 256 = q.val by omega]

/-- The converted down weights as loaded, at an entry. -/
theorem rD_at (d : Cn (F := Ideal) c hbD) (r q : Fin 1024) :
    rD c e he d (ix2 r q) = plD c e he d r q := by
  show cvD.view.readCov (Val := Elt Ideal) (pcsD (tD c e he d)) (Rect.unit (s := S1024x1024) ![0, 0] S1024x1024.size inb_S1024x1024_S1024x1024_0_0).toLoadRect (ix2 r q) = _
  rw [View.readCov_cons_toLoadRect, pay11_at, tD_at]

end

end Cert.Moe
-- ==== Proof.Moe.Gather.lean ====
/-
  An expert's weights taken out of all of them: a gather whose start indices name the expert and are zero elsewhere, and the
  columns of start indices side by side.
-/
module
public import Idealize.ShloMosaic.Lib.Pipeline.Value
public import Idealize.ShloMosaic.Lib.StableHlo.Predicate
public import Idealize.ShloMosaic.Lib.Pointwise

@[expose] public section

namespace Cert.Moe

open Idealize.ShloMosaic

/-- A word below the clamp, read signed and clamped. -/
theorem clamp_ofNat {e E : ℕ} (he : e < E) (hE : E < 2 ^ 31) : min (BitVec.ofNat 32 e).toInt.toNat (E - 1) = e := by
  rw [StableHlo.Predicate.toInt_ofNat_small _ (by omega)]
  show min ((e : ℤ)).toNat (E - 1) = e
  omega

/-- A matrix of a stack: the start indices name the matrix, the whole of the other axes is taken. -/
theorem gather3 {α : Type} {E A B n : ℕ} (d : GatherDims ⟨3, ![E, A, B]⟩ ⟨2, ![n, 3]⟩ ⟨4, ![n, 1, A, B]⟩) (hoff : d.offsetDims = [1, 2, 3])
    (hcoll : d.collapsedSliceDims = []) (hob : d.operandBatchingDims = []) (hsim : d.startIndexMap = [0, 1, 2]) (hivd : d.indexVectorDim = 1)
    (hss : d.sliceSizes = ![1, A, B]) (x : (⟨3, ![E, A, B]⟩ : Shape).Idx → α) (idx : IVec ⟨2, ![n, 3]⟩ 32)
    (t : Fin n) (a : Fin A) (b : Fin B) (e : Fin E) (hE : E < 2 ^ 31) (he : idx (ix2 t (0 : Fin 3)) = BitVec.ofNat 32 e.val) :
    Host.gather d x idx (ix4 t (0 : Fin 1) a b) = x (ix3 e a b) := by
  unfold Host.gather
  refine congrArg x (funext fun X => Fin.ext ?_)
  have hbN : ∀ a', a' ∉ d.operandBatchingDims := fun a' => by rw [hob]; exact List.not_mem_nil
  have hsk : d.sKept = [0, 1, 2] := by unfold GatherDims.sKept; rw [hcoll, hob]; rfl
  have hbd : d.batchDims = [0] := by unfold GatherDims.batchDims; rw [hoff]; rfl
  have hb0 : ∀ Y ∈ d.batchDims, Y = 0 := fun Y h => by rw [hbd] at h; exact List.mem_singleton.1 h
  have hoc : ∀ (X : Fin 3) (k : Fin 4) (hk : k.val = X.val + 1), d.offCoord (ix4 t (0 : Fin 1) a b) X = (ix4 t (0 : Fin 1) a b k).val := fun X k hk => by
    have hX : X ∈ d.sKept := (d.mem_sKept X).2 ⟨by rw [hcoll]; exact List.not_mem_nil, hbN X⟩
    unfold GatherDims.offCoord
    rw [dif_pos hX]
    have : ∀ Y : Fin 4, Y = k → (ix4 t (0 : Fin 1) a b Y).val = (ix4 t (0 : Fin 1) a b k).val := fun Y h => by rw [h]
    refine this _ ?_
    simp only [hoff, hsk]
    apply Fin.ext
    rw [hk]
    fin_cases X <;> rfl
  show d.start (ix4 t (0 : Fin 1) a b) idx X + d.batchCoord (ix4 t (0 : Fin 1) a b) X + d.offCoord (ix4 t (0 : Fin 1) a b) X = _
  rw [d.batchCoord_eq_zero _ _ (hbN X), Nat.add_zero]
  have hm : X ∈ d.startIndexMap := by rw [hsim]; exact (by decide : ∀ Y : Fin 3, Y ∈ ([0, 1, 2] : List (Fin 3))) X
  unfold GatherDims.start
  rw [dif_pos hm]
  match X with
  | ⟨0, hX⟩ =>
    rw [hoc ⟨0, hX⟩ 1 rfl]
    have hsi : d.siIdx (ix4 t (0 : Fin 1) a b) ⟨d.startIndexMap.idxOf ⟨0, hX⟩, List.idxOf_lt_length_iff.2 hm⟩ = ix2 t (0 : Fin 3) := by
      funext b'
      apply Fin.ext
      match b' with
      | ⟨0, _⟩ =>
        unfold GatherDims.siIdx
        rw [dif_neg (by rw [hivd]; exact Nat.zero_ne_one)]
        unfold GatherDims.siCoord
        simp only [Fin.val_cast]
        have : ∀ Y : Fin 4, Y = 0 → (ix4 t (0 : Fin 1) a b Y).val = t.val := fun Y h => by rw [h]; rfl
        refine this _ ?_
        exact hb0 _ (List.getElem_mem _)
      | ⟨1, _⟩ =>
        unfold GatherDims.siIdx
        rw [dif_pos (by rw [hivd])]
        show List.idxOf (0 : Fin 3) d.startIndexMap = 0
        rw [hsim]; rfl
    have hsz : d.sliceSizes ⟨0, hX⟩ = 1 := by rw [hss]; rfl
    show min (idx (d.siIdx (ix4 t (0 : Fin 1) a b) ⟨d.startIndexMap.idxOf ⟨0, hX⟩, List.idxOf_lt_length_iff.2 hm⟩)).toInt.toNat (E - d.sliceSizes ⟨0, hX⟩) + 0 = e.val
    rw [hsi, he, hsz, clamp_ofNat e.isLt hE, Nat.add_zero]
  | ⟨1, hX⟩ =>
    rw [hoc ⟨1, hX⟩ 2 rfl]
    have hsz : d.sliceSizes ⟨1, hX⟩ = A := by rw [hss]; rfl
    show min _ (A - d.sliceSizes ⟨1, hX⟩) + a.val = a.val
    rw [hsz]; omega
  | ⟨2, hX⟩ =>
    rw [hoc ⟨2, hX⟩ 3 rfl]
    have hsz : d.sliceSizes ⟨2, hX⟩ = B := by rw [hss]; rfl
    show min _ (B - d.sliceSizes ⟨2, hX⟩) + b.val = b.val
    rw [hsz]; omega

/-- A row of a matrix: the start indices name the row, the whole of it is taken. -/
theorem gather2 {α : Type} {E B n : ℕ} (d : GatherDims ⟨2, ![E, B]⟩ ⟨2, ![n, 2]⟩ ⟨3, ![n, 1, B]⟩) (hoff : d.offsetDims = [1, 2])
    (hcoll : d.collapsedSliceDims = []) (hob : d.operandBatchingDims = []) (hsim : d.startIndexMap = [0, 1]) (hivd : d.indexVectorDim = 1)
    (hss : d.sliceSizes = ![1, B]) (x : (⟨2, ![E, B]⟩ : Shape).Idx → α) (idx : IVec ⟨2, ![n, 2]⟩ 32)
    (t : Fin n) (b : Fin B) (e : Fin E) (hE : E < 2 ^ 31) (he : idx (ix2 t (0 : Fin 2)) = BitVec.ofNat 32 e.val) :
    Host.gather d x idx (ix3 t (0 : Fin 1) b) = x (ix2 e b) := by
  unfold Host.gather
  refine congrArg x (funext fun X => Fin.ext ?_)
  have hbN : ∀ a', a' ∉ d.operandBatchingDims := fun a' => by rw [hob]; exact List.not_mem_nil
  have hsk : d.sKept = [0, 1] := by unfold GatherDims.sKept; rw [hcoll, hob]; rfl
  have hbd : d.batchDims = [0] := by unfold GatherDims.batchDims; rw [hoff]; rfl
  have hb0 : ∀ Y ∈ d.batchDims, Y = 0 := fun Y h => by rw [hbd] at h; exact List.mem_singleton.1 h
  have hoc : ∀ (X : Fin 2) (k : Fin 3) (hk : k.val = X.val + 1), d.offCoord (ix3 t (0 : Fin 1) b) X = (ix3 t (0 : Fin 1) b k).val := fun X k hk => by
    have hX : X ∈ d.sKept := (d.mem_sKept X).2 ⟨by rw [hcoll]; exact List.not_mem_nil, hbN X⟩
    unfold GatherDims.offCoord
    rw [dif_pos hX]
    have : ∀ Y : Fin 3, Y = k → (ix3 t (0 : Fin 1) b Y).val = (ix3 t (0 : Fin 1) b k).val := fun Y h => by rw [h]
    refine this _ ?_
    simp only [hoff, hsk]
    apply Fin.ext
    rw [hk]
    fin_cases X <;> rfl
  show d.start (ix3 t (0 : Fin 1) b) idx X + d.batchCoord (ix3 t (0 : Fin 1) b) X + d.offCoord (ix3 t (0 : Fin 1) b) X = _
  rw [d.batchCoord_eq_zero _ _ (hbN X), Nat.add_zero]
  have hm : X ∈ d.startIndexMap := by rw [hsim]; exact (by decide : ∀ Y : Fin 2, Y ∈ ([0, 1] : List (Fin 2))) X
  unfold GatherDims.start
  rw [dif_pos hm]
  match X with
  | ⟨0, hX⟩ =>
    rw [hoc ⟨0, hX⟩ 1 rfl]
    have hsi : d.siIdx (ix3 t (0 : Fin 1) b) ⟨d.startIndexMap.idxOf ⟨0, hX⟩, List.idxOf_lt_length_iff.2 hm⟩ = ix2 t (0 : Fin 2) := by
      funext b'
      apply Fin.ext
      match b' with
      | ⟨0, _⟩ =>
        unfold GatherDims.siIdx
        rw [dif_neg (by rw [hivd]; exact Nat.zero_ne_one)]
        unfold GatherDims.siCoord
        simp only [Fin.val_cast]
        have : ∀ Y : Fin 3, Y = 0 → (ix3 t (0 : Fin 1) b Y).val = t.val := fun Y h => by rw [h]; rfl
        refine this _ ?_
        exact hb0 _ (List.getElem_mem _)
      | ⟨1, _⟩ =>
        unfold GatherDims.siIdx
        rw [dif_pos (by rw [hivd])]
        show List.idxOf (0 : Fin 2) d.startIndexMap = 0
        rw [hsim]; rfl
    have hsz : d.sliceSizes ⟨0, hX⟩ = 1 := by rw [hss]; rfl
    show min (idx (d.siIdx (ix3 t (0 : Fin 1) b) ⟨d.startIndexMap.idxOf ⟨0, hX⟩, List.idxOf_lt_length_iff.2 hm⟩)).toInt.toNat (E - d.sliceSizes ⟨0, hX⟩) + 0 = e.val
    rw [hsi, he, hsz, clamp_ofNat e.isLt hE, Nat.add_zero]
  | ⟨1, hX⟩ =>
    rw [hoc ⟨1, hX⟩ 2 rfl]
    have hsz : d.sliceSizes ⟨1, hX⟩ = B := by rw [hss]; rfl
    show min _ (B - d.sliceSizes ⟨1, hX⟩) + b.val = b.val
    rw [hsz]; omega

/-- The first of columns side by side. -/
theorem head3 {α : Type} {n : ℕ} (a b c : (⟨2, ![n, 1]⟩ : Shape).Idx → α)
    (h : Shape.Concatenates [⟨2, ![n, 1]⟩, ⟨2, ![n, 1]⟩, ⟨2, ![n, 1]⟩] (⟨2, ![n, 3]⟩ : Shape) 1) (t : Fin n) :
    concatenate (⟨2, ![n, 3]⟩ : Shape) 1 [⟨(⟨2, ![n, 1]⟩ : Shape), a⟩, ⟨(⟨2, ![n, 1]⟩ : Shape), b⟩, ⟨(⟨2, ![n, 1]⟩ : Shape), c⟩] h (ix2 t (0 : Fin 3)) = a (ix2 t (0 : Fin 1)) := by
  refine concatenate_apply_piece (t := (⟨2, ![n, 3]⟩ : Shape)) (1 : Fin 2) [⟨(⟨2, ![n, 1]⟩ : Shape), a⟩, ⟨(⟨2, ![n, 1]⟩ : Shape), b⟩, ⟨(⟨2, ![n, 1]⟩ : Shape), c⟩] h
    (ix2 t (0 : Fin 3)) 0 (by show 0 < 3; omega) (⟨2, ![n, 1]⟩ : Shape) a rfl rfl 0 rfl (ix2 t (0 : Fin 1)) (fun k hk => ?_) rfl
  fin_cases k
  · rfl
  · exact absurd rfl hk
theorem head2 {α : Type} {n : ℕ} (a b : (⟨2, ![n, 1]⟩ : Shape).Idx → α)
    (h : Shape.Concatenates [⟨2, ![n, 1]⟩, ⟨2, ![n, 1]⟩] (⟨2, ![n, 2]⟩ : Shape) 1) (t : Fin n) :
    concatenate (⟨2, ![n, 2]⟩ : Shape) 1 [⟨(⟨2, ![n, 1]⟩ : Shape), a⟩, ⟨(⟨2, ![n, 1]⟩ : Shape), b⟩] h (ix2 t (0 : Fin 2)) = a (ix2 t (0 : Fin 1)) := by
  refine concatenate_apply_piece (t := (⟨2, ![n, 2]⟩ : Shape)) (1 : Fin 2) [⟨(⟨2, ![n, 1]⟩ : Shape), a⟩, ⟨(⟨2, ![n, 1]⟩ : Shape), b⟩] h
    (ix2 t (0 : Fin 2)) 0 (by show 0 < 2; omega) (⟨2, ![n, 1]⟩ : Shape) a rfl rfl 0 rfl (ix2 t (0 : Fin 1)) (fun k hk => ?_) rfl
  fin_cases k
  · rfl
  · exact absurd rfl hk

end Cert.Moe
-- ==== Proof.Moe.Ref.lean ====
/-
  The reference at a row and a column: a row of a block in use through the block's expert, zero past the used blocks.
-/
module
public import proofs.«01_k».proof.Proof.Moe.Tables
public import proofs.«01_k».proof.Proof.Moe.Spec
public import proofs.«01_k».proof.Proof.Moe.Gather
public import proofs.«01_k».proof.Proof.Gen.Reference2Ideal.Read

@[expose] public section

set_option maxRecDepth 16384

noncomputable section

namespace Cert.Moe

open Cert.Reference2Ideal Cert.Reference2Ideal.Gen Cert.Reference2Ideal.Read
open Idealize.ShloMosaic Idealize.ShloMosaic.TcCoe

/-- A row of a block. -/
abbrev rowOf (t : Fin 316) (r : Fin 512) : Fin 161792 := ⟨512 * t.val + r.val, by have := t.isLt; have := r.isLt; omega⟩

/-- The padded counts and their running sums are the host's of the call. -/
theorem ref_pad (x0 : W32 S32) : val_main_v10 (F := Ideal) x0 = padA x0 := rfl
theorem ref_ends (x0 : W32 S32) : val_main_v11 (F := Ideal) x0 = endsA (padA x0) := rfl
theorem ref_count (x0 : W32 S32) (t : Fin 316) :
    val_main_v23 (F := Ideal) x0 (ix1 t) = IntOp.minsi (countA (cmpi .sle (rowA (endsA (padA x0))) (colA (val_main_v14 (F := Ideal)))) (ix1 t)) 31#32 := rfl

/-- The last word of an array over the experts. -/
theorem last_at (e : W32 S32) (hs : Shape.Slices (⟨1, ![32]⟩ : Shape) ![31] (⟨1, ![1]⟩ : Shape)) (hc : Shape.ShapeCasts (⟨1, ![1]⟩ : Shape) (⟨0, ![]⟩ : Shape))
    (i : (⟨0, ![]⟩ : Shape).Idx) : (shapeCast (⟨0, ![]⟩ : Shape) (extractStridedSlice (⟨1, ![1]⟩ : Shape) ![31] e hs : W32 S1) hc : W32 S_) i = e (ix1 31) := by
  have hj : ∀ j : S1.Idx, (extractStridedSlice S1 ![31] e hs : W32 S1) j = e (ix1 31) := fun j => by
    refine congrArg e (funext fun k => ?_)
    match k with
    | ⟨0, _⟩ =>
      refine Fin.ext ?_
      show 31 + (j 0).val = 31
      have : (j 0).val < 1 := (j 0).isLt
      omega
  exact hj _

/-- An index below 32 is kept as it is. -/
theorem keep_word : ∀ e : Fin 32, Scalar.select (IntOp.cmpi .slt (BitVec.ofNat 32 e.val) 0#32) (IntOp.addi (BitVec.ofNat 32 e.val) 32#32) (BitVec.ofNat 32 e.val)
    = BitVec.ofNat 32 e.val := by decide +kernel

section
variable {x0 : W32 S32} (C : Cnt (cN x0)) (t : Fin 316)
include C

/-- A used block's expert. -/
theorem ref_expert (ht : t.val < us (cN x0)) : val_main_v23 (F := Ideal) x0 (ix1 t) = BitVec.ofNat 32 (ex (cN x0) t.val) := by
  have hlt := ex_lt C t.val
  have ht' := t.isLt
  have hm : min t.val (us (cN x0) - 1) = t.val := Nat.min_eq_left (by omega)
  rw [ref_count]
  refine (congrArg (fun w => IntOp.minsi w 31#32) (count_at _ t (fun e => en (cN x0) e ≤ 512 * min t.val (us (cN x0) - 1)) fun q => ?_)).trans ?_
  rotate_left
  · exact (minsi_ofNat (lt_of_le_of_lt (Nat.count_le _) (by decide)) (by decide)).trans
      (congrArg (BitVec.ofNat 32) (Nat.min_eq_left (Nat.le_of_lt_succ hlt)))
  · show IntOp.cmpi .sle (rowA (endsA (padA x0)) (ix2 t q)) (colA (val_main_v14 (F := Ideal)) (ix2 t q)) = 1#1 ↔ _
    have hs : val_main_v14 (F := Ideal) (ix1 t) = BitVec.ofNat 32 (512 * min t.val (us (cN x0) - 1)) := by
      rw [hm]
      show BitVec.ofNat 32 t.val * BitVec.ofNat 32 512 = _
      rw [← BitVec.ofNat_mul, Nat.mul_comm]
    have h1 : rowA (endsA (padA x0)) (ix2 t q) = BitVec.ofNat 32 (en (cN x0) q.val) := (row_at _ t q).trans (endsA_at C q)
    have h2 : colA (val_main_v14 (F := Ideal)) (ix2 t q) = BitVec.ofNat 32 (512 * min t.val (us (cN x0) - 1)) := (col_at _ t q).trans hs
    rw [h1, h2]
    exact sle_one (en_lt C _ q.isLt) (by omega)

variable (ht : t.val < us (cN x0)) (x1 : FVec Ideal S161792x1024 .f32) (x2 : FVec Ideal S1x32x1024x2048 .f32) (x3 : FVec Ideal S1x32x2048 .f32)
  (x4 : FVec Ideal S1x32x1024x1024 .f32) (x5 : FVec Ideal S1x32x1024 .f32)
include ht

/-- The start indices name the expert. -/
theorem idx39 : val_main_v39 (F := Ideal) x0 (ix2 t (0 : Fin 3)) = BitVec.ofNat 32 (ex (cN x0) t.val) := by
  refine (head3 _ _ _ _ t).trans ?_
  rw [val_main_v36_apply, show idx_main_v36 (ix2 t (0 : Fin 1)) = ix1 t from funext fun a => by fin_cases a; rfl,
    val_main_v29_apply, val_main_v26_apply, val_main_v28_apply, val_main_v25_apply, val_main_v27_apply, ref_expert C t ht]
  exact keep_word ⟨_, ex_lt C t.val⟩
theorem idx90 : val_main_v90 (F := Ideal) x0 (ix2 t (0 : Fin 3)) = BitVec.ofNat 32 (ex (cN x0) t.val) := by
  refine (head3 _ _ _ _ t).trans ?_
  rw [val_main_v87_apply, show idx_main_v87 (ix2 t (0 : Fin 1)) = ix1 t from funext fun a => by fin_cases a; rfl,
    val_main_v80_apply, val_main_v77_apply, val_main_v79_apply, val_main_v76_apply, val_main_v78_apply, ref_expert C t ht]
  exact keep_word ⟨_, ex_lt C t.val⟩
theorem idx53 : val_main_v53 (F := Ideal) x0 (ix2 t (0 : Fin 2)) = BitVec.ofNat 32 (ex (cN x0) t.val) := by
  refine (head2 _ _ _ t).trans ?_
  rw [val_main_v51_apply, show idx_main_v51 (ix2 t (0 : Fin 1)) = ix1 t from funext fun a => by fin_cases a; rfl,
    val_main_v47_apply, val_main_v44_apply, val_main_v46_apply, val_main_v43_apply, val_main_v45_apply, ref_expert C t ht]
  exact keep_word ⟨_, ex_lt C t.val⟩
theorem idx104 : val_main_v104 (F := Ideal) x0 (ix2 t (0 : Fin 2)) = BitVec.ofNat 32 (ex (cN x0) t.val) := by
  refine (head2 _ _ _ t).trans ?_
  rw [val_main_v102_apply, show idx_main_v102 (ix2 t (0 : Fin 1)) = ix1 t from funext fun a => by fin_cases a; rfl,
    val_main_v98_apply, val_main_v95_apply, val_main_v97_apply, val_main_v94_apply, val_main_v96_apply, ref_expert C t ht]
  exact keep_word ⟨_, ex_lt C t.val⟩

/-- The block's expert, as an index. -/
abbrev exF : Fin 32 := ⟨ex (cN x0) t.val, ex_lt C t.val⟩

/-- The expert's weights and biases as the reference takes them. -/
theorem ref_w (k : Fin 1024) (j : Fin 2048) : val_main_v41 (F := Ideal) x0 x2 (ix3 t k j) = x2 (ix4 (0 : Fin 1) (exF C t) k j) := by
  have hk := k.isLt; have hj := j.isLt; have ht' := t.isLt; have he := ex_lt C t.val
  rw [val_main_v41_apply]
  rw [show idx_main_v41 (ix3 t k j) = ix4 t (0 : Fin 1) k j from funext fun a => Fin.ext (by
    fin_cases a
    · show ((t.val * 1024 + k.val) * 2048 + j.val) / 2097152 = t.val; omega
    · rfl
    · show ((t.val * 1024 + k.val) * 2048 + j.val) / 2048 % 1024 = k.val; omega
    · show ((t.val * 1024 + k.val) * 2048 + j.val) % 2048 = j.val; omega)]
  refine (gather3 gather_S32x1024x2048_S316x3_S316x1x1024x2048_123_n_n_n_012_1_110242048 rfl rfl rfl rfl rfl rfl (val_main_v0 (F := Ideal) x2) (val_main_v39 (F := Ideal) x0) t k j
    (exF C t) (by norm_num) (idx39 C t ht)).trans ?_
  rw [val_main_v0_apply]
  refine congrArg x2 (funext fun a => Fin.ext ?_)
  fin_cases a
  · rfl
  · show ((ex (cN x0) t.val * 1024 + k.val) * 2048 + j.val) / 2097152 % 32 = ex (cN x0) t.val; omega
  · show ((ex (cN x0) t.val * 1024 + k.val) * 2048 + j.val) / 2048 % 1024 = k.val; omega
  · show ((ex (cN x0) t.val * 1024 + k.val) * 2048 + j.val) % 2048 = j.val; omega

theorem ref_w2 (k : Fin 1024) (j : Fin 1024) : val_main_v92 (F := Ideal) x0 x4 (ix3 t k j) = x4 (ix4 (0 : Fin 1) (exF C t) k j) := by
  have hk := k.isLt; have hj := j.isLt; have ht' := t.isLt; have he := ex_lt C t.val
  rw [val_main_v92_apply]
  rw [show idx_main_v92 (ix3 t k j) = ix4 t (0 : Fin 1) k j from funext fun a => Fin.ext (by
    fin_cases a
    · show ((t.val * 1024 + k.val) * 1024 + j.val) / 1048576 = t.val; omega
    · rfl
    · show ((t.val * 1024 + k.val) * 1024 + j.val) / 1024 % 1024 = k.val; omega
    · show ((t.val * 1024 + k.val) * 1024 + j.val) % 1024 = j.val; omega)]
  refine (gather3 gather_S32x1024x1024_S316x3_S316x1x1024x1024_123_n_n_n_012_1_110241024 rfl rfl rfl rfl rfl rfl (val_main_v2 (F := Ideal) x4) (val_main_v90 (F := Ideal) x0) t k j
    (exF C t) (by norm_num) (idx90 C t ht)).trans ?_
  rw [val_main_v2_apply]
  refine congrArg x4 (funext fun a => Fin.ext ?_)
  fin_cases a
  · rfl
  · show ((ex (cN x0) t.val * 1024 + k.val) * 1024 + j.val) / 1048576 % 32 = ex (cN x0) t.val; omega
  · show ((ex (cN x0) t.val * 1024 + k.val) * 1024 + j.val) / 1024 % 1024 = k.val; omega
  · show ((ex (cN x0) t.val * 1024 + k.val) * 1024 + j.val) % 1024 = j.val; omega

theorem ref_b (j : Fin 2048) : val_main_v55 (F := Ideal) x0 x3 (ix2 t j) = x3 (ix3 (0 : Fin 1) (exF C t) j) := by
  have hj := j.isLt; have ht' := t.isLt; have he := ex_lt C t.val
  rw [val_main_v55_apply]
  rw [show idx_main_v55 (ix2 t j) = ix3 t (0 : Fin 1) j from funext fun a => Fin.ext (by
    fin_cases a
    · show (t.val * 2048 + j.val) / 2048 = t.val; omega
    · rfl
    · show (t.val * 2048 + j.val) % 2048 = j.val; omega)]
  refine (gather2 gather_S32x2048_S316x2_S316x1x2048_12_n_n_n_01_1_12048 rfl rfl rfl rfl rfl rfl (val_main_v1 (F := Ideal) x3) (val_main_v53 (F := Ideal) x0) t j
    (exF C t) (by norm_num) (idx53 C t ht)).trans ?_
  rw [val_main_v1_apply]
  refine congrArg x3 (funext fun a => Fin.ext ?_)
  fin_cases a
  · rfl
  · show (ex (cN x0) t.val * 2048 + j.val) / 2048 % 32 = ex (cN x0) t.val; omega
  · show (ex (cN x0) t.val * 2048 + j.val) % 2048 = j.val; omega

theorem ref_b2 (j : Fin 1024) : val_main_v106 (F := Ideal) x0 x5 (ix2 t j) = x5 (ix3 (0 : Fin 1) (exF C t) j) := by
  have hj := j.isLt; have ht' := t.isLt; have he := ex_lt C t.val
  rw [val_main_v106_apply]
  rw [show idx_main_v106 (ix2 t j) = ix3 t (0 : Fin 1) j from funext fun a => Fin.ext (by
    fin_cases a
    · show (t.val * 1024 + j.val) / 1024 = t.val; omega
    · rfl
    · show (t.val * 1024 + j.val) % 1024 = j.val; omega)]
  refine (gather2 gather_S32x1024_S316x2_S316x1x1024_12_n_n_n_01_1_11024 rfl rfl rfl rfl rfl rfl (val_main_v3 (F := Ideal) x5) (val_main_v104 (F := Ideal) x0) t j
    (exF C t) (by norm_num) (idx104 C t ht)).trans ?_
  rw [val_main_v3_apply]
  refine congrArg x5 (funext fun a => Fin.ext ?_)
  fin_cases a
  · rfl
  · show (ex (cN x0) t.val * 1024 + j.val) / 1024 % 32 = ex (cN x0) t.val; omega
  · show (ex (cN x0) t.val * 1024 + j.val) % 1024 = j.val; omega

omit C ht in
theorem ref_x (r : Fin 512) (k : Fin 1024) : val_main_v24 (F := Ideal) x1 (ix3 t r k) = x1 (ix2 (rowOf t r) k) := by
  have hr := r.isLt; have hk := k.isLt; have ht' := t.isLt
  rw [val_main_v24_apply]
  refine congrArg x1 (funext fun a => Fin.ext ?_)
  fin_cases a
  · show ((t.val * 512 + r.val) * 1024 + k.val) / 1024 = 512 * t.val + r.val; omega
  · show ((t.val * 512 + r.val) * 1024 + k.val) % 1024 = k.val; omega

/-- The first product with its bias. -/
theorem ref_pre (r : Fin 512) (j : Fin 2048) : val_main_v58 (F := Ideal) x0 x1 x2 x3 (ix3 t r j)
    = (∑ k : Fin 1024, x1 (ix2 (rowOf t r) k) * x2 (ix4 (0 : Fin 1) (exF C t) k j)) + x3 (ix3 (0 : Fin 1) (exF C t) j) := by
  rw [val_main_v58_apply, val_main_v42_apply, val_main_v57_apply, val_main_v56_apply]
  refine congrArg₂ (· + ·) (Finset.sum_congr rfl fun k _ => congrArg₂ (· * ·) ?_ ?_) ?_
  · rw [show lidx_main_v42 (ix3 t r j) k = ix3 t r k from funext fun a => by fin_cases a <;> rfl]
    exact ref_x t x1 r k
  · rw [show ridx_main_v42 (ix3 t r j) k = ix3 t k j from funext fun a => by fin_cases a <;> rfl]
    exact ref_w C t ht x2 k j
  · rw [show idx_main_v56 (idx_main_v57 (ix3 t r j)) = ix2 t j from funext fun a => by fin_cases a <;> rfl]
    exact ref_b C t ht x3 j

omit C ht in
/-- The gated unit at an entry. -/
theorem ref_act (r : Fin 512) (j : Fin 1024) : val_main_v75 (F := Ideal) x0 x1 x2 x3 (ix3 t r j)
    = act (val_main_v59 (F := Ideal) x0 x1 x2 x3 (ix3 t r j)) (val_main_v62 (F := Ideal) x0 x1 x2 x3 (ix3 t r j)) := by
  show min _ lim * Ideal.div unit (unit + Ideal.exp (-(slope * min _ lim))) * (min lim (max mlim _) + unit) = _
  unfold act
  rw [unit_eq]
  rfl

/-- The hidden entry of a row. -/
theorem ref_hid (r : Fin 512) (j : Fin 1024) : val_main_v75 (F := Ideal) x0 x1 x2 x3 (ix3 t r j)
    = hid (fun k => x1 (ix2 (rowOf t r) k)) (fun k j => x2 (ix4 (0 : Fin 1) (exF C t) k j)) (fun j => x3 (ix3 (0 : Fin 1) (exF C t) j)) j := by
  rw [ref_act]
  refine (congrArg₂ act ?_ ?_ : act _ _ = act _ _)
  · refine Eq.trans ?_ (ref_pre C t ht x1 x2 x3 r ⟨2 * j.val, by omega⟩)
    unfold val_main_v59
    rw [Host.slice_apply]
    refine congrArg (val_main_v58 (F := Ideal) x0 x1 x2 x3) (funext fun a => Fin.ext ?_)
    fin_cases a
    · show 0 + 1 * t.val = t.val; omega
    · show 0 + 1 * r.val = r.val; omega
    · show 0 + 2 * j.val = 2 * j.val; omega
  · refine Eq.trans ?_ (ref_pre C t ht x1 x2 x3 r ⟨2 * j.val + 1, by omega⟩)
    unfold val_main_v62
    rw [Host.slice_apply]
    refine congrArg (val_main_v58 (F := Ideal) x0 x1 x2 x3) (funext fun a => Fin.ext ?_)
    fin_cases a
    · show 0 + 1 * t.val = t.val; omega
    · show 0 + 1 * r.val = r.val; omega
    · show 1 + 2 * j.val = 2 * j.val + 1; omega

/-- A block's row through its expert. -/
theorem ref_out (r : Fin 512) (d : Fin 1024) : val_main_v109 (F := Ideal) x0 x1 x2 x3 x4 x5 (ix3 t r d)
    = ffn (fun k => x1 (ix2 (rowOf t r) k)) (fun k j => x2 (ix4 (0 : Fin 1) (exF C t) k j)) (fun j => x3 (ix3 (0 : Fin 1) (exF C t) j))
        (fun j d => x4 (ix4 (0 : Fin 1) (exF C t) j d)) (fun d => x5 (ix3 (0 : Fin 1) (exF C t) d)) d := by
  rw [val_main_v109_apply, val_main_v93_apply, val_main_v108_apply, val_main_v107_apply]
  unfold ffn
  refine congrArg₂ (· + ·) (Finset.sum_congr rfl fun j _ => congrArg₂ (· * ·) ?_ ?_) ?_
  · rw [show lidx_main_v93 (ix3 t r d) j = ix3 t r j from funext fun a => by fin_cases a <;> rfl]
    exact ref_hid C t ht x1 x2 x3 r j
  · rw [show ridx_main_v93 (ix3 t r d) j = ix3 t j d from funext fun a => by fin_cases a <;> rfl]
    exact ref_w2 C t ht x4 j d
  · rw [show idx_main_v107 (idx_main_v108 (ix3 t r d)) = ix2 t d from funext fun a => by fin_cases a <;> rfl]
    exact ref_b2 C t ht x5 d

end

section
variable {x0 : W32 S32} (C : Cnt (cN x0)) (t : Fin 316) (x1 : FVec Ideal S161792x1024 .f32) (x2 : FVec Ideal S1x32x1024x2048 .f32) (x3 : FVec Ideal S1x32x2048 .f32)
  (x4 : FVec Ideal S1x32x1024x1024 .f32) (x5 : FVec Ideal S1x32x1024 .f32) (r : Fin 512) (d : Fin 1024)
include C

/-- Which rows the reference keeps: those before the last expert's end. -/
theorem ref_mask : val_main_call3_v1 (F := Ideal) x0 (ix2 (rowOf t r) d) = 1#1 ↔ t.val < us (cN x0) := by
  have ht := t.isLt; have hr := r.isLt
  have hen := en_lt C 31 (by decide)
  have hus := us_mul (cN x0)
  have hm : val_main_call3_v1 (F := Ideal) x0 (ix2 (rowOf t r) d) = IntOp.cmpi .slt (BitVec.ofNat 32 (512 * t.val + r.val)) (BitVec.ofNat 32 (en (cN x0) 31)) := by
    rw [val_main_call3_v1_apply, val_main_v115_apply, val_main_v114_apply]
    refine congrArg₂ (IntOp.cmpi .slt) rfl ?_
    rw [val_main_v113_apply]
    unfold val_main_v112 val_main_v111
    rw [ref_ends]
    exact (last_at (endsA (padA x0)) _ _ _).trans (endsA_at C 31)
  rw [hm]
  refine (StableHlo.Predicate.slt_ofNat_iff _ _ (by omega) hen).trans ?_
  omega

/-- The reference at a row of a used block. -/
theorem ref_used (ht : t.val < us (cN x0)) : val_main_v117 (F := Ideal) x0 x1 x2 x3 x4 x5 (ix2 (rowOf t r) d)
    = ffn (fun k => x1 (ix2 (rowOf t r) k)) (fun k j => x2 (ix4 (0 : Fin 1) (exF C t) k j)) (fun j => x3 (ix3 (0 : Fin 1) (exF C t) j))
        (fun j d => x4 (ix4 (0 : Fin 1) (exF C t) j d)) (fun d => x5 (ix3 (0 : Fin 1) (exF C t) d)) d := by
  have ht' := t.isLt; have hr := r.isLt; have hd := d.isLt
  rw [val_main_v117_apply, (ref_mask C t r d).2 ht]
  refine Eq.trans ?_ (ref_out C t ht x1 x2 x3 x4 x5 r d)
  show val_main_v116 (F := Ideal) x0 x1 x2 x3 x4 x5 (ix2 (rowOf t r) d) = _
  rw [val_main_v116_apply]
  refine congrArg (val_main_v109 (F := Ideal) x0 x1 x2 x3 x4 x5) (funext fun a => Fin.ext ?_)
  fin_cases a
  · show ((512 * t.val + r.val) * 1024 + d.val) / 524288 = t.val; omega
  · show ((512 * t.val + r.val) * 1024 + d.val) / 1024 % 512 = r.val; omega
  · show ((512 * t.val + r.val) * 1024 + d.val) % 1024 = d.val; omega

/-- The reference at a row past the used blocks. -/
theorem ref_idle (ht : ¬ t.val < us (cN x0)) : val_main_v117 (F := Ideal) x0 x1 x2 x3 x4 x5 (ix2 (rowOf t r) d) = 0 := by
  rw [val_main_v117_apply]
  refine (if_neg (fun h => ht ((ref_mask C t r d).1 h))).trans ?_
  rw [val_main_call3_v2_apply]
  exact zero_eq

end

end Cert.Moe
-- ==== Proof.Moe.Value.lean ====
/-
  The expert call's array over the extended reals, and its equality with the reference's.
-/
module
public import proofs.«01_k».proof.Proof.Moe.Frames
public import proofs.«01_k».proof.Proof.Moe.Row
public import proofs.«01_k».proof.Proof.Moe.Cols
public import proofs.«01_k».proof.Proof.Moe.Ref
public import Idealize.ShloMosaic.Lib.Pipeline.Covers
public import Idealize.ShloMosaic.Lib.Pipeline.ValueKit

@[expose] public section

set_option maxRecDepth 16384

noncomputable section

namespace Cert.Moe

open Cert.Kernel2Ideal Cert.Kernel2Ideal.Gen
open Idealize.ShloMosaic Idealize.ShloMosaic.TcCoe Idealize.SL.Sem
open Idealize.ShloMosaic.Pipeline (Dat)

/-- The grid has one axis, so a point is its coordinate. -/
theorem coord_val : ∀ t : Fin grid0.N, (grid0.coords t 0).val = t.val := by decide +kernel

/-- The output's block at a point is the point's. -/
theorem out_index : ∀ t : Fin grid0.N, cc0_transform_5 (grid0.coords t) = ![t.val, 0] := by decide +kernel

variable (m : (ℓ : Loc nD τ sig) → Buf (Elt Ideal) ℓ) (C : Cnt (cM m))

/-- The windows' blocks at a point. -/
theorem index0 (t : Fin grid0.N) : (win0 (adm m (ok m C) 0) 0).index t = ![min t.val (us (cM m) - 1), 0] :=
  (ix_rows m C (grid0.coords t)).trans (by rw [coord_val])
theorem index1 (t : Fin grid0.N) : (win0 (adm m (ok m C) 0) 1).index t = ![ex (cM m) t.val, 0, 0] :=
  (ix_bias m C (grid0.coords t)).trans (by rw [coord_val])
theorem index2 (t : Fin grid0.N) : (win0 (adm m (ok m C) 0) 2).index t = ![ex (cM m) t.val, 0, 0] :=
  (ix_bias2 m C (grid0.coords t)).trans (by rw [coord_val])
theorem index3 (t : Fin grid0.N) : (win0 (adm m (ok m C) 0) 3).index t = ![t.val, 0] := out_index t

/-- The arguments by their names. -/
abbrev aX (c : Dev nD) : FVec Ideal S161792x1024 .f32 := m ((c : Thread nD τ).loc main_arg1)
abbrev aW (c : Dev nD) : FVec Ideal S1x32x1024x2048 .f32 := m ((c : Thread nD τ).loc main_arg2)
abbrev aB (c : Dev nD) : FVec Ideal S1x32x2048 .f32 := m ((c : Thread nD τ).loc main_arg3)
abbrev aW2 (c : Dev nD) : FVec Ideal S1x32x1024x1024 .f32 := m ((c : Thread nD τ).loc main_arg4)
abbrev aB2 (c : Dev nD) : FVec Ideal S1x32x1024 .f32 := m ((c : Thread nD τ).loc main_arg5)

theorem V0_at (c : Dev nD) (e : Fin 32) (k : Fin 1024) (j : Fin 2048) :
    (V m c main_v0 : FVec Ideal S32x1024x2048 .f32) (ix3 e k j) = aW m c (ix4 (0 : Fin 1) e k j) := by
  rw [V_v0]
  have h : ∀ x : FVec Ideal S1x32x1024x2048 .f32, (shapeCast S32x1024x2048 x shapeCasts_S1x32x1024x2048_S32x1024x2048 : FVec Ideal S32x1024x2048 .f32) (ix3 e k j) = x (ix4 (0 : Fin 1) e k j) := fun x => by pointwise
  exact h _
theorem V2_at (c : Dev nD) (e : Fin 32) (k j : Fin 1024) :
    (V m c main_v2 : FVec Ideal S32x1024x1024 .f32) (ix3 e k j) = aW2 m c (ix4 (0 : Fin 1) e k j) := by
  rw [V_v2]
  have h : ∀ x : FVec Ideal S1x32x1024x1024 .f32, (shapeCast S32x1024x1024 x shapeCasts_S1x32x1024x1024_S32x1024x1024 : FVec Ideal S32x1024x1024 .f32) (ix3 e k j) = x (ix4 (0 : Fin 1) e k j) := fun x => by pointwise
  exact h _
theorem V65_at (c : Dev nD) (e : Fin 32) (z : Fin 1) (d : Fin 1024) :
    (V m c main_v65 : FVec Ideal S32x1x1024 .f32) (ix3 e z d) = aB2 m c (ix3 (0 : Fin 1) e d) := by
  rw [V_v65]
  have h : ∀ x : FVec Ideal S1x32x1024 .f32, (broadcastInDim S32x1x1024 ![0, 2] bcast_S32x1024_S32x1x1024_0_2 (shapeCast S32x1024 x shapeCasts_S1x32x1024_S32x1024 : FVec Ideal S32x1024 .f32) : FVec Ideal S32x1x1024 .f32) (ix3 e z d) = x (ix3 (0 : Fin 1) e d) := fun x => by pointwise
  exact h _
theorem V34_at (c : Dev nD) (e : Fin 32) (z : Fin 1) (k : Fin 8) (q : Fin 256) (h : 256 * k.val + q.val < 2048)
    (h' : 256 * k.val + ilv q.val < 2048) :
    (V m c main_v34 : FVec Ideal S32x1x2048 .f32) (ix3 e z ⟨256 * k.val + q.val, h⟩) = aB m c (ix3 (0 : Fin 1) e ⟨256 * k.val + ilv q.val, h'⟩) := by
  rw [V_v34]
  have hz := z.isLt; have hq := q.isLt; have hk := k.isLt; have he := e.isLt
  have h1 : ∀ (x : FVec Ideal S1x32x2048 .f32), (shapeCast S32x1x2048 (transpose S32x8x2x128 [0, 1, 3, 2] (shapeCast S32x8x128x2 (shapeCast S32x2048 x shapeCasts_S1x32x2048_S32x2048) shapeCasts_S32x2048_S32x8x128x2) transposes_S32x8x128x2_S32x8x2x128_0_1_3_2) shapeCasts_S32x8x2x128_S32x1x2048
      : FVec Ideal S32x1x2048 .f32) (ix3 e z ⟨256 * k.val + q.val, h⟩) = x (ix3 (0 : Fin 1) e ⟨256 * k.val + ilv q.val, h'⟩) := fun x => by
    unfold ilv
    pointwise
    refine congrArg (fun j : Fin 2048 => x (ix3 (0 : Fin 1) e j)) (Fin.ext ?_)
    show k.val * 256 + (256 * k.val + q.val) % 128 * 2 + (256 * k.val + q.val) / 128 % 2 = 256 * k.val + if q.val < 128 then 2 * q.val else 2 * (q.val - 128) + 1
    split <;> omega
  exact h1 _

/-- The rows' block at a point. -/
theorem blk0_at (c : Dev nD) (t : Fin grid0.N) (ht : t.val < us (cM m)) (r : Fin 512) (k : Fin 1024) :
    (blkAt m (ok m C) c 0 t : Vec Ideal S512x1024 .f32) (ix2 r k) = aX m c (ix2 (rowOf t r) k) := by
  have hr := r.isLt
  have hx : ((win0 (adm m (ok m C) 0) 0).blk t).view.emb (ix2 r k) = (ix2 (rowOf t r) k : S161792x1024.Idx) := by
    funext a; apply Fin.ext
    refine (Pipeline.Window.rect_emb_val (win0 (adm m (ok m C) 0) 0) t (ix2 r k) a rfl).trans ?_
    rw [index0 m C]
    fin_cases a
    · show min t.val (us (cM m) - 1) * 512 + r.val = 512 * t.val + r.val; omega
    · show 0 * 1024 + k.val = k.val; omega
  show (V m c main_arg1 : FVec Ideal S161792x1024 .f32) (((win0 (adm m (ok m C) 0) 0).blk t).view.emb (ix2 r k)) = _
  rw [hx, V_main_arg1]

/-- The first bias's block at a point. -/
theorem blk1_at (c : Dev nD) (t : Fin grid0.N) (k : Fin 8) (q : Fin 256) (h : 256 * k.val + q.val < 2048) (h' : 256 * k.val + ilv q.val < 2048) :
    (blkAt m (ok m C) c 1 t : Vec Ideal S1x1x2048 .f32) (ix3 (0 : Fin 1) (0 : Fin 1) ⟨256 * k.val + q.val, h⟩)
      = aB m c (ix3 (0 : Fin 1) (⟨ex (cM m) t.val, ex_lt C t.val⟩ : Fin 32) ⟨256 * k.val + ilv q.val, h'⟩) := by
  have hx : ((win0 (adm m (ok m C) 0) 1).blk t).view.emb (ix3 (0 : Fin 1) (0 : Fin 1) (⟨256 * k.val + q.val, h⟩ : Fin 2048))
      = (ix3 (⟨ex (cM m) t.val, ex_lt C t.val⟩ : Fin 32) (0 : Fin 1) (⟨256 * k.val + q.val, h⟩ : Fin 2048) : S32x1x2048.Idx) := by
    funext a; apply Fin.ext
    refine (Pipeline.Window.rect_emb_val (win0 (adm m (ok m C) 0) 1) t (ix3 (0 : Fin 1) (0 : Fin 1) (⟨256 * k.val + q.val, h⟩ : Fin 2048)) a rfl).trans ?_
    rw [index1 m C]
    fin_cases a
    · show ex (cM m) t.val * 1 + 0 = ex (cM m) t.val; omega
    · rfl
    · show 0 * 2048 + (256 * k.val + q.val) = 256 * k.val + q.val; omega
  show (V m c main_v34 : FVec Ideal S32x1x2048 .f32) (((win0 (adm m (ok m C) 0) 1).blk t).view.emb (ix3 (0 : Fin 1) (0 : Fin 1) (⟨256 * k.val + q.val, h⟩ : Fin 2048))) = _
  rw [hx]
  exact V34_at m c _ _ k q h h'

/-- The second bias's block at a point. -/
theorem blk2_at (c : Dev nD) (t : Fin grid0.N) (d : Fin 1024) :
    (blkAt m (ok m C) c 2 t : Vec Ideal S1x1x1024 .f32) (ix3 (0 : Fin 1) (0 : Fin 1) d)
      = aB2 m c (ix3 (0 : Fin 1) (⟨ex (cM m) t.val, ex_lt C t.val⟩ : Fin 32) d) := by
  have hx : ((win0 (adm m (ok m C) 0) 2).blk t).view.emb (ix3 (0 : Fin 1) (0 : Fin 1) d)
      = (ix3 (⟨ex (cM m) t.val, ex_lt C t.val⟩ : Fin 32) (0 : Fin 1) d : S32x1x1024.Idx) := by
    funext a; apply Fin.ext
    refine (Pipeline.Window.rect_emb_val (win0 (adm m (ok m C) 0) 2) t (ix3 (0 : Fin 1) (0 : Fin 1) d) a rfl).trans ?_
    rw [index2 m C]
    fin_cases a
    · show ex (cM m) t.val * 1 + 0 = ex (cM m) t.val; omega
    · rfl
    · show 0 * 1024 + d.val = d.val; omega
  show (V m c main_v65 : FVec Ideal S32x1x1024 .f32) (((win0 (adm m (ok m C) 0) 2).blk t).view.emb (ix3 (0 : Fin 1) (0 : Fin 1) d)) = _
  rw [hx]
  exact V65_at m c _ _ d

/-- A block's expert as the body reads it. -/
theorem be_toNat (C : Cnt (cM m)) (t : ℕ) : (beW (cM m) t).toNat = ex (cM m) t := by
  unfold beW
  have := ex_lt C t
  rw [BitVec.toNat_ofNat]; omega

/-- A block in use, at a row and a column. -/
theorem out_used (c : Dev nD) (t : Fin grid0.N) (ht : t.val < us (cM m)) (r : Fin 512) (d : Fin 1024) :
    outAt m (good C) (ok m C) c t (ix2 r d)
      = ffn (fun k => aX m c (ix2 (rowOf t r) k)) (fun k j => aW m c (ix4 (0 : Fin 1) (⟨ex (cM m) t.val, ex_lt C t.val⟩ : Fin 32) k j))
          (fun j => aB m c (ix3 (0 : Fin 1) (⟨ex (cM m) t.val, ex_lt C t.val⟩ : Fin 32) j))
          (fun j d => aW2 m c (ix4 (0 : Fin 1) (⟨ex (cM m) t.val, ex_lt C t.val⟩ : Fin 32) j d))
          (fun d => aB2 m c (ix3 (0 : Fin 1) (⟨ex (cM m) t.val, ex_lt C t.val⟩ : Fin 32) d)) d := by
  have he : ∀ h : (beW (cM m) t.val).toNat < 32, (⟨(beW (cM m) t.val).toNat, h⟩ : Fin 32) = ⟨ex (cM m) t.val, ex_lt C t.val⟩ := fun h =>
    Fin.ext (be_toNat m C t.val)
  unfold outAt yAt
  rw [dif_pos ht]
  refine (yBlk_at _ _ _ _ _ (fun k j => aW m c (ix4 (0 : Fin 1) (⟨ex (cM m) t.val, ex_lt C t.val⟩ : Fin 32) k j))
    (fun j => aB m c (ix3 (0 : Fin 1) (⟨ex (cM m) t.val, ex_lt C t.val⟩ : Fin 32) j))
    (fun j d => aW2 m c (ix4 (0 : Fin 1) (⟨ex (cM m) t.val, ex_lt C t.val⟩ : Fin 32) j d))
    (fun d => aB2 m c (ix3 (0 : Fin 1) (⟨ex (cM m) t.val, ex_lt C t.val⟩ : Fin 32) d)) ?_ ?_ ?_ ?_ r d).trans ?_
  · intro k o ho ho' r q
    refine (rG_at c _ _ _ k o ho ho' r q).trans ?_
    refine Eq.trans ?_ (V0_at m c _ r _)
    exact congrArg (fun e : Fin 32 => (V m c main_v0 : FVec Ideal S32x1024x2048 .f32) (ix3 e r _)) (he _)
  · intro k o ho ho' q
    subst ho
    exact blk1_at m C c t ⟨k, by omega⟩ q _ _
  · intro j d
    refine (rD_at c _ _ _ j d).trans ?_
    refine Eq.trans ?_ (V2_at m c _ j d)
    exact congrArg (fun e : Fin 32 => (V m c main_v2 : FVec Ideal S32x1024x1024 .f32) (ix3 e j d)) (he _)
  · intro d
    exact blk2_at m C c t d
  · exact congrArg (fun x : Fin 1024 → EReal => ffn x _ _ _ _ d) (funext fun k => blk0_at m C c t ht r k)

/-- A block past the used ones holds zeros. -/
theorem out_idle (c : Dev nD) (t : Fin grid0.N) (ht : ¬ t.val < us (cM m)) (r : Fin 512) (d : Fin 1024) :
    outAt m (good C) (ok m C) c t (ix2 r d) = 0 := by
  unfold outAt yAt
  rw [dif_neg ht]
  exact zero_eq

/-- What the run leaves is the reference of the same arguments. -/
theorem array_eq (c : Dev nD) (hc : cM m = cN (m ((c : Thread nD τ).loc main_arg0))) : outArr m C c
    = Cert.Reference2Ideal.Read.val_main_v117 (F := Ideal) (m ((c : Thread nD τ).loc main_arg0)) (aX m c) (aW m c) (aB m c) (aW2 m c) (aB2 m c) := by
  have hcov : (win0 (adm m (ok m C) 0) 3).Covers := by
    refine Pipeline.Window.covers_of_index_surj _ rfl (fun a => ?_) fun β => ?_
    · fin_cases a
      · show 0 < 512; decide
      · show 0 < 1024; decide
    · have h0 : (β 0).val < 316 := lt_of_lt_of_eq (β 0).isLt (by show (161792 + 512 - 1) / 512 = 316; norm_num)
      have h1 : (β 1).val < 1 := lt_of_lt_of_eq (β 1).isLt (by show (1024 + 1024 - 1) / 1024 = 1; norm_num)
      refine ⟨⟨(β 0).val, h0⟩, fun a => ?_⟩
      rw [index3 m C]
      fin_cases a
      · rfl
      · show 0 = (β 1).val; omega
  refine Dat.arrAt_eq_of_covers (dat m C c) 3 _ hcov fun t hfl (y : S512x1024.Idx) => ?_
  obtain ⟨r, d, rfl⟩ : ∃ (r : Fin 512) (d : Fin 1024), y = ix2 r d := ⟨y 0, y 1, (ix2_eta y).symm⟩
  have ht : t.val < 316 := t.isLt
  have hx : ((win0 (adm m (ok m C) 0) 3).blk t).view.emb (ix2 r d) = (ix2 (rowOf ⟨t.val, ht⟩ r) d : S161792x1024.Idx) := by
    funext a; apply Fin.ext
    refine (Pipeline.Window.rect_emb_val (win0 (adm m (ok m C) 0) 3) t (ix2 r d) a rfl).trans ?_
    rw [index3 m C]
    fin_cases a
    · show t.val * 512 + r.val = 512 * t.val + r.val; omega
    · show 0 * 1024 + d.val = d.val; omega
  rw [after_3]
  show outAt m (good C) (ok m C) c t (ix2 r d) = Cert.Reference2Ideal.Read.val_main_v117 (F := Ideal) _ _ _ _ _ _ (((win0 (adm m (ok m C) 0) 3).blk t).view.emb (ix2 r d))
  rw [hx]
  by_cases hu : t.val < us (cM m)
  · refine (out_used m C c t hu r d).trans ?_
    refine Eq.trans ?_ (ref_used (x0 := m ((c : Thread nD τ).loc main_arg0)) (hc ▸ C) ⟨t.val, ht⟩ (aX m c) (aW m c) (aB m c) (aW2 m c) (aB2 m c) r d (hc ▸ hu)).symm
    have he : (⟨ex (cM m) t.val, ex_lt C t.val⟩ : Fin 32) = ⟨ex (cN (m ((c : Thread nD τ).loc main_arg0))) t.val, ex_lt (hc ▸ C) t.val⟩ :=
      Fin.ext (congrArg (fun f => ex f t.val) hc)
    rw [he]
  · refine (out_idle m C c t hu r d).trans ?_
    exact (ref_idle (x0 := m ((c : Thread nD τ).loc main_arg0)) (hc ▸ C) ⟨t.val, ht⟩ (aX m c) (aW m c) (aB m c) (aW2 m c) (aB2 m c) r d (hc ▸ hu)).symm

/-- Over the extended reals, at counts that fit the rows, the kernel and the reference end with the same array. -/
theorem alg : Cert.algebraic_Kernel2Ideal_Reference2Ideal (hKernel2Ideal := Cert.Kernel2Ideal.Gen.facts) (hReference2Ideal := Cert.Reference2Ideal.Gen.facts)
    (hPre_routed := Cert.Pre_routed.Gen.facts) := fun m ρ m' ρ' hpre hag =>
  ⟨fun c => outArr m (cnt_ideal m hpre) c,
    (θ_run _ _ _).mono (fun _ h => h.1) (run_routed (F := Ideal) m ρ (cnt_ideal m hpre)),
    (θ_run _ _ _).mono (fun _ h c => ⟨(h c).1.trans (by
      obtain ⟨e0, e1, e2, e3, e4, e5⟩ := hag c
      refine (Cert.Reference2Ideal.Read.val_main_v117_eq _).trans ?_
      refine Eq.trans ?_ (array_eq m (cnt_ideal m hpre) c (by obtain rfl : c = 0 := Subsingleton.elim _ _; rfl)).symm
      unfold aX aW aB aW2 aB2
      rw [← e0, ← e1, ← e2, ← e3, ← e4, ← e5]), (h c).2⟩) (Cert.Reference2Ideal.Value.run (F := Ideal) m' ρ')⟩

end Cert.Moe
-- ==== Proof.Inproj.Spec.lean ====
/-
  The input projection as mathematics: the product of a token's row with the weights, and the rotation of a head by its
  position.
-/
module

public import Idealize.ShloMosaic.PureOps.Ideal
public import Idealize.ShloMosaic.PureOps.Ideal.Laws
public import Idealize.ShloMosaic.Lib.Pipeline.ValueKit.Geometry

@[expose] public section

noncomputable section

open Idealize.ShloMosaic

namespace Cert.Inproj

/-- The frequency of coordinate pair `i`: `10000 ^ (-i / 32)`. -/
def freq (i : Fin 32) : EReal :=
  (FloatOps.hostPowf (FloatOps.ofBits .f32 0x461C4000#32 : Ideal .f32)
    (FloatOps.hostDivf (FloatOps.hostNegf (FloatOps.sitofp .f32 (BitVec.ofNat 32 i.val) : Ideal .f32)) (FloatOps.ofBits .f32 0x42000000#32 : Ideal .f32)) : Ideal .f32)

/-- The angle at position `p`. -/
def angle (p : BitVec 32) (i : Fin 32) : EReal := (FloatOps.sitofp .f32 p : Ideal .f32) * freq i

def cosA (p : BitVec 32) (i : Fin 32) : EReal := (FloatOps.hostUnary .cos (angle p i : Ideal .f32) : Ideal .f32)
def sinA (p : BitVec 32) (i : Fin 32) : EReal := (FloatOps.hostUnary .sin (angle p i : Ideal .f32) : Ideal .f32)

/-- A head's coordinates `Z`, rotated by position `p`. -/
def rot (Z : Fin 64 → EReal) (p : BitVec 32) (d : Fin 64) : EReal :=
  if h : d.val < 32 then Z d * cosA p ⟨d.val, h⟩ - Z ⟨d.val + 32, by omega⟩ * sinA p ⟨d.val, h⟩
  else Z d * cosA p ⟨d.val - 32, by omega⟩ + Z ⟨d.val - 32, by omega⟩ * sinA p ⟨d.val - 32, by omega⟩

/-- The product of a token's row with a column of the weights. -/
def proj (X : Fin 32768 → Fin 1024 → EReal) (W : Fin 1024 → Fin 3840 → EReal) (ρ : Fin 32768) (j : Fin 3840) : EReal := ∑ k, X ρ k * W k j

/-- The scale of the queries. -/
def eighth : EReal := (FloatOps.ofBits .f32 0x3E000000#32 : Ideal .f32)

/-- The sigmoid. -/
def sigm (z : EReal) : EReal := Ideal.logistic z

variable (X : Fin 32768 → Fin 1024 → EReal) (P : Fin 32768 → BitVec 32) (W : Fin 1024 → Fin 3840 → EReal)

/-- The scaled and rotated queries, in the layout the call leaves them. -/
def outQ (ρ : Fin 262144) (l : Fin 128) : EReal :=
  rot (fun d => proj X W ⟨ρ.val / 1024 * 128 + ρ.val % 128, by omega⟩ ⟨(l.val / 64 * 8 + ρ.val / 128 % 8) * 64 + d.val, by omega⟩)
    (P ⟨ρ.val / 1024 * 128 + ρ.val % 128, by omega⟩) ⟨l.val % 64, by omega⟩ * eighth

/-- The rotated keys. -/
def outK (ρ : Fin 32768) (l : Fin 128) : EReal :=
  rot (fun d => proj X W ρ ⟨1024 + l.val / 64 * 64 + d.val, by omega⟩) (P ρ) ⟨l.val % 64, by omega⟩

/-- The values. -/
def outV (ρ : Fin 32768) (l : Fin 128) : EReal := proj X W ρ ⟨1152 + l.val, by omega⟩

/-- The state-space inputs, each block of 128 tokens transposed. -/
def outU (b : Fin 256) (x : Fin 512) (t : Fin 128) : EReal := proj X W ⟨b.val * 128 + t.val, by omega⟩ ⟨1280 + x.val, by omega⟩

/-- The attention's gate. -/
def outA (ρ : Fin 32768) (x : Fin 1024) : EReal := sigm (proj X W ρ ⟨1792 + x.val, by omega⟩)

/-- The state space's gate. -/
def outS (ρ : Fin 32768) (x : Fin 1024) : EReal := sigm (proj X W ρ ⟨2816 + x.val, by omega⟩)

end Cert.Inproj
-- ==== Proof.Inproj.Entry.lean ====
/-
  What the arrays hold that the projection kernel's grid reads, after the host lines that split the weights and make the
  frequencies, and the blocks of them a grid point sees.
-/
module

public import proofs.«01_k».proof.Proof.Gen.Kernel3Ideal.Value
public import proofs.«01_k».proof.Proof.Inproj.Spec
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem

namespace Cert.Kernel3Ideal.InprojValue

open Cert.Kernel3Ideal Cert.Kernel3Ideal.Gen Cert.Inproj

variable (m : (ℓ : Loc nD τ sig) → Buf (Elt Ideal) ℓ)

/-- The tokens, positions and weights as launched. -/
def aX (c : Dev nD) : S16x2048x1024.Idx → EReal := m ((c : Thread nD τ).loc main_arg0)
def aP (c : Dev nD) : S16x2048.Idx → BitVec 32 := m ((c : Thread nD τ).loc main_arg1)
def aW (c : Dev nD) : S1x1024x3840.Idx → EReal := m ((c : Thread nD τ).loc main_arg2)

/-- The same by row and column. -/
def fX (c : Dev nD) (ρ : Fin 32768) (k : Fin 1024) : EReal := aX m c (ix3 ⟨ρ.val / 2048, by omega⟩ ⟨ρ.val % 2048, by omega⟩ k)
def fP (c : Dev nD) (ρ : Fin 32768) : BitVec 32 := aP m c (ix2 ⟨ρ.val / 2048, by omega⟩ ⟨ρ.val % 2048, by omega⟩)
def fW (c : Dev nD) (k : Fin 1024) (j : Fin 3840) : EReal := aW m c (ix3 0 k j)

theorem V_x (c : Dev nD) (ρ : Fin 32768) (k : Fin 1024) : (V m c main_v1 : S32768x1024.Idx → EReal) (ix2 ρ k) = fX m c ρ k := by
  dsimp only [V, hostOps0]
  after_results
  pointwise
  rfl

theorem V_p (c : Dev nD) (ρ : Fin 32768) : (V m c main_v2 : S32768x1.Idx → BitVec 32) (ix2 ρ 0) = fP m c ρ := by
  dsimp only [V, hostOps0]
  after_results
  pointwise
  rfl

theorem V_f (c : Dev nD) (l : Fin 128) : (V m c main_v27 : S1x128.Idx → EReal) (ix2 0 l) = freq ⟨l.val % 32, by omega⟩ := by
  dsimp only [V, hostOps0]
  after_results
  pointwise
  rfl

theorem V_q (c : Dev nD) (k : Fin 1024) (l : Fin 1024) :
    (V m c main_v7 : S1024x1024.Idx → EReal) (ix2 k l)
      = fW m c k ⟨l.val / 64 % 2 * 512 + l.val / 128 * 64 + l.val % 64, by omega⟩ := by
  dsimp only [V, hostOps0]
  after_results
  pointwise
  rfl

theorem V_k (c : Dev nD) (k : Fin 1024) (l : Fin 128) : (V m c main_v9 : S1024x128.Idx → EReal) (ix2 k l) = fW m c k ⟨1024 + l.val, by omega⟩ := by
  dsimp only [V, hostOps0]
  after_results
  pointwise
  rfl

theorem V_v (c : Dev nD) (k : Fin 1024) (l : Fin 128) : (V m c main_v11 : S1024x128.Idx → EReal) (ix2 k l) = fW m c k ⟨1152 + l.val, by omega⟩ := by
  dsimp only [V, hostOps0]
  after_results
  pointwise
  rfl

theorem V_u (c : Dev nD) (k : Fin 1024) (l : Fin 512) : (V m c main_v13 : S1024x512.Idx → EReal) (ix2 k l) = fW m c k ⟨1280 + l.val, by omega⟩ := by
  dsimp only [V, hostOps0]
  after_results
  pointwise
  rfl

theorem V_a (c : Dev nD) (k : Fin 1024) (l : Fin 1024) : (V m c main_v15 : S1024x1024.Idx → EReal) (ix2 k l) = fW m c k ⟨1792 + l.val, by omega⟩ := by
  dsimp only [V, hostOps0]
  after_results
  pointwise
  rfl

theorem V_s (c : Dev nD) (k : Fin 1024) (l : Fin 1024) : (V m c main_v17 : S1024x1024.Idx → EReal) (ix2 k l) = fW m c k ⟨2816 + l.val, by omega⟩ := by
  dsimp only [V, hostOps0]
  after_results
  pointwise
  rfl

theorem tlt (t : Fin cfg0.N) : t.val < 32 := (by decide +kernel : ∀ t : Fin grid0.N, t.val < 32) t

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])
theorem e7 : ∀ t : Fin cfg0.N, win0_7.index t = ![0, 0] := (by decide +kernel : ∀ t : Fin grid0.N, win0_7.index t = ![0, 0])
theorem e8 : ∀ t : Fin cfg0.N, win0_8.index t = ![0, 0] := (by decide +kernel : ∀ t : Fin grid0.N, win0_8.index t = ![0, 0])
theorem e9 : ∀ t : Fin cfg0.N, win0_9.index t = ![t.val, 0] := (by decide +kernel : ∀ t : Fin grid0.N, win0_9.index t = ![t.val, 0])
theorem e10 : ∀ t : Fin cfg0.N, win0_10.index t = ![t.val, 0] := (by decide +kernel : ∀ t : Fin grid0.N, win0_10.index t = ![t.val, 0])
theorem e11 : ∀ t : Fin cfg0.N, win0_11.index t = ![t.val, 0] := (by decide +kernel : ∀ t : Fin grid0.N, win0_11.index t = ![t.val, 0])
theorem e12 : ∀ t : Fin cfg0.N, win0_12.index t = ![t.val, 0, 0] := (by decide +kernel : ∀ t : Fin grid0.N, win0_12.index t = ![t.val, 0, 0])
theorem e13 : ∀ t : Fin cfg0.N, win0_13.index t = ![t.val, 0] := (by decide +kernel : ∀ t : Fin grid0.N, win0_13.index t = ![t.val, 0])
theorem e14 : ∀ t : Fin cfg0.N, win0_14.index t = ![t.val, 0] := (by decide +kernel : ∀ t : Fin grid0.N, win0_14.index t = ![t.val, 0])

/-- The row of the whole array that row `p` of grid point `t`'s block is. -/
def row (t : Fin cfg0.N) (p : Fin 1024) : Fin 32768 := ⟨t.val * 1024 + p.val, by have := tlt t; omega⟩

theorem blk0 (c : Dev nD) (t : Fin cfg0.N) (p k : Fin 1024) : (iblk m c 0 t : Vec Ideal S1024x1024 .f32) (ix2 p k) = fX m c (row t p) k := by
  have hx : (win0_0.blk t).view.emb (ix2 p k) = (ix2 (row t p) k : S32768x1024.Idx) := by blk_ext [e0]; rfl
  blk_simp [iblk]
  rw [hx, V_x]

theorem blk1 (c : Dev nD) (t : Fin cfg0.N) (p : Fin 1024) : (iblk m c 1 t : Vec Ideal S1024x1 .i32) (ix2 p 0) = fP m c (row t p) := by
  have hx : (win0_1.blk t).view.emb (ix2 p 0) = (ix2 (row t p) 0 : S32768x1.Idx) := by blk_ext [e1]; rfl
  blk_simp [iblk]
  rw [hx, V_p]

theorem blk2 (c : Dev nD) (t : Fin cfg0.N) (l : Fin 128) : (iblk m c 2 t : Vec Ideal S1x128 .f32) (ix2 0 l) = freq ⟨l.val % 32, by omega⟩ := by
  have hx : (win0_2.blk t).view.emb (ix2 0 l) = (ix2 0 l : S1x128.Idx) := by blk_ext [e2]
  blk_simp [iblk]
  rw [hx, V_f]

theorem blk3 (c : Dev nD) (t : Fin cfg0.N) (k l : Fin 1024) : (iblk m c 3 t : Vec Ideal S1024x1024 .bf16) (ix2 k l)
    = fW m c k ⟨l.val / 64 % 2 * 512 + l.val / 128 * 64 + l.val % 64, by omega⟩ := by
  have hx : (win0_3.blk t).view.emb (ix2 k l) = (ix2 k l : S1024x1024.Idx) := by blk_ext [e3]
  blk_simp [iblk]
  rw [hx, V_q]

theorem blk4 (c : Dev nD) (t : Fin cfg0.N) (k : Fin 1024) (l : Fin 128) : (iblk m c 4 t : Vec Ideal S1024x128 .bf16) (ix2 k l)
    = fW m c k ⟨1024 + l.val, by omega⟩ := by
  have hx : (win0_4.blk t).view.emb (ix2 k l) = (ix2 k l : S1024x128.Idx) := by blk_ext [e4]
  blk_simp [iblk]
  rw [hx, V_k]

theorem blk5 (c : Dev nD) (t : Fin cfg0.N) (k : Fin 1024) (l : Fin 128) : (iblk m c 5 t : Vec Ideal S1024x128 .bf16) (ix2 k l)
    = fW m c k ⟨1152 + l.val, by omega⟩ := by
  have hx : (win0_5.blk t).view.emb (ix2 k l) = (ix2 k l : S1024x128.Idx) := by blk_ext [e5]
  blk_simp [iblk]
  rw [hx, V_v]

theorem blk6 (c : Dev nD) (t : Fin cfg0.N) (k : Fin 1024) (l : Fin 512) : (iblk m c 6 t : Vec Ideal S1024x512 .bf16) (ix2 k l)
    = fW m c k ⟨1280 + l.val, by omega⟩ := by
  have hx : (win0_6.blk t).view.emb (ix2 k l) = (ix2 k l : S1024x512.Idx) := by blk_ext [e6]
  blk_simp [iblk]
  rw [hx, V_u]

theorem blk7 (c : Dev nD) (t : Fin cfg0.N) (k l : Fin 1024) : (iblk m c 7 t : Vec Ideal S1024x1024 .bf16) (ix2 k l)
    = fW m c k ⟨1792 + l.val, by omega⟩ := by
  have hx : (win0_7.blk t).view.emb (ix2 k l) = (ix2 k l : S1024x1024.Idx) := by blk_ext [e7]
  blk_simp [iblk]
  rw [hx, V_a]

theorem blk8 (c : Dev nD) (t : Fin cfg0.N) (k l : Fin 1024) : (iblk m c 8 t : Vec Ideal S1024x1024 .bf16) (ix2 k l)
    = fW m c k ⟨2816 + l.val, by omega⟩ := by
  have hx : (win0_8.blk t).view.emb (ix2 k l) = (ix2 k l : S1024x1024.Idx) := by blk_ext [e8]
  blk_simp [iblk]
  rw [hx, V_s]

end Cert.Kernel3Ideal.InprojValue
-- ==== Proof.Inproj.Pay.lean ====
/-
  What the projection kernel's body computes from its blocks, entry by entry.
-/
module

public import proofs.«01_k».proof.Proof.Inproj.Entry
public import Idealize.ShloMosaic.Lib.KernelVsHost
public import Mathlib.Tactic.IntervalCases

@[expose] public section

set_option maxRecDepth 16384

noncomputable section

open Idealize.ShloMosaic Idealize.ShloMosaic.TcCoe Idealize.SL.Sem
open Idealize.ShloMosaic.Pipeline (Dat)

namespace Cert.Kernel3Ideal.InprojValue

open Cert.Kernel3Ideal Cert.Kernel3Ideal.Gen Cert.Inproj

theorem hz : (![0, 0] : Fin 2 → Nat) = fun _ => 0 := funext fun a => by fin_cases a <;> rfl

theorem pay128_apply (x0 : Vec Ideal S1024x1024 .f32) (x1 : Vec Ideal S1024x1 .i32) (x2 : Vec Ideal S1x128 .f32) (x3 : Vec Ideal S1024x1024 .bf16)
    (x4 : Vec Ideal S1024x128 .bf16) (x5 : Vec Ideal S1024x128 .bf16) (x6 : Vec Ideal S1024x512 .bf16) (x7 : Vec Ideal S1024x1024 .bf16) (x8 : Vec Ideal S1024x1024 .bf16) (p k : Fin 1024) : k0_pay128 x0 x1 x2 x3 x4 x5 x6 x7 x8 (ix2 p k) = x0 (ix2 p k) := by
  unfold k0_pay128
  rw [View.ld_unit_zero (S := S1024x1024) hz]
  pointwise [k0_pay2]

/-- The cosine of a row's angle. -/
theorem pay129_apply (x0 : Vec Ideal S1024x1024 .f32) (x1 : Vec Ideal S1024x1 .i32) (x2 : Vec Ideal S1x128 .f32) (x3 : Vec Ideal S1024x1024 .bf16)
    (x4 : Vec Ideal S1024x128 .bf16) (x5 : Vec Ideal S1024x128 .bf16) (x6 : Vec Ideal S1024x512 .bf16) (x7 : Vec Ideal S1024x1024 .bf16) (x8 : Vec Ideal S1024x1024 .bf16) (p : Fin 1024) (l : Fin 128) :
    k0_pay129 x0 x1 x2 x3 x4 x5 x6 x7 x8 (ix2 p l) = Ideal.cos ((FloatOps.sitofp .f32 (x1 (ix2 p 0)) : Ideal .f32) * x2 (ix2 0 l)) := by
  unfold k0_pay129
  rw [View.ld_unit_zero (S := S1024x1) hz, View.ld_unit_zero (S := S1x128) hz]
  pointwise [k0_pay4, k0_pay3]

/-- The sine of a row's angle. -/
theorem pay130_apply (x0 : Vec Ideal S1024x1024 .f32) (x1 : Vec Ideal S1024x1 .i32) (x2 : Vec Ideal S1x128 .f32) (x3 : Vec Ideal S1024x1024 .bf16)
    (x4 : Vec Ideal S1024x128 .bf16) (x5 : Vec Ideal S1024x128 .bf16) (x6 : Vec Ideal S1024x512 .bf16) (x7 : Vec Ideal S1024x1024 .bf16) (x8 : Vec Ideal S1024x1024 .bf16) (p : Fin 1024) (l : Fin 128) :
    k0_pay130 x0 x1 x2 x3 x4 x5 x6 x7 x8 (ix2 p l) = Ideal.sin ((FloatOps.sitofp .f32 (x1 (ix2 p 0)) : Ideal .f32) * x2 (ix2 0 l)) := by
  unfold k0_pay130
  rw [View.ld_unit_zero (S := S1024x1) hz, View.ld_unit_zero (S := S1x128) hz]
  pointwise [k0_pay5, k0_pay3]

/-- The lanes of a head's first half. -/
theorem pay131_apply (x0 : Vec Ideal S1024x1024 .f32) (x1 : Vec Ideal S1024x1 .i32) (x2 : Vec Ideal S1x128 .f32) (x3 : Vec Ideal S1024x1024 .bf16)
    (x4 : Vec Ideal S1024x128 .bf16) (x5 : Vec Ideal S1024x128 .bf16) (x6 : Vec Ideal S1024x512 .bf16) (x7 : Vec Ideal S1024x1024 .bf16) (x8 : Vec Ideal S1024x1024 .bf16) (p : Fin 1024) (l : Fin 128) :
    k0_pay131 x0 x1 x2 x3 x4 x5 x6 x7 x8 (ix2 p l) = if l.val % 64 < 32 then 1#1 else 0#1 := by
  show k0_pay6 (ix2 0 l) = _
  revert l
  decide +kernel

theorem pay135_apply (x0 : Vec Ideal S1024x1024 .f32) (x1 : Vec Ideal S1024x1 .i32) (x2 : Vec Ideal S1x128 .f32) (x3 : Vec Ideal S1024x1024 .bf16)
    (x4 : Vec Ideal S1024x128 .bf16) (x5 : Vec Ideal S1024x128 .bf16) (x6 : Vec Ideal S1024x512 .bf16) (x7 : Vec Ideal S1024x1024 .bf16) (x8 : Vec Ideal S1024x1024 .bf16) (p : Fin 128) (l : Fin 128) :
    k0_pay135 x0 x1 x2 x3 x4 x5 x6 x7 x8 (ix2 p l) = if l.val % 64 < 32 then 1#1 else 0#1 := by
  show k0_pay10 (Scalar.select (Scalar.cmpi .eq 64#32 0#32) 1#32 64#32) k0_pay7 k0_pay8 k0_pay9 (ix2 0 l) = _
  revert l
  decide +kernel

/-- The sine, negated on the first half. -/
theorem pay136_apply (x0 : Vec Ideal S1024x1024 .f32) (x1 : Vec Ideal S1024x1 .i32) (x2 : Vec Ideal S1x128 .f32) (x3 : Vec Ideal S1024x1024 .bf16)
    (x4 : Vec Ideal S1024x128 .bf16) (x5 : Vec Ideal S1024x128 .bf16) (x6 : Vec Ideal S1024x512 .bf16) (x7 : Vec Ideal S1024x1024 .bf16) (x8 : Vec Ideal S1024x1024 .bf16) (p : Fin 1024) (l : Fin 128) :
    k0_pay136 x0 x1 x2 x3 x4 x5 x6 x7 x8 (ix2 p l) = if l.val % 64 < 32 then -(k0_pay130 x0 x1 x2 x3 x4 x5 x6 x7 x8 (ix2 p l)) else k0_pay130 x0 x1 x2 x3 x4 x5 x6 x7 x8 (ix2 p l) := by
  show Scalar.select (k0_pay131 x0 x1 x2 x3 x4 x5 x6 x7 x8 (ix2 p l)) (Ideal.ofBits .f32 0x00000000#32 - k0_pay130 x0 x1 x2 x3 x4 x5 x6 x7 x8 (ix2 p l)) (k0_pay130 x0 x1 x2 x3 x4 x5 x6 x7 x8 (ix2 p l)) = _
  rw [pay131_apply, Ideal.ofBits_zero_f32]
  split
  · show (0 : EReal) - _ = _
    rw [zero_sub]
  · rfl

theorem pay137_apply (x0 : Vec Ideal S1024x1024 .f32) (x1 : Vec Ideal S1024x1 .i32) (x2 : Vec Ideal S1x128 .f32) (x3 : Vec Ideal S1024x1024 .bf16)
    (x4 : Vec Ideal S1024x128 .bf16) (x5 : Vec Ideal S1024x128 .bf16) (x6 : Vec Ideal S1024x512 .bf16) (x7 : Vec Ideal S1024x1024 .bf16) (x8 : Vec Ideal S1024x1024 .bf16) (p l : Fin 1024) : k0_pay137 x0 x1 x2 x3 x4 x5 x6 x7 x8 (ix2 p l) = ∑ k, x0 (ix2 p k) * x3 (ix2 k l) := by
  unfold k0_pay137
  rw [View.ld_unit_zero (S := S1024x1024) hz]
  pointwise [k0_pay12]
  exact Finset.sum_congr rfl fun k _ => congrArg (· * _) (pay128_apply x0 x1 x2 x3 x4 x5 x6 x7 x8 p k)

theorem out11_apply (x0 : Vec Ideal S1024x1024 .f32) (x1 : Vec Ideal S1024x1 .i32) (x2 : Vec Ideal S1x128 .f32) (x3 : Vec Ideal S1024x1024 .bf16)
    (x4 : Vec Ideal S1024x128 .bf16) (x5 : Vec Ideal S1024x128 .bf16) (x6 : Vec Ideal S1024x512 .bf16) (x7 : Vec Ideal S1024x1024 .bf16) (x8 : Vec Ideal S1024x1024 .bf16) (p : Fin 1024) (l : Fin 128) : out0_11 x0 x1 x2 x3 x4 x5 x6 x7 x8 (ix2 p l) = ∑ k, x0 (ix2 p k) * x5 (ix2 k l) := by
  unfold out0_11
  rw [View.canon_unit_zero hz, View.ld_unit_zero (S := S1024x128) hz]
  pointwise [k0_pay116]
  exact Finset.sum_congr rfl fun k _ => congrArg (· * _) (pay128_apply x0 x1 x2 x3 x4 x5 x6 x7 x8 p k)

theorem out13_apply (x0 : Vec Ideal S1024x1024 .f32) (x1 : Vec Ideal S1024x1 .i32) (x2 : Vec Ideal S1x128 .f32) (x3 : Vec Ideal S1024x1024 .bf16)
    (x4 : Vec Ideal S1024x128 .bf16) (x5 : Vec Ideal S1024x128 .bf16) (x6 : Vec Ideal S1024x512 .bf16) (x7 : Vec Ideal S1024x1024 .bf16) (x8 : Vec Ideal S1024x1024 .bf16) (p l : Fin 1024) : out0_13 x0 x1 x2 x3 x4 x5 x6 x7 x8 (ix2 p l) = sigm (∑ k, x0 (ix2 p k) * x7 (ix2 k l)) := by
  unfold out0_13
  rw [View.canon_unit_zero hz, View.ld_unit_zero (S := S1024x1024) hz]
  pointwise [k0_pay127]
  exact congrArg sigm (Finset.sum_congr rfl fun k _ => congrArg (· * _) (pay128_apply x0 x1 x2 x3 x4 x5 x6 x7 x8 p k))

theorem out14_apply (x0 : Vec Ideal S1024x1024 .f32) (x1 : Vec Ideal S1024x1 .i32) (x2 : Vec Ideal S1x128 .f32) (x3 : Vec Ideal S1024x1024 .bf16)
    (x4 : Vec Ideal S1024x128 .bf16) (x5 : Vec Ideal S1024x128 .bf16) (x6 : Vec Ideal S1024x512 .bf16) (x7 : Vec Ideal S1024x1024 .bf16) (x8 : Vec Ideal S1024x1024 .bf16) (p l : Fin 1024) : out0_14 x0 x1 x2 x3 x4 x5 x6 x7 x8 (ix2 p l) = sigm (∑ k, x0 (ix2 p k) * x8 (ix2 k l)) := by
  unfold out0_14
  rw [View.canon_unit_zero hz, View.ld_unit_zero (S := S1024x1024) hz]
  pointwise [k0_pay1]
  exact congrArg sigm (Finset.sum_congr rfl fun k _ => congrArg (· * _) (pay128_apply x0 x1 x2 x3 x4 x5 x6 x7 x8 p k))

theorem out12_apply (x0 : Vec Ideal S1024x1024 .f32) (x1 : Vec Ideal S1024x1 .i32) (x2 : Vec Ideal S1x128 .f32) (x3 : Vec Ideal S1024x1024 .bf16)
    (x4 : Vec Ideal S1024x128 .bf16) (x5 : Vec Ideal S1024x128 .bf16) (x6 : Vec Ideal S1024x512 .bf16) (x7 : Vec Ideal S1024x1024 .bf16) (x8 : Vec Ideal S1024x1024 .bf16) (b : Fin 8) (x : Fin 512) (t : Fin 128) :
    out0_12 x0 x1 x2 x3 x4 x5 x6 x7 x8 (ix3 b x t) = ∑ k, x0 (ix2 ⟨b.val * 128 + t.val, by omega⟩ k) * x6 (ix2 k x) := by
  refine Eq.trans ?_ ((Cert.Kernel3Ideal.Value.canon12_eq (F := Ideal) x0 x6 (ix3 b x t)).trans ?_)
  · unfold out0_12 k0_pay138 k0_pay128
    rw [View.ld_unit_zero (S := S1024x1024) hz, View.ld_unit_zero (S := S1024x512) hz]
  · have hi : Cert.Kernel3Ideal.Value.ix12_0 (ix3 b x t) = (ix2 ⟨b.val * 128 + t.val, by omega⟩ x : S1024x512.Idx) :=
      funext fun a => match a with | ⟨0, _⟩ => rfl | ⟨1, _⟩ => rfl
    show k0_pay117 (k0_pay2 x0) x6 (Cert.Kernel3Ideal.Value.ix12_0 (ix3 b x t)) = _
    rw [hi]
    pointwise [k0_pay117, k0_pay2]

/-- A rotation of the lanes by 96 reads 32 further on. -/
theorem rot96 {n : Nat} (x : (⟨2, ![n, 128]⟩ : Shape).Idx → EReal) (h : (⟨2, ![n, 128]⟩ : Shape).Rotates 1 none) (p : Fin n) (l : Fin 128) :
    dynamicRotate 1 96#32 none x h (ix2 p l) = x (ix2 p ⟨(l.val + 32) % 128, by omega⟩) :=
  dynamicRotate_apply 1 96#32 x h _ _ fun b => match b with
    | ⟨0, _⟩ => rfl
    | ⟨1, _⟩ => by show (l.val + 32) % 128 = (l.val + 128 - 96 % 128) % 128; omega

/-- A rotation of the lanes by 32 reads 32 back. -/
theorem rot32 {n : Nat} (x : (⟨2, ![n, 128]⟩ : Shape).Idx → EReal) (h : (⟨2, ![n, 128]⟩ : Shape).Rotates 1 none) (p : Fin n) (l : Fin 128) :
    dynamicRotate 1 32#32 none x h (ix2 p l) = x (ix2 p ⟨(l.val + 96) % 128, by omega⟩) :=
  dynamicRotate_apply 1 32#32 x h _ _ fun b => match b with
    | ⟨0, _⟩ => rfl
    | ⟨1, _⟩ => by show (l.val + 96) % 128 = (l.val + 128 - 32 % 128) % 128; omega

/-- A lane times its cosine, plus its partner lane times the signed sine, is the rotation of the lane's head. -/
theorem rope_eq (Z : Fin 128 → EReal) (p : BitVec 32) (l : Fin 128) :
    Z l * cosA p ⟨l.val % 32, by omega⟩
        + Scalar.select (if l.val % 64 < 32 then 1#1 else 0#1 : BitVec 1) (Z ⟨(l.val + 32) % 128, by omega⟩) (Z ⟨(l.val + 96) % 128, by omega⟩)
          * (if l.val % 64 < 32 then -(sinA p ⟨l.val % 32, by omega⟩) else sinA p ⟨l.val % 32, by omega⟩)
      = rot (fun d => Z ⟨l.val / 64 * 64 + d.val, by omega⟩) p ⟨l.val % 64, by omega⟩ := by
  unfold rot
  have el : (⟨l.val / 64 * 64 + l.val % 64, by omega⟩ : Fin 128) = l := Fin.ext (by dsimp only; omega)
  by_cases h : l.val % 64 < 32
  · have e1 : (⟨l.val % 64, h⟩ : Fin 32) = ⟨l.val % 32, by omega⟩ := Fin.ext (by dsimp only; omega)
    have e2 : (⟨l.val / 64 * 64 + (l.val % 64 + 32), by omega⟩ : Fin 128) = ⟨(l.val + 32) % 128, by omega⟩ := Fin.ext (by dsimp only; omega)
    rw [dif_pos h, if_pos h, if_pos h, mul_neg, ← sub_eq_add_neg, e1]
    show _ - Z _ * _ = Z ⟨l.val / 64 * 64 + l.val % 64, _⟩ * _ - Z ⟨l.val / 64 * 64 + (l.val % 64 + 32), _⟩ * _
    rw [el, e2]
  · have e1 : (⟨l.val % 64 - 32, by omega⟩ : Fin 32) = ⟨l.val % 32, by omega⟩ := Fin.ext (by dsimp only; omega)
    have e2 : (⟨l.val / 64 * 64 + (l.val % 64 - 32), by omega⟩ : Fin 128) = ⟨(l.val + 96) % 128, by omega⟩ := Fin.ext (by dsimp only; omega)
    rw [dif_neg h, if_neg h, if_neg h]
    show _ = Z ⟨l.val / 64 * 64 + l.val % 64, _⟩ * cosA p ⟨l.val % 64 - 32, _⟩ + Z ⟨l.val / 64 * 64 + (l.val % 64 - 32), _⟩ * sinA p ⟨l.val % 64 - 32, _⟩
    rw [el, e2, e1]
    rfl

/-- The product with the keys' weights. -/
def kz (x0 : Vec Ideal S1024x1024 .f32) (x4 : Vec Ideal S1024x128 .bf16) (p : Fin 1024) (l : Fin 128) : EReal := ∑ k, x0 (ix2 p k) * x4 (ix2 k l)

theorem out10_apply (x0 : Vec Ideal S1024x1024 .f32) (x1 : Vec Ideal S1024x1 .i32) (x2 : Vec Ideal S1x128 .f32) (x3 : Vec Ideal S1024x1024 .bf16)
    (x4 : Vec Ideal S1024x128 .bf16) (x5 : Vec Ideal S1024x128 .bf16) (x6 : Vec Ideal S1024x512 .bf16) (x7 : Vec Ideal S1024x1024 .bf16) (x8 : Vec Ideal S1024x1024 .bf16) (p : Fin 1024) (l : Fin 128) :
    out0_10 x0 x1 x2 x3 x4 x5 x6 x7 x8 (ix2 p l) = kz x0 x4 p l * k0_pay129 x0 x1 x2 x3 x4 x5 x6 x7 x8 (ix2 p l)
      + Scalar.select (if l.val % 64 < 32 then 1#1 else 0#1 : BitVec 1) (kz x0 x4 p ⟨(l.val + 32) % 128, by omega⟩) (kz x0 x4 p ⟨(l.val + 96) % 128, by omega⟩)
        * k0_pay136 x0 x1 x2 x3 x4 x5 x6 x7 x8 (ix2 p l) := by
  have hk : ∀ l, matmul dot_S1024x1024_S1024x128_S1024x128_1_0_0_1_n_n none (k0_pay128 x0 x1 x2 x3 x4 x5 x6 x7 x8) (shapeCast S1024x128 x4 shapeCasts_S1024x128_S1024x128 : FVec Ideal S1024x128 .bf16)
      (constant (F := Ideal) S1024x128 .f32 0x00000000#32) (ix2 p l) = kz x0 x4 p l := fun l => by
    pointwise
    exact Finset.sum_congr rfl fun k _ => congrArg (· * _) (pay128_apply x0 x1 x2 x3 x4 x5 x6 x7 x8 p k)
  unfold out0_10
  rw [View.canon_unit_zero hz, View.ld_unit_zero (S := S1024x128) hz]
  unfold k0_pay115
  generalize matmul dot_S1024x1024_S1024x128_S1024x128_1_0_0_1_n_n none (k0_pay128 x0 x1 x2 x3 x4 x5 x6 x7 x8) (shapeCast S1024x128 x4 shapeCasts_S1024x128_S1024x128 : FVec Ideal S1024x128 .bf16)
      (constant (F := Ideal) S1024x128 .f32 0x00000000#32) = y at hk
  show y (ix2 p l) * k0_pay129 x0 x1 x2 x3 x4 x5 x6 x7 x8 (ix2 p l) + Scalar.select (k0_pay131 x0 x1 x2 x3 x4 x5 x6 x7 x8 (ix2 p l))
    (dynamicRotate 1 96#32 none y rotates_S1024x128_d1 (ix2 p l)) (dynamicRotate 1 32#32 none y rotates_S1024x128_d1 (ix2 p l)) * k0_pay136 x0 x1 x2 x3 x4 x5 x6 x7 x8 (ix2 p l) = _
  rw [rot96, rot32, pay131_apply, hk, hk, hk]

end Cert.Kernel3Ideal.InprojValue
-- ==== Proof.Inproj.Queries.lean ====
/-
  The 64 stores of the rotated queries are the pieces of one array.
-/
module

public import proofs.«01_k».proof.Proof.Inproj.Pay
public import Idealize.ShloMosaic.Lib.KernelVsHost
public import Mathlib.Tactic.IntervalCases

@[expose] public section

set_option maxRecDepth 16384

noncomputable section

open Idealize.ShloMosaic Idealize.ShloMosaic.TcCoe Idealize.SL.Sem
open Idealize.ShloMosaic.Pipeline (Dat)

namespace Cert.Kernel3Ideal.InprojValue

open Cert.Kernel3Ideal Cert.Kernel3Ideal.Gen Cert.Inproj

theorem slices_q (j r : ℕ) (hj : j < 8) (hr : r < 8) : S1024x1024.Slices ![128 * j, 128 * r] S128x128 := by
  interval_cases j <;> interval_cases r <;> decide

theorem slices_c (j : ℕ) (hj : j < 8) : S1024x128.Slices ![128 * j, 0] S128x128 := by
  interval_cases j <;> decide

/-- The store of window `j`'s head `r`. -/
def qpay (v11 v53 : FVec Ideal S1024x128 .f32) (v50 : IVec S128x128 1) (v56 : FVec Ideal S1024x1024 .f32) (j r : ℕ) (hj : j < 8) (hr : r < 8) :
    FVec Ideal S128x128 .bf16 :=
  truncf .bf16 (mulf (addf (mulf (extractStridedSlice S128x128 ![128 * j, 128 * r] v56 (slices_q j r hj hr)) (extractStridedSlice S128x128 ![128 * j, 0] v11 (slices_c j hj)))
    (mulf (select v50 (dynamicRotate 1 96#32 none (extractStridedSlice S128x128 ![128 * j, 128 * r] v56 (slices_q j r hj hr)) rotates_S128x128_d1)
      (dynamicRotate 1 32#32 none (extractStridedSlice S128x128 ![128 * j, 128 * r] v56 (slices_q j r hj hr)) rotates_S128x128_d1))
      (extractStridedSlice S128x128 ![128 * j, 0] v53 (slices_c j hj))))
    (broadcast S128x128 (Scalar.ofBits .f32 0x3E000000#32 : Ideal .f32))) bitsLt_bf16_f32

/-- The entry of the whole block at row `ρ`, lane `l`. -/
def Qat (v11 v53 : FVec Ideal S1024x128 .f32) (v50 : IVec S128x128 1) (v56 : FVec Ideal S1024x1024 .f32) (ρ : Fin 8192) (l : Fin 128) : EReal :=
  (v56 (ix2 ⟨ρ.val / 1024 * 128 + ρ.val % 128, by omega⟩ ⟨ρ.val / 128 % 8 * 128 + l.val, by omega⟩) * v11 (ix2 ⟨ρ.val / 1024 * 128 + ρ.val % 128, by omega⟩ l)
    + Scalar.select (v50 (ix2 ⟨ρ.val % 128, by omega⟩ l))
        (v56 (ix2 ⟨ρ.val / 1024 * 128 + ρ.val % 128, by omega⟩ ⟨ρ.val / 128 % 8 * 128 + (l.val + 32) % 128, by omega⟩))
        (v56 (ix2 ⟨ρ.val / 1024 * 128 + ρ.val % 128, by omega⟩ ⟨ρ.val / 128 % 8 * 128 + (l.val + 96) % 128, by omega⟩))
      * v53 (ix2 ⟨ρ.val / 1024 * 128 + ρ.val % 128, by omega⟩ l)) * eighth

theorem sl_q (v56 : FVec Ideal S1024x1024 .f32) (j r : ℕ) (hj : j < 8) (hr : r < 8) (p l : Fin 128) :
    extractStridedSlice S128x128 ![128 * j, 128 * r] v56 (slices_q j r hj hr) (ix2 p l) = v56 (ix2 ⟨128 * j + p.val, by omega⟩ ⟨128 * r + l.val, by omega⟩) :=
  extractStridedSlice_apply _ v56 _ _ _ fun a => match a with | ⟨0, _⟩ => rfl | ⟨1, _⟩ => rfl

theorem sl_c (v : FVec Ideal S1024x128 .f32) (j : ℕ) (hj : j < 8) (p l : Fin 128) :
    extractStridedSlice S128x128 ![128 * j, 0] v (slices_c j hj) (ix2 p l) = v (ix2 ⟨128 * j + p.val, by omega⟩ l) :=
  extractStridedSlice_apply _ v _ _ _ fun a => match a with | ⟨0, _⟩ => rfl | ⟨1, _⟩ => by show l.val = 0 + l.val; omega

theorem qpay_apply (v11 v53 : FVec Ideal S1024x128 .f32) (v50 : IVec S128x128 1) (v56 : FVec Ideal S1024x1024 .f32) (j r : ℕ) (hj : j < 8) (hr : r < 8)
    (p l : Fin 128) : qpay v11 v53 v50 v56 j r hj hr (ix2 p l) = Qat v11 v53 v50 v56 ⟨(j * 8 + r) * 128 + p.val, by omega⟩ l := by
  have hs := sl_q v56 j r hj hr
  have hc := sl_c v11 j hj p l
  have hn := sl_c v53 j hj p l
  unfold qpay
  generalize extractStridedSlice S128x128 ![128 * j, 128 * r] v56 (slices_q j r hj hr) = y at hs
  generalize extractStridedSlice S128x128 ![128 * j, 0] v11 (slices_c j hj) = y1 at hc
  generalize extractStridedSlice S128x128 ![128 * j, 0] v53 (slices_c j hj) = y2 at hn
  show (y (ix2 p l) * y1 (ix2 p l) + Scalar.select (v50 (ix2 p l)) (dynamicRotate 1 96#32 none y rotates_S128x128_d1 (ix2 p l))
    (dynamicRotate 1 32#32 none y rotates_S128x128_d1 (ix2 p l)) * y2 (ix2 p l)) * eighth = _
  rw [rot96, rot32, hs, hs, hs, hc, hn]
  unfold Qat
  have a1 : (⟨((j * 8 + r) * 128 + p.val) / 1024 * 128 + ((j * 8 + r) * 128 + p.val) % 128, by omega⟩ : Fin 1024) = ⟨128 * j + p.val, by omega⟩ := Fin.ext (by dsimp only; omega)
  have a2 : ∀ (x : ℕ) (hx : x < 128), (⟨((j * 8 + r) * 128 + p.val) / 128 % 8 * 128 + x, by omega⟩ : Fin 1024) = ⟨128 * r + x, by omega⟩ := fun x hx => Fin.ext (by dsimp only; omega)
  have a3 : (⟨((j * 8 + r) * 128 + p.val) % 128, by omega⟩ : Fin 128) = p := Fin.ext (by dsimp only; omega)
  dsimp only
  rw [a1, a2 _ l.isLt, a2 _ (Nat.mod_lt _ (by omega)), a2 _ (Nat.mod_lt _ (by omega)), a3]

theorem piece_q (v11 v53 : FVec Ideal S1024x128 .f32) (v50 : IVec S128x128 1) (v56 : FVec Ideal S1024x1024 .f32) (j r : ℕ) (hj : j < 8) (hr : r < 8)
    (off : Fin 2 → ℕ) (ho : off = ![(j * 8 + r) * 128, 0]) (inb : ∀ a, off a + S128x128.size a ≤ S8192x128.size a) (pay : FVec Ideal S128x128 .bf16)
    (hp : pay = qpay v11 v53 v50 v56 j r hj hr) (x : S128x128.Idx) :
    pay x = (fun y : S8192x128.Idx => Qat v11 v53 v50 v56 (y 0) (y 1)) ((Rect.unit (s := S8192x128) off S128x128.size inb).emb x) := by
  subst hp; subst ho
  obtain ⟨p, l, rfl⟩ : ∃ (p l : Fin 128), x = ix2 p l := ⟨x 0, x 1, (ix2_eta x).symm⟩
  rw [qpay_apply]
  have h0 : ((Rect.unit (s := S8192x128) ![(j * 8 + r) * 128, 0] S128x128.size inb).emb (ix2 p l)) 0 = (⟨(j * 8 + r) * 128 + p.val, by omega⟩ : Fin 8192) :=
    Fin.ext (by rw [Rect.emb_apply]; show (j * 8 + r) * 128 + 1 * p.val = _; dsimp only; omega)
  have h1 : ((Rect.unit (s := S8192x128) ![(j * 8 + r) * 128, 0] S128x128.size inb).emb (ix2 p l)) 1 = l :=
    Fin.ext (by rw [Rect.emb_apply]; show 0 + 1 * l.val = _; omega)
  dsimp only
  rw [h0, h1]

set_option maxHeartbeats 2000000 in
/-- What the body leaves in the queries' block. -/
theorem out9_apply (x0 : Vec Ideal S1024x1024 .f32) (x1 : Vec Ideal S1024x1 .i32) (x2 : Vec Ideal S1x128 .f32) (x3 : Vec Ideal S1024x1024 .bf16)
    (x4 : Vec Ideal S1024x128 .bf16) (x5 : Vec Ideal S1024x128 .bf16) (x6 : Vec Ideal S1024x512 .bf16) (x7 : Vec Ideal S1024x1024 .bf16) (x8 : Vec Ideal S1024x1024 .bf16) (ρ : Fin 8192) (l : Fin 128) :
    out0_9 x0 x1 x2 x3 x4 x5 x6 x7 x8 (ix2 ρ l) = Qat (k0_pay129 x0 x1 x2 x3 x4 x5 x6 x7 x8) (k0_pay136 x0 x1 x2 x3 x4 x5 x6 x7 x8) (k0_pay135 x0 x1 x2 x3 x4 x5 x6 x7 x8) (k0_pay137 x0 x1 x2 x3 x4 x5 x6 x7 x8) ρ l := by
  unfold out0_9
  refine View.canon_apply_of_pieces (Val := Elt Ideal) (e := .bf16) (fun y : S8192x128.Idx => Qat (k0_pay129 x0 x1 x2 x3 x4 x5 x6 x7 x8) (k0_pay136 x0 x1 x2 x3 x4 x5 x6 x7 x8) (k0_pay135 x0 x1 x2 x3 x4 x5 x6 x7 x8) (k0_pay137 x0 x1 x2 x3 x4 x5 x6 x7 x8) (y 0) (y 1)) _ ?_ (ix2 ρ l)
    (View.cover_of_tiledL (s := S8192x128) _ ![128, 128] (by sl_kernel_rfl) (ix2 ρ l))
  refine List.forall_mem_cons.2 ⟨piece_q _ _ _ _ 7 7 (by decide) (by decide) ![8064, 0] rfl inb_S8192x128_S128x128_8064_0 _ rfl, ?_⟩
  refine List.forall_mem_cons.2 ⟨piece_q _ _ _ _ 7 6 (by decide) (by decide) ![7936, 0] rfl inb_S8192x128_S128x128_7936_0 _ rfl, ?_⟩
  refine List.forall_mem_cons.2 ⟨piece_q _ _ _ _ 7 5 (by decide) (by decide) ![7808, 0] rfl inb_S8192x128_S128x128_7808_0 _ rfl, ?_⟩
  refine List.forall_mem_cons.2 ⟨piece_q _ _ _ _ 7 4 (by decide) (by decide) ![7680, 0] rfl inb_S8192x128_S128x128_7680_0 _ rfl, ?_⟩
  refine List.forall_mem_cons.2 ⟨piece_q _ _ _ _ 7 3 (by decide) (by decide) ![7552, 0] rfl inb_S8192x128_S128x128_7552_0 _ rfl, ?_⟩
  refine List.forall_mem_cons.2 ⟨piece_q _ _ _ _ 7 2 (by decide) (by decide) ![7424, 0] rfl inb_S8192x128_S128x128_7424_0 _ rfl, ?_⟩
  refine List.forall_mem_cons.2 ⟨piece_q _ _ _ _ 7 1 (by decide) (by decide) ![7296, 0] rfl inb_S8192x128_S128x128_7296_0 _ rfl, ?_⟩
  refine List.forall_mem_cons.2 ⟨piece_q _ _ _ _ 7 0 (by decide) (by decide) ![7168, 0] rfl inb_S8192x128_S128x128_7168_0 _ rfl, ?_⟩
  refine List.forall_mem_cons.2 ⟨piece_q _ _ _ _ 6 7 (by decide) (by decide) ![7040, 0] rfl inb_S8192x128_S128x128_7040_0 _ rfl, ?_⟩
  refine List.forall_mem_cons.2 ⟨piece_q _ _ _ _ 6 6 (by decide) (by decide) ![6912, 0] rfl inb_S8192x128_S128x128_6912_0 _ rfl, ?_⟩
  refine List.forall_mem_cons.2 ⟨piece_q _ _ _ _ 6 5 (by decide) (by decide) ![6784, 0] rfl inb_S8192x128_S128x128_6784_0 _ rfl, ?_⟩
  refine List.forall_mem_cons.2 ⟨piece_q _ _ _ _ 6 4 (by decide) (by decide) ![6656, 0] rfl inb_S8192x128_S128x128_6656_0 _ rfl, ?_⟩
  refine List.forall_mem_cons.2 ⟨piece_q _ _ _ _ 6 3 (by decide) (by decide) ![6528, 0] rfl inb_S8192x128_S128x128_6528_0 _ rfl, ?_⟩
  refine List.forall_mem_cons.2 ⟨piece_q _ _ _ _ 6 2 (by decide) (by decide) ![6400, 0] rfl inb_S8192x128_S128x128_6400_0 _ rfl, ?_⟩
  refine List.forall_mem_cons.2 ⟨piece_q _ _ _ _ 6 1 (by decide) (by decide) ![6272, 0] rfl inb_S8192x128_S128x128_6272_0 _ rfl, ?_⟩
  refine List.forall_mem_cons.2 ⟨piece_q _ _ _ _ 6 0 (by decide) (by decide) ![6144, 0] rfl inb_S8192x128_S128x128_6144_0 _ rfl, ?_⟩
  refine List.forall_mem_cons.2 ⟨piece_q _ _ _ _ 5 7 (by decide) (by decide) ![6016, 0] rfl inb_S8192x128_S128x128_6016_0 _ rfl, ?_⟩
  refine List.forall_mem_cons.2 ⟨piece_q _ _ _ _ 5 6 (by decide) (by decide) ![5888, 0] rfl inb_S8192x128_S128x128_5888_0 _ rfl, ?_⟩
  refine List.forall_mem_cons.2 ⟨piece_q _ _ _ _ 5 5 (by decide) (by decide) ![5760, 0] rfl inb_S8192x128_S128x128_5760_0 _ rfl, ?_⟩
  refine List.forall_mem_cons.2 ⟨piece_q _ _ _ _ 5 4 (by decide) (by decide) ![5632, 0] rfl inb_S8192x128_S128x128_5632_0 _ rfl, ?_⟩
  refine List.forall_mem_cons.2 ⟨piece_q _ _ _ _ 5 3 (by decide) (by decide) ![5504, 0] rfl inb_S8192x128_S128x128_5504_0 _ rfl, ?_⟩
  refine List.forall_mem_cons.2 ⟨piece_q _ _ _ _ 5 2 (by decide) (by decide) ![5376, 0] rfl inb_S8192x128_S128x128_5376_0 _ rfl, ?_⟩
  refine List.forall_mem_cons.2 ⟨piece_q _ _ _ _ 5 1 (by decide) (by decide) ![5248, 0] rfl inb_S8192x128_S128x128_5248_0 _ rfl, ?_⟩
  refine List.forall_mem_cons.2 ⟨piece_q _ _ _ _ 5 0 (by decide) (by decide) ![5120, 0] rfl inb_S8192x128_S128x128_5120_0 _ rfl, ?_⟩
  refine List.forall_mem_cons.2 ⟨piece_q _ _ _ _ 4 7 (by decide) (by decide) ![4992, 0] rfl inb_S8192x128_S128x128_4992_0 _ rfl, ?_⟩
  refine List.forall_mem_cons.2 ⟨piece_q _ _ _ _ 4 6 (by decide) (by decide) ![4864, 0] rfl inb_S8192x128_S128x128_4864_0 _ rfl, ?_⟩
  refine List.forall_mem_cons.2 ⟨piece_q _ _ _ _ 4 5 (by decide) (by decide) ![4736, 0] rfl inb_S8192x128_S128x128_4736_0 _ rfl, ?_⟩
  refine List.forall_mem_cons.2 ⟨piece_q _ _ _ _ 4 4 (by decide) (by decide) ![4608, 0] rfl inb_S8192x128_S128x128_4608_0 _ rfl, ?_⟩
  refine List.forall_mem_cons.2 ⟨piece_q _ _ _ _ 4 3 (by decide) (by decide) ![4480, 0] rfl inb_S8192x128_S128x128_4480_0 _ rfl, ?_⟩
  refine List.forall_mem_cons.2 ⟨piece_q _ _ _ _ 4 2 (by decide) (by decide) ![4352, 0] rfl inb_S8192x128_S128x128_4352_0 _ rfl, ?_⟩
  refine List.forall_mem_cons.2 ⟨piece_q _ _ _ _ 4 1 (by decide) (by decide) ![4224, 0] rfl inb_S8192x128_S128x128_4224_0 _ rfl, ?_⟩
  refine List.forall_mem_cons.2 ⟨piece_q _ _ _ _ 4 0 (by decide) (by decide) ![4096, 0] rfl inb_S8192x128_S128x128_4096_0 _ rfl, ?_⟩
  refine List.forall_mem_cons.2 ⟨piece_q _ _ _ _ 3 7 (by decide) (by decide) ![3968, 0] rfl inb_S8192x128_S128x128_3968_0 _ rfl, ?_⟩
  refine List.forall_mem_cons.2 ⟨piece_q _ _ _ _ 3 6 (by decide) (by decide) ![3840, 0] rfl inb_S8192x128_S128x128_3840_0 _ rfl, ?_⟩
  refine List.forall_mem_cons.2 ⟨piece_q _ _ _ _ 3 5 (by decide) (by decide) ![3712, 0] rfl inb_S8192x128_S128x128_3712_0 _ rfl, ?_⟩
  refine List.forall_mem_cons.2 ⟨piece_q _ _ _ _ 3 4 (by decide) (by decide) ![3584, 0] rfl inb_S8192x128_S128x128_3584_0 _ rfl, ?_⟩
  refine List.forall_mem_cons.2 ⟨piece_q _ _ _ _ 3 3 (by decide) (by decide) ![3456, 0] rfl inb_S8192x128_S128x128_3456_0 _ rfl, ?_⟩
  refine List.forall_mem_cons.2 ⟨piece_q _ _ _ _ 3 2 (by decide) (by decide) ![3328, 0] rfl inb_S8192x128_S128x128_3328_0 _ rfl, ?_⟩
  refine List.forall_mem_cons.2 ⟨piece_q _ _ _ _ 3 1 (by decide) (by decide) ![3200, 0] rfl inb_S8192x128_S128x128_3200_0 _ rfl, ?_⟩
  refine List.forall_mem_cons.2 ⟨piece_q _ _ _ _ 3 0 (by decide) (by decide) ![3072, 0] rfl inb_S8192x128_S128x128_3072_0 _ rfl, ?_⟩
  refine List.forall_mem_cons.2 ⟨piece_q _ _ _ _ 2 7 (by decide) (by decide) ![2944, 0] rfl inb_S8192x128_S128x128_2944_0 _ rfl, ?_⟩
  refine List.forall_mem_cons.2 ⟨piece_q _ _ _ _ 2 6 (by decide) (by decide) ![2816, 0] rfl inb_S8192x128_S128x128_2816_0 _ rfl, ?_⟩
  refine List.forall_mem_cons.2 ⟨piece_q _ _ _ _ 2 5 (by decide) (by decide) ![2688, 0] rfl inb_S8192x128_S128x128_2688_0 _ rfl, ?_⟩
  refine List.forall_mem_cons.2 ⟨piece_q _ _ _ _ 2 4 (by decide) (by decide) ![2560, 0] rfl inb_S8192x128_S128x128_2560_0 _ rfl, ?_⟩
  refine List.forall_mem_cons.2 ⟨piece_q _ _ _ _ 2 3 (by decide) (by decide) ![2432, 0] rfl inb_S8192x128_S128x128_2432_0 _ rfl, ?_⟩
  refine List.forall_mem_cons.2 ⟨piece_q _ _ _ _ 2 2 (by decide) (by decide) ![2304, 0] rfl inb_S8192x128_S128x128_2304_0 _ rfl, ?_⟩
  refine List.forall_mem_cons.2 ⟨piece_q _ _ _ _ 2 1 (by decide) (by decide) ![2176, 0] rfl inb_S8192x128_S128x128_2176_0 _ rfl, ?_⟩
  refine List.forall_mem_cons.2 ⟨piece_q _ _ _ _ 2 0 (by decide) (by decide) ![2048, 0] rfl inb_S8192x128_S128x128_2048_0 _ rfl, ?_⟩
  refine List.forall_mem_cons.2 ⟨piece_q _ _ _ _ 1 7 (by decide) (by decide) ![1920, 0] rfl inb_S8192x128_S128x128_1920_0 _ rfl, ?_⟩
  refine List.forall_mem_cons.2 ⟨piece_q _ _ _ _ 1 6 (by decide) (by decide) ![1792, 0] rfl inb_S8192x128_S128x128_1792_0 _ rfl, ?_⟩
  refine List.forall_mem_cons.2 ⟨piece_q _ _ _ _ 1 5 (by decide) (by decide) ![1664, 0] rfl inb_S8192x128_S128x128_1664_0 _ rfl, ?_⟩
  refine List.forall_mem_cons.2 ⟨piece_q _ _ _ _ 1 4 (by decide) (by decide) ![1536, 0] rfl inb_S8192x128_S128x128_1536_0 _ rfl, ?_⟩
  refine List.forall_mem_cons.2 ⟨piece_q _ _ _ _ 1 3 (by decide) (by decide) ![1408, 0] rfl inb_S8192x128_S128x128_1408_0 _ rfl, ?_⟩
  refine List.forall_mem_cons.2 ⟨piece_q _ _ _ _ 1 2 (by decide) (by decide) ![1280, 0] rfl inb_S8192x128_S128x128_1280_0 _ rfl, ?_⟩
  refine List.forall_mem_cons.2 ⟨piece_q _ _ _ _ 1 1 (by decide) (by decide) ![1152, 0] rfl inb_S8192x128_S128x128_1152_0 _ rfl, ?_⟩
  refine List.forall_mem_cons.2 ⟨piece_q _ _ _ _ 1 0 (by decide) (by decide) ![1024, 0] rfl inb_S8192x128_S128x128_1024_0 _ rfl, ?_⟩
  refine List.forall_mem_cons.2 ⟨piece_q _ _ _ _ 0 7 (by decide) (by decide) ![896, 0] rfl inb_S8192x128_S128x128_896_0 _ rfl, ?_⟩
  refine List.forall_mem_cons.2 ⟨piece_q _ _ _ _ 0 6 (by decide) (by decide) ![768, 0] rfl inb_S8192x128_S128x128_768_0 _ rfl, ?_⟩
  refine List.forall_mem_cons.2 ⟨piece_q _ _ _ _ 0 5 (by decide) (by decide) ![640, 0] rfl inb_S8192x128_S128x128_640_0 _ rfl, ?_⟩
  refine List.forall_mem_cons.2 ⟨piece_q _ _ _ _ 0 4 (by decide) (by decide) ![512, 0] rfl inb_S8192x128_S128x128_512_0 _ rfl, ?_⟩
  refine List.forall_mem_cons.2 ⟨piece_q _ _ _ _ 0 3 (by decide) (by decide) ![384, 0] rfl inb_S8192x128_S128x128_384_0 _ rfl, ?_⟩
  refine List.forall_mem_cons.2 ⟨piece_q _ _ _ _ 0 2 (by decide) (by decide) ![256, 0] rfl inb_S8192x128_S128x128_256_0 _ rfl, ?_⟩
  refine List.forall_mem_cons.2 ⟨piece_q _ _ _ _ 0 1 (by decide) (by decide) ![128, 0] rfl inb_S8192x128_S128x128_128_0 _ rfl, ?_⟩
  refine List.forall_mem_cons.2 ⟨piece_q _ _ _ _ 0 0 (by decide) (by decide) ![0, 0] rfl inb_S8192x128_S128x128_0_0 _ rfl, ?_⟩
  exact fun p hp => absurd hp (List.not_mem_nil)

end Cert.Kernel3Ideal.InprojValue
-- ==== Proof.Inproj.Array.lean ====
/-
  What the six arrays hold after the projection kernel's grid has run.
-/
module

public import proofs.«01_k».proof.Proof.Inproj.Entry
public import proofs.«01_k».proof.Proof.Inproj.Queries

@[expose] public section

set_option maxRecDepth 16384

noncomputable section

open Idealize.ShloMosaic Idealize.ShloMosaic.TcCoe Idealize.SL.Sem
open Idealize.ShloMosaic.Pipeline (Dat)

namespace Cert.Kernel3Ideal.InprojValue

open Cert.Kernel3Ideal Cert.Kernel3Ideal.Gen Cert.Inproj

variable (m : (ℓ : Loc nD τ sig) → Buf (Elt Ideal) ℓ)

theorem array11 (c : Dev nD) : (dats m 0 c).arrAt 11 cfg0.N = (fun y : S32768x128.Idx => outV (fX m c) (fW m c) (y 0) (y 1)) := by
  refine Dat.arrAt_eq_of_covers _ 11 _ (by decide +kernel) fun t hfl y => ?_
  obtain ⟨p, x, rfl⟩ : ∃ (p : Fin 1024) (x : Fin 128), y = ix2 p x := ⟨y 0, y 1, (ix2_eta y).symm⟩
  have hx : (win0_11.blk t).view.emb (ix2 p x) = (ix2 (row t p) x : S32768x128.Idx) := by blk_ext [e11]; rfl
  blk_simp
  rw [after0_11, out11_apply, hx]
  exact Finset.sum_congr rfl fun k _ => congrArg₂ (fun a b : EReal => a * b) (blk0 m c t p k) (blk5 m c t k x)

theorem array13 (c : Dev nD) : (dats m 0 c).arrAt 13 cfg0.N = (fun y : S32768x1024.Idx => outA (fX m c) (fW m c) (y 0) (y 1)) := by
  refine Dat.arrAt_eq_of_covers _ 13 _ (by decide +kernel) fun t hfl y => ?_
  obtain ⟨p, x, rfl⟩ : ∃ (p : Fin 1024) (x : Fin 1024), y = ix2 p x := ⟨y 0, y 1, (ix2_eta y).symm⟩
  have hx : (win0_13.blk t).view.emb (ix2 p x) = (ix2 (row t p) x : S32768x1024.Idx) := by blk_ext [e13]; rfl
  blk_simp
  rw [after0_13, out13_apply, hx]
  exact congrArg sigm (Finset.sum_congr rfl fun k _ => congrArg₂ (fun a b : EReal => a * b) (blk0 m c t p k) (blk7 m c t k x))

theorem array14 (c : Dev nD) : (dats m 0 c).arrAt 14 cfg0.N = (fun y : S32768x1024.Idx => outS (fX m c) (fW m c) (y 0) (y 1)) := by
  refine Dat.arrAt_eq_of_covers _ 14 _ (by decide +kernel) fun t hfl y => ?_
  obtain ⟨p, x, rfl⟩ : ∃ (p : Fin 1024) (x : Fin 1024), y = ix2 p x := ⟨y 0, y 1, (ix2_eta y).symm⟩
  have hx : (win0_14.blk t).view.emb (ix2 p x) = (ix2 (row t p) x : S32768x1024.Idx) := by blk_ext [e14]; rfl
  blk_simp
  rw [after0_14, out14_apply, hx]
  exact congrArg sigm (Finset.sum_congr rfl fun k _ => congrArg₂ (fun a b : EReal => a * b) (blk0 m c t p k) (blk8 m c t k x))

theorem array12 (c : Dev nD) : (dats m 0 c).arrAt 12 cfg0.N = (fun y : S256x512x128.Idx => outU (fX m c) (fW m c) (y 0) (y 1) (y 2)) := by
  refine Dat.arrAt_eq_of_covers _ 12 _ (by decide +kernel) fun t hfl y => ?_
  have ht := tlt t
  obtain ⟨b, x, s, rfl⟩ : ∃ (b : Fin 8) (x : Fin 512) (s : Fin 128), y = ix3 b x s := ⟨y 0, y 1, y 2, (ix3_eta y).symm⟩
  have hx : (win0_12.blk t).view.emb (ix3 b x s) = (ix3 ⟨t.val * 8 + b.val, by omega⟩ x s : S256x512x128.Idx) := by blk_ext [e12]
  blk_simp
  rw [after0_12, out12_apply, hx]
  show _ = outU (fX m c) (fW m c) ⟨t.val * 8 + b.val, by omega⟩ x s
  have hr : row t ⟨b.val * 128 + s.val, by omega⟩ = ⟨(t.val * 8 + b.val) * 128 + s.val, by omega⟩ := Fin.ext (by show t.val * 1024 + (b.val * 128 + s.val) = (t.val * 8 + b.val) * 128 + s.val; omega)
  unfold outU proj
  dsimp only
  rw [← hr]
  exact Finset.sum_congr rfl fun k _ => congrArg₂ (fun a b : EReal => a * b) (blk0 m c t _ k) (blk6 m c t k x)

theorem cos_at (c : Dev nD) (t : Fin cfg0.N) (p : Fin 1024) (l : Fin 128) :
    k0_pay129 (iblk m c 0 t) (iblk m c 1 t) (iblk m c 2 t) (iblk m c 3 t) (iblk m c 4 t) (iblk m c 5 t) (iblk m c 6 t) (iblk m c 7 t) (iblk m c 8 t) (ix2 p l) = cosA (fP m c (row t p)) ⟨l.val % 32, by omega⟩ := by
  rw [pay129_apply, blk1, blk2]
  rfl

theorem sin_at (c : Dev nD) (t : Fin cfg0.N) (p : Fin 1024) (l : Fin 128) :
    k0_pay136 (iblk m c 0 t) (iblk m c 1 t) (iblk m c 2 t) (iblk m c 3 t) (iblk m c 4 t) (iblk m c 5 t) (iblk m c 6 t) (iblk m c 7 t) (iblk m c 8 t) (ix2 p l) = if l.val % 64 < 32 then -(sinA (fP m c (row t p)) ⟨l.val % 32, by omega⟩) else sinA (fP m c (row t p)) ⟨l.val % 32, by omega⟩ := by
  rw [pay136_apply, pay130_apply, blk1, blk2]
  rfl

theorem array10 (c : Dev nD) : (dats m 0 c).arrAt 10 cfg0.N = (fun y : S32768x128.Idx => outK (fX m c) (fP m c) (fW m c) (y 0) (y 1)) := by
  refine Dat.arrAt_eq_of_covers _ 10 _ (by decide +kernel) fun t hfl y => ?_
  obtain ⟨p, x, rfl⟩ : ∃ (p : Fin 1024) (x : Fin 128), y = ix2 p x := ⟨y 0, y 1, (ix2_eta y).symm⟩
  have hx : (win0_10.blk t).view.emb (ix2 p x) = (ix2 (row t p) x : S32768x128.Idx) := by blk_ext [e10]; rfl
  blk_simp
  rw [after0_10, out10_apply, hx]
  rw [cos_at, sin_at]
  have hk : ∀ l : Fin 128, kz (iblk m c 0 t) (iblk m c 4 t) p l = proj (fX m c) (fW m c) (row t p) ⟨1024 + l.val, by omega⟩ := fun l =>
    Finset.sum_congr rfl fun k _ => congrArg₂ (fun a b : EReal => a * b) (blk0 m c t p k) (blk4 m c t k l)
  rw [hk, hk, hk, rope_eq (fun l => proj (fX m c) (fW m c) (row t p) ⟨1024 + l.val, by omega⟩)]
  show _ = outK (fX m c) (fP m c) (fW m c) (row t p) x
  unfold outK
  refine congrArg (fun Z => rot Z (fP m c (row t p)) _) (funext fun d => congrArg (proj (fX m c) (fW m c) (row t p)) (Fin.ext ?_))
  show 1024 + (x.val / 64 * 64 + d.val) = 1024 + x.val / 64 * 64 + d.val
  omega

theorem array9 (c : Dev nD) : (dats m 0 c).arrAt 9 cfg0.N = (fun y : S262144x128.Idx => outQ (fX m c) (fP m c) (fW m c) (y 0) (y 1)) := by
  refine Dat.arrAt_eq_of_covers _ 9 _ (by decide +kernel) fun t hfl y => ?_
  have ht := tlt t
  obtain ⟨ρ, l, rfl⟩ : ∃ (ρ : Fin 8192) (l : Fin 128), y = ix2 ρ l := ⟨y 0, y 1, (ix2_eta y).symm⟩
  have hx : (win0_9.blk t).view.emb (ix2 ρ l) = (ix2 ⟨t.val * 8192 + ρ.val, by omega⟩ l : S262144x128.Idx) := by blk_ext [e9]
  blk_simp
  rw [after0_9, out9_apply, hx]
  show _ = outQ (fX m c) (fP m c) (fW m c) ⟨t.val * 8192 + ρ.val, by omega⟩ l
  have hr : row t ⟨ρ.val / 1024 * 128 + ρ.val % 128, by omega⟩ = ⟨(t.val * 8192 + ρ.val) / 1024 * 128 + (t.val * 8192 + ρ.val) % 128, by omega⟩ :=
    Fin.ext (by show t.val * 1024 + (ρ.val / 1024 * 128 + ρ.val % 128) = (t.val * 8192 + ρ.val) / 1024 * 128 + (t.val * 8192 + ρ.val) % 128; omega)
  have hq : ∀ (x : Fin 128), k0_pay137 (iblk m c 0 t) (iblk m c 1 t) (iblk m c 2 t) (iblk m c 3 t) (iblk m c 4 t) (iblk m c 5 t) (iblk m c 6 t) (iblk m c 7 t) (iblk m c 8 t) (ix2 ⟨ρ.val / 1024 * 128 + ρ.val % 128, by omega⟩ ⟨ρ.val / 128 % 8 * 128 + x.val, by omega⟩)
      = proj (fX m c) (fW m c) (row t ⟨ρ.val / 1024 * 128 + ρ.val % 128, by omega⟩) ⟨(x.val / 64 * 8 + ρ.val / 128 % 8) * 64 + x.val % 64, by omega⟩ := fun x => by
    rw [pay137_apply]
    refine Finset.sum_congr rfl fun k _ => congrArg₂ (fun a b : EReal => a * b) (blk0 m c t _ k) ((blk3 m c t k _).trans (congrArg (fW m c k) (Fin.ext ?_)))
    show (ρ.val / 128 % 8 * 128 + x.val) / 64 % 2 * 512 + (ρ.val / 128 % 8 * 128 + x.val) / 128 * 64 + (ρ.val / 128 % 8 * 128 + x.val) % 64
      = (x.val / 64 * 8 + ρ.val / 128 % 8) * 64 + x.val % 64
    omega
  unfold Qat
  rw [cos_at, sin_at, pay135_apply, hq l, hq ⟨(l.val + 32) % 128, by omega⟩, hq ⟨(l.val + 96) % 128, by omega⟩,
    rope_eq (fun x => proj (fX m c) (fW m c) (row t ⟨ρ.val / 1024 * 128 + ρ.val % 128, by omega⟩) ⟨(x.val / 64 * 8 + ρ.val / 128 % 8) * 64 + x.val % 64, by omega⟩)]
  unfold outQ
  dsimp only
  rw [← hr]
  refine congrArg (fun Z => rot Z (fP m c (row t ⟨ρ.val / 1024 * 128 + ρ.val % 128, by omega⟩)) _ * eighth) (funext fun d => congrArg (proj (fX m c) (fW m c) _) (Fin.ext ?_))
  show ((l.val / 64 * 64 + d.val) / 64 * 8 + ρ.val / 128 % 8) * 64 + (l.val / 64 * 64 + d.val) % 64 = (l.val / 64 * 8 + (t.val * 8192 + ρ.val) / 128 % 8) * 64 + d.val
  omega

end Cert.Kernel3Ideal.InprojValue
-- ==== Proof.Inproj.Ref.lean ====
/-
  What the reference of the input projection computes.
-/
module

public import proofs.«01_k».proof.Proof.Inproj.Spec
public import proofs.«01_k».proof.Proof.Gen.Reference3Ideal.Read
public import Idealize.ShloMosaic.Lib.KernelVsHost

@[expose] public section

set_option maxRecDepth 16384

noncomputable section

open Idealize.ShloMosaic Idealize.ShloMosaic.TcCoe Idealize.SL.Sem

namespace Cert.Reference3Ideal.InprojRef

open Cert.Reference3Ideal Cert.Reference3Ideal.Gen Cert.Reference3Ideal.Read Idealize.ShloMosaic.ValueIdx Cert.Inproj

/-- The arguments by row and column. -/
def rX (x0 : (⟨S16x2048x1024, .f32⟩ : BufTy).Contents (Elt Ideal)) (ρ : Fin 32768) (k : Fin 1024) : EReal := x0 (ix3 (⟨ρ.val / 2048, by omega⟩ : Fin 16) (⟨ρ.val % 2048, by omega⟩ : Fin 2048) k)
def rP (x1 : (⟨S16x2048, .i32⟩ : BufTy).Contents (Elt Ideal)) (ρ : Fin 32768) : BitVec 32 := x1 (ix2 (⟨ρ.val / 2048, by omega⟩ : Fin 16) (⟨ρ.val % 2048, by omega⟩ : Fin 2048))
def rW (x2 : (⟨S1x1024x3840, .f32⟩ : BufTy).Contents (Elt Ideal)) (k : Fin 1024) (j : Fin 3840) : EReal := x2 (ix3 (0 : Fin 1) k j)

/-- The product with the weights. -/
theorem proj_at (x0 : (⟨S16x2048x1024, .f32⟩ : BufTy).Contents (Elt Ideal)) (x2 : (⟨S1x1024x3840, .f32⟩ : BufTy).Contents (Elt Ideal)) (i : S16x2048x3840.Idx) :
    val_main_v1 (F := Ideal) x0 x2 i = proj (rX x0) (rW x2) ⟨(i 0).val * 2048 + (i 1).val, by have h0 : (i 0).val < 16 := (i 0).isLt; have h1 : (i 1).val < 2048 := (i 1).isLt; omega⟩ (i 2) := by
  have h0 : (i 0).val < 16 := (i 0).isLt
  have h1 : (i 1).val < 2048 := (i 1).isLt
  have h2 : (i 2).val < 3840 := (i 2).isLt
  rw [val_main_v1_apply]
  refine Finset.sum_congr rfl fun k _ => ?_
  rw [val_main_v0_apply]
  refine congrArg₂ (fun a b : EReal => a * b) (congrArg x0 ?_) (congrArg x2 ?_)
  · exact funext fun a => match a with
      | ⟨0, _⟩ => Fin.ext (by show (i 0).val = ((i 0).val * 2048 + (i 1).val) / 2048; omega)
      | ⟨1, _⟩ => Fin.ext (by show (i 1).val = ((i 0).val * 2048 + (i 1).val) % 2048; omega)
      | ⟨2, _⟩ => rfl
  · exact funext fun a => match a with
      | ⟨0, _⟩ => rfl
      | ⟨1, _⟩ => Fin.ext (by show (k.val * 3840 + (i 2).val) / 3840 % 1024 = k.val; omega)
      | ⟨2, _⟩ => Fin.ext (by show (k.val * 3840 + (i 2).val) % 3840 = (i 2).val; omega)

/-- The frequencies. -/
theorem freq_q (i : S32.Idx) : val_main_v9 (F := Ideal) i = freq (i 0) := by
  rw [val_main_v9_apply, val_main_v8_apply, val_main_cst_0_apply, val_main_v7_apply, val_main_v5_apply, val_main_v6_apply, val_main_cst_apply]
  rfl

/-- The frequencies. -/
theorem freq_k (i : S32.Idx) : val_main_v40 (F := Ideal) i = freq (i 0) := by
  rw [val_main_v40_apply, val_main_v39_apply, val_main_cst_2_apply, val_main_v38_apply, val_main_v36_apply, val_main_v37_apply, val_main_cst_1_apply]
  rfl

/-- The angles of the queries. -/
theorem angle_q (x1 : (⟨S16x2048, .i32⟩ : BufTy).Contents (Elt Ideal)) (i : S16x2048x32.Idx) :
    val_main_v15 (F := Ideal) x1 i = angle (rP x1 ⟨(i 0).val * 2048 + (i 1).val, by have h0 : (i 0).val < 16 := (i 0).isLt; have h1 : (i 1).val < 2048 := (i 1).isLt; omega⟩) (i 2) := by
  have h0 : (i 0).val < 16 := (i 0).isLt
  have h1 : (i 1).val < 2048 := (i 1).isLt
  rw [val_main_v15_apply, val_main_v13_apply, val_main_v11_apply, val_main_v10_apply, val_main_v14_apply, val_main_v12_apply, freq_q]
  refine congrArg₂ (fun a b : EReal => a * b) (congrArg (fun w => (FloatOps.sitofp .f32 (x1 w) : Ideal .f32)) ?_) rfl
  exact funext fun a => match a with
    | ⟨0, _⟩ => Fin.ext (by show (i 0).val = ((i 0).val * 2048 + (i 1).val) / 2048; omega)
    | ⟨1, _⟩ => Fin.ext (by show (i 1).val = ((i 0).val * 2048 + (i 1).val) % 2048; omega)

/-- The queries before the rotation. -/
theorem pre_q (x0 : (⟨S16x2048x1024, .f32⟩ : BufTy).Contents (Elt Ideal)) (x2 : (⟨S1x1024x3840, .f32⟩ : BufTy).Contents (Elt Ideal)) (b : Fin 16) (t : Fin 2048) (h : Fin 16) (d : Fin 64) :
    val_main_v3 (F := Ideal) x0 x2 (ix4 b t h d) = proj (rX x0) (rW x2) ⟨b.val * 2048 + t.val, by omega⟩ ⟨h.val * 64 + d.val, by omega⟩ := by
  rw [val_main_v3_apply, val_main_v2_apply, proj_at]
  congr 1 <;> apply Fin.ext
  · show (((b.val * 2048 + t.val) * 16 + h.val) * 64 + d.val) / 2097152 * 2048 + (((b.val * 2048 + t.val) * 16 + h.val) * 64 + d.val) / 1024 % 2048 = b.val * 2048 + t.val
    omega
  · show (((b.val * 2048 + t.val) * 16 + h.val) * 64 + d.val) % 1024 = h.val * 64 + d.val
    omega

/-- The rotated queries. -/
theorem rot_q (x0 : (⟨S16x2048x1024, .f32⟩ : BufTy).Contents (Elt Ideal)) (x1 : (⟨S16x2048, .i32⟩ : BufTy).Contents (Elt Ideal)) (x2 : (⟨S1x1024x3840, .f32⟩ : BufTy).Contents (Elt Ideal)) (b : Fin 16) (t : Fin 2048) (h : Fin 16) (d : Fin 64) :
    val_main_v32 (F := Ideal) x0 x1 x2 (ix4 b t h d)
      = rot (fun e => proj (rX x0) (rW x2) ⟨b.val * 2048 + t.val, by omega⟩ ⟨h.val * 64 + e.val, by omega⟩) (rP x1 ⟨b.val * 2048 + t.val, by omega⟩) d := by
  have eA : ∀ e : Fin 32, val_main_v20 (F := Ideal) x0 x2 (ix4 b t h e : S16x2048x16x32.Idx) = proj (rX x0) (rW x2) ⟨b.val * 2048 + t.val, by omega⟩ ⟨h.val * 64 + e.val, by omega⟩ := fun e => by
    rw [val_main_v20_apply, show idx_main_v20 (ix4 b t h e) = ix4 b t h (⟨e.val, by omega⟩ : Fin 64) from funext fun a => match a with
      | ⟨0, _⟩ => rfl | ⟨1, _⟩ => rfl | ⟨2, _⟩ => rfl | ⟨3, _⟩ => Fin.ext (by show e.val = e.val; omega), pre_q]
  have eB : ∀ e : Fin 32, val_main_v21 (F := Ideal) x0 x2 (ix4 b t h e : S16x2048x16x32.Idx) = proj (rX x0) (rW x2) ⟨b.val * 2048 + t.val, by omega⟩ ⟨h.val * 64 + (e.val + 32), by omega⟩ := fun e => by
    rw [val_main_v21_apply, show idx_main_v21 (ix4 b t h e) = ix4 b t h (⟨e.val + 32, by omega⟩ : Fin 64) from funext fun a => match a with
      | ⟨0, _⟩ => rfl | ⟨1, _⟩ => rfl | ⟨2, _⟩ => rfl | ⟨3, _⟩ => Fin.ext (by show 32 + e.val = e.val + 32; omega), pre_q]
  have eC : ∀ e : Fin 32, val_main_v22 (F := Ideal) x1 (ix4 b t h e : S16x2048x16x32.Idx) = cosA (rP x1 ⟨b.val * 2048 + t.val, by omega⟩) e := fun e => by
    rw [val_main_v22_apply, val_main_v17_apply, val_main_v16_apply, angle_q]; rfl
  have eC' : ∀ e : Fin 32, val_main_v27 (F := Ideal) x1 (ix4 b t h e : S16x2048x16x32.Idx) = cosA (rP x1 ⟨b.val * 2048 + t.val, by omega⟩) e := fun e => by
    rw [val_main_v27_apply, val_main_v17_apply, val_main_v16_apply, angle_q]; rfl
  have eS : ∀ e : Fin 32, val_main_v24 (F := Ideal) x1 (ix4 b t h e : S16x2048x16x32.Idx) = sinA (rP x1 ⟨b.val * 2048 + t.val, by omega⟩) e := fun e => by
    rw [val_main_v24_apply, val_main_v19_apply, val_main_v18_apply, angle_q]; rfl
  have eS' : ∀ e : Fin 32, val_main_v29 (F := Ideal) x1 (ix4 b t h e : S16x2048x16x32.Idx) = sinA (rP x1 ⟨b.val * 2048 + t.val, by omega⟩) e := fun e => by
    rw [val_main_v29_apply, val_main_v19_apply, val_main_v18_apply, angle_q]; rfl
  unfold val_main_v32 rot
  by_cases hd : d.val < 32
  · rw [dif_pos hd, concatenate_pair_apply_left (3 : Fin 4) (val_main_v26 (F := Ideal) x0 x1 x2) (val_main_v31 (F := Ideal) x0 x1 x2) _ (ix4 b t h d) rfl (ix4 b t h ⟨d.val, hd⟩)
      (fun a => match a with | ⟨0, _⟩ => rfl | ⟨1, _⟩ => rfl | ⟨2, _⟩ => rfl | ⟨3, _⟩ => rfl),
      val_main_v26_apply, val_main_v23_apply, val_main_v25_apply, eA, eB, eC, eS]
    rfl
  · rw [dif_neg hd, concatenate_pair_apply_right (3 : Fin 4) (val_main_v26 (F := Ideal) x0 x1 x2) (val_main_v31 (F := Ideal) x0 x1 x2) _ (ix4 b t h d) rfl rfl
      (ix4 b t h ⟨d.val - 32, by omega⟩)
      (fun a ha => match a with | ⟨0, _⟩ => rfl | ⟨1, _⟩ => rfl | ⟨2, _⟩ => rfl | ⟨3, _⟩ => absurd rfl ha)
      (by show d.val - 32 + 32 = d.val; omega),
      val_main_v31_apply, val_main_v28_apply, val_main_v30_apply, eA, eB, eC', eS']
    have e1 : (⟨h.val * 64 + (d.val - 32 + 32), by omega⟩ : Fin 3840) = ⟨h.val * 64 + d.val, by omega⟩ := Fin.ext (by dsimp only; omega)
    dsimp only
    rw [e1]
    rfl

/-- The angles of the keys. -/
theorem angle_k (x1 : (⟨S16x2048, .i32⟩ : BufTy).Contents (Elt Ideal)) (i : S16x2048x32.Idx) :
    val_main_v46 (F := Ideal) x1 i = angle (rP x1 ⟨(i 0).val * 2048 + (i 1).val, by have h0 : (i 0).val < 16 := (i 0).isLt; have h1 : (i 1).val < 2048 := (i 1).isLt; omega⟩) (i 2) := by
  have h0 : (i 0).val < 16 := (i 0).isLt
  have h1 : (i 1).val < 2048 := (i 1).isLt
  rw [val_main_v46_apply, val_main_v44_apply, val_main_v42_apply, val_main_v41_apply, val_main_v45_apply, val_main_v43_apply, freq_k]
  refine congrArg₂ (fun a b : EReal => a * b) (congrArg (fun w => (FloatOps.sitofp .f32 (x1 w) : Ideal .f32)) ?_) rfl
  exact funext fun a => match a with
    | ⟨0, _⟩ => Fin.ext (by show (i 0).val = ((i 0).val * 2048 + (i 1).val) / 2048; omega)
    | ⟨1, _⟩ => Fin.ext (by show (i 1).val = ((i 0).val * 2048 + (i 1).val) % 2048; omega)

/-- The keys before the rotation. -/
theorem pre_k (x0 : (⟨S16x2048x1024, .f32⟩ : BufTy).Contents (Elt Ideal)) (x2 : (⟨S1x1024x3840, .f32⟩ : BufTy).Contents (Elt Ideal)) (b : Fin 16) (t : Fin 2048) (h : Fin 2) (d : Fin 64) :
    val_main_v34 (F := Ideal) x0 x2 (ix4 b t h d) = proj (rX x0) (rW x2) ⟨b.val * 2048 + t.val, by omega⟩ ⟨1024 + h.val * 64 + d.val, by omega⟩ := by
  rw [val_main_v34_apply, val_main_v33_apply, proj_at]
  congr 1 <;> apply Fin.ext
  · show (((b.val * 2048 + t.val) * 2 + h.val) * 64 + d.val) / 262144 * 2048 + (((b.val * 2048 + t.val) * 2 + h.val) * 64 + d.val) / 128 % 2048 = b.val * 2048 + t.val
    omega
  · show 1024 + (((b.val * 2048 + t.val) * 2 + h.val) * 64 + d.val) % 128 = 1024 + h.val * 64 + d.val
    omega

/-- The rotated keys. -/
theorem rot_k (x0 : (⟨S16x2048x1024, .f32⟩ : BufTy).Contents (Elt Ideal)) (x1 : (⟨S16x2048, .i32⟩ : BufTy).Contents (Elt Ideal)) (x2 : (⟨S1x1024x3840, .f32⟩ : BufTy).Contents (Elt Ideal)) (b : Fin 16) (t : Fin 2048) (h : Fin 2) (d : Fin 64) :
    val_main_v63 (F := Ideal) x0 x1 x2 (ix4 b t h d)
      = rot (fun e => proj (rX x0) (rW x2) ⟨b.val * 2048 + t.val, by omega⟩ ⟨1024 + h.val * 64 + e.val, by omega⟩) (rP x1 ⟨b.val * 2048 + t.val, by omega⟩) d := by
  have eA : ∀ e : Fin 32, val_main_v51 (F := Ideal) x0 x2 (ix4 b t h e : S16x2048x2x32.Idx) = proj (rX x0) (rW x2) ⟨b.val * 2048 + t.val, by omega⟩ ⟨1024 + h.val * 64 + e.val, by omega⟩ := fun e => by
    rw [val_main_v51_apply, show idx_main_v51 (ix4 b t h e) = ix4 b t h (⟨e.val, by omega⟩ : Fin 64) from funext fun a => match a with
      | ⟨0, _⟩ => rfl | ⟨1, _⟩ => rfl | ⟨2, _⟩ => rfl | ⟨3, _⟩ => Fin.ext (by show e.val = e.val; omega), pre_k]
  have eB : ∀ e : Fin 32, val_main_v52 (F := Ideal) x0 x2 (ix4 b t h e : S16x2048x2x32.Idx) = proj (rX x0) (rW x2) ⟨b.val * 2048 + t.val, by omega⟩ ⟨1024 + h.val * 64 + (e.val + 32), by omega⟩ := fun e => by
    rw [val_main_v52_apply, show idx_main_v52 (ix4 b t h e) = ix4 b t h (⟨e.val + 32, by omega⟩ : Fin 64) from funext fun a => match a with
      | ⟨0, _⟩ => rfl | ⟨1, _⟩ => rfl | ⟨2, _⟩ => rfl | ⟨3, _⟩ => Fin.ext (by show 32 + e.val = e.val + 32; omega), pre_k]
  have eC : ∀ e : Fin 32, val_main_v53 (F := Ideal) x1 (ix4 b t h e : S16x2048x2x32.Idx) = cosA (rP x1 ⟨b.val * 2048 + t.val, by omega⟩) e := fun e => by
    rw [val_main_v53_apply, val_main_v48_apply, val_main_v47_apply, angle_k]; rfl
  have eC' : ∀ e : Fin 32, val_main_v58 (F := Ideal) x1 (ix4 b t h e : S16x2048x2x32.Idx) = cosA (rP x1 ⟨b.val * 2048 + t.val, by omega⟩) e := fun e => by
    rw [val_main_v58_apply, val_main_v48_apply, val_main_v47_apply, angle_k]; rfl
  have eS : ∀ e : Fin 32, val_main_v55 (F := Ideal) x1 (ix4 b t h e : S16x2048x2x32.Idx) = sinA (rP x1 ⟨b.val * 2048 + t.val, by omega⟩) e := fun e => by
    rw [val_main_v55_apply, val_main_v50_apply, val_main_v49_apply, angle_k]; rfl
  have eS' : ∀ e : Fin 32, val_main_v60 (F := Ideal) x1 (ix4 b t h e : S16x2048x2x32.Idx) = sinA (rP x1 ⟨b.val * 2048 + t.val, by omega⟩) e := fun e => by
    rw [val_main_v60_apply, val_main_v50_apply, val_main_v49_apply, angle_k]; rfl
  unfold val_main_v63 rot
  by_cases hd : d.val < 32
  · rw [dif_pos hd, concatenate_pair_apply_left (3 : Fin 4) (val_main_v57 (F := Ideal) x0 x1 x2) (val_main_v62 (F := Ideal) x0 x1 x2) _ (ix4 b t h d) rfl (ix4 b t h ⟨d.val, hd⟩)
      (fun a => match a with | ⟨0, _⟩ => rfl | ⟨1, _⟩ => rfl | ⟨2, _⟩ => rfl | ⟨3, _⟩ => rfl),
      val_main_v57_apply, val_main_v54_apply, val_main_v56_apply, eA, eB, eC, eS]
    rfl
  · rw [dif_neg hd, concatenate_pair_apply_right (3 : Fin 4) (val_main_v57 (F := Ideal) x0 x1 x2) (val_main_v62 (F := Ideal) x0 x1 x2) _ (ix4 b t h d) rfl rfl
      (ix4 b t h ⟨d.val - 32, by omega⟩)
      (fun a ha => match a with | ⟨0, _⟩ => rfl | ⟨1, _⟩ => rfl | ⟨2, _⟩ => rfl | ⟨3, _⟩ => absurd rfl ha)
      (by show d.val - 32 + 32 = d.val; omega),
      val_main_v62_apply, val_main_v59_apply, val_main_v61_apply, eA, eB, eC', eS']
    have e1 : (⟨1024 + h.val * 64 + (d.val - 32 + 32), by omega⟩ : Fin 3840) = ⟨1024 + h.val * 64 + d.val, by omega⟩ := Fin.ext (by dsimp only; omega)
    dsimp only
    rw [e1]
    rfl

/-- The reference's spelling of the sigmoid. -/
theorem sigm_spelt (z : EReal) :
    (FloatOps.truncf .bf16 bitsLt_bf16_f32 (FloatOps.hostDivf (FloatOps.ofBits .f32 0x3F800000#32 : Ideal .f32)
      (FloatOps.addf (FloatOps.ofBits .f32 0x3F800000#32 : Ideal .f32) (FloatOps.hostUnary .exp (FloatOps.hostNegf (z : Ideal .f32)))) : Ideal .f32) : Ideal .bf16)
      = sigm z := by
  show Ideal.div (Ideal.ofBits .f32 0x3F800000#32) (Ideal.ofBits .f32 0x3F800000#32 + Ideal.exp (-z)) = Ideal.div 1 (1 + Ideal.exp (-z))
  rw [show Ideal.ofBits FTy.f32 0x3F800000#32 = 1 by
    simp [Ideal.ofBits, Ideal.ieee]
    rw [← EReal.coe_mul]
    norm_num]

theorem gate_a_at (x0 : (⟨S16x2048x1024, .f32⟩ : BufTy).Contents (Elt Ideal)) (x2 : (⟨S1x1024x3840, .f32⟩ : BufTy).Contents (Elt Ideal)) (ρ : Fin 32768) (x : Fin 1024) :
    val_main_v94 (F := Ideal) x0 x2 (ix2 ρ x) = outA (rX x0) (rW x2) ρ x := by
  rw [val_main_v94_apply, val_main_v93_apply, val_main_v73_apply, val_main_v72_apply, val_main_cst_4_apply, val_main_v71_apply, val_main_v70_apply,
    val_main_cst_3_apply, val_main_v69_apply, val_main_v68_apply, val_main_v67_apply, proj_at]
  refine (sigm_spelt _).trans (congrArg sigm ?_)
  refine congrArg₂ (proj (rX x0) (rW x2)) (Fin.ext ?_) (Fin.ext ?_)
  · show (ρ.val * 1024 + x.val) / 2097152 * 2048 + (ρ.val * 1024 + x.val) / 1024 % 2048 = ρ.val
    omega
  · show 1792 + (ρ.val * 1024 + x.val) % 1024 = 1792 + x.val
    omega

theorem gate_s_at (x0 : (⟨S16x2048x1024, .f32⟩ : BufTy).Contents (Elt Ideal)) (x2 : (⟨S1x1024x3840, .f32⟩ : BufTy).Contents (Elt Ideal)) (ρ : Fin 32768) (x : Fin 1024) :
    val_main_v96 (F := Ideal) x0 x2 (ix2 ρ x) = outS (rX x0) (rW x2) ρ x := by
  rw [val_main_v96_apply, val_main_v95_apply, val_main_v80_apply, val_main_v79_apply, val_main_cst_6_apply, val_main_v78_apply, val_main_v77_apply,
    val_main_cst_5_apply, val_main_v76_apply, val_main_v75_apply, val_main_v74_apply, proj_at]
  refine (sigm_spelt _).trans (congrArg sigm ?_)
  refine congrArg₂ (proj (rX x0) (rW x2)) (Fin.ext ?_) (Fin.ext ?_)
  · show (ρ.val * 1024 + x.val) / 2097152 * 2048 + (ρ.val * 1024 + x.val) / 1024 % 2048 = ρ.val
    omega
  · show 2816 + (ρ.val * 1024 + x.val) % 1024 = 2816 + x.val
    omega

theorem v_at (x0 : (⟨S16x2048x1024, .f32⟩ : BufTy).Contents (Elt Ideal)) (x2 : (⟨S1x1024x3840, .f32⟩ : BufTy).Contents (Elt Ideal)) (ρ : Fin 32768) (l : Fin 128) :
    val_main_v92 (F := Ideal) x0 x2 (ix2 ρ l) = outV (rX x0) (rW x2) ρ l := by
  rw [val_main_v92_apply, val_main_v91_apply, val_main_v65_apply, val_main_v64_apply, proj_at]
  refine congrArg₂ (proj (rX x0) (rW x2)) (Fin.ext ?_) (Fin.ext ?_)
  · show (((((ρ.val * 128 + l.val) / 262144) * 2048 + (ρ.val * 128 + l.val) / 128 % 2048) * 2 + (ρ.val * 128 + l.val) / 64 % 2) * 64 + (ρ.val * 128 + l.val) % 64) / 262144 * 2048
      + (((((ρ.val * 128 + l.val) / 262144) * 2048 + (ρ.val * 128 + l.val) / 128 % 2048) * 2 + (ρ.val * 128 + l.val) / 64 % 2) * 64 + (ρ.val * 128 + l.val) % 64) / 128 % 2048 = ρ.val
    omega
  · show 1152 + (((((ρ.val * 128 + l.val) / 262144) * 2048 + (ρ.val * 128 + l.val) / 128 % 2048) * 2 + (ρ.val * 128 + l.val) / 64 % 2) * 64 + (ρ.val * 128 + l.val) % 64) % 128 = 1152 + l.val
    omega

theorem u_at (x0 : (⟨S16x2048x1024, .f32⟩ : BufTy).Contents (Elt Ideal)) (x2 : (⟨S1x1024x3840, .f32⟩ : BufTy).Contents (Elt Ideal)) (b : Fin 256) (x : Fin 512) (t : Fin 128) :
    val_main_v86 (F := Ideal) x0 x2 (ix3 b x t) = outU (rX x0) (rW x2) b x t := by
  rw [val_main_v86_apply, val_main_v85_apply, val_main_v66_apply, proj_at]
  refine congrArg₂ (proj (rX x0) (rW x2)) (Fin.ext ?_) (Fin.ext ?_)
  · show ((b.val * 128 + t.val) * 512 + x.val) / 1048576 * 2048 + ((b.val * 128 + t.val) * 512 + x.val) / 512 % 2048 = b.val * 128 + t.val
    omega
  · show 1280 + ((b.val * 128 + t.val) * 512 + x.val) % 512 = 1280 + x.val
    omega

theorem k_at (x0 : (⟨S16x2048x1024, .f32⟩ : BufTy).Contents (Elt Ideal)) (x1 : (⟨S16x2048, .i32⟩ : BufTy).Contents (Elt Ideal)) (x2 : (⟨S1x1024x3840, .f32⟩ : BufTy).Contents (Elt Ideal)) (ρ : Fin 32768) (l : Fin 128) :
    val_main_v90 (F := Ideal) x0 x1 x2 (ix2 ρ l) = outK (rX x0) (rP x1) (rW x2) ρ l := by
  have e : idx_main_v89 (ix2 ρ l) = ix4 (⟨ρ.val / 2048, by omega⟩ : Fin 16) (⟨ρ.val % 2048, by omega⟩ : Fin 2048) (⟨l.val / 64, by omega⟩ : Fin 2) (⟨l.val % 64, by omega⟩ : Fin 64) :=
    funext fun a => match a with
      | ⟨0, _⟩ => Fin.ext (by show (ρ.val * 128 + l.val) / 262144 = ρ.val / 2048; omega)
      | ⟨1, _⟩ => Fin.ext (by show (ρ.val * 128 + l.val) / 128 % 2048 = ρ.val % 2048; omega)
      | ⟨2, _⟩ => Fin.ext (by show (ρ.val * 128 + l.val) / 64 % 2 = l.val / 64; omega)
      | ⟨3, _⟩ => Fin.ext (by show (ρ.val * 128 + l.val) % 64 = l.val % 64; omega)
  rw [val_main_v90_apply, val_main_v89_apply, e, rot_k]
  unfold outK
  have er : (⟨ρ.val / 2048 * 2048 + ρ.val % 2048, by omega⟩ : Fin 32768) = ρ := Fin.ext (by dsimp only; omega)
  dsimp only
  rw [er]
  rfl

theorem q_at (x0 : (⟨S16x2048x1024, .f32⟩ : BufTy).Contents (Elt Ideal)) (x1 : (⟨S16x2048, .i32⟩ : BufTy).Contents (Elt Ideal)) (x2 : (⟨S1x1024x3840, .f32⟩ : BufTy).Contents (Elt Ideal)) (ρ : Fin 262144) (l : Fin 128) :
    val_main_v88 (F := Ideal) x0 x1 x2 (ix2 ρ l) = outQ (rX x0) (rP x1) (rW x2) ρ l := by
  have e : idx_main_v87 (ix2 ρ l) = ix5 (⟨ρ.val / 1024, by omega⟩ : Fin 256) (⟨ρ.val / 128 % 8, by omega⟩ : Fin 8) (⟨ρ.val % 128, by omega⟩ : Fin 128) (⟨l.val / 64, by omega⟩ : Fin 2) (⟨l.val % 64, by omega⟩ : Fin 64) :=
    funext fun a => match a with
      | ⟨0, _⟩ => Fin.ext (by show (ρ.val * 128 + l.val) / 131072 = ρ.val / 1024; omega)
      | ⟨1, _⟩ => Fin.ext (by show (ρ.val * 128 + l.val) / 16384 % 8 = ρ.val / 128 % 8; omega)
      | ⟨2, _⟩ => Fin.ext (by show (ρ.val * 128 + l.val) / 128 % 128 = ρ.val % 128; omega)
      | ⟨3, _⟩ => Fin.ext (by show (ρ.val * 128 + l.val) / 64 % 2 = l.val / 64; omega)
      | ⟨4, _⟩ => Fin.ext (by show (ρ.val * 128 + l.val) % 64 = l.val % 64; omega)
  have f : ∀ (n : Fin 256) (r : Fin 8) (p : Fin 128) (g : Fin 2) (d : Fin 64), idx_main_v83 (idx_main_v84 (ix5 n r p g d))
      = ix4 (⟨(n.val * 128 + p.val) / 2048, by omega⟩ : Fin 16) (⟨(n.val * 128 + p.val) % 2048, by omega⟩ : Fin 2048) (⟨g.val * 8 + r.val, by omega⟩ : Fin 16) d := fun n r p g d =>
    funext fun a => match a with
      | ⟨0, _⟩ => Fin.ext (by show ((((n.val * 128 + p.val) * 2 + g.val) * 8 + r.val) * 64 + d.val) / 2097152 = (n.val * 128 + p.val) / 2048; omega)
      | ⟨1, _⟩ => Fin.ext (by show ((((n.val * 128 + p.val) * 2 + g.val) * 8 + r.val) * 64 + d.val) / 1024 % 2048 = (n.val * 128 + p.val) % 2048; omega)
      | ⟨2, _⟩ => Fin.ext (by show ((((n.val * 128 + p.val) * 2 + g.val) * 8 + r.val) * 64 + d.val) / 64 % 16 = g.val * 8 + r.val; omega)
      | ⟨3, _⟩ => Fin.ext (by show ((((n.val * 128 + p.val) * 2 + g.val) * 8 + r.val) * 64 + d.val) % 64 = d.val; omega)
  rw [val_main_v88_apply, val_main_v87_apply, val_main_v84_apply, val_main_v83_apply, e, f, val_main_v82_apply, rot_q, val_main_v81_apply, val_main_cst_7_apply]
  unfold outQ
  have er : ∀ w : ℕ, (hw : w < 32768) → (⟨w / 2048 * 2048 + w % 2048, by omega⟩ : Fin 32768) = ⟨w, hw⟩ := fun w hw => Fin.ext (by dsimp only; omega)
  dsimp only
  rw [er _ (by omega)]
  rfl

end Cert.Reference3Ideal.InprojRef
-- ==== Proof.Inproj.Claims.lean ====
/-
  The claims of the input projection's call.
-/
module

public import proofs.«01_k».proof.Defs
public import proofs.«01_k».proof.Proof.Inproj.Array
public import proofs.«01_k».proof.Proof.Inproj.Ref
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Adequacy
public import Idealize.ShloMosaic.Init

@[expose] public section

noncomputable section

namespace Cert.InprojClaims

open Idealize.ShloMosaic Idealize.SL.Sem Cert.Inproj

/-- The kernel runs and keeps its arguments. -/
theorem frame_p : Cert.quiescent_Kernel3 (hKernel3 := Cert.Kernel3.Gen.facts) := fun m ρ _ => Cert.Kernel3.Gen.frame m ρ

/-- Its ideal reading runs and keeps its arguments. -/
theorem frame_pi : Cert.quiescent_Kernel3Ideal (hKernel3Ideal := Cert.Kernel3Ideal.Gen.facts) := fun m ρ _ => Cert.Kernel3Ideal.Gen.frame m ρ

/-- The reference runs and keeps its arguments. -/
theorem frame_ri : Cert.quiescent_Reference3Ideal (hReference3Ideal := Cert.Reference3Ideal.Gen.facts) := fun m ρ _ =>
  (θ_run Cert.Reference3Ideal.defs _ _).mono (fun r h => ⟨fun c => (h c).2.2.2.2.2.2, Idealize.ShloMosaic.sem_eq_zero_of_no_sems (by decide) r.2⟩)
    (Cert.Reference3Ideal.Value.run m ρ)

section
variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)

/-- The six arrays. -/
def r0 : Cert.Kernel3Ideal.S262144x128.Idx → EReal := fun y => outQ (Cert.Kernel3Ideal.InprojValue.fX m c) (Cert.Kernel3Ideal.InprojValue.fP m c) (Cert.Kernel3Ideal.InprojValue.fW m c) (y 0) (y 1)
def r1 : Cert.Kernel3Ideal.S32768x128.Idx → EReal := fun y => outK (Cert.Kernel3Ideal.InprojValue.fX m c) (Cert.Kernel3Ideal.InprojValue.fP m c) (Cert.Kernel3Ideal.InprojValue.fW m c) (y 0) (y 1)
def r2 : Cert.Kernel3Ideal.S32768x128.Idx → EReal := fun y => outV (Cert.Kernel3Ideal.InprojValue.fX m c) (Cert.Kernel3Ideal.InprojValue.fW m c) (y 0) (y 1)
def r3 : Cert.Kernel3Ideal.S256x512x128.Idx → EReal := fun y => outU (Cert.Kernel3Ideal.InprojValue.fX m c) (Cert.Kernel3Ideal.InprojValue.fW m c) (y 0) (y 1) (y 2)
def r4 : Cert.Kernel3Ideal.S32768x1024.Idx → EReal := fun y => outA (Cert.Kernel3Ideal.InprojValue.fX m c) (Cert.Kernel3Ideal.InprojValue.fW m c) (y 0) (y 1)
def r5 : Cert.Kernel3Ideal.S32768x1024.Idx → EReal := fun y => outS (Cert.Kernel3Ideal.InprojValue.fX m c) (Cert.Kernel3Ideal.InprojValue.fW m c) (y 0) (y 1)

theorem hX (h : (m' ((c.tc : Thread Cert.Reference3Ideal.nD Cert.Reference3Ideal.τ).loc Cert.Reference3Ideal.main_arg0)) = (m ((c.tc : Thread Cert.Kernel3Ideal.nD Cert.Kernel3Ideal.τ).loc Cert.Kernel3Ideal.main_arg0))) : Cert.Reference3Ideal.InprojRef.rX (m' ((c.tc : Thread Cert.Reference3Ideal.nD Cert.Reference3Ideal.τ).loc Cert.Reference3Ideal.main_arg0)) = Cert.Kernel3Ideal.InprojValue.fX m c :=
  (congrArg Cert.Reference3Ideal.InprojRef.rX h).trans (funext fun ρ => funext fun k => congrArg (Cert.Kernel3Ideal.InprojValue.aX m c) (ix3_eq_valueIdx _ _ _).symm)
theorem hP (h : (m' ((c.tc : Thread Cert.Reference3Ideal.nD Cert.Reference3Ideal.τ).loc Cert.Reference3Ideal.main_arg1)) = (m ((c.tc : Thread Cert.Kernel3Ideal.nD Cert.Kernel3Ideal.τ).loc Cert.Kernel3Ideal.main_arg1))) : Cert.Reference3Ideal.InprojRef.rP (m' ((c.tc : Thread Cert.Reference3Ideal.nD Cert.Reference3Ideal.τ).loc Cert.Reference3Ideal.main_arg1)) = Cert.Kernel3Ideal.InprojValue.fP m c :=
  (congrArg Cert.Reference3Ideal.InprojRef.rP h).trans (funext fun ρ => congrArg (Cert.Kernel3Ideal.InprojValue.aP m c) (ix2_eq_valueIdx _ _).symm)
theorem hW (h : (m' ((c.tc : Thread Cert.Reference3Ideal.nD Cert.Reference3Ideal.τ).loc Cert.Reference3Ideal.main_arg2)) = (m ((c.tc : Thread Cert.Kernel3Ideal.nD Cert.Kernel3Ideal.τ).loc Cert.Kernel3Ideal.main_arg2))) : Cert.Reference3Ideal.InprojRef.rW (m' ((c.tc : Thread Cert.Reference3Ideal.nD Cert.Reference3Ideal.τ).loc Cert.Reference3Ideal.main_arg2)) = Cert.Kernel3Ideal.InprojValue.fW m c :=
  (congrArg Cert.Reference3Ideal.InprojRef.rW h).trans (funext fun k => funext fun j => congrArg (Cert.Kernel3Ideal.InprojValue.aW m c) (ix3_eq_valueIdx _ _ _).symm)

theorem same0 (h0 : (m' ((c.tc : Thread Cert.Reference3Ideal.nD Cert.Reference3Ideal.τ).loc Cert.Reference3Ideal.main_arg0)) = (m ((c.tc : Thread Cert.Kernel3Ideal.nD Cert.Kernel3Ideal.τ).loc Cert.Kernel3Ideal.main_arg0))) (h1 : (m' ((c.tc : Thread Cert.Reference3Ideal.nD Cert.Reference3Ideal.τ).loc Cert.Reference3Ideal.main_arg1)) = (m ((c.tc : Thread Cert.Kernel3Ideal.nD Cert.Kernel3Ideal.τ).loc Cert.Kernel3Ideal.main_arg1))) (h2 : (m' ((c.tc : Thread Cert.Reference3Ideal.nD Cert.Reference3Ideal.τ).loc Cert.Reference3Ideal.main_arg2)) = (m ((c.tc : Thread Cert.Kernel3Ideal.nD Cert.Kernel3Ideal.τ).loc Cert.Kernel3Ideal.main_arg2))) :
    Cert.Reference3Ideal.Read.val_main_v88 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = r0 m c := by
  funext y
  rw [ValueIdx.eq_ix2 y]
  refine (Cert.Reference3Ideal.InprojRef.q_at _ _ _ _ _).trans ?_
  rw [hX m m' c h0, hP m m' c h1, hW m m' c h2]
  rfl

theorem same1 (h0 : (m' ((c.tc : Thread Cert.Reference3Ideal.nD Cert.Reference3Ideal.τ).loc Cert.Reference3Ideal.main_arg0)) = (m ((c.tc : Thread Cert.Kernel3Ideal.nD Cert.Kernel3Ideal.τ).loc Cert.Kernel3Ideal.main_arg0))) (h1 : (m' ((c.tc : Thread Cert.Reference3Ideal.nD Cert.Reference3Ideal.τ).loc Cert.Reference3Ideal.main_arg1)) = (m ((c.tc : Thread Cert.Kernel3Ideal.nD Cert.Kernel3Ideal.τ).loc Cert.Kernel3Ideal.main_arg1))) (h2 : (m' ((c.tc : Thread Cert.Reference3Ideal.nD Cert.Reference3Ideal.τ).loc Cert.Reference3Ideal.main_arg2)) = (m ((c.tc : Thread Cert.Kernel3Ideal.nD Cert.Kernel3Ideal.τ).loc Cert.Kernel3Ideal.main_arg2))) :
    Cert.Reference3Ideal.Read.val_main_v90 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = r1 m c := by
  funext y
  rw [ValueIdx.eq_ix2 y]
  refine (Cert.Reference3Ideal.InprojRef.k_at _ _ _ _ _).trans ?_
  rw [hX m m' c h0, hP m m' c h1, hW m m' c h2]
  rfl

theorem same2 (h0 : (m' ((c.tc : Thread Cert.Reference3Ideal.nD Cert.Reference3Ideal.τ).loc Cert.Reference3Ideal.main_arg0)) = (m ((c.tc : Thread Cert.Kernel3Ideal.nD Cert.Kernel3Ideal.τ).loc Cert.Kernel3Ideal.main_arg0))) (h1 : (m' ((c.tc : Thread Cert.Reference3Ideal.nD Cert.Reference3Ideal.τ).loc Cert.Reference3Ideal.main_arg1)) = (m ((c.tc : Thread Cert.Kernel3Ideal.nD Cert.Kernel3Ideal.τ).loc Cert.Kernel3Ideal.main_arg1))) (h2 : (m' ((c.tc : Thread Cert.Reference3Ideal.nD Cert.Reference3Ideal.τ).loc Cert.Reference3Ideal.main_arg2)) = (m ((c.tc : Thread Cert.Kernel3Ideal.nD Cert.Kernel3Ideal.τ).loc Cert.Kernel3Ideal.main_arg2))) :
    Cert.Reference3Ideal.Read.val_main_v92 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2)) = r2 m c := by
  funext y
  rw [ValueIdx.eq_ix2 y]
  refine (Cert.Reference3Ideal.InprojRef.v_at _ _ _ _).trans ?_
  rw [hX m m' c h0, hW m m' c h2]
  rfl

theorem same3 (h0 : (m' ((c.tc : Thread Cert.Reference3Ideal.nD Cert.Reference3Ideal.τ).loc Cert.Reference3Ideal.main_arg0)) = (m ((c.tc : Thread Cert.Kernel3Ideal.nD Cert.Kernel3Ideal.τ).loc Cert.Kernel3Ideal.main_arg0))) (h1 : (m' ((c.tc : Thread Cert.Reference3Ideal.nD Cert.Reference3Ideal.τ).loc Cert.Reference3Ideal.main_arg1)) = (m ((c.tc : Thread Cert.Kernel3Ideal.nD Cert.Kernel3Ideal.τ).loc Cert.Kernel3Ideal.main_arg1))) (h2 : (m' ((c.tc : Thread Cert.Reference3Ideal.nD Cert.Reference3Ideal.τ).loc Cert.Reference3Ideal.main_arg2)) = (m ((c.tc : Thread Cert.Kernel3Ideal.nD Cert.Kernel3Ideal.τ).loc Cert.Kernel3Ideal.main_arg2))) :
    Cert.Reference3Ideal.Read.val_main_v86 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2)) = r3 m c := by
  funext y
  rw [ValueIdx.eq_ix3 y]
  refine (Cert.Reference3Ideal.InprojRef.u_at _ _ _ _ _).trans ?_
  rw [hX m m' c h0, hW m m' c h2]
  rfl

theorem same4 (h0 : (m' ((c.tc : Thread Cert.Reference3Ideal.nD Cert.Reference3Ideal.τ).loc Cert.Reference3Ideal.main_arg0)) = (m ((c.tc : Thread Cert.Kernel3Ideal.nD Cert.Kernel3Ideal.τ).loc Cert.Kernel3Ideal.main_arg0))) (h1 : (m' ((c.tc : Thread Cert.Reference3Ideal.nD Cert.Reference3Ideal.τ).loc Cert.Reference3Ideal.main_arg1)) = (m ((c.tc : Thread Cert.Kernel3Ideal.nD Cert.Kernel3Ideal.τ).loc Cert.Kernel3Ideal.main_arg1))) (h2 : (m' ((c.tc : Thread Cert.Reference3Ideal.nD Cert.Reference3Ideal.τ).loc Cert.Reference3Ideal.main_arg2)) = (m ((c.tc : Thread Cert.Kernel3Ideal.nD Cert.Kernel3Ideal.τ).loc Cert.Kernel3Ideal.main_arg2))) :
    Cert.Reference3Ideal.Read.val_main_v94 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2)) = r4 m c := by
  funext y
  rw [ValueIdx.eq_ix2 y]
  refine (Cert.Reference3Ideal.InprojRef.gate_a_at _ _ _ _).trans ?_
  rw [hX m m' c h0, hW m m' c h2]
  rfl

theorem same5 (h0 : (m' ((c.tc : Thread Cert.Reference3Ideal.nD Cert.Reference3Ideal.τ).loc Cert.Reference3Ideal.main_arg0)) = (m ((c.tc : Thread Cert.Kernel3Ideal.nD Cert.Kernel3Ideal.τ).loc Cert.Kernel3Ideal.main_arg0))) (h1 : (m' ((c.tc : Thread Cert.Reference3Ideal.nD Cert.Reference3Ideal.τ).loc Cert.Reference3Ideal.main_arg1)) = (m ((c.tc : Thread Cert.Kernel3Ideal.nD Cert.Kernel3Ideal.τ).loc Cert.Kernel3Ideal.main_arg1))) (h2 : (m' ((c.tc : Thread Cert.Reference3Ideal.nD Cert.Reference3Ideal.τ).loc Cert.Reference3Ideal.main_arg2)) = (m ((c.tc : Thread Cert.Kernel3Ideal.nD Cert.Kernel3Ideal.τ).loc Cert.Kernel3Ideal.main_arg2))) :
    Cert.Reference3Ideal.Read.val_main_v96 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2)) = r5 m c := by
  funext y
  rw [ValueIdx.eq_ix2 y]
  refine (Cert.Reference3Ideal.InprojRef.gate_s_at _ _ _ _).trans ?_
  rw [hX m m' c h0, hW m m' c h2]
  rfl

end

/-- Over the extended reals the kernel and the reference end with the same six arrays. -/
theorem alg : Cert.algebraic_Kernel3Ideal_Reference3Ideal (hKernel3Ideal := Cert.Kernel3Ideal.Gen.facts) (hReference3Ideal := Cert.Reference3Ideal.Gen.facts) := fun m ρ m' ρ' hpre hag =>
  ⟨fun c => r0 m c, fun c => r1 m c, fun c => r2 m c, fun c => r3 m c, fun c => r4 m c, fun c => r5 m c,
    (θ_run _ _ _).mono (fun _ h c => ⟨(h c).1.trans (Cert.Kernel3Ideal.InprojValue.array9 m c), (h c).2.1.trans (Cert.Kernel3Ideal.InprojValue.array10 m c), (h c).2.2.1.trans (Cert.Kernel3Ideal.InprojValue.array11 m c),
      (h c).2.2.2.1.trans (Cert.Kernel3Ideal.InprojValue.array12 m c), (h c).2.2.2.2.1.trans (Cert.Kernel3Ideal.InprojValue.array13 m c), (h c).2.2.2.2.2.1.trans (Cert.Kernel3Ideal.InprojValue.array14 m c), (h c).2.2.2.2.2.2⟩)
      (Cert.Kernel3Ideal.Value.run_blocks m ρ),
    (θ_run _ _ _).mono (fun _ h c => ⟨(h c).1.trans ((Cert.Reference3Ideal.Read.val_main_v88_eq m' c).trans (same0 m m' c (hag c).1 (hag c).2.1 (hag c).2.2)),
      (h c).2.1.trans ((Cert.Reference3Ideal.Read.val_main_v90_eq m' c).trans (same1 m m' c (hag c).1 (hag c).2.1 (hag c).2.2)),
      (h c).2.2.1.trans ((Cert.Reference3Ideal.Read.val_main_v92_eq _ _).trans (same2 m m' c (hag c).1 (hag c).2.1 (hag c).2.2)),
      (h c).2.2.2.1.trans ((Cert.Reference3Ideal.Read.val_main_v86_eq _ _).trans (same3 m m' c (hag c).1 (hag c).2.1 (hag c).2.2)),
      (h c).2.2.2.2.1.trans ((Cert.Reference3Ideal.Read.val_main_v94_eq _ _).trans (same4 m m' c (hag c).1 (hag c).2.1 (hag c).2.2)),
      (h c).2.2.2.2.2.1.trans ((Cert.Reference3Ideal.Read.val_main_v96_eq _ _).trans (same5 m m' c (hag c).1 (hag c).2.1 (hag c).2.2)),
      (h c).2.2.2.2.2.2⟩) (Cert.Reference3Ideal.Value.run m' ρ')⟩

end Cert.InprojClaims
-- ==== Proof.Mix.Spec.lean ====
/-
  The mixer's end as mathematics: the gated unit on the scan's output, the sum with the gated attention, the output
  projection, and the norm of the sum with the tokens.
-/
module

public import Idealize.ShloMosaic.PureOps.Ideal
public import Idealize.ShloMosaic.PureOps.Ideal.Laws
public import Idealize.ShloMosaic.Lib.Pipeline.ValueKit.Geometry

@[expose] public section

noncomputable section

open Idealize.ShloMosaic

namespace Cert.Mix

/-- The number a word stands for. -/
def wd (b : BitVec 32) : EReal := (FloatOps.ofBits .f32 b : Ideal .f32)

/-- The gaussian error unit in its hyperbolic form. -/
def gelu (x : EReal) : EReal := x * (wd 0x3F000000#32 * (1 + Ideal.tanh (wd 0x3F4C422A#32 * (x + wd 0x3D372713#32 * (x * (x * x))))))

/-- The mean of a row. -/
def mean (y : Fin 1024 → EReal) : EReal := Ideal.div (∑ k, y k) (wd 0x44800000#32)

/-- The distance from the mean. -/
def dev (y : Fin 1024 → EReal) (x : Fin 1024) : EReal := y x - mean y

/-- The mean squared distance. -/
def var (y : Fin 1024 → EReal) : EReal := Ideal.div (∑ k, dev y k * dev y k) (wd 0x44800000#32)

/-- The norm of a row, with gain and shift. -/
def lnorm (y g b : Fin 1024 → EReal) (x : Fin 1024) : EReal := dev y x * Ideal.rsqrt (var y + wd 0x3727C5AC#32) * g x + b x

/-- A row before the norm. -/
def pre (Z : Fin 512 → EReal) (Wa Wb : Fin 512 → Fin 1024 → EReal) (A G X : Fin 1024 → EReal) (Wo : Fin 1024 → Fin 1024 → EReal) (x : Fin 1024) : EReal :=
  wd 0x3F9837F0#32 * X x + ∑ k, (A k + G k * ((∑ c, Z c * Wa c k) * Ideal.logistic (∑ c, Z c * Wb c k))) * Wo k x

/-- The call's result. -/
def out (Y : Fin 512 → Fin 32768 → EReal) (A G X : Fin 32768 → Fin 1024 → EReal) (Wa Wb : Fin 512 → Fin 1024 → EReal)
    (Wo : Fin 1024 → Fin 1024 → EReal) (g b : Fin 1024 → EReal) (ρ : Fin 32768) (x : Fin 1024) : EReal :=
  lnorm (pre (fun c => gelu (Y c ρ)) Wa Wb (A ρ) (G ρ) (X ρ) Wo) g b x

end Cert.Mix
-- ==== Proof.Mix.Entry.lean ====
/-
  What the arrays hold that the mixer kernel's grid reads, and the blocks of them a grid point sees.
-/
module

public import proofs.«01_k».proof.Proof.Gen.Kernel4Ideal.Value
public import proofs.«01_k».proof.Proof.Mix.Spec
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.MixValue

open Cert.Kernel4Ideal Cert.Kernel4Ideal.Gen Cert.Mix

variable (m : (ℓ : Loc nD τ sig) → Buf (Elt Ideal) ℓ)

/-- The arguments as launched. -/
def aY (c : Dev nD) : S512x256x128.Idx → EReal := m ((c : Thread nD τ).loc main_arg0)
def aA (c : Dev nD) : S32768x1024.Idx → EReal := m ((c : Thread nD τ).loc main_arg1)
def aG (c : Dev nD) : S32768x1024.Idx → EReal := m ((c : Thread nD τ).loc main_arg2)
def aX (c : Dev nD) : S16x2048x1024.Idx → EReal := m ((c : Thread nD τ).loc main_arg3)
def aWa (c : Dev nD) : S1x512x1024.Idx → EReal := m ((c : Thread nD τ).loc main_arg4)
def aWb (c : Dev nD) : S1x512x1024.Idx → EReal := m ((c : Thread nD τ).loc main_arg5)
def aWo (c : Dev nD) : S1x1024x1024.Idx → EReal := m ((c : Thread nD τ).loc main_arg6)
def ag (c : Dev nD) : S1x1024.Idx → EReal := m ((c : Thread nD τ).loc main_arg7)
def ab (c : Dev nD) : S1x1024.Idx → EReal := m ((c : Thread nD τ).loc main_arg8)

/-- The same by row and column. -/
def fY (c : Dev nD) (h : Fin 512) (ρ : Fin 32768) : EReal := aY m c (ix3 h ⟨ρ.val / 128, by omega⟩ ⟨ρ.val % 128, by omega⟩)
def fA (c : Dev nD) (ρ : Fin 32768) (k : Fin 1024) : EReal := aA m c (ix2 ρ k)
def fG (c : Dev nD) (ρ : Fin 32768) (k : Fin 1024) : EReal := aG m c (ix2 ρ k)
def fX (c : Dev nD) (ρ : Fin 32768) (k : Fin 1024) : EReal := aX m c (ix3 ⟨ρ.val / 2048, by omega⟩ ⟨ρ.val % 2048, by omega⟩ k)
def fWa (c : Dev nD) (h : Fin 512) (k : Fin 1024) : EReal := aWa m c (ix3 0 h k)
def fWb (c : Dev nD) (h : Fin 512) (k : Fin 1024) : EReal := aWb m c (ix3 0 h k)
def fWo (c : Dev nD) (k x : Fin 1024) : EReal := aWo m c (ix3 0 k x)
def fg (c : Dev nD) (x : Fin 1024) : EReal := ag m c (ix2 0 x)
def fb (c : Dev nD) (x : Fin 1024) : EReal := ab m c (ix2 0 x)

theorem tlt (t : Fin cfg0.N) : t.val < 32 := (by decide +kernel : ∀ t : Fin grid0.N, t.val < 32) t

theorem V_x (c : Dev nD) (ρ : Fin 32768) (k : Fin 1024) : (V m c main_v5 : S32768x1024.Idx → EReal) (ix2 ρ k) = fX m c ρ k := by
  dsimp only [V, hostOps0]
  after_results
  pointwise
  rfl

theorem V_wa (c : Dev nD) (h : Fin 512) (k : Fin 1024) : (V m c main_v6 : S512x1024.Idx → EReal) (ix2 h k) = fWa m c h k := by
  dsimp only [V, hostOps0]
  after_results
  pointwise
  rfl

theorem V_wb (c : Dev nD) (h : Fin 512) (k : Fin 1024) : (V m c main_v7 : S512x1024.Idx → EReal) (ix2 h k) = fWb m c h k := by
  dsimp only [V, hostOps0]
  after_results
  pointwise
  rfl

theorem V_wo (c : Dev nD) (k x : Fin 1024) : (V m c main_v8 : S1024x1024.Idx → EReal) (ix2 k x) = fWo m c k x := by
  dsimp only [V, hostOps0]
  after_results
  pointwise
  rfl

theorem V_g (c : Dev nD) (x : Fin 1024) : (V m c main_v9 : S1x1024.Idx → EReal) (ix2 0 x) = fg m c x := by
  dsimp only [V, hostOps0]
  after_results
  pointwise
  rfl

theorem V_b (c : Dev nD) (x : Fin 1024) : (V m c main_v10 : S1x1024.Idx → EReal) (ix2 0 x) = fb m c x := by
  dsimp only [V, hostOps0]
  after_results
  pointwise
  rfl

theorem e0 : ∀ t : Fin cfg0.N, win0_0.index t = ![0, t.val, 0] := (by decide +kernel : ∀ t : Fin grid0.N, win0_0.index t = ![0, t.val, 0])
theorem e1 : ∀ t : Fin cfg0.N, win0_1.index t = ![t.val, 0] := (by decide +kernel : ∀ t : Fin grid0.N, win0_1.index t = ![t.val, 0])
theorem e2 : ∀ t : Fin cfg0.N, win0_2.index t = ![t.val, 0] := (by decide +kernel : ∀ t : Fin grid0.N, win0_2.index t = ![t.val, 0])
theorem e3 : ∀ t : Fin cfg0.N, win0_3.index t = ![t.val, 0] := (by decide +kernel : ∀ t : Fin grid0.N, win0_3.index t = ![t.val, 0])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])
theorem e7 : ∀ t : Fin cfg0.N, win0_7.index t = ![0, 0] := (by decide +kernel : ∀ t : Fin grid0.N, win0_7.index t = ![0, 0])
theorem e8 : ∀ t : Fin cfg0.N, win0_8.index t = ![0, 0] := (by decide +kernel : ∀ t : Fin grid0.N, win0_8.index t = ![0, 0])
theorem e9 : ∀ t : Fin cfg0.N, win0_9.index t = ![t.val, 0] := (by decide +kernel : ∀ t : Fin grid0.N, win0_9.index t = ![t.val, 0])

/-- The row of the whole array that row `p` of grid point `t`'s block is. -/
def row (t : Fin cfg0.N) (p : Fin 1024) : Fin 32768 := ⟨t.val * 1024 + p.val, by have := tlt t; omega⟩

theorem blk0 (c : Dev nD) (t : Fin cfg0.N) (p : Fin 1024) (h : Fin 512) :
    (iblk m c 0 t : Vec Ideal S512x8x128 .f32) (ix3 h ⟨p.val / 128, by omega⟩ ⟨p.val % 128, by omega⟩) = fY m c h (row t p) := by
  have ht := tlt t
  have hx : (win0_0.blk t).view.emb (ix3 h ⟨p.val / 128, by omega⟩ ⟨p.val % 128, by omega⟩) = (ix3 h ⟨t.val * 8 + p.val / 128, by omega⟩ ⟨p.val % 128, by omega⟩ : S512x256x128.Idx) := by
    blk_ext [e0]
  blk_simp [iblk]
  rw [hx, V_main_arg0]
  unfold fY row
  refine congrArg (aY m c) ?_
  congr 1 <;> apply Fin.ext <;> dsimp only <;> omega

theorem blk1 (c : Dev nD) (t : Fin cfg0.N) (p k : Fin 1024) : (iblk m c 1 t : Vec Ideal S1024x1024 .bf16) (ix2 p k) = fA m c (row t p) k := by
  have hx : (win0_1.blk t).view.emb (ix2 p k) = (ix2 (row t p) k : S32768x1024.Idx) := by blk_ext [e1]; rfl
  blk_simp [iblk]
  rw [hx, V_main_arg1]
  rfl

theorem blk2 (c : Dev nD) (t : Fin cfg0.N) (p k : Fin 1024) : (iblk m c 2 t : Vec Ideal S1024x1024 .bf16) (ix2 p k) = fG m c (row t p) k := by
  have hx : (win0_2.blk t).view.emb (ix2 p k) = (ix2 (row t p) k : S32768x1024.Idx) := by blk_ext [e2]; rfl
  blk_simp [iblk]
  rw [hx, V_main_arg2]
  rfl

theorem blk3 (c : Dev nD) (t : Fin cfg0.N) (p k : Fin 1024) : (iblk m c 3 t : Vec Ideal S1024x1024 .f32) (ix2 p k) = fX m c (row t p) k := by
  have hx : (win0_3.blk t).view.emb (ix2 p k) = (ix2 (row t p) k : S32768x1024.Idx) := by blk_ext [e3]; rfl
  blk_simp [iblk]
  rw [hx, V_x]

theorem blk4 (c : Dev nD) (t : Fin cfg0.N) (h : Fin 512) (k : Fin 1024) : (iblk m c 4 t : Vec Ideal S512x1024 .bf16) (ix2 h k) = fWa m c h k := by
  have hx : (win0_4.blk t).view.emb (ix2 h k) = (ix2 h k : S512x1024.Idx) := by blk_ext [e4]
  blk_simp [iblk]
  rw [hx, V_wa]

theorem blk5 (c : Dev nD) (t : Fin cfg0.N) (h : Fin 512) (k : Fin 1024) : (iblk m c 5 t : Vec Ideal S512x1024 .bf16) (ix2 h k) = fWb m c h k := by
  have hx : (win0_5.blk t).view.emb (ix2 h k) = (ix2 h k : S512x1024.Idx) := by blk_ext [e5]
  blk_simp [iblk]
  rw [hx, V_wb]

theorem blk6 (c : Dev nD) (t : Fin cfg0.N) (k x : Fin 1024) : (iblk m c 6 t : Vec Ideal S1024x1024 .bf16) (ix2 k x) = fWo m c k x := by
  have hx : (win0_6.blk t).view.emb (ix2 k x) = (ix2 k x : S1024x1024.Idx) := by blk_ext [e6]
  blk_simp [iblk]
  rw [hx, V_wo]

theorem blk7 (c : Dev nD) (t : Fin cfg0.N) (x : Fin 1024) : (iblk m c 7 t : Vec Ideal S1x1024 .f32) (ix2 0 x) = fg m c x := by
  have hx : (win0_7.blk t).view.emb (ix2 0 x) = (ix2 0 x : S1x1024.Idx) := by blk_ext [e7]
  blk_simp [iblk]
  rw [hx, V_g]

theorem blk8 (c : Dev nD) (t : Fin cfg0.N) (x : Fin 1024) : (iblk m c 8 t : Vec Ideal S1x1024 .f32) (ix2 0 x) = fb m c x := by
  have hx : (win0_8.blk t).view.emb (ix2 0 x) = (ix2 0 x : S1x1024.Idx) := by blk_ext [e8]
  blk_simp [iblk]
  rw [hx, V_b]

end Cert.Kernel4Ideal.MixValue
-- ==== Proof.Mix.Pay.lean ====
/-
  What the mixer kernel's payloads are at an index.
-/
module

public import proofs.«01_k».proof.Proof.Gen.Kernel4Ideal.Value
public import proofs.«01_k».proof.Proof.Mix.Spec
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.MixValue

open Cert.Kernel4Ideal Cert.Kernel4Ideal.Gen Cert.Mix

theorem pay2_apply (v : Vec Ideal S512x128 .f32) (l : Fin 128) (c : Fin 512) : k0_pay2 (F := Ideal) v (ix2 l c) = gelu (v (ix2 c l)) := by
  pointwise [k0_pay2]
  rfl

theorem pay3_apply (v : Vec Ideal S512x128 .f32) (l : Fin 128) (c : Fin 512) : k0_pay3 (F := Ideal) v (ix2 l c) = gelu (v (ix2 c l)) := by
  pointwise [k0_pay3]
  rfl

theorem pay4_apply (v : Vec Ideal S512x128 .f32) (l : Fin 128) (c : Fin 512) : k0_pay4 (F := Ideal) v (ix2 l c) = gelu (v (ix2 c l)) := by
  pointwise [k0_pay4]
  rfl

theorem pay5_apply (v : Vec Ideal S512x128 .f32) (l : Fin 128) (c : Fin 512) : k0_pay5 (F := Ideal) v (ix2 l c) = gelu (v (ix2 c l)) := by
  pointwise [k0_pay5]
  rfl

theorem pay6_apply (v : Vec Ideal S512x128 .f32) (l : Fin 128) (c : Fin 512) : k0_pay6 (F := Ideal) v (ix2 l c) = gelu (v (ix2 c l)) := by
  pointwise [k0_pay6]
  rfl

theorem pay7_apply (v : Vec Ideal S512x128 .f32) (l : Fin 128) (c : Fin 512) : k0_pay7 (F := Ideal) v (ix2 l c) = gelu (v (ix2 c l)) := by
  pointwise [k0_pay7]
  rfl

theorem pay10_apply (v : Vec Ideal S512x128 .f32) (l : Fin 128) (c : Fin 512) : k0_pay10 (F := Ideal) v (ix2 l c) = gelu (v (ix2 c l)) := by
  pointwise [k0_pay10]
  rfl

theorem pay9_apply (v : Vec Ideal S512x128 .f32) (l : Fin 128) (c : Fin 512) : k0_pay9 (F := Ideal) v (k0_pay8 v) (ix2 l c) = gelu (v (ix2 c l)) := by
  pointwise [k0_pay9, k0_pay8]
  rfl

theorem pay14_apply (z : Vec Ideal S1024x512 .bf16) (wa wb : Vec Ideal S512x1024 .bf16) (a g : Vec Ideal S1024x1024 .bf16) (x : Vec Ideal S1024x1024 .f32) (wo : Vec Ideal S1024x1024 .bf16) (p y : Fin 1024) :
    k0_pay14 (F := Ideal) z (k0_pay11 wa) wb a g x wo (ix2 p y) = dev (pre (fun c => z (ix2 p c)) (fun c k => wa (ix2 c k)) (fun c k => wb (ix2 c k)) (fun k => a (ix2 p k)) (fun k => g (ix2 p k)) (fun k => x (ix2 p k)) (fun k l => wo (ix2 k l))) y := by
  pointwise [k0_pay14, k0_pay11]
  rfl

theorem pay15_apply (z : Vec Ideal S1024x512 .bf16) (wa wb : Vec Ideal S512x1024 .bf16) (a g : Vec Ideal S1024x1024 .bf16) (x : Vec Ideal S1024x1024 .f32) (wo : Vec Ideal S1024x1024 .bf16) (p : Fin 1024) :
    k0_pay15 (F := Ideal) z (k0_pay11 wa) wb a g x wo (ix2 p 0) = var (pre (fun c => z (ix2 p c)) (fun c k => wa (ix2 c k)) (fun c k => wb (ix2 c k)) (fun k => a (ix2 p k)) (fun k => g (ix2 p k)) (fun k => x (ix2 p k)) (fun k l => wo (ix2 k l))) := by
  pointwise [k0_pay15]
  simp only [pay14_apply]
  rfl

theorem norm_apply (g b : Vec Ideal S1x1024 .f32) (d : FVec Ideal S1024x1024 .f32) (v : FVec Ideal S1024x1 .f32) (p y : Fin 1024) :
    k0_pay1 (F := Ideal) (k0_pay12 g) (k0_pay13 b) d v k0_pay16 (ix2 p y)
      = d (ix2 p y) * Ideal.rsqrt (v (ix2 p 0) + wd 0x3727C5AC#32) * g (ix2 0 y) + b (ix2 0 y) := by
  pointwise [k0_pay1, k0_pay12, k0_pay13, k0_pay16]
  rfl

end Cert.Kernel4Ideal.MixValue
-- ==== Proof.Mix.Out.lean ====
/-
  What the mixer kernel's body leaves in its output block.
-/
module

public import proofs.«01_k».proof.Proof.Gen.Kernel4Ideal.Value
public import proofs.«01_k».proof.Proof.Mix.Spec
public import proofs.«01_k».proof.Proof.Mix.Pay
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.MixValue

open Cert.Kernel4Ideal Cert.Kernel4Ideal.Gen Cert.Mix

theorem hz : (![0, 0] : Fin 2 → Nat) = fun _ => 0 := funext fun a => by fin_cases a <;> rfl

/-- What the scratch holds after the eight stores: the unit on the block's channels, a row per position. -/
def zt (x0 : Vec Ideal S512x8x128 .f32) : S1024x512.Idx → EReal := fun y =>
  gelu (x0 (ix3 (y 1) ⟨(y 0).val / 128, by have : (y 0).val < 1024 := (y 0).isLt; omega⟩ ⟨(y 0).val % 128, by omega⟩))

/-- A row of the block read with a stride: row `c` read from row `8 c + j` of the block laid flat. -/
theorem src_apply (arg1 : Memref sig .tc .vmem S512x8x128 .f32) (harg1 : arg1.IsWhole) (x0 : Vec Ideal S512x8x128 .f32) (j : Fin 8)
    (h : S512x8x128.numel = S4096x128.numel) (r : LoadRect S4096x128) (hs : r.size = ![512, 128]) (ho : r.off = ![j.val, 0]) (hst : r.stride = ![8, 1])
    (q : r.shape.Idx) (c : Fin 512) (l : Fin 128) (hc : (q 0).val = c.val) (hl : (q 1).val = l.val) :
    View.readAt (Elt Ideal) (arg1.view.reshape S4096x128 h) r (harg1.unread x0) q = x0 (ix3 c j l) := by
  refine Eq.trans ?_ (congrFun (harg1.read_unread x0) (ix3 c j l))
  rw [View.readAt_apply]
  refine congrArg (fun i => arg1.view.read (Elt Ideal) (harg1.unread x0) i) ?_
  refine Shape.reshapeEquiv_eq_of_rowMajor _ ?_
  rw [Shape.rowMajor_val_two, Shape.rowMajor_val_three]
  have h0 : ((r.idx q) 0).val = j.val + 8 * c.val := by
    rw [LoadRect.idx_apply, ho, hst, hc]; rfl
  have h1 : ((r.idx q) 1).val = l.val := by
    rw [LoadRect.idx_apply, ho, hst, hl]; show 0 + 1 * l.val = l.val; omega
  rw [h0, h1]
  show (c.val * 8 + j.val) * 128 + l.val = (j.val + 8 * c.val) * 128 + l.val
  omega

/-- One store of the scratch. -/
theorem piece_eq (x0 : Vec Ideal S512x8x128 .f32) (j : Fin 8) (off : Fin 2 → Nat) (ho : off = ![j.val * 128, 0])
    (hin : ∀ a, off a + S128x512.size a ≤ S1024x512.size a) (P : FVec Ideal S128x512 .bf16) (v : Vec Ideal S512x128 .f32)
    (hP : ∀ (l : Fin 128) (c : Fin 512), P (ix2 l c) = gelu (v (ix2 c l))) (hv : ∀ (c : Fin 512) (l : Fin 128), v (ix2 c l) = x0 (ix3 c j l)) (y : S128x512.Idx) :
    P y = zt x0 ((Rect.unit (s := S1024x512) off S128x512.size hin).emb y) := by
  obtain ⟨l, c, rfl⟩ : ∃ (l : Fin 128) (c : Fin 512), y = ix2 l c := ⟨y 0, y 1, (ix2_eta y).symm⟩
  subst ho
  rw [hP, hv]
  unfold zt
  refine congrArg gelu (congrArg x0 ?_)
  have h0 : ((Rect.unit (s := S1024x512) ![j.val * 128, 0] S128x512.size hin).emb (ix2 l c) 0).val = j.val * 128 + l.val := by
    show j.val * 128 + 1 * l.val = _; omega
  have h1 : ((Rect.unit (s := S1024x512) ![j.val * 128, 0] S128x512.size hin).emb (ix2 l c) 1).val = c.val := by
    show 0 + 1 * c.val = _; omega
  funext a
  match a with
  | ⟨0, _⟩ => exact Fin.ext h1.symm
  | ⟨1, _⟩ => exact Fin.ext (by show j.val = _ / 128; rw [h0]; omega)
  | ⟨2, _⟩ => exact Fin.ext (by show l.val = _ % 128; rw [h0]; omega)

theorem out_eq (c : Dev nD) (i : grid0.Coords) (arg1 : Memref sig .tc .vmem S512x8x128 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x512 .bf16) (harg11 : arg11.IsWhole)
    (x0 : Vec Ideal S512x8x128 .f32) (x1 : Vec Ideal S1024x1024 .bf16) (x2 : Vec Ideal S1024x1024 .bf16) (x3 : Vec Ideal S1024x1024 .f32) (x4 : Vec Ideal S512x1024 .bf16) (x5 : Vec Ideal S512x1024 .bf16) (x6 : Vec Ideal S1024x1024 .bf16) (x7 : Vec Ideal S1x1024 .f32) (x8 : Vec Ideal S1x1024 .f32) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8
      = k0_pay1 (F := Ideal) (k0_pay12 x7) (k0_pay13 x8) (k0_pay14 (zt x0) (k0_pay11 x4) x5 x1 x2 x3 x6) (k0_pay15 (zt x0) (k0_pay11 x4) x5 x1 x2 x3 x6) k0_pay16 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S1024x1024) hz, View.ld_unit_zero (S := S512x1024) hz,
    View.ld_unit_zero (S := S1x1024) hz]
  rw [View.canon_unit_zero hz]
  refine congrArg (fun Z => k0_pay1 (F := Ideal) (k0_pay12 x7) (k0_pay13 x8) (k0_pay14 Z (k0_pay11 x4) x5 x1 x2 x3 x6) (k0_pay15 Z (k0_pay11 x4) x5 x1 x2 x3 x6) k0_pay16) ?_
  refine (View.readCov_eq_canon_ld (Val := Elt Ideal) (s := S1024x512) (e := .bf16) arg11.view _ (Rect.unit (s := S1024x512) ![0, 0] S1024x512.size inb_S1024x512_S1024x512_0_0) ?_).trans ?_
  · exact fun y => View.cover_of_tiledL (s := S1024x512) _ ![128, 512] (by sl_kernel_rfl) y
  refine (View.ld_unit_zero (S := S1024x512) hz _ _).trans ?_
  funext y
  refine View.canon_apply_of_pieces (Val := Elt Ideal) (e := .bf16) (zt x0) _ ?_ y (View.cover_of_tiledL (s := S1024x512) _ ![128, 512] (by sl_kernel_rfl) y)
  refine List.forall_mem_cons.2 ⟨piece_eq x0 7 ![896, 0] rfl inb_S1024x512_S128x512_896_0 _ _ (pay10_apply _)
    (fun c l => src_apply arg1 harg1 x0 7 _ { off := ![7, 0], size := ![512, 128], stride := ![8, 1], inb := inb_S4096x128_S512x128_7_0_s_8_1 } rfl rfl rfl (ix2 c l) c l rfl rfl), ?_⟩
  refine List.forall_mem_cons.2 ⟨piece_eq x0 6 ![768, 0] rfl inb_S1024x512_S128x512_768_0 _ _ (pay9_apply _)
    (fun c l => src_apply arg1 harg1 x0 6 _ { off := ![6, 0], size := ![512, 128], stride := ![8, 1], inb := inb_S4096x128_S512x128_6_0_s_8_1 } rfl rfl rfl (ix2 c l) c l rfl rfl), ?_⟩
  refine List.forall_mem_cons.2 ⟨piece_eq x0 5 ![640, 0] rfl inb_S1024x512_S128x512_640_0 _ _ (pay7_apply _)
    (fun c l => src_apply arg1 harg1 x0 5 _ { off := ![5, 0], size := ![512, 128], stride := ![8, 1], inb := inb_S4096x128_S512x128_5_0_s_8_1 } rfl rfl rfl (ix2 c l) c l rfl rfl), ?_⟩
  refine List.forall_mem_cons.2 ⟨piece_eq x0 4 ![512, 0] rfl inb_S1024x512_S128x512_512_0 _ _ (pay6_apply _)
    (fun c l => src_apply arg1 harg1 x0 4 _ { off := ![4, 0], size := ![512, 128], stride := ![8, 1], inb := inb_S4096x128_S512x128_4_0_s_8_1 } rfl rfl rfl (ix2 c l) c l rfl rfl), ?_⟩
  refine List.forall_mem_cons.2 ⟨piece_eq x0 3 ![384, 0] rfl inb_S1024x512_S128x512_384_0 _ _ (pay5_apply _)
    (fun c l => src_apply arg1 harg1 x0 3 _ { off := ![3, 0], size := ![512, 128], stride := ![8, 1], inb := inb_S4096x128_S512x128_3_0_s_8_1 } rfl rfl rfl (ix2 c l) c l rfl rfl), ?_⟩
  refine List.forall_mem_cons.2 ⟨piece_eq x0 2 ![256, 0] rfl inb_S1024x512_S128x512_256_0 _ _ (pay4_apply _)
    (fun c l => src_apply arg1 harg1 x0 2 _ { off := ![2, 0], size := ![512, 128], stride := ![8, 1], inb := inb_S4096x128_S512x128_2_0_s_8_1 } rfl rfl rfl (ix2 c l) c l rfl rfl), ?_⟩
  refine List.forall_mem_cons.2 ⟨piece_eq x0 1 ![128, 0] rfl inb_S1024x512_S128x512_128_0 _ _ (pay3_apply _)
    (fun c l => src_apply arg1 harg1 x0 1 _ { off := ![1, 0], size := ![512, 128], stride := ![8, 1], inb := inb_S4096x128_S512x128_1_0_s_8_1 } rfl rfl rfl (ix2 c l) c l rfl rfl), ?_⟩
  refine List.forall_mem_cons.2 ⟨piece_eq x0 0 ![0, 0] rfl inb_S1024x512_S128x512_0_0 _ _ (pay2_apply _)
    (fun c l => src_apply arg1 harg1 x0 0 _ { off := ![0, 0], size := ![512, 128], stride := ![8, 1], inb := inb_S4096x128_S512x128_0_0_s_8_1 } rfl rfl rfl (ix2 c l) c l rfl rfl), ?_⟩
  exact fun p hp => absurd hp (List.not_mem_nil)

end Cert.Kernel4Ideal.MixValue
-- ==== Proof.Mix.Array.lean ====
/-
  What the array holds after the mixer kernel's grid has run.
-/
module

public import proofs.«01_k».proof.Proof.Mix.Entry
public import proofs.«01_k».proof.Proof.Mix.Out

@[expose] public section

set_option maxRecDepth 16384

noncomputable section

open Idealize.ShloMosaic Idealize.ShloMosaic.TcCoe Idealize.SL.Sem
open Idealize.ShloMosaic.Pipeline (Dat)

namespace Cert.Kernel4Ideal.MixValue

open Cert.Kernel4Ideal Cert.Kernel4Ideal.Gen Cert.Mix

variable (m : (ℓ : Loc nD τ sig) → Buf (Elt Ideal) ℓ)

/-- What the array ends as. -/
def result (c : Dev nD) : S32768x1024.Idx → EReal := fun y => out (fY m c) (fA m c) (fG m c) (fX m c) (fWa m c) (fWb m c) (fWo m c) (fg m c) (fb m c) (y 0) (y 1)

theorem array_eq (c : Dev nD) : (dats m 0 c).arrAt 9 cfg0.N = result m c := by
  refine Dat.arrAt_eq_of_covers _ 9 _ (by decide +kernel) fun t hfl y => ?_
  obtain ⟨p, x, rfl⟩ : ∃ (p x : Fin 1024), y = ix2 p x := ⟨y 0, y 1, (ix2_eta y).symm⟩
  have hx : (win0_9.blk t).view.emb (ix2 p x) = (ix2 (row t p) x : S32768x1024.Idx) := by blk_ext [e9]; rfl
  blk_simp
  rw [after0_9, outsAt0, out_eq, hx]
  show _ = out (fY m c) (fA m c) (fG m c) (fX m c) (fWa m c) (fWb m c) (fWo m c) (fg m c) (fb m c) (row t p) x
  refine (norm_apply _ _ _ _ p x).trans ?_
  have hp : pre (fun h => zt (iblk m c 0 t) (ix2 p h)) (fun h k => (iblk m c 4 t : Vec Ideal S512x1024 .bf16) (ix2 h k)) (fun h k => (iblk m c 5 t : Vec Ideal S512x1024 .bf16) (ix2 h k))
      (fun k => (iblk m c 1 t : Vec Ideal S1024x1024 .bf16) (ix2 p k)) (fun k => (iblk m c 2 t : Vec Ideal S1024x1024 .bf16) (ix2 p k)) (fun k => (iblk m c 3 t : Vec Ideal S1024x1024 .f32) (ix2 p k))
      (fun k l => (iblk m c 6 t : Vec Ideal S1024x1024 .bf16) (ix2 k l))
      = pre (fun h => gelu (fY m c h (row t p))) (fWa m c) (fWb m c) (fA m c (row t p)) (fG m c (row t p)) (fX m c (row t p)) (fWo m c) := by
    rw [show (fun h => zt (iblk m c 0 t) (ix2 p h)) = fun h => gelu (fY m c h (row t p)) from funext fun h => congrArg gelu (blk0 m c t p h),
      show (fun (h : Fin 512) (k : Fin 1024) => (iblk m c 4 t : Vec Ideal S512x1024 .bf16) (ix2 h k)) = fWa m c from funext fun h => funext fun k => blk4 m c t h k,
      show (fun (h : Fin 512) (k : Fin 1024) => (iblk m c 5 t : Vec Ideal S512x1024 .bf16) (ix2 h k)) = fWb m c from funext fun h => funext fun k => blk5 m c t h k,
      show (fun k : Fin 1024 => (iblk m c 1 t : Vec Ideal S1024x1024 .bf16) (ix2 p k)) = fA m c (row t p) from funext fun k => blk1 m c t p k,
      show (fun k : Fin 1024 => (iblk m c 2 t : Vec Ideal S1024x1024 .bf16) (ix2 p k)) = fG m c (row t p) from funext fun k => blk2 m c t p k,
      show (fun k : Fin 1024 => (iblk m c 3 t : Vec Ideal S1024x1024 .f32) (ix2 p k)) = fX m c (row t p) from funext fun k => blk3 m c t p k,
      show (fun k l : Fin 1024 => (iblk m c 6 t : Vec Ideal S1024x1024 .bf16) (ix2 k l)) = fWo m c from funext fun k => funext fun l => blk6 m c t k l]
  rw [pay14_apply, pay15_apply, blk7, blk8, hp]
  rfl

end Cert.Kernel4Ideal.MixValue
-- ==== Proof.Mix.Ref.lean ====
/-
  What the reference of the mixer's end computes.
-/
module

public import proofs.«01_k».proof.Proof.Mix.Spec
public import proofs.«01_k».proof.Proof.Gen.Reference4Ideal.Read
public import Idealize.ShloMosaic.Lib.KernelVsHost

@[expose] public section

set_option maxRecDepth 16384

noncomputable section

open Idealize.ShloMosaic Idealize.ShloMosaic.TcCoe Idealize.SL.Sem

namespace Cert.Reference4Ideal.MixRef

open Cert.Reference4Ideal Cert.Reference4Ideal.Gen Cert.Reference4Ideal.Read Idealize.ShloMosaic.ValueIdx Cert.Mix

/-- The arguments by row and column. -/
def rY (x0 : (⟨S512x256x128, .f32⟩ : BufTy).Contents (Elt Ideal)) (c : Fin 512) (ρ : Fin 32768) : EReal := x0 (ix3 c (⟨ρ.val / 128, by omega⟩ : Fin 256) (⟨ρ.val % 128, by omega⟩ : Fin 128))
def rA (x : (⟨S32768x1024, .bf16⟩ : BufTy).Contents (Elt Ideal)) (ρ : Fin 32768) (k : Fin 1024) : EReal := x (ix2 ρ k)
def rX (x3 : (⟨S16x2048x1024, .f32⟩ : BufTy).Contents (Elt Ideal)) (ρ : Fin 32768) (k : Fin 1024) : EReal := x3 (ix3 (⟨ρ.val / 2048, by omega⟩ : Fin 16) (⟨ρ.val % 2048, by omega⟩ : Fin 2048) k)
def rW (x : (⟨S1x512x1024, .f32⟩ : BufTy).Contents (Elt Ideal)) (c : Fin 512) (k : Fin 1024) : EReal := x (ix3 (0 : Fin 1) c k)
def rWo (x6 : (⟨S1x1024x1024, .f32⟩ : BufTy).Contents (Elt Ideal)) (k x : Fin 1024) : EReal := x6 (ix3 (0 : Fin 1) k x)
def rg (x : (⟨S1x1024, .f32⟩ : BufTy).Contents (Elt Ideal)) (k : Fin 1024) : EReal := x (ix2 (0 : Fin 1) k)

theorem word_one : (FloatOps.ofBits .f32 0x3F800000#32 : Ideal .f32) = (1 : EReal) := by
  show Ideal.ofBits FTy.f32 0x3F800000#32 = 1
  simp [Ideal.ofBits, Ideal.ieee]
  rw [← EReal.coe_mul]
  norm_num

theorem gelu_spelt (v : EReal) :
    (FloatOps.mulf (v : Ideal .f32) (FloatOps.mulf (FloatOps.ofBits .f32 0x3F000000#32 : Ideal .f32) (FloatOps.addf (FloatOps.ofBits .f32 0x3F800000#32 : Ideal .f32)
      (FloatOps.hostUnary .tanh (FloatOps.mulf (FloatOps.ofBits .f32 0x3F4C422A#32 : Ideal .f32) (FloatOps.addf (v : Ideal .f32)
        (FloatOps.mulf (FloatOps.ofBits .f32 0x3D372713#32 : Ideal .f32) (FloatOps.mulf (FloatOps.mulf (v : Ideal .f32) v) v)))))) ) : Ideal .f32) = gelu v := by
  rw [word_one]
  show v * (wd 0x3F000000#32 * (1 + Ideal.tanh (wd 0x3F4C422A#32 * (v + wd 0x3D372713#32 * ((v * v) * v))))) = _
  rw [mul_comm (v * v) v]
  rfl

theorem z_at (x0 : (⟨S512x256x128, .f32⟩ : BufTy).Contents (Elt Ideal)) (b : Fin 16) (t : Fin 2048) (c : Fin 512) : val_main_v18 (F := Ideal) x0 (ix3 b t c) = gelu (rY x0 c ⟨b.val * 2048 + t.val, by omega⟩) := by
  have hv : val_main_v1 (F := Ideal) x0 (ix3 b t c) = rY x0 c ⟨b.val * 2048 + t.val, by omega⟩ := by
    rw [val_main_v1_apply, val_main_v0_apply]
    refine congrArg x0 (funext fun a => match a with
      | ⟨0, _⟩ => Fin.ext (by show ((b.val * 2048 + t.val) * 512 + c.val) % 512 = c.val; omega)
      | ⟨1, _⟩ => Fin.ext (by show ((b.val * 2048 + t.val) * 512 + c.val) / 65536 = (b.val * 2048 + t.val) / 128; omega)
      | ⟨2, _⟩ => Fin.ext (by show ((b.val * 2048 + t.val) * 512 + c.val) / 512 % 128 = (b.val * 2048 + t.val) % 128; omega))
  rw [val_main_v18_apply, val_main_v17_apply, val_main_v16_apply, val_main_v15_apply, val_main_v14_apply, val_main_v13_apply, val_main_v12_apply, val_main_v11_apply,
    val_main_v10_apply, val_main_v9_apply, val_main_v8_apply, val_main_v7_apply, val_main_v6_apply, val_main_cst_apply, val_main_cst_0_apply, val_main_cst_1_apply,
    val_main_cst_2_apply, hv]
  exact gelu_spelt _

theorem dot20_at (x0 : (⟨S512x256x128, .f32⟩ : BufTy).Contents (Elt Ideal)) (x4 : (⟨S1x512x1024, .f32⟩ : BufTy).Contents (Elt Ideal)) (b : Fin 16) (t : Fin 2048) (k : Fin 1024) :
    val_main_v20 (F := Ideal) x0 x4 (ix3 b t k) = ∑ c, gelu (rY x0 c ⟨b.val * 2048 + t.val, by omega⟩) * rW x4 c k := by
  rw [val_main_v20_apply]
  refine Finset.sum_congr rfl fun c _ => congrArg₂ (fun a b : EReal => a * b) ?_ ?_
  · exact (congrArg (val_main_v18 (F := Ideal) x0) (funext fun a => match a with | ⟨0, _⟩ => rfl | ⟨1, _⟩ => rfl | ⟨2, _⟩ => rfl)).trans (z_at x0 b t c)
  · rw [val_main_v19_apply]
    exact congrArg x4 (funext fun a => match a with
      | ⟨0, _⟩ => rfl
      | ⟨1, _⟩ => Fin.ext (by show (c.val * 1024 + k.val) / 1024 % 512 = c.val; omega)
      | ⟨2, _⟩ => Fin.ext (by show (c.val * 1024 + k.val) % 1024 = k.val; omega))

theorem dot22_at (x0 : (⟨S512x256x128, .f32⟩ : BufTy).Contents (Elt Ideal)) (x5 : (⟨S1x512x1024, .f32⟩ : BufTy).Contents (Elt Ideal)) (b : Fin 16) (t : Fin 2048) (k : Fin 1024) :
    val_main_v22 (F := Ideal) x0 x5 (ix3 b t k) = ∑ c, gelu (rY x0 c ⟨b.val * 2048 + t.val, by omega⟩) * rW x5 c k := by
  rw [val_main_v22_apply]
  refine Finset.sum_congr rfl fun c _ => congrArg₂ (fun a b : EReal => a * b) ?_ ?_
  · exact (congrArg (val_main_v18 (F := Ideal) x0) (funext fun a => match a with | ⟨0, _⟩ => rfl | ⟨1, _⟩ => rfl | ⟨2, _⟩ => rfl)).trans (z_at x0 b t c)
  · rw [val_main_v21_apply]
    exact congrArg x5 (funext fun a => match a with
      | ⟨0, _⟩ => rfl
      | ⟨1, _⟩ => Fin.ext (by show (c.val * 1024 + k.val) / 1024 % 512 = c.val; omega)
      | ⟨2, _⟩ => Fin.ext (by show (c.val * 1024 + k.val) % 1024 = k.val; omega))

theorem row3_at (x1 : (⟨S32768x1024, .bf16⟩ : BufTy).Contents (Elt Ideal)) (b : Fin 16) (t : Fin 2048) (k : Fin 1024) : val_main_v3 (F := Ideal) x1 (ix3 b t k) = rA x1 ⟨b.val * 2048 + t.val, by omega⟩ k := by
  rw [val_main_v3_apply, val_main_v2_apply]
  exact congrArg x1 (funext fun a => match a with
    | ⟨0, _⟩ => Fin.ext (by show ((b.val * 2048 + t.val) * 1024 + k.val) / 1024 = b.val * 2048 + t.val; omega)
    | ⟨1, _⟩ => Fin.ext (by show ((b.val * 2048 + t.val) * 1024 + k.val) % 1024 = k.val; omega))

theorem row5_at (x2 : (⟨S32768x1024, .bf16⟩ : BufTy).Contents (Elt Ideal)) (b : Fin 16) (t : Fin 2048) (k : Fin 1024) : val_main_v5 (F := Ideal) x2 (ix3 b t k) = rA x2 ⟨b.val * 2048 + t.val, by omega⟩ k := by
  rw [val_main_v5_apply, val_main_v4_apply]
  exact congrArg x2 (funext fun a => match a with
    | ⟨0, _⟩ => Fin.ext (by show ((b.val * 2048 + t.val) * 1024 + k.val) / 1024 = b.val * 2048 + t.val; omega)
    | ⟨1, _⟩ => Fin.ext (by show ((b.val * 2048 + t.val) * 1024 + k.val) % 1024 = k.val; omega))

theorem sigm_spelt (z : EReal) :
    (FloatOps.hostDivf (FloatOps.ofBits .f32 0x3F800000#32 : Ideal .f32)
      (FloatOps.addf (FloatOps.ofBits .f32 0x3F800000#32 : Ideal .f32) (FloatOps.hostUnary .exp (FloatOps.hostNegf (z : Ideal .f32)))) : Ideal .f32) = Ideal.logistic z := by
  rw [word_one]
  rfl

theorem mixed_at (x0 : (⟨S512x256x128, .f32⟩ : BufTy).Contents (Elt Ideal)) (x1 x2 : (⟨S32768x1024, .bf16⟩ : BufTy).Contents (Elt Ideal)) (x4 x5 : (⟨S1x512x1024, .f32⟩ : BufTy).Contents (Elt Ideal)) (b : Fin 16) (t : Fin 2048) (k : Fin 1024) :
    val_main_v31 (F := Ideal) x0 x1 x2 x4 x5 (ix3 b t k) = rA x1 ⟨b.val * 2048 + t.val, by omega⟩ k + rA x2 ⟨b.val * 2048 + t.val, by omega⟩ k
      * ((∑ c, gelu (rY x0 c ⟨b.val * 2048 + t.val, by omega⟩) * rW x4 c k) * Ideal.logistic (∑ c, gelu (rY x0 c ⟨b.val * 2048 + t.val, by omega⟩) * rW x5 c k)) := by
  rw [val_main_v31_apply, val_main_v30_apply, val_main_v29_apply, val_main_v28_apply, val_main_v27_apply, val_main_v26_apply, val_main_v25_apply, val_main_v24_apply,
    val_main_v23_apply, val_main_cst_3_apply, val_main_cst_4_apply, dot20_at, dot22_at, row3_at, row5_at, sigm_spelt]
  rfl

theorem pre_at (x0 : (⟨S512x256x128, .f32⟩ : BufTy).Contents (Elt Ideal)) (x1 x2 : (⟨S32768x1024, .bf16⟩ : BufTy).Contents (Elt Ideal)) (x3 : (⟨S16x2048x1024, .f32⟩ : BufTy).Contents (Elt Ideal)) (x4 x5 : (⟨S1x512x1024, .f32⟩ : BufTy).Contents (Elt Ideal)) (x6 : (⟨S1x1024x1024, .f32⟩ : BufTy).Contents (Elt Ideal)) (b : Fin 16) (t : Fin 2048) (x : Fin 1024) :
    val_main_v36 (F := Ideal) x0 x1 x2 x3 x4 x5 x6 (ix3 b t x) = (pre (fun c => gelu (rY x0 c ⟨b.val * 2048 + t.val, by omega⟩)) (rW x4) (rW x5) (rA x1 ⟨b.val * 2048 + t.val, by omega⟩) (rA x2 ⟨b.val * 2048 + t.val, by omega⟩) (rX x3 ⟨b.val * 2048 + t.val, by omega⟩) (rWo x6)) x := by
  rw [val_main_v36_apply, val_main_v35_apply, val_main_v34_apply, val_main_cst_5_apply, val_main_v33_apply]
  refine congrArg₂ (fun a b : EReal => a + b) (congrArg (fun a : EReal => wd 0x3F9837F0#32 * a) (congrArg x3 (funext fun a => match a with
    | ⟨0, _⟩ => Fin.ext (by show b.val = (b.val * 2048 + t.val) / 2048; omega)
    | ⟨1, _⟩ => Fin.ext (by show t.val = (b.val * 2048 + t.val) % 2048; omega)
    | ⟨2, _⟩ => rfl))) (Finset.sum_congr rfl fun k _ => congrArg₂ (fun a b : EReal => a * b) ?_ ?_)
  · exact (congrArg (val_main_v31 (F := Ideal) x0 x1 x2 x4 x5) (funext fun a => match a with | ⟨0, _⟩ => rfl | ⟨1, _⟩ => rfl | ⟨2, _⟩ => rfl)).trans (mixed_at x0 x1 x2 x4 x5 b t k)
  · rw [val_main_v32_apply]
    exact congrArg x6 (funext fun a => match a with
      | ⟨0, _⟩ => rfl
      | ⟨1, _⟩ => Fin.ext (by show (k.val * 1024 + x.val) / 1024 % 1024 = k.val; omega)
      | ⟨2, _⟩ => Fin.ext (by show (k.val * 1024 + x.val) % 1024 = x.val; omega))

theorem mean_at (x0 : (⟨S512x256x128, .f32⟩ : BufTy).Contents (Elt Ideal)) (x1 x2 : (⟨S32768x1024, .bf16⟩ : BufTy).Contents (Elt Ideal)) (x3 : (⟨S16x2048x1024, .f32⟩ : BufTy).Contents (Elt Ideal)) (x4 x5 : (⟨S1x512x1024, .f32⟩ : BufTy).Contents (Elt Ideal)) (x6 : (⟨S1x1024x1024, .f32⟩ : BufTy).Contents (Elt Ideal)) (b : Fin 16) (t : Fin 2048) (i : S16x2048x1.Idx) (h0 : i 0 = b) (h1 : i 1 = t) :
    val_main_v42 (F := Ideal) x0 x1 x2 x3 x4 x5 x6 i = mean (pre (fun c => gelu (rY x0 c ⟨b.val * 2048 + t.val, by omega⟩)) (rW x4) (rW x5) (rA x1 ⟨b.val * 2048 + t.val, by omega⟩) (rA x2 ⟨b.val * 2048 + t.val, by omega⟩) (rX x3 ⟨b.val * 2048 + t.val, by omega⟩) (rWo x6)) := by
  subst h0 h1
  rw [val_main_v42_apply, val_main_v40_apply, val_main_v41_apply, val_main_cst_7_apply, val_main_v39_apply, val_main_cst_6_apply]
  refine congrArg (fun a : EReal => Ideal.div a (wd 0x44800000#32)) ?_
  refine (congrArg (fun a : EReal => a + _) Ideal.ofBits_zero_f32).trans ((zero_add _).trans (Finset.sum_congr rfl fun k _ => ?_))
  exact (congrArg (val_main_v36 (F := Ideal) x0 x1 x2 x3 x4 x5 x6) (show idx_main_v39 (idx_main_v40 i) k = ix3 (i 0) (i 1) k from funext fun a => match a with | ⟨0, _⟩ => rfl | ⟨1, _⟩ => rfl | ⟨2, _⟩ => rfl)).trans (pre_at x0 x1 x2 x3 x4 x5 x6 _ _ k)

theorem dev44_at (x0 : (⟨S512x256x128, .f32⟩ : BufTy).Contents (Elt Ideal)) (x1 x2 : (⟨S32768x1024, .bf16⟩ : BufTy).Contents (Elt Ideal)) (x3 : (⟨S16x2048x1024, .f32⟩ : BufTy).Contents (Elt Ideal)) (x4 x5 : (⟨S1x512x1024, .f32⟩ : BufTy).Contents (Elt Ideal)) (x6 : (⟨S1x1024x1024, .f32⟩ : BufTy).Contents (Elt Ideal)) (b : Fin 16) (t : Fin 2048) (x : Fin 1024) :
    val_main_v44 (F := Ideal) x0 x1 x2 x3 x4 x5 x6 (ix3 b t x) = dev (pre (fun c => gelu (rY x0 c ⟨b.val * 2048 + t.val, by omega⟩)) (rW x4) (rW x5) (rA x1 ⟨b.val * 2048 + t.val, by omega⟩) (rA x2 ⟨b.val * 2048 + t.val, by omega⟩) (rX x3 ⟨b.val * 2048 + t.val, by omega⟩) (rWo x6)) x := by
  rw [val_main_v44_apply, val_main_v43_apply, pre_at, mean_at x0 x1 x2 x3 x4 x5 x6 b t _ rfl rfl]
  rfl

theorem dev51_at (x0 : (⟨S512x256x128, .f32⟩ : BufTy).Contents (Elt Ideal)) (x1 x2 : (⟨S32768x1024, .bf16⟩ : BufTy).Contents (Elt Ideal)) (x3 : (⟨S16x2048x1024, .f32⟩ : BufTy).Contents (Elt Ideal)) (x4 x5 : (⟨S1x512x1024, .f32⟩ : BufTy).Contents (Elt Ideal)) (x6 : (⟨S1x1024x1024, .f32⟩ : BufTy).Contents (Elt Ideal)) (b : Fin 16) (t : Fin 2048) (x : Fin 1024) :
    val_main_v51 (F := Ideal) x0 x1 x2 x3 x4 x5 x6 (ix3 b t x) = dev (pre (fun c => gelu (rY x0 c ⟨b.val * 2048 + t.val, by omega⟩)) (rW x4) (rW x5) (rA x1 ⟨b.val * 2048 + t.val, by omega⟩) (rA x2 ⟨b.val * 2048 + t.val, by omega⟩) (rX x3 ⟨b.val * 2048 + t.val, by omega⟩) (rWo x6)) x := by
  rw [val_main_v51_apply, val_main_v50_apply, pre_at, mean_at x0 x1 x2 x3 x4 x5 x6 b t _ rfl rfl]
  rfl

theorem var_at (x0 : (⟨S512x256x128, .f32⟩ : BufTy).Contents (Elt Ideal)) (x1 x2 : (⟨S32768x1024, .bf16⟩ : BufTy).Contents (Elt Ideal)) (x3 : (⟨S16x2048x1024, .f32⟩ : BufTy).Contents (Elt Ideal)) (x4 x5 : (⟨S1x512x1024, .f32⟩ : BufTy).Contents (Elt Ideal)) (x6 : (⟨S1x1024x1024, .f32⟩ : BufTy).Contents (Elt Ideal)) (b : Fin 16) (t : Fin 2048) (i : S16x2048x1.Idx) (h0 : i 0 = b) (h1 : i 1 = t) :
    val_main_v49 (F := Ideal) x0 x1 x2 x3 x4 x5 x6 i = var (pre (fun c => gelu (rY x0 c ⟨b.val * 2048 + t.val, by omega⟩)) (rW x4) (rW x5) (rA x1 ⟨b.val * 2048 + t.val, by omega⟩) (rA x2 ⟨b.val * 2048 + t.val, by omega⟩) (rX x3 ⟨b.val * 2048 + t.val, by omega⟩) (rWo x6)) := by
  subst h0 h1
  rw [val_main_v49_apply, val_main_v47_apply, val_main_v48_apply, val_main_cst_9_apply, val_main_v46_apply, val_main_cst_8_apply]
  refine congrArg (fun a : EReal => Ideal.div a (wd 0x44800000#32)) ?_
  refine (congrArg (fun a : EReal => a + _) Ideal.ofBits_zero_f32).trans ((zero_add _).trans (Finset.sum_congr rfl fun k _ => ?_))
  rw [val_main_v45_apply]
  have e := (congrArg (val_main_v44 (F := Ideal) x0 x1 x2 x3 x4 x5 x6) (show idx_main_v46 (idx_main_v47 i) k = ix3 (i 0) (i 1) k from funext fun a => match a with | ⟨0, _⟩ => rfl | ⟨1, _⟩ => rfl | ⟨2, _⟩ => rfl)).trans (dev44_at x0 x1 x2 x3 x4 x5 x6 _ _ k)
  rw [e]
  rfl

theorem gain_at (x7 : (⟨S1x1024, .f32⟩ : BufTy).Contents (Elt Ideal)) (b : Fin 16) (t : Fin 2048) (x : Fin 1024) : val_main_v58 (F := Ideal) x7 (ix3 b t x) = rg x7 x := by
  rw [val_main_v58_apply, val_main_v57_apply, val_main_v37_apply]
  exact congrArg x7 (funext fun a => match a with
    | ⟨0, _⟩ => rfl
    | ⟨1, _⟩ => Fin.ext (by show x.val % 1024 = x.val; omega))

theorem shift_at (x8 : (⟨S1x1024, .f32⟩ : BufTy).Contents (Elt Ideal)) (b : Fin 16) (t : Fin 2048) (x : Fin 1024) : val_main_v61 (F := Ideal) x8 (ix3 b t x) = rg x8 x := by
  rw [val_main_v61_apply, val_main_v60_apply, val_main_v38_apply]
  exact congrArg x8 (funext fun a => match a with
    | ⟨0, _⟩ => rfl
    | ⟨1, _⟩ => Fin.ext (by show x.val % 1024 = x.val; omega))

theorem norm_at (x0 : (⟨S512x256x128, .f32⟩ : BufTy).Contents (Elt Ideal)) (x1 x2 : (⟨S32768x1024, .bf16⟩ : BufTy).Contents (Elt Ideal)) (x3 : (⟨S16x2048x1024, .f32⟩ : BufTy).Contents (Elt Ideal)) (x4 x5 : (⟨S1x512x1024, .f32⟩ : BufTy).Contents (Elt Ideal)) (x6 : (⟨S1x1024x1024, .f32⟩ : BufTy).Contents (Elt Ideal)) (x7 x8 : (⟨S1x1024, .f32⟩ : BufTy).Contents (Elt Ideal)) (b : Fin 16) (t : Fin 2048) (x : Fin 1024) :
    val_main_v62 (F := Ideal) x0 x1 x2 x3 x4 x5 x6 x7 x8 (ix3 b t x) = lnorm (pre (fun c => gelu (rY x0 c ⟨b.val * 2048 + t.val, by omega⟩)) (rW x4) (rW x5) (rA x1 ⟨b.val * 2048 + t.val, by omega⟩) (rA x2 ⟨b.val * 2048 + t.val, by omega⟩) (rX x3 ⟨b.val * 2048 + t.val, by omega⟩) (rWo x6)) (rg x7) (rg x8) x := by
  rw [val_main_v62_apply, val_main_v59_apply, val_main_v56_apply, val_main_v55_apply, val_main_v54_apply, val_main_v53_apply, val_main_v52_apply, val_main_cst_10_apply,
    dev51_at, var_at x0 x1 x2 x3 x4 x5 x6 b t _ rfl rfl, gain_at, shift_at]
  rfl

/-- The reference's result. -/
theorem out_at (x0 : (⟨S512x256x128, .f32⟩ : BufTy).Contents (Elt Ideal)) (x1 x2 : (⟨S32768x1024, .bf16⟩ : BufTy).Contents (Elt Ideal)) (x3 : (⟨S16x2048x1024, .f32⟩ : BufTy).Contents (Elt Ideal)) (x4 x5 : (⟨S1x512x1024, .f32⟩ : BufTy).Contents (Elt Ideal)) (x6 : (⟨S1x1024x1024, .f32⟩ : BufTy).Contents (Elt Ideal)) (x7 x8 : (⟨S1x1024, .f32⟩ : BufTy).Contents (Elt Ideal)) (ρ : Fin 32768) (x : Fin 1024) :
    val_main_v63 (F := Ideal) x0 x1 x2 x3 x4 x5 x6 x7 x8 (ix2 ρ x)
      = out (rY x0) (rA x1) (rA x2) (rX x3) (rW x4) (rW x5) (rWo x6) (rg x7) (rg x8) ρ x := by
  rw [val_main_v63_apply]
  refine (congrArg (val_main_v62 (F := Ideal) x0 x1 x2 x3 x4 x5 x6 x7 x8) (show _ = ix3 (⟨ρ.val / 2048, by omega⟩ : Fin 16) (⟨ρ.val % 2048, by omega⟩ : Fin 2048) x from funext fun a => match a with
    | ⟨0, _⟩ => Fin.ext (by show (ρ.val * 1024 + x.val) / 2097152 = ρ.val / 2048; omega)
    | ⟨1, _⟩ => Fin.ext (by show (ρ.val * 1024 + x.val) / 1024 % 2048 = ρ.val % 2048; omega)
    | ⟨2, _⟩ => Fin.ext (by show (ρ.val * 1024 + x.val) % 1024 = x.val; omega))).trans ((norm_at x0 x1 x2 x3 x4 x5 x6 x7 x8 _ _ x).trans ?_)
  unfold out
  rw [show (⟨ρ.val / 2048 * 2048 + ρ.val % 2048, by omega⟩ : Fin 32768) = ρ from Fin.ext (by dsimp only; omega)]

end Cert.Reference4Ideal.MixRef
-- ==== Proof.Mix.Claims.lean ====
/-
  The claims of the mixer's last call.
-/
module

public import proofs.«01_k».proof.Defs
public import proofs.«01_k».proof.Proof.Mix.Array
public import proofs.«01_k».proof.Proof.Mix.Ref
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Adequacy
public import Idealize.ShloMosaic.Init

@[expose] public section

noncomputable section

namespace Cert.MixClaims

open Idealize.ShloMosaic Idealize.SL.Sem Cert.Mix

/-- The kernel runs and keeps its arguments. -/
theorem frame_p : Cert.quiescent_Kernel4 (hKernel4 := Cert.Kernel4.Gen.facts) := fun m ρ _ => Cert.Kernel4.Gen.frame m ρ

/-- Its ideal reading runs and keeps its arguments. -/
theorem frame_pi : Cert.quiescent_Kernel4Ideal (hKernel4Ideal := Cert.Kernel4Ideal.Gen.facts) := fun m ρ _ => Cert.Kernel4Ideal.Gen.frame m ρ

/-- The reference runs and keeps its arguments. -/
theorem frame_ri : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run m ρ)

section
variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ) (c : Dev Cert.Kernel4Ideal.nD)

theorem hY (h : (m' ((c.tc : Thread Cert.Reference4Ideal.nD Cert.Reference4Ideal.τ).loc Cert.Reference4Ideal.main_arg0)) = (m ((c.tc : Thread Cert.Kernel4Ideal.nD Cert.Kernel4Ideal.τ).loc Cert.Kernel4Ideal.main_arg0))) : Cert.Reference4Ideal.MixRef.rY (m' ((c.tc : Thread Cert.Reference4Ideal.nD Cert.Reference4Ideal.τ).loc Cert.Reference4Ideal.main_arg0)) = Cert.Kernel4Ideal.MixValue.fY m c :=
  (congrArg Cert.Reference4Ideal.MixRef.rY h).trans (funext fun h => funext fun ρ => congrArg (Cert.Kernel4Ideal.MixValue.aY m c) (ix3_eq_valueIdx _ _ _).symm)

theorem hA (h : (m' ((c.tc : Thread Cert.Reference4Ideal.nD Cert.Reference4Ideal.τ).loc Cert.Reference4Ideal.main_arg1)) = (m ((c.tc : Thread Cert.Kernel4Ideal.nD Cert.Kernel4Ideal.τ).loc Cert.Kernel4Ideal.main_arg1))) : Cert.Reference4Ideal.MixRef.rA (m' ((c.tc : Thread Cert.Reference4Ideal.nD Cert.Reference4Ideal.τ).loc Cert.Reference4Ideal.main_arg1)) = Cert.Kernel4Ideal.MixValue.fA m c :=
  (congrArg Cert.Reference4Ideal.MixRef.rA h).trans (funext fun ρ => funext fun k => congrArg (Cert.Kernel4Ideal.MixValue.aA m c) (ix2_eq_valueIdx _ _).symm)

theorem hG (h : (m' ((c.tc : Thread Cert.Reference4Ideal.nD Cert.Reference4Ideal.τ).loc Cert.Reference4Ideal.main_arg2)) = (m ((c.tc : Thread Cert.Kernel4Ideal.nD Cert.Kernel4Ideal.τ).loc Cert.Kernel4Ideal.main_arg2))) : Cert.Reference4Ideal.MixRef.rA (m' ((c.tc : Thread Cert.Reference4Ideal.nD Cert.Reference4Ideal.τ).loc Cert.Reference4Ideal.main_arg2)) = Cert.Kernel4Ideal.MixValue.fG m c :=
  (congrArg Cert.Reference4Ideal.MixRef.rA h).trans (funext fun ρ => funext fun k => congrArg (Cert.Kernel4Ideal.MixValue.aG m c) (ix2_eq_valueIdx _ _).symm)

theorem hX (h : (m' ((c.tc : Thread Cert.Reference4Ideal.nD Cert.Reference4Ideal.τ).loc Cert.Reference4Ideal.main_arg3)) = (m ((c.tc : Thread Cert.Kernel4Ideal.nD Cert.Kernel4Ideal.τ).loc Cert.Kernel4Ideal.main_arg3))) : Cert.Reference4Ideal.MixRef.rX (m' ((c.tc : Thread Cert.Reference4Ideal.nD Cert.Reference4Ideal.τ).loc Cert.Reference4Ideal.main_arg3)) = Cert.Kernel4Ideal.MixValue.fX m c :=
  (congrArg Cert.Reference4Ideal.MixRef.rX h).trans (funext fun ρ => funext fun k => congrArg (Cert.Kernel4Ideal.MixValue.aX m c) (ix3_eq_valueIdx _ _ _).symm)

theorem hWa (h : (m' ((c.tc : Thread Cert.Reference4Ideal.nD Cert.Reference4Ideal.τ).loc Cert.Reference4Ideal.main_arg4)) = (m ((c.tc : Thread Cert.Kernel4Ideal.nD Cert.Kernel4Ideal.τ).loc Cert.Kernel4Ideal.main_arg4))) : Cert.Reference4Ideal.MixRef.rW (m' ((c.tc : Thread Cert.Reference4Ideal.nD Cert.Reference4Ideal.τ).loc Cert.Reference4Ideal.main_arg4)) = Cert.Kernel4Ideal.MixValue.fWa m c :=
  (congrArg Cert.Reference4Ideal.MixRef.rW h).trans (funext fun h => funext fun k => congrArg (Cert.Kernel4Ideal.MixValue.aWa m c) (ix3_eq_valueIdx _ _ _).symm)

theorem hWb (h : (m' ((c.tc : Thread Cert.Reference4Ideal.nD Cert.Reference4Ideal.τ).loc Cert.Reference4Ideal.main_arg5)) = (m ((c.tc : Thread Cert.Kernel4Ideal.nD Cert.Kernel4Ideal.τ).loc Cert.Kernel4Ideal.main_arg5))) : Cert.Reference4Ideal.MixRef.rW (m' ((c.tc : Thread Cert.Reference4Ideal.nD Cert.Reference4Ideal.τ).loc Cert.Reference4Ideal.main_arg5)) = Cert.Kernel4Ideal.MixValue.fWb m c :=
  (congrArg Cert.Reference4Ideal.MixRef.rW h).trans (funext fun h => funext fun k => congrArg (Cert.Kernel4Ideal.MixValue.aWb m c) (ix3_eq_valueIdx _ _ _).symm)

theorem hWo (h : (m' ((c.tc : Thread Cert.Reference4Ideal.nD Cert.Reference4Ideal.τ).loc Cert.Reference4Ideal.main_arg6)) = (m ((c.tc : Thread Cert.Kernel4Ideal.nD Cert.Kernel4Ideal.τ).loc Cert.Kernel4Ideal.main_arg6))) : Cert.Reference4Ideal.MixRef.rWo (m' ((c.tc : Thread Cert.Reference4Ideal.nD Cert.Reference4Ideal.τ).loc Cert.Reference4Ideal.main_arg6)) = Cert.Kernel4Ideal.MixValue.fWo m c :=
  (congrArg Cert.Reference4Ideal.MixRef.rWo h).trans (funext fun k => funext fun x => congrArg (Cert.Kernel4Ideal.MixValue.aWo m c) (ix3_eq_valueIdx _ _ _).symm)

theorem hg (h : (m' ((c.tc : Thread Cert.Reference4Ideal.nD Cert.Reference4Ideal.τ).loc Cert.Reference4Ideal.main_arg7)) = (m ((c.tc : Thread Cert.Kernel4Ideal.nD Cert.Kernel4Ideal.τ).loc Cert.Kernel4Ideal.main_arg7))) : Cert.Reference4Ideal.MixRef.rg (m' ((c.tc : Thread Cert.Reference4Ideal.nD Cert.Reference4Ideal.τ).loc Cert.Reference4Ideal.main_arg7)) = Cert.Kernel4Ideal.MixValue.fg m c :=
  (congrArg Cert.Reference4Ideal.MixRef.rg h).trans (funext fun x => congrArg (Cert.Kernel4Ideal.MixValue.ag m c) (ix2_eq_valueIdx _ _).symm)

theorem hb (h : (m' ((c.tc : Thread Cert.Reference4Ideal.nD Cert.Reference4Ideal.τ).loc Cert.Reference4Ideal.main_arg8)) = (m ((c.tc : Thread Cert.Kernel4Ideal.nD Cert.Kernel4Ideal.τ).loc Cert.Kernel4Ideal.main_arg8))) : Cert.Reference4Ideal.MixRef.rg (m' ((c.tc : Thread Cert.Reference4Ideal.nD Cert.Reference4Ideal.τ).loc Cert.Reference4Ideal.main_arg8)) = Cert.Kernel4Ideal.MixValue.fb m c :=
  (congrArg Cert.Reference4Ideal.MixRef.rg h).trans (funext fun x => congrArg (Cert.Kernel4Ideal.MixValue.ab m c) (ix2_eq_valueIdx _ _).symm)

theorem same (h0 : (m' ((c.tc : Thread Cert.Reference4Ideal.nD Cert.Reference4Ideal.τ).loc Cert.Reference4Ideal.main_arg0)) = (m ((c.tc : Thread Cert.Kernel4Ideal.nD Cert.Kernel4Ideal.τ).loc Cert.Kernel4Ideal.main_arg0))) (h1 : (m' ((c.tc : Thread Cert.Reference4Ideal.nD Cert.Reference4Ideal.τ).loc Cert.Reference4Ideal.main_arg1)) = (m ((c.tc : Thread Cert.Kernel4Ideal.nD Cert.Kernel4Ideal.τ).loc Cert.Kernel4Ideal.main_arg1))) (h2 : (m' ((c.tc : Thread Cert.Reference4Ideal.nD Cert.Reference4Ideal.τ).loc Cert.Reference4Ideal.main_arg2)) = (m ((c.tc : Thread Cert.Kernel4Ideal.nD Cert.Kernel4Ideal.τ).loc Cert.Kernel4Ideal.main_arg2))) (h3 : (m' ((c.tc : Thread Cert.Reference4Ideal.nD Cert.Reference4Ideal.τ).loc Cert.Reference4Ideal.main_arg3)) = (m ((c.tc : Thread Cert.Kernel4Ideal.nD Cert.Kernel4Ideal.τ).loc Cert.Kernel4Ideal.main_arg3))) (h4 : (m' ((c.tc : Thread Cert.Reference4Ideal.nD Cert.Reference4Ideal.τ).loc Cert.Reference4Ideal.main_arg4)) = (m ((c.tc : Thread Cert.Kernel4Ideal.nD Cert.Kernel4Ideal.τ).loc Cert.Kernel4Ideal.main_arg4))) (h5 : (m' ((c.tc : Thread Cert.Reference4Ideal.nD Cert.Reference4Ideal.τ).loc Cert.Reference4Ideal.main_arg5)) = (m ((c.tc : Thread Cert.Kernel4Ideal.nD Cert.Kernel4Ideal.τ).loc Cert.Kernel4Ideal.main_arg5))) (h6 : (m' ((c.tc : Thread Cert.Reference4Ideal.nD Cert.Reference4Ideal.τ).loc Cert.Reference4Ideal.main_arg6)) = (m ((c.tc : Thread Cert.Kernel4Ideal.nD Cert.Kernel4Ideal.τ).loc Cert.Kernel4Ideal.main_arg6))) (h7 : (m' ((c.tc : Thread Cert.Reference4Ideal.nD Cert.Reference4Ideal.τ).loc Cert.Reference4Ideal.main_arg7)) = (m ((c.tc : Thread Cert.Kernel4Ideal.nD Cert.Kernel4Ideal.τ).loc Cert.Kernel4Ideal.main_arg7))) (h8 : (m' ((c.tc : Thread Cert.Reference4Ideal.nD Cert.Reference4Ideal.τ).loc Cert.Reference4Ideal.main_arg8)) = (m ((c.tc : Thread Cert.Kernel4Ideal.nD Cert.Kernel4Ideal.τ).loc Cert.Kernel4Ideal.main_arg8))) :
    Cert.Reference4Ideal.Read.val_main_v63 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) = Cert.Kernel4Ideal.MixValue.result m c := by
  funext y
  rw [ValueIdx.eq_ix2 y]
  refine (Cert.Reference4Ideal.MixRef.out_at _ _ _ _ _ _ _ _ _ _ _).trans ?_
  rw [hY m m' c h0, hA m m' c h1, hG m m' c h2, hX m m' c h3, hWa m m' c h4, hWb m m' c h5, hWo m m' c h6, hg m m' c h7, hb m m' c h8]
  rfl

end

/-- Over the extended reals the kernel and the reference end with the same array. -/
theorem alg : Cert.algebraic_Kernel4Ideal_Reference4Ideal (hKernel4Ideal := Cert.Kernel4Ideal.Gen.facts) (hReference4Ideal := Cert.Reference4Ideal.Gen.facts) := fun m ρ m' ρ' hpre hag =>
  ⟨fun c => Cert.Kernel4Ideal.MixValue.result m c,
    (θ_run _ _ _).mono (fun _ h c => ⟨(h c).1.trans (Cert.Kernel4Ideal.MixValue.array_eq m c), (h c).2⟩) (Cert.Kernel4Ideal.Value.run_blocks m ρ),
    (θ_run _ _ _).mono (fun _ h c => ⟨(h c).1.trans ((Cert.Reference4Ideal.Read.val_main_v63_eq m' c).trans (same m m' c (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2)),
      (h c).2⟩) (Cert.Reference4Ideal.Value.run m' ρ')⟩

end Cert.MixClaims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.ReferenceIdeal.Run
public import proofs.«01_k».proof.Proof.Gen.ReferenceIdeal.Read
public import proofs.«01_k».proof.Proof.Swa.Claims
public import proofs.«01_k».proof.Proof.Moe.FrameBits
public import proofs.«01_k».proof.Proof.Moe.Value
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Inproj.Claims
public import proofs.«01_k».proof.Proof.Mix.Claims
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_scores.facts, Cert.Pre_routed.Gen.facts,
  Cert.SwaClaims.frame_p, Cert.SwaClaims.frame_pi, fun m ρ _ => Cert.SwaClaims.frame_pi m ρ trivial, Cert.SwaClaims.frame_ri,
  fun m ρ _ => Cert.SwaClaims.frame_ri m ρ trivial, Cert.Moe.frame_p, Cert.Moe.frame_pi, Cert.Moe.frame_ri,
  fun m ρ _ => Cert.Moe.frame_ri m ρ trivial, Cert.InprojClaims.frame_p, Cert.InprojClaims.frame_pi, Cert.InprojClaims.frame_ri,
  Cert.MixClaims.frame_p, Cert.MixClaims.frame_pi, Cert.MixClaims.frame_ri,
  trivial, Cert.SwaClaims.alg, trivial, Cert.Moe.alg, trivial, Cert.InprojClaims.alg,
  trivial, Cert.MixClaims.alg⟩

end Cert.Proof

end
